-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4))).2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_mem_finite [hPre_mem_finite : Cert.Pre_mem_finite.Facts] (m : (ℓ : Loc Cert.MemIdeal.nD Cert.MemIdeal.τ Cert.MemIdeal.sig) → Buf (Elt Ideal) ℓ) : Prop :=
  ∀ c : Dev Cert.MemIdeal.nD,
    (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).1 = (fun _ => 1#1)
    ∧ (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).2.1 = (fun _ => 1#1)
    ∧ (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).2.2.1 = (fun _ => 1#1)
    ∧ (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).2.2.2.1 = (fun _ => 1#1)
    ∧ (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).2.2.2.2 = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_finite [hPre_mem_finite : Cert.Pre_mem_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4))).1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4))).2.1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4))).2.2.1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4))).2.2.2.1 = (fun _ => 1#1)
    ∧ (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4))).2.2.2.2 = (fun _ => 1#1)

def Pre_Below (m : (ℓ : Loc Cert.Below.nD Cert.Below.τ Cert.Below.sig) → Buf (Elt Bits) ℓ) : Prop :=
  True

def Pre_BelowIdeal (m : (ℓ : Loc Cert.BelowIdeal.nD Cert.BelowIdeal.τ Cert.BelowIdeal.sig) → Buf (Elt Ideal) ℓ) : Prop :=
  True

def Pre_BelowReferenceIdeal (m : (ℓ : Loc Cert.BelowReferenceIdeal.nD Cert.BelowReferenceIdeal.τ Cert.BelowReferenceIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaReferenceIdeal (m : (ℓ : Loc Cert.SwaReferenceIdeal.nD Cert.SwaReferenceIdeal.τ Cert.SwaReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdReferenceIdeal (m : (ℓ : Loc Cert.MemFwdReferenceIdeal.nD Cert.MemFwdReferenceIdeal.τ Cert.MemFwdReferenceIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdReferenceIdeal (m : (ℓ : Loc Cert.SwaFwdReferenceIdeal.nD Cert.SwaFwdReferenceIdeal.τ Cert.SwaFwdReferenceIdeal.sig) → Buf (Elt Ideal) ℓ) : Prop :=
  True

def Pre_MemKvFwd (m : (ℓ : Loc Cert.MemKvFwd.nD Cert.MemKvFwd.τ Cert.MemKvFwd.sig) → Buf (Elt Bits) ℓ) : Prop :=
  True

def Pre_MemKvFwdIdeal (m : (ℓ : Loc Cert.MemKvFwdIdeal.nD Cert.MemKvFwdIdeal.τ Cert.MemKvFwdIdeal.sig) → Buf (Elt Ideal) ℓ) : Prop :=
  True

def Pre_MemKvFwdReferenceIdeal (m : (ℓ : Loc Cert.MemKvFwdReferenceIdeal.nD Cert.MemKvFwdReferenceIdeal.τ Cert.MemKvFwdReferenceIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdReferenceIdeal (m : (ℓ : Loc Cert.ProjFwdReferenceIdeal.nD Cert.ProjFwdReferenceIdeal.τ Cert.ProjFwdReferenceIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3)
      ∧ r.2.mem ((c.tc : Thread Cert.Mem.nD Cert.Mem.τ).loc Cert.Mem.main_arg4) = m ((c.tc : Thread Cert.Mem.nD Cert.Mem.τ).loc Cert.Mem.main_arg4))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ r.2.sem = fun _ => 0)

def quiescent_MemIdeal_pre_mem_finite [hMemIdeal : Cert.MemIdeal.Facts] [hPre_mem_finite : Cert.Pre_mem_finite.Facts] : Prop :=
  ∀ (m : (ℓ : Loc Cert.MemIdeal.nD Cert.MemIdeal.τ Cert.MemIdeal.sig) → Buf (Elt Ideal) ℓ) (g : Dev Cert.MemIdeal.nD → PrngReg), Pre_MemIdeal_mem_finite m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4))
      ∧ r.2.sem = fun _ => 0)

def quiescent_MemReferenceIdeal_pre_mem_finite [hMemReferenceIdeal : Cert.MemReferenceIdeal.Facts] [hPre_mem_finite : Cert.Pre_mem_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4))
      ∧ r.2.sem = fun _ => 0)

def quiescent_Below [hBelow : Cert.Below.Facts] : Prop :=
  ∀ (m : (ℓ : Loc Cert.Below.nD Cert.Below.τ Cert.Below.sig) → Buf (Elt Bits) ℓ) (g : Dev Cert.Below.nD → PrngReg), Pre_Below m →
    θ_run (Cert.Below.defs (F := Bits)) (onTc (τ := Cert.Below.τ) (Cert.Below.main (F := Bits))) ⟨m, fun _ => 0, g⟩ (fun r => (∀ c : Dev Cert.Below.nD,
      r.2.mem ((c.tc : Thread Cert.Below.nD Cert.Below.τ).loc Cert.Below.main_arg0) = m ((c.tc : Thread Cert.Below.nD Cert.Below.τ).loc Cert.Below.main_arg0)
      ∧ r.2.mem ((c.tc : Thread Cert.Below.nD Cert.Below.τ).loc Cert.Below.main_arg1) = m ((c.tc : Thread Cert.Below.nD Cert.Below.τ).loc Cert.Below.main_arg1)
      ∧ r.2.mem ((c.tc : Thread Cert.Below.nD Cert.Below.τ).loc Cert.Below.main_arg2) = m ((c.tc : Thread Cert.Below.nD Cert.Below.τ).loc Cert.Below.main_arg2)
      ∧ r.2.mem ((c.tc : Thread Cert.Below.nD Cert.Below.τ).loc Cert.Below.main_arg3) = m ((c.tc : Thread Cert.Below.nD Cert.Below.τ).loc Cert.Below.main_arg3)
      ∧ r.2.mem ((c.tc : Thread Cert.Below.nD Cert.Below.τ).loc Cert.Below.main_arg4) = m ((c.tc : Thread Cert.Below.nD Cert.Below.τ).loc Cert.Below.main_arg4)
      ∧ r.2.mem ((c.tc : Thread Cert.Below.nD Cert.Below.τ).loc Cert.Below.main_arg5) = m ((c.tc : Thread Cert.Below.nD Cert.Below.τ).loc Cert.Below.main_arg5))
      ∧ r.2.sem = fun _ => 0)

def quiescent_BelowIdeal [hBelowIdeal : Cert.BelowIdeal.Facts] : Prop :=
  ∀ (m : (ℓ : Loc Cert.BelowIdeal.nD Cert.BelowIdeal.τ Cert.BelowIdeal.sig) → Buf (Elt Ideal) ℓ) (g : Dev Cert.BelowIdeal.nD → PrngReg), Pre_BelowIdeal m →
    θ_run (Cert.BelowIdeal.defs (F := Ideal)) (onTc (τ := Cert.BelowIdeal.τ) (Cert.BelowIdeal.main (F := Ideal))) ⟨m, fun _ => 0, g⟩ (fun r => (∀ c : Dev Cert.BelowIdeal.nD,
      r.2.mem ((c.tc : Thread Cert.BelowIdeal.nD Cert.BelowIdeal.τ).loc Cert.BelowIdeal.main_arg0) = m ((c.tc : Thread Cert.BelowIdeal.nD Cert.BelowIdeal.τ).loc Cert.BelowIdeal.main_arg0)
      ∧ r.2.mem ((c.tc : Thread Cert.BelowIdeal.nD Cert.BelowIdeal.τ).loc Cert.BelowIdeal.main_arg1) = m ((c.tc : Thread Cert.BelowIdeal.nD Cert.BelowIdeal.τ).loc Cert.BelowIdeal.main_arg1)
      ∧ r.2.mem ((c.tc : Thread Cert.BelowIdeal.nD Cert.BelowIdeal.τ).loc Cert.BelowIdeal.main_arg2) = m ((c.tc : Thread Cert.BelowIdeal.nD Cert.BelowIdeal.τ).loc Cert.BelowIdeal.main_arg2)
      ∧ r.2.mem ((c.tc : Thread Cert.BelowIdeal.nD Cert.BelowIdeal.τ).loc Cert.BelowIdeal.main_arg3) = m ((c.tc : Thread Cert.BelowIdeal.nD Cert.BelowIdeal.τ).loc Cert.BelowIdeal.main_arg3)
      ∧ r.2.mem ((c.tc : Thread Cert.BelowIdeal.nD Cert.BelowIdeal.τ).loc Cert.BelowIdeal.main_arg4) = m ((c.tc : Thread Cert.BelowIdeal.nD Cert.BelowIdeal.τ).loc Cert.BelowIdeal.main_arg4)
      ∧ r.2.mem ((c.tc : Thread Cert.BelowIdeal.nD Cert.BelowIdeal.τ).loc Cert.BelowIdeal.main_arg5) = m ((c.tc : Thread Cert.BelowIdeal.nD Cert.BelowIdeal.τ).loc Cert.BelowIdeal.main_arg5))
      ∧ r.2.sem = fun _ => 0)

def quiescent_BelowReferenceIdeal [hBelowReferenceIdeal : Cert.BelowReferenceIdeal.Facts] : Prop :=
  ∀ (m : (ℓ : Loc Cert.BelowReferenceIdeal.nD Cert.BelowReferenceIdeal.τ Cert.BelowReferenceIdeal.sig) → Buf (Elt Ideal) ℓ) (g : Dev Cert.BelowReferenceIdeal.nD → PrngReg), Pre_BelowReferenceIdeal m →
    θ_run (Cert.BelowReferenceIdeal.defs (F := Ideal)) (onTc (τ := Cert.BelowReferenceIdeal.τ) (Cert.BelowReferenceIdeal.main (F := Ideal))) ⟨m, fun _ => 0, g⟩ (fun r => (∀ c : Dev Cert.BelowReferenceIdeal.nD,
      r.2.mem ((c.tc : Thread Cert.BelowReferenceIdeal.nD Cert.BelowReferenceIdeal.τ).loc Cert.BelowReferenceIdeal.main_arg0) = m ((c.tc : Thread Cert.BelowReferenceIdeal.nD Cert.BelowReferenceIdeal.τ).loc Cert.BelowReferenceIdeal.main_arg0)
      ∧ r.2.mem ((c.tc : Thread Cert.BelowReferenceIdeal.nD Cert.BelowReferenceIdeal.τ).loc Cert.BelowReferenceIdeal.main_arg1) = m ((c.tc : Thread Cert.BelowReferenceIdeal.nD Cert.BelowReferenceIdeal.τ).loc Cert.BelowReferenceIdeal.main_arg1)
      ∧ r.2.mem ((c.tc : Thread Cert.BelowReferenceIdeal.nD Cert.BelowReferenceIdeal.τ).loc Cert.BelowReferenceIdeal.main_arg2) = m ((c.tc : Thread Cert.BelowReferenceIdeal.nD Cert.BelowReferenceIdeal.τ).loc Cert.BelowReferenceIdeal.main_arg2)
      ∧ r.2.mem ((c.tc : Thread Cert.BelowReferenceIdeal.nD Cert.BelowReferenceIdeal.τ).loc Cert.BelowReferenceIdeal.main_arg3) = m ((c.tc : Thread Cert.BelowReferenceIdeal.nD Cert.BelowReferenceIdeal.τ).loc Cert.BelowReferenceIdeal.main_arg3)
      ∧ r.2.mem ((c.tc : Thread Cert.BelowReferenceIdeal.nD Cert.BelowReferenceIdeal.τ).loc Cert.BelowReferenceIdeal.main_arg4) = m ((c.tc : Thread Cert.BelowReferenceIdeal.nD Cert.BelowReferenceIdeal.τ).loc Cert.BelowReferenceIdeal.main_arg4)
      ∧ r.2.mem ((c.tc : Thread Cert.BelowReferenceIdeal.nD Cert.BelowReferenceIdeal.τ).loc Cert.BelowReferenceIdeal.main_arg5) = m ((c.tc : Thread Cert.BelowReferenceIdeal.nD Cert.BelowReferenceIdeal.τ).loc Cert.BelowReferenceIdeal.main_arg5))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5)
      ∧ r.2.mem ((c.tc : Thread Cert.Swa.nD Cert.Swa.τ).loc Cert.Swa.main_arg6) = m ((c.tc : Thread Cert.Swa.nD Cert.Swa.τ).loc Cert.Swa.main_arg6)
      ∧ r.2.mem ((c.tc : Thread Cert.Swa.nD Cert.Swa.τ).loc Cert.Swa.main_arg7) = m ((c.tc : Thread Cert.Swa.nD Cert.Swa.τ).loc Cert.Swa.main_arg7))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
      ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3)
      ∧ r.2.mem ((c.tc : Thread Cert.SwaReferenceIdeal.nD Cert.SwaReferenceIdeal.τ).loc Cert.SwaReferenceIdeal.main_arg4) = m ((c.tc : Thread Cert.SwaReferenceIdeal.nD Cert.SwaReferenceIdeal.τ).loc Cert.SwaReferenceIdeal.main_arg4)
      ∧ r.2.mem ((c.tc : Thread Cert.SwaReferenceIdeal.nD Cert.SwaReferenceIdeal.τ).loc Cert.SwaReferenceIdeal.main_arg5) = m ((c.tc : Thread Cert.SwaReferenceIdeal.nD Cert.SwaReferenceIdeal.τ).loc Cert.SwaReferenceIdeal.main_arg5)
      ∧ r.2.mem ((c.tc : Thread Cert.SwaReferenceIdeal.nD Cert.SwaReferenceIdeal.τ).loc Cert.SwaReferenceIdeal.main_arg6) = m ((c.tc : Thread Cert.SwaReferenceIdeal.nD Cert.SwaReferenceIdeal.τ).loc Cert.SwaReferenceIdeal.main_arg6)
      ∧ r.2.mem ((c.tc : Thread Cert.SwaReferenceIdeal.nD Cert.SwaReferenceIdeal.τ).loc Cert.SwaReferenceIdeal.main_arg7) = m ((c.tc : Thread Cert.SwaReferenceIdeal.nD Cert.SwaReferenceIdeal.τ).loc Cert.SwaReferenceIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2)
      ∧ r.2.mem ((c.tc : Thread Cert.MemFwd.nD Cert.MemFwd.τ).loc Cert.MemFwd.main_arg3) = m ((c.tc : Thread Cert.MemFwd.nD Cert.MemFwd.τ).loc Cert.MemFwd.main_arg3))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
      ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1)
      ∧ r.2.mem ((c.tc : Thread Cert.MemFwdReferenceIdeal.nD Cert.MemFwdReferenceIdeal.τ).loc Cert.MemFwdReferenceIdeal.main_arg2) = m ((c.tc : Thread Cert.MemFwdReferenceIdeal.nD Cert.MemFwdReferenceIdeal.τ).loc Cert.MemFwdReferenceIdeal.main_arg2)
      ∧ r.2.mem ((c.tc : Thread Cert.MemFwdReferenceIdeal.nD Cert.MemFwdReferenceIdeal.τ).loc Cert.MemFwdReferenceIdeal.main_arg3) = m ((c.tc : Thread Cert.MemFwdReferenceIdeal.nD Cert.MemFwdReferenceIdeal.τ).loc Cert.MemFwdReferenceIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2)
      ∧ r.2.mem ((c.tc : Thread Cert.SwaFwd.nD Cert.SwaFwd.τ).loc Cert.SwaFwd.main_arg3) = m ((c.tc : Thread Cert.SwaFwd.nD Cert.SwaFwd.τ).loc Cert.SwaFwd.main_arg3)
      ∧ r.2.mem ((c.tc : Thread Cert.SwaFwd.nD Cert.SwaFwd.τ).loc Cert.SwaFwd.main_arg4) = m ((c.tc : Thread Cert.SwaFwd.nD Cert.SwaFwd.τ).loc Cert.SwaFwd.main_arg4)
      ∧ r.2.mem ((c.tc : Thread Cert.SwaFwd.nD Cert.SwaFwd.τ).loc Cert.SwaFwd.main_arg5) = m ((c.tc : Thread Cert.SwaFwd.nD Cert.SwaFwd.τ).loc Cert.SwaFwd.main_arg5)
      ∧ r.2.mem ((c.tc : Thread Cert.SwaFwd.nD Cert.SwaFwd.τ).loc Cert.SwaFwd.main_arg6) = m ((c.tc : Thread Cert.SwaFwd.nD Cert.SwaFwd.τ).loc Cert.SwaFwd.main_arg6))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
      ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4)
      ∧ r.2.mem ((c.tc : Thread Cert.SwaFwdIdeal.nD Cert.SwaFwdIdeal.τ).loc Cert.SwaFwdIdeal.main_arg5) = m ((c.tc : Thread Cert.SwaFwdIdeal.nD Cert.SwaFwdIdeal.τ).loc Cert.SwaFwdIdeal.main_arg5)
      ∧ r.2.mem ((c.tc : Thread Cert.SwaFwdIdeal.nD Cert.SwaFwdIdeal.τ).loc Cert.SwaFwdIdeal.main_arg6) = m ((c.tc : Thread Cert.SwaFwdIdeal.nD Cert.SwaFwdIdeal.τ).loc Cert.SwaFwdIdeal.main_arg6))
      ∧ r.2.sem = fun _ => 0)

def quiescent_SwaFwdReferenceIdeal [hSwaFwdReferenceIdeal : Cert.SwaFwdReferenceIdeal.Facts] : Prop :=
  ∀ (m : (ℓ : Loc Cert.SwaFwdReferenceIdeal.nD Cert.SwaFwdReferenceIdeal.τ Cert.SwaFwdReferenceIdeal.sig) → Buf (Elt Ideal) ℓ) (g : Dev Cert.SwaFwdReferenceIdeal.nD → PrngReg), Pre_SwaFwdReferenceIdeal m →
    θ_run (Cert.SwaFwdReferenceIdeal.defs (F := Ideal)) (onTc (τ := Cert.SwaFwdReferenceIdeal.τ) (Cert.SwaFwdReferenceIdeal.main (F := Ideal))) ⟨m, fun _ => 0, g⟩ (fun r => (∀ c : Dev Cert.SwaFwdReferenceIdeal.nD,
      r.2.mem ((c.tc : Thread Cert.SwaFwdReferenceIdeal.nD Cert.SwaFwdReferenceIdeal.τ).loc Cert.SwaFwdReferenceIdeal.main_arg0) = m ((c.tc : Thread Cert.SwaFwdReferenceIdeal.nD Cert.SwaFwdReferenceIdeal.τ).loc Cert.SwaFwdReferenceIdeal.main_arg0)
      ∧ r.2.mem ((c.tc : Thread Cert.SwaFwdReferenceIdeal.nD Cert.SwaFwdReferenceIdeal.τ).loc Cert.SwaFwdReferenceIdeal.main_arg1) = m ((c.tc : Thread Cert.SwaFwdReferenceIdeal.nD Cert.SwaFwdReferenceIdeal.τ).loc Cert.SwaFwdReferenceIdeal.main_arg1)
      ∧ r.2.mem ((c.tc : Thread Cert.SwaFwdReferenceIdeal.nD Cert.SwaFwdReferenceIdeal.τ).loc Cert.SwaFwdReferenceIdeal.main_arg2) = m ((c.tc : Thread Cert.SwaFwdReferenceIdeal.nD Cert.SwaFwdReferenceIdeal.τ).loc Cert.SwaFwdReferenceIdeal.main_arg2)
      ∧ r.2.mem ((c.tc : Thread Cert.SwaFwdReferenceIdeal.nD Cert.SwaFwdReferenceIdeal.τ).loc Cert.SwaFwdReferenceIdeal.main_arg3) = m ((c.tc : Thread Cert.SwaFwdReferenceIdeal.nD Cert.SwaFwdReferenceIdeal.τ).loc Cert.SwaFwdReferenceIdeal.main_arg3)
      ∧ r.2.mem ((c.tc : Thread Cert.SwaFwdReferenceIdeal.nD Cert.SwaFwdReferenceIdeal.τ).loc Cert.SwaFwdReferenceIdeal.main_arg4) = m ((c.tc : Thread Cert.SwaFwdReferenceIdeal.nD Cert.SwaFwdReferenceIdeal.τ).loc Cert.SwaFwdReferenceIdeal.main_arg4)
      ∧ r.2.mem ((c.tc : Thread Cert.SwaFwdReferenceIdeal.nD Cert.SwaFwdReferenceIdeal.τ).loc Cert.SwaFwdReferenceIdeal.main_arg5) = m ((c.tc : Thread Cert.SwaFwdReferenceIdeal.nD Cert.SwaFwdReferenceIdeal.τ).loc Cert.SwaFwdReferenceIdeal.main_arg5)
      ∧ r.2.mem ((c.tc : Thread Cert.SwaFwdReferenceIdeal.nD Cert.SwaFwdReferenceIdeal.τ).loc Cert.SwaFwdReferenceIdeal.main_arg6) = m ((c.tc : Thread Cert.SwaFwdReferenceIdeal.nD Cert.SwaFwdReferenceIdeal.τ).loc Cert.SwaFwdReferenceIdeal.main_arg6))
      ∧ r.2.sem = fun _ => 0)

def quiescent_MemKvFwd [hMemKvFwd : Cert.MemKvFwd.Facts] : Prop :=
  ∀ (m : (ℓ : Loc Cert.MemKvFwd.nD Cert.MemKvFwd.τ Cert.MemKvFwd.sig) → Buf (Elt Bits) ℓ) (g : Dev Cert.MemKvFwd.nD → PrngReg), Pre_MemKvFwd m →
    θ_run (Cert.MemKvFwd.defs (F := Bits)) (onTc (τ := Cert.MemKvFwd.τ) (Cert.MemKvFwd.main (F := Bits))) ⟨m, fun _ => 0, g⟩ (fun r => (∀ c : Dev Cert.MemKvFwd.nD,
      r.2.mem ((c.tc : Thread Cert.MemKvFwd.nD Cert.MemKvFwd.τ).loc Cert.MemKvFwd.main_arg0) = m ((c.tc : Thread Cert.MemKvFwd.nD Cert.MemKvFwd.τ).loc Cert.MemKvFwd.main_arg0)
      ∧ r.2.mem ((c.tc : Thread Cert.MemKvFwd.nD Cert.MemKvFwd.τ).loc Cert.MemKvFwd.main_arg1) = m ((c.tc : Thread Cert.MemKvFwd.nD Cert.MemKvFwd.τ).loc Cert.MemKvFwd.main_arg1)
      ∧ r.2.mem ((c.tc : Thread Cert.MemKvFwd.nD Cert.MemKvFwd.τ).loc Cert.MemKvFwd.main_arg2) = m ((c.tc : Thread Cert.MemKvFwd.nD Cert.MemKvFwd.τ).loc Cert.MemKvFwd.main_arg2))
      ∧ r.2.sem = fun _ => 0)

def quiescent_MemKvFwdIdeal [hMemKvFwdIdeal : Cert.MemKvFwdIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg), Pre_MemKvFwdIdeal m →
    θ_run (Cert.MemKvFwdIdeal.defs (F := Ideal)) (onTc (τ := Cert.MemKvFwdIdeal.τ) (Cert.MemKvFwdIdeal.main (F := Ideal))) ⟨m, fun _ => 0, g⟩ (fun r => (∀ c : Dev Cert.MemKvFwdIdeal.nD,
      r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
      ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
      ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ r.2.sem = fun _ => 0)

def quiescent_MemKvFwdReferenceIdeal [hMemKvFwdReferenceIdeal : Cert.MemKvFwdReferenceIdeal.Facts] : Prop :=
  ∀ (m : (ℓ : Loc Cert.MemKvFwdReferenceIdeal.nD Cert.MemKvFwdReferenceIdeal.τ Cert.MemKvFwdReferenceIdeal.sig) → Buf (Elt Ideal) ℓ) (g : Dev Cert.MemKvFwdReferenceIdeal.nD → PrngReg), Pre_MemKvFwdReferenceIdeal m →
    θ_run (Cert.MemKvFwdReferenceIdeal.defs (F := Ideal)) (onTc (τ := Cert.MemKvFwdReferenceIdeal.τ) (Cert.MemKvFwdReferenceIdeal.main (F := Ideal))) ⟨m, fun _ => 0, g⟩ (fun r => (∀ c : Dev Cert.MemKvFwdReferenceIdeal.nD,
      r.2.mem ((c.tc : Thread Cert.MemKvFwdReferenceIdeal.nD Cert.MemKvFwdReferenceIdeal.τ).loc Cert.MemKvFwdReferenceIdeal.main_arg0) = m ((c.tc : Thread Cert.MemKvFwdReferenceIdeal.nD Cert.MemKvFwdReferenceIdeal.τ).loc Cert.MemKvFwdReferenceIdeal.main_arg0)
      ∧ r.2.mem ((c.tc : Thread Cert.MemKvFwdReferenceIdeal.nD Cert.MemKvFwdReferenceIdeal.τ).loc Cert.MemKvFwdReferenceIdeal.main_arg1) = m ((c.tc : Thread Cert.MemKvFwdReferenceIdeal.nD Cert.MemKvFwdReferenceIdeal.τ).loc Cert.MemKvFwdReferenceIdeal.main_arg1)
      ∧ r.2.mem ((c.tc : Thread Cert.MemKvFwdReferenceIdeal.nD Cert.MemKvFwdReferenceIdeal.τ).loc Cert.MemKvFwdReferenceIdeal.main_arg2) = m ((c.tc : Thread Cert.MemKvFwdReferenceIdeal.nD Cert.MemKvFwdReferenceIdeal.τ).loc Cert.MemKvFwdReferenceIdeal.main_arg2))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjFwdReferenceIdeal [hProjFwdReferenceIdeal : Cert.ProjFwdReferenceIdeal.Facts] : Prop :=
  ∀ (m : (ℓ : Loc Cert.ProjFwdReferenceIdeal.nD Cert.ProjFwdReferenceIdeal.τ Cert.ProjFwdReferenceIdeal.sig) → Buf (Elt Ideal) ℓ) (g : Dev Cert.ProjFwdReferenceIdeal.nD → PrngReg), Pre_ProjFwdReferenceIdeal m →
    θ_run (Cert.ProjFwdReferenceIdeal.defs (F := Ideal)) (onTc (τ := Cert.ProjFwdReferenceIdeal.τ) (Cert.ProjFwdReferenceIdeal.main (F := Ideal))) ⟨m, fun _ => 0, g⟩ (fun r => (∀ c : Dev Cert.ProjFwdReferenceIdeal.nD,
      r.2.mem ((c.tc : Thread Cert.ProjFwdReferenceIdeal.nD Cert.ProjFwdReferenceIdeal.τ).loc Cert.ProjFwdReferenceIdeal.main_arg0) = m ((c.tc : Thread Cert.ProjFwdReferenceIdeal.nD Cert.ProjFwdReferenceIdeal.τ).loc Cert.ProjFwdReferenceIdeal.main_arg0)
      ∧ r.2.mem ((c.tc : Thread Cert.ProjFwdReferenceIdeal.nD Cert.ProjFwdReferenceIdeal.τ).loc Cert.ProjFwdReferenceIdeal.main_arg1) = m ((c.tc : Thread Cert.ProjFwdReferenceIdeal.nD Cert.ProjFwdReferenceIdeal.τ).loc Cert.ProjFwdReferenceIdeal.main_arg1)
      ∧ r.2.mem ((c.tc : Thread Cert.ProjFwdReferenceIdeal.nD Cert.ProjFwdReferenceIdeal.τ).loc Cert.ProjFwdReferenceIdeal.main_arg2) = m ((c.tc : Thread Cert.ProjFwdReferenceIdeal.nD Cert.ProjFwdReferenceIdeal.τ).loc Cert.ProjFwdReferenceIdeal.main_arg2))
      ∧ r.2.sem = fun _ => 0)

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v23) = v0 c
          ∧ r.2.mem ((c.tc : Thread Cert.LossReferenceIdeal.nD Cert.LossReferenceIdeal.τ).loc Cert.LossReferenceIdeal.main_v48) = v1 c
          ∧ r.2.mem ((c.tc : Thread Cert.LossReferenceIdeal.nD Cert.LossReferenceIdeal.τ).loc Cert.LossReferenceIdeal.main_v32) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_Gate_GateIdeal : Prop :=
  True

def algebraic_GateIdeal_GateReferenceIdeal_pre_gate_finite [hGateIdeal : Cert.GateIdeal.Facts] [hGateReferenceIdeal : Cert.GateReferenceIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_gate_finite m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v23)) (v1 : (c : Dev Cert.GateIdeal.nD) → Buf (Elt Ideal) ((c.tc : Thread Cert.GateIdeal.nD Cert.GateIdeal.τ).loc Cert.GateIdeal.main_v28)) (v2 : (c : Dev Cert.GateIdeal.nD) → Buf (Elt Ideal) ((c.tc : Thread Cert.GateIdeal.nD Cert.GateIdeal.τ).loc Cert.GateIdeal.main_v33)) (v3 : (c : Dev Cert.GateIdeal.nD) → Buf (Elt Ideal) ((c.tc : Thread Cert.GateIdeal.nD Cert.GateIdeal.τ).loc Cert.GateIdeal.main_v37)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v23) = v0 c
          ∧ r.2.mem ((c.tc : Thread Cert.GateIdeal.nD Cert.GateIdeal.τ).loc Cert.GateIdeal.main_v28) = v1 c
          ∧ r.2.mem ((c.tc : Thread Cert.GateIdeal.nD Cert.GateIdeal.τ).loc Cert.GateIdeal.main_v33) = v2 c
          ∧ r.2.mem ((c.tc : Thread Cert.GateIdeal.nD Cert.GateIdeal.τ).loc Cert.GateIdeal.main_v37) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v21) = v0 c
          ∧ r.2.mem ((c.tc : Thread Cert.GateReferenceIdeal.nD Cert.GateReferenceIdeal.τ).loc Cert.GateReferenceIdeal.main_v19) = v1 c
          ∧ r.2.mem ((c.tc : Thread Cert.GateReferenceIdeal.nD Cert.GateReferenceIdeal.τ).loc Cert.GateReferenceIdeal.main_v15) = v2 c
          ∧ r.2.mem ((c.tc : Thread Cert.GateReferenceIdeal.nD Cert.GateReferenceIdeal.τ).loc Cert.GateReferenceIdeal.main_v10) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v36) = v0 c
          ∧ r.2.mem ((c.tc : Thread Cert.NormReferenceIdeal.nD Cert.NormReferenceIdeal.τ).loc Cert.NormReferenceIdeal.main_v19) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)
      ∧ m' ((c.tc : Thread Cert.MemKvReferenceIdeal.nD Cert.MemKvReferenceIdeal.τ).loc Cert.MemKvReferenceIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v1_0)) (v1 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1_0) = v0 c
          ∧ r.2.mem ((c.tc : Thread Cert.MemKvIdeal.nD Cert.MemKvIdeal.τ).loc Cert.MemKvIdeal.main_v1_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v18) = v0 c
          ∧ r.2.mem ((c.tc : Thread Cert.MemKvReferenceIdeal.nD Cert.MemKvReferenceIdeal.τ).loc Cert.MemKvReferenceIdeal.main_v14) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2)
          ∧ r.2.mem ((c.tc : Thread Cert.MemKvReferenceIdeal.nD Cert.MemKvReferenceIdeal.τ).loc Cert.MemKvReferenceIdeal.main_arg3) = m' ((c.tc : Thread Cert.MemKvReferenceIdeal.nD Cert.MemKvReferenceIdeal.τ).loc Cert.MemKvReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v11_0)) (v1 : (c : Dev Cert.ProjIdeal.nD) → Buf (Elt Ideal) ((c.tc : Thread Cert.ProjIdeal.nD Cert.ProjIdeal.τ).loc Cert.ProjIdeal.main_v11_1)) (v2 : (c : Dev Cert.ProjIdeal.nD) → Buf (Elt Ideal) ((c.tc : Thread Cert.ProjIdeal.nD Cert.ProjIdeal.τ).loc Cert.ProjIdeal.main_v11_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_0) = v0 c
          ∧ r.2.mem ((c.tc : Thread Cert.ProjIdeal.nD Cert.ProjIdeal.τ).loc Cert.ProjIdeal.main_v11_1) = v1 c
          ∧ r.2.mem ((c.tc : Thread Cert.ProjIdeal.nD Cert.ProjIdeal.τ).loc Cert.ProjIdeal.main_v11_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v44) = v0 c
          ∧ r.2.mem ((c.tc : Thread Cert.ProjReferenceIdeal.nD Cert.ProjReferenceIdeal.τ).loc Cert.ProjReferenceIdeal.main_v27) = v1 c
          ∧ r.2.mem ((c.tc : Thread Cert.ProjReferenceIdeal.nD Cert.ProjReferenceIdeal.τ).loc Cert.ProjReferenceIdeal.main_v23) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def preserves_Mem_MemIdeal : Prop :=
  True

def algebraic_MemIdeal_MemReferenceIdeal_pre_mem_finite [hMemIdeal : Cert.MemIdeal.Facts] [hMemReferenceIdeal : Cert.MemReferenceIdeal.Facts] [hPre_mem_finite : Cert.Pre_mem_finite.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal_mem_finite m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)
      ∧ m' ((c.tc : Thread Cert.MemReferenceIdeal.nD Cert.MemReferenceIdeal.τ).loc Cert.MemReferenceIdeal.main_arg4) = m ((c.tc : Thread Cert.MemIdeal.nD Cert.MemIdeal.τ).loc Cert.MemIdeal.main_arg4)) →
    ∃ (v0 : (c : Dev Cert.MemIdeal.nD) → Buf (Elt Ideal) ((c.tc : Thread Cert.MemIdeal.nD Cert.MemIdeal.τ).loc Cert.MemIdeal.main_v12)) (v1 : (c : Dev Cert.MemIdeal.nD) → Buf (Elt Ideal) ((c.tc : Thread Cert.MemIdeal.nD Cert.MemIdeal.τ).loc Cert.MemIdeal.main_v17)) (v2 : (c : Dev Cert.MemIdeal.nD) → Buf (Elt Ideal) ((c.tc : Thread Cert.MemIdeal.nD Cert.MemIdeal.τ).loc Cert.MemIdeal.main_v10_3)) (v3 : (c : Dev Cert.MemIdeal.nD) → Buf (Elt Ideal) ((c.tc : Thread Cert.MemIdeal.nD Cert.MemIdeal.τ).loc Cert.MemIdeal.main_v10_4)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v12) = v0 c
          ∧ r.2.mem ((c.tc : Thread Cert.MemIdeal.nD Cert.MemIdeal.τ).loc Cert.MemIdeal.main_v17) = v1 c
          ∧ r.2.mem ((c.tc : Thread Cert.MemIdeal.nD Cert.MemIdeal.τ).loc Cert.MemIdeal.main_v10_3) = v2 c
          ∧ r.2.mem ((c.tc : Thread Cert.MemIdeal.nD Cert.MemIdeal.τ).loc Cert.MemIdeal.main_v10_4) = v3 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
          ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v138) = v0 c
          ∧ r.2.mem ((c.tc : Thread Cert.MemReferenceIdeal.nD Cert.MemReferenceIdeal.τ).loc Cert.MemReferenceIdeal.main_v139) = v1 c
          ∧ r.2.mem ((c.tc : Thread Cert.MemReferenceIdeal.nD Cert.MemReferenceIdeal.τ).loc Cert.MemReferenceIdeal.main_v123) = v2 c
          ∧ r.2.mem ((c.tc : Thread Cert.MemReferenceIdeal.nD Cert.MemReferenceIdeal.τ).loc Cert.MemReferenceIdeal.main_v101) = v3 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4))

def preserves_Below_BelowIdeal : Prop :=
  True

def algebraic_BelowIdeal_BelowReferenceIdeal [hBelowIdeal : Cert.BelowIdeal.Facts] [hBelowReferenceIdeal : Cert.BelowReferenceIdeal.Facts] : Prop :=
  ∀ (m : (ℓ : Loc Cert.BelowIdeal.nD Cert.BelowIdeal.τ Cert.BelowIdeal.sig) → Buf (Elt Ideal) ℓ) (g : Dev Cert.BelowIdeal.nD → PrngReg)
    (m' : (ℓ : Loc Cert.BelowReferenceIdeal.nD Cert.BelowReferenceIdeal.τ Cert.BelowReferenceIdeal.sig) → Buf (Elt Ideal) ℓ) (g' : Dev Cert.BelowReferenceIdeal.nD → PrngReg), Pre_BelowIdeal m →
    (∀ c : Dev Cert.BelowIdeal.nD,
      m' ((c.tc : Thread Cert.BelowReferenceIdeal.nD Cert.BelowReferenceIdeal.τ).loc Cert.BelowReferenceIdeal.main_arg0) = m ((c.tc : Thread Cert.BelowIdeal.nD Cert.BelowIdeal.τ).loc Cert.BelowIdeal.main_arg0)
      ∧ m' ((c.tc : Thread Cert.BelowReferenceIdeal.nD Cert.BelowReferenceIdeal.τ).loc Cert.BelowReferenceIdeal.main_arg1) = m ((c.tc : Thread Cert.BelowIdeal.nD Cert.BelowIdeal.τ).loc Cert.BelowIdeal.main_arg1)
      ∧ m' ((c.tc : Thread Cert.BelowReferenceIdeal.nD Cert.BelowReferenceIdeal.τ).loc Cert.BelowReferenceIdeal.main_arg2) = m ((c.tc : Thread Cert.BelowIdeal.nD Cert.BelowIdeal.τ).loc Cert.BelowIdeal.main_arg2)
      ∧ m' ((c.tc : Thread Cert.BelowReferenceIdeal.nD Cert.BelowReferenceIdeal.τ).loc Cert.BelowReferenceIdeal.main_arg3) = m ((c.tc : Thread Cert.BelowIdeal.nD Cert.BelowIdeal.τ).loc Cert.BelowIdeal.main_arg3)
      ∧ m' ((c.tc : Thread Cert.BelowReferenceIdeal.nD Cert.BelowReferenceIdeal.τ).loc Cert.BelowReferenceIdeal.main_arg4) = m ((c.tc : Thread Cert.BelowIdeal.nD Cert.BelowIdeal.τ).loc Cert.BelowIdeal.main_arg4)
      ∧ m' ((c.tc : Thread Cert.BelowReferenceIdeal.nD Cert.BelowReferenceIdeal.τ).loc Cert.BelowReferenceIdeal.main_arg5) = m ((c.tc : Thread Cert.BelowIdeal.nD Cert.BelowIdeal.τ).loc Cert.BelowIdeal.main_arg5)) →
    ∃ (v0 : (c : Dev Cert.BelowIdeal.nD) → Buf (Elt Ideal) ((c.tc : Thread Cert.BelowIdeal.nD Cert.BelowIdeal.τ).loc Cert.BelowIdeal.main_v0_0)) (v1 : (c : Dev Cert.BelowIdeal.nD) → Buf (Elt Ideal) ((c.tc : Thread Cert.BelowIdeal.nD Cert.BelowIdeal.τ).loc Cert.BelowIdeal.main_v0_1)) (v2 : (c : Dev Cert.BelowIdeal.nD) → Buf (Elt Ideal) ((c.tc : Thread Cert.BelowIdeal.nD Cert.BelowIdeal.τ).loc Cert.BelowIdeal.main_v0_2)),
      θ_run (Cert.BelowIdeal.defs (F := Ideal)) (onTc (τ := Cert.BelowIdeal.τ) (Cert.BelowIdeal.main (F := Ideal))) ⟨m, fun _ => 0, g⟩ (fun r => ∀ c : Dev Cert.BelowIdeal.nD,
          r.2.mem ((c.tc : Thread Cert.BelowIdeal.nD Cert.BelowIdeal.τ).loc Cert.BelowIdeal.main_v0_0) = v0 c
          ∧ r.2.mem ((c.tc : Thread Cert.BelowIdeal.nD Cert.BelowIdeal.τ).loc Cert.BelowIdeal.main_v0_1) = v1 c
          ∧ r.2.mem ((c.tc : Thread Cert.BelowIdeal.nD Cert.BelowIdeal.τ).loc Cert.BelowIdeal.main_v0_2) = v2 c
          ∧ r.2.mem ((c.tc : Thread Cert.BelowIdeal.nD Cert.BelowIdeal.τ).loc Cert.BelowIdeal.main_arg0) = m ((c.tc : Thread Cert.BelowIdeal.nD Cert.BelowIdeal.τ).loc Cert.BelowIdeal.main_arg0)
          ∧ r.2.mem ((c.tc : Thread Cert.BelowIdeal.nD Cert.BelowIdeal.τ).loc Cert.BelowIdeal.main_arg1) = m ((c.tc : Thread Cert.BelowIdeal.nD Cert.BelowIdeal.τ).loc Cert.BelowIdeal.main_arg1)
          ∧ r.2.mem ((c.tc : Thread Cert.BelowIdeal.nD Cert.BelowIdeal.τ).loc Cert.BelowIdeal.main_arg2) = m ((c.tc : Thread Cert.BelowIdeal.nD Cert.BelowIdeal.τ).loc Cert.BelowIdeal.main_arg2)
          ∧ r.2.mem ((c.tc : Thread Cert.BelowIdeal.nD Cert.BelowIdeal.τ).loc Cert.BelowIdeal.main_arg3) = m ((c.tc : Thread Cert.BelowIdeal.nD Cert.BelowIdeal.τ).loc Cert.BelowIdeal.main_arg3)
          ∧ r.2.mem ((c.tc : Thread Cert.BelowIdeal.nD Cert.BelowIdeal.τ).loc Cert.BelowIdeal.main_arg4) = m ((c.tc : Thread Cert.BelowIdeal.nD Cert.BelowIdeal.τ).loc Cert.BelowIdeal.main_arg4)
          ∧ r.2.mem ((c.tc : Thread Cert.BelowIdeal.nD Cert.BelowIdeal.τ).loc Cert.BelowIdeal.main_arg5) = m ((c.tc : Thread Cert.BelowIdeal.nD Cert.BelowIdeal.τ).loc Cert.BelowIdeal.main_arg5))
      ∧ θ_run (Cert.BelowReferenceIdeal.defs (F := Ideal)) (onTc (τ := Cert.BelowReferenceIdeal.τ) (Cert.BelowReferenceIdeal.main (F := Ideal))) ⟨m', fun _ => 0, g'⟩ (fun r => ∀ c : Dev Cert.BelowReferenceIdeal.nD,
          r.2.mem ((c.tc : Thread Cert.BelowReferenceIdeal.nD Cert.BelowReferenceIdeal.τ).loc Cert.BelowReferenceIdeal.main_v70) = v0 c
          ∧ r.2.mem ((c.tc : Thread Cert.BelowReferenceIdeal.nD Cert.BelowReferenceIdeal.τ).loc Cert.BelowReferenceIdeal.main_v19) = v1 c
          ∧ r.2.mem ((c.tc : Thread Cert.BelowReferenceIdeal.nD Cert.BelowReferenceIdeal.τ).loc Cert.BelowReferenceIdeal.main_v54) = v2 c
          ∧ r.2.mem ((c.tc : Thread Cert.BelowReferenceIdeal.nD Cert.BelowReferenceIdeal.τ).loc Cert.BelowReferenceIdeal.main_arg0) = m' ((c.tc : Thread Cert.BelowReferenceIdeal.nD Cert.BelowReferenceIdeal.τ).loc Cert.BelowReferenceIdeal.main_arg0)
          ∧ r.2.mem ((c.tc : Thread Cert.BelowReferenceIdeal.nD Cert.BelowReferenceIdeal.τ).loc Cert.BelowReferenceIdeal.main_arg1) = m' ((c.tc : Thread Cert.BelowReferenceIdeal.nD Cert.BelowReferenceIdeal.τ).loc Cert.BelowReferenceIdeal.main_arg1)
          ∧ r.2.mem ((c.tc : Thread Cert.BelowReferenceIdeal.nD Cert.BelowReferenceIdeal.τ).loc Cert.BelowReferenceIdeal.main_arg2) = m' ((c.tc : Thread Cert.BelowReferenceIdeal.nD Cert.BelowReferenceIdeal.τ).loc Cert.BelowReferenceIdeal.main_arg2)
          ∧ r.2.mem ((c.tc : Thread Cert.BelowReferenceIdeal.nD Cert.BelowReferenceIdeal.τ).loc Cert.BelowReferenceIdeal.main_arg3) = m' ((c.tc : Thread Cert.BelowReferenceIdeal.nD Cert.BelowReferenceIdeal.τ).loc Cert.BelowReferenceIdeal.main_arg3)
          ∧ r.2.mem ((c.tc : Thread Cert.BelowReferenceIdeal.nD Cert.BelowReferenceIdeal.τ).loc Cert.BelowReferenceIdeal.main_arg4) = m' ((c.tc : Thread Cert.BelowReferenceIdeal.nD Cert.BelowReferenceIdeal.τ).loc Cert.BelowReferenceIdeal.main_arg4)
          ∧ r.2.mem ((c.tc : Thread Cert.BelowReferenceIdeal.nD Cert.BelowReferenceIdeal.τ).loc Cert.BelowReferenceIdeal.main_arg5) = m' ((c.tc : Thread Cert.BelowReferenceIdeal.nD Cert.BelowReferenceIdeal.τ).loc Cert.BelowReferenceIdeal.main_arg5))

def preserves_Swa_SwaIdeal : Prop :=
  IdealRules.named_const.Statement Cert.SwaIdeal.κ "mask" .f32 0xF149F2CA#32 ⊥

def preserves_Conv_ConvIdeal : Prop :=
  True

def preserves_MemFwd_MemFwdIdeal : Prop :=
  True

def algebraic_MemFwdIdeal_MemFwdReferenceIdeal [hMemFwdIdeal : Cert.MemFwdIdeal.Facts] [hMemFwdReferenceIdeal : Cert.MemFwdReferenceIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdIdeal m →
    (∀ c : Dev Cert.MemFwdIdeal.nD,
      m' ((c.tc : Thread Cert.MemFwdReferenceIdeal.nD Cert.MemFwdReferenceIdeal.τ).loc Cert.MemFwdReferenceIdeal.main_arg0) = m ((c.tc : Thread Cert.MemFwdIdeal.nD Cert.MemFwdIdeal.τ).loc Cert.MemFwdIdeal.main_arg0)
      ∧ m' ((c.tc : Thread Cert.MemFwdReferenceIdeal.nD Cert.MemFwdReferenceIdeal.τ).loc Cert.MemFwdReferenceIdeal.main_arg1) = m ((c.tc : Thread Cert.MemFwdIdeal.nD Cert.MemFwdIdeal.τ).loc Cert.MemFwdIdeal.main_arg1)
      ∧ m' ((c.tc : Thread Cert.MemFwdReferenceIdeal.nD Cert.MemFwdReferenceIdeal.τ).loc Cert.MemFwdReferenceIdeal.main_arg2) = m ((c.tc : Thread Cert.MemFwdIdeal.nD Cert.MemFwdIdeal.τ).loc Cert.MemFwdIdeal.main_arg2)
      ∧ m' ((c.tc : Thread Cert.MemFwdReferenceIdeal.nD Cert.MemFwdReferenceIdeal.τ).loc Cert.MemFwdReferenceIdeal.main_arg3) = m ((c.tc : Thread Cert.MemFwdIdeal.nD Cert.MemFwdIdeal.τ).loc Cert.MemFwdIdeal.main_arg3)) →
    ∃ (v0 : (c : Dev Cert.MemFwdIdeal.nD) → Buf (Elt Ideal) ((c.tc : Thread Cert.MemFwdIdeal.nD Cert.MemFwdIdeal.τ).loc Cert.MemFwdIdeal.main_v10)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v10) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
          ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v47) = v0 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1)
          ∧ r.2.mem ((c.tc : Thread Cert.MemFwdReferenceIdeal.nD Cert.MemFwdReferenceIdeal.τ).loc Cert.MemFwdReferenceIdeal.main_arg2) = m' ((c.tc : Thread Cert.MemFwdReferenceIdeal.nD Cert.MemFwdReferenceIdeal.τ).loc Cert.MemFwdReferenceIdeal.main_arg2)
          ∧ r.2.mem ((c.tc : Thread Cert.MemFwdReferenceIdeal.nD Cert.MemFwdReferenceIdeal.τ).loc Cert.MemFwdReferenceIdeal.main_arg3) = m' ((c.tc : Thread Cert.MemFwdReferenceIdeal.nD Cert.MemFwdReferenceIdeal.τ).loc Cert.MemFwdReferenceIdeal.main_arg3))

def preserves_SwaFwd_SwaFwdIdeal : Prop :=
  IdealRules.named_const.Statement Cert.SwaFwdIdeal.κ "mask" .f32 0xF149F2CA#32 ⊥

def algebraic_SwaFwdIdeal_SwaFwdReferenceIdeal [hSwaFwdIdeal : Cert.SwaFwdIdeal.Facts] [hSwaFwdReferenceIdeal : Cert.SwaFwdReferenceIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdReferenceIdeal.nD Cert.SwaFwdReferenceIdeal.τ Cert.SwaFwdReferenceIdeal.sig) → Buf (Elt Ideal) ℓ) (g' : Dev Cert.SwaFwdReferenceIdeal.nD → PrngReg), Pre_SwaFwdIdeal m →
    (∀ c : Dev Cert.SwaFwdIdeal.nD,
      m' ((c.tc : Thread Cert.SwaFwdReferenceIdeal.nD Cert.SwaFwdReferenceIdeal.τ).loc Cert.SwaFwdReferenceIdeal.main_arg0) = m ((c.tc : Thread Cert.SwaFwdIdeal.nD Cert.SwaFwdIdeal.τ).loc Cert.SwaFwdIdeal.main_arg0)
      ∧ m' ((c.tc : Thread Cert.SwaFwdReferenceIdeal.nD Cert.SwaFwdReferenceIdeal.τ).loc Cert.SwaFwdReferenceIdeal.main_arg1) = m ((c.tc : Thread Cert.SwaFwdIdeal.nD Cert.SwaFwdIdeal.τ).loc Cert.SwaFwdIdeal.main_arg1)
      ∧ m' ((c.tc : Thread Cert.SwaFwdReferenceIdeal.nD Cert.SwaFwdReferenceIdeal.τ).loc Cert.SwaFwdReferenceIdeal.main_arg2) = m ((c.tc : Thread Cert.SwaFwdIdeal.nD Cert.SwaFwdIdeal.τ).loc Cert.SwaFwdIdeal.main_arg2)
      ∧ m' ((c.tc : Thread Cert.SwaFwdReferenceIdeal.nD Cert.SwaFwdReferenceIdeal.τ).loc Cert.SwaFwdReferenceIdeal.main_arg3) = m ((c.tc : Thread Cert.SwaFwdIdeal.nD Cert.SwaFwdIdeal.τ).loc Cert.SwaFwdIdeal.main_arg3)
      ∧ m' ((c.tc : Thread Cert.SwaFwdReferenceIdeal.nD Cert.SwaFwdReferenceIdeal.τ).loc Cert.SwaFwdReferenceIdeal.main_arg4) = m ((c.tc : Thread Cert.SwaFwdIdeal.nD Cert.SwaFwdIdeal.τ).loc Cert.SwaFwdIdeal.main_arg4)
      ∧ m' ((c.tc : Thread Cert.SwaFwdReferenceIdeal.nD Cert.SwaFwdReferenceIdeal.τ).loc Cert.SwaFwdReferenceIdeal.main_arg5) = m ((c.tc : Thread Cert.SwaFwdIdeal.nD Cert.SwaFwdIdeal.τ).loc Cert.SwaFwdIdeal.main_arg5)
      ∧ m' ((c.tc : Thread Cert.SwaFwdReferenceIdeal.nD Cert.SwaFwdReferenceIdeal.τ).loc Cert.SwaFwdReferenceIdeal.main_arg6) = m ((c.tc : Thread Cert.SwaFwdIdeal.nD Cert.SwaFwdIdeal.τ).loc Cert.SwaFwdIdeal.main_arg6)) →
    ∃ (v0 : (c : Dev Cert.SwaFwdIdeal.nD) → Buf (Elt Ideal) ((c.tc : Thread Cert.SwaFwdIdeal.nD Cert.SwaFwdIdeal.τ).loc Cert.SwaFwdIdeal.main_v34)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v34) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
          ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3)
          ∧ r.2.mem ((c.tc : Thread Cert.SwaFwdIdeal.nD Cert.SwaFwdIdeal.τ).loc Cert.SwaFwdIdeal.main_arg4) = m ((c.tc : Thread Cert.SwaFwdIdeal.nD Cert.SwaFwdIdeal.τ).loc Cert.SwaFwdIdeal.main_arg4)
          ∧ r.2.mem ((c.tc : Thread Cert.SwaFwdIdeal.nD Cert.SwaFwdIdeal.τ).loc Cert.SwaFwdIdeal.main_arg5) = m ((c.tc : Thread Cert.SwaFwdIdeal.nD Cert.SwaFwdIdeal.τ).loc Cert.SwaFwdIdeal.main_arg5)
          ∧ r.2.mem ((c.tc : Thread Cert.SwaFwdIdeal.nD Cert.SwaFwdIdeal.τ).loc Cert.SwaFwdIdeal.main_arg6) = m ((c.tc : Thread Cert.SwaFwdIdeal.nD Cert.SwaFwdIdeal.τ).loc Cert.SwaFwdIdeal.main_arg6))
      ∧ θ_run (Cert.SwaFwdReferenceIdeal.defs (F := Ideal)) (onTc (τ := Cert.SwaFwdReferenceIdeal.τ) (Cert.SwaFwdReferenceIdeal.main (F := Ideal))) ⟨m', fun _ => 0, g'⟩ (fun r => ∀ c : Dev Cert.SwaFwdReferenceIdeal.nD,
          r.2.mem ((c.tc : Thread Cert.SwaFwdReferenceIdeal.nD Cert.SwaFwdReferenceIdeal.τ).loc Cert.SwaFwdReferenceIdeal.main_v139) = v0 c
          ∧ r.2.mem ((c.tc : Thread Cert.SwaFwdReferenceIdeal.nD Cert.SwaFwdReferenceIdeal.τ).loc Cert.SwaFwdReferenceIdeal.main_arg0) = m' ((c.tc : Thread Cert.SwaFwdReferenceIdeal.nD Cert.SwaFwdReferenceIdeal.τ).loc Cert.SwaFwdReferenceIdeal.main_arg0)
          ∧ r.2.mem ((c.tc : Thread Cert.SwaFwdReferenceIdeal.nD Cert.SwaFwdReferenceIdeal.τ).loc Cert.SwaFwdReferenceIdeal.main_arg1) = m' ((c.tc : Thread Cert.SwaFwdReferenceIdeal.nD Cert.SwaFwdReferenceIdeal.τ).loc Cert.SwaFwdReferenceIdeal.main_arg1)
          ∧ r.2.mem ((c.tc : Thread Cert.SwaFwdReferenceIdeal.nD Cert.SwaFwdReferenceIdeal.τ).loc Cert.SwaFwdReferenceIdeal.main_arg2) = m' ((c.tc : Thread Cert.SwaFwdReferenceIdeal.nD Cert.SwaFwdReferenceIdeal.τ).loc Cert.SwaFwdReferenceIdeal.main_arg2)
          ∧ r.2.mem ((c.tc : Thread Cert.SwaFwdReferenceIdeal.nD Cert.SwaFwdReferenceIdeal.τ).loc Cert.SwaFwdReferenceIdeal.main_arg3) = m' ((c.tc : Thread Cert.SwaFwdReferenceIdeal.nD Cert.SwaFwdReferenceIdeal.τ).loc Cert.SwaFwdReferenceIdeal.main_arg3)
          ∧ r.2.mem ((c.tc : Thread Cert.SwaFwdReferenceIdeal.nD Cert.SwaFwdReferenceIdeal.τ).loc Cert.SwaFwdReferenceIdeal.main_arg4) = m' ((c.tc : Thread Cert.SwaFwdReferenceIdeal.nD Cert.SwaFwdReferenceIdeal.τ).loc Cert.SwaFwdReferenceIdeal.main_arg4)
          ∧ r.2.mem ((c.tc : Thread Cert.SwaFwdReferenceIdeal.nD Cert.SwaFwdReferenceIdeal.τ).loc Cert.SwaFwdReferenceIdeal.main_arg5) = m' ((c.tc : Thread Cert.SwaFwdReferenceIdeal.nD Cert.SwaFwdReferenceIdeal.τ).loc Cert.SwaFwdReferenceIdeal.main_arg5)
          ∧ r.2.mem ((c.tc : Thread Cert.SwaFwdReferenceIdeal.nD Cert.SwaFwdReferenceIdeal.τ).loc Cert.SwaFwdReferenceIdeal.main_arg6) = m' ((c.tc : Thread Cert.SwaFwdReferenceIdeal.nD Cert.SwaFwdReferenceIdeal.τ).loc Cert.SwaFwdReferenceIdeal.main_arg6))

def preserves_MemKvFwd_MemKvFwdIdeal : Prop :=
  True

def algebraic_MemKvFwdIdeal_MemKvFwdReferenceIdeal [hMemKvFwdIdeal : Cert.MemKvFwdIdeal.Facts] [hMemKvFwdReferenceIdeal : Cert.MemKvFwdReferenceIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg)
    (m' : (ℓ : Loc Cert.MemKvFwdReferenceIdeal.nD Cert.MemKvFwdReferenceIdeal.τ Cert.MemKvFwdReferenceIdeal.sig) → Buf (Elt Ideal) ℓ) (g' : Dev Cert.MemKvFwdReferenceIdeal.nD → PrngReg), Pre_MemKvFwdIdeal m →
    (∀ c : Dev Cert.MemKvFwdIdeal.nD,
      m' ((c.tc : Thread Cert.MemKvFwdReferenceIdeal.nD Cert.MemKvFwdReferenceIdeal.τ).loc Cert.MemKvFwdReferenceIdeal.main_arg0) = m ((c.tc : Thread Cert.MemKvFwdIdeal.nD Cert.MemKvFwdIdeal.τ).loc Cert.MemKvFwdIdeal.main_arg0)
      ∧ m' ((c.tc : Thread Cert.MemKvFwdReferenceIdeal.nD Cert.MemKvFwdReferenceIdeal.τ).loc Cert.MemKvFwdReferenceIdeal.main_arg1) = m ((c.tc : Thread Cert.MemKvFwdIdeal.nD Cert.MemKvFwdIdeal.τ).loc Cert.MemKvFwdIdeal.main_arg1)
      ∧ m' ((c.tc : Thread Cert.MemKvFwdReferenceIdeal.nD Cert.MemKvFwdReferenceIdeal.τ).loc Cert.MemKvFwdReferenceIdeal.main_arg2) = m ((c.tc : Thread Cert.MemKvFwdIdeal.nD Cert.MemKvFwdIdeal.τ).loc Cert.MemKvFwdIdeal.main_arg2)) →
    ∃ (v0 : (c : Dev Cert.MemKvFwdIdeal.nD) → Buf (Elt Ideal) ((c.tc : Thread Cert.MemKvFwdIdeal.nD Cert.MemKvFwdIdeal.τ).loc Cert.MemKvFwdIdeal.main_v1)),
      θ_run (Cert.MemKvFwdIdeal.defs (F := Ideal)) (onTc (τ := Cert.MemKvFwdIdeal.τ) (Cert.MemKvFwdIdeal.main (F := Ideal))) ⟨m, fun _ => 0, g⟩ (fun r => ∀ c : Dev Cert.MemKvFwdIdeal.nD,
          r.2.mem ((c.tc : Thread Cert.MemKvFwdIdeal.nD Cert.MemKvFwdIdeal.τ).loc Cert.MemKvFwdIdeal.main_v1) = v0 c
          ∧ r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
          ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
          ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ θ_run (Cert.MemKvFwdReferenceIdeal.defs (F := Ideal)) (onTc (τ := Cert.MemKvFwdReferenceIdeal.τ) (Cert.MemKvFwdReferenceIdeal.main (F := Ideal))) ⟨m', fun _ => 0, g'⟩ (fun r => ∀ c : Dev Cert.MemKvFwdReferenceIdeal.nD,
          r.2.mem ((c.tc : Thread Cert.MemKvFwdReferenceIdeal.nD Cert.MemKvFwdReferenceIdeal.τ).loc Cert.MemKvFwdReferenceIdeal.main_v12) = v0 c
          ∧ r.2.mem ((c.tc : Thread Cert.MemKvFwdReferenceIdeal.nD Cert.MemKvFwdReferenceIdeal.τ).loc Cert.MemKvFwdReferenceIdeal.main_arg0) = m' ((c.tc : Thread Cert.MemKvFwdReferenceIdeal.nD Cert.MemKvFwdReferenceIdeal.τ).loc Cert.MemKvFwdReferenceIdeal.main_arg0)
          ∧ r.2.mem ((c.tc : Thread Cert.MemKvFwdReferenceIdeal.nD Cert.MemKvFwdReferenceIdeal.τ).loc Cert.MemKvFwdReferenceIdeal.main_arg1) = m' ((c.tc : Thread Cert.MemKvFwdReferenceIdeal.nD Cert.MemKvFwdReferenceIdeal.τ).loc Cert.MemKvFwdReferenceIdeal.main_arg1)
          ∧ r.2.mem ((c.tc : Thread Cert.MemKvFwdReferenceIdeal.nD Cert.MemKvFwdReferenceIdeal.τ).loc Cert.MemKvFwdReferenceIdeal.main_arg2) = m' ((c.tc : Thread Cert.MemKvFwdReferenceIdeal.nD Cert.MemKvFwdReferenceIdeal.τ).loc Cert.MemKvFwdReferenceIdeal.main_arg2))

def preserves_ProjFwd_ProjFwdIdeal : Prop :=
  True

def algebraic_ProjFwdIdeal_ProjFwdReferenceIdeal [hProjFwdIdeal : Cert.ProjFwdIdeal.Facts] [hProjFwdReferenceIdeal : Cert.ProjFwdReferenceIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdReferenceIdeal.nD Cert.ProjFwdReferenceIdeal.τ Cert.ProjFwdReferenceIdeal.sig) → Buf (Elt Ideal) ℓ) (g' : Dev Cert.ProjFwdReferenceIdeal.nD → PrngReg), Pre_ProjFwdIdeal m →
    (∀ c : Dev Cert.ProjFwdIdeal.nD,
      m' ((c.tc : Thread Cert.ProjFwdReferenceIdeal.nD Cert.ProjFwdReferenceIdeal.τ).loc Cert.ProjFwdReferenceIdeal.main_arg0) = m ((c.tc : Thread Cert.ProjFwdIdeal.nD Cert.ProjFwdIdeal.τ).loc Cert.ProjFwdIdeal.main_arg0)
      ∧ m' ((c.tc : Thread Cert.ProjFwdReferenceIdeal.nD Cert.ProjFwdReferenceIdeal.τ).loc Cert.ProjFwdReferenceIdeal.main_arg1) = m ((c.tc : Thread Cert.ProjFwdIdeal.nD Cert.ProjFwdIdeal.τ).loc Cert.ProjFwdIdeal.main_arg1)
      ∧ m' ((c.tc : Thread Cert.ProjFwdReferenceIdeal.nD Cert.ProjFwdReferenceIdeal.τ).loc Cert.ProjFwdReferenceIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v2)) (v1 : (c : Dev Cert.ProjFwdIdeal.nD) → Buf (Elt Ideal) ((c.tc : Thread Cert.ProjFwdIdeal.nD Cert.ProjFwdIdeal.τ).loc Cert.ProjFwdIdeal.main_v4)) (v2 : (c : Dev Cert.ProjFwdIdeal.nD) → Buf (Elt Ideal) ((c.tc : Thread Cert.ProjFwdIdeal.nD Cert.ProjFwdIdeal.τ).loc Cert.ProjFwdIdeal.main_v6)) (v3 : (c : Dev Cert.ProjFwdIdeal.nD) → Buf (Elt Ideal) ((c.tc : Thread Cert.ProjFwdIdeal.nD Cert.ProjFwdIdeal.τ).loc Cert.ProjFwdIdeal.main_v8)) (v4 : (c : Dev Cert.ProjFwdIdeal.nD) → Buf (Elt Ideal) ((c.tc : Thread Cert.ProjFwdIdeal.nD Cert.ProjFwdIdeal.τ).loc Cert.ProjFwdIdeal.main_v10)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v2) = v0 c
          ∧ r.2.mem ((c.tc : Thread Cert.ProjFwdIdeal.nD Cert.ProjFwdIdeal.τ).loc Cert.ProjFwdIdeal.main_v4) = v1 c
          ∧ r.2.mem ((c.tc : Thread Cert.ProjFwdIdeal.nD Cert.ProjFwdIdeal.τ).loc Cert.ProjFwdIdeal.main_v6) = v2 c
          ∧ r.2.mem ((c.tc : Thread Cert.ProjFwdIdeal.nD Cert.ProjFwdIdeal.τ).loc Cert.ProjFwdIdeal.main_v8) = v3 c
          ∧ r.2.mem ((c.tc : Thread Cert.ProjFwdIdeal.nD Cert.ProjFwdIdeal.τ).loc Cert.ProjFwdIdeal.main_v10) = v4 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjFwdReferenceIdeal.defs (F := Ideal)) (onTc (τ := Cert.ProjFwdReferenceIdeal.τ) (Cert.ProjFwdReferenceIdeal.main (F := Ideal))) ⟨m', fun _ => 0, g'⟩ (fun r => ∀ c : Dev Cert.ProjFwdReferenceIdeal.nD,
          r.2.mem ((c.tc : Thread Cert.ProjFwdReferenceIdeal.nD Cert.ProjFwdReferenceIdeal.τ).loc Cert.ProjFwdReferenceIdeal.main_v13) = v0 c
          ∧ r.2.mem ((c.tc : Thread Cert.ProjFwdReferenceIdeal.nD Cert.ProjFwdReferenceIdeal.τ).loc Cert.ProjFwdReferenceIdeal.main_v14) = v1 c
          ∧ r.2.mem ((c.tc : Thread Cert.ProjFwdReferenceIdeal.nD Cert.ProjFwdReferenceIdeal.τ).loc Cert.ProjFwdReferenceIdeal.main_v15) = v2 c
          ∧ r.2.mem ((c.tc : Thread Cert.ProjFwdReferenceIdeal.nD Cert.ProjFwdReferenceIdeal.τ).loc Cert.ProjFwdReferenceIdeal.main_v16) = v3 c
          ∧ r.2.mem ((c.tc : Thread Cert.ProjFwdReferenceIdeal.nD Cert.ProjFwdReferenceIdeal.τ).loc Cert.ProjFwdReferenceIdeal.main_v17) = v4 c
          ∧ r.2.mem ((c.tc : Thread Cert.ProjFwdReferenceIdeal.nD Cert.ProjFwdReferenceIdeal.τ).loc Cert.ProjFwdReferenceIdeal.main_arg0) = m' ((c.tc : Thread Cert.ProjFwdReferenceIdeal.nD Cert.ProjFwdReferenceIdeal.τ).loc Cert.ProjFwdReferenceIdeal.main_arg0)
          ∧ r.2.mem ((c.tc : Thread Cert.ProjFwdReferenceIdeal.nD Cert.ProjFwdReferenceIdeal.τ).loc Cert.ProjFwdReferenceIdeal.main_arg1) = m' ((c.tc : Thread Cert.ProjFwdReferenceIdeal.nD Cert.ProjFwdReferenceIdeal.τ).loc Cert.ProjFwdReferenceIdeal.main_arg1)
          ∧ r.2.mem ((c.tc : Thread Cert.ProjFwdReferenceIdeal.nD Cert.ProjFwdReferenceIdeal.τ).loc Cert.ProjFwdReferenceIdeal.main_arg2) = m' ((c.tc : Thread Cert.ProjFwdReferenceIdeal.nD Cert.ProjFwdReferenceIdeal.τ).loc Cert.ProjFwdReferenceIdeal.main_arg2))

def Claim : Prop :=
  ∃ (hLoss : Cert.Loss.Facts) (hLossIdeal : Cert.LossIdeal.Facts) (hLossReferenceIdeal : Cert.LossReferenceIdeal.Facts) (hGate : Cert.Gate.Facts) (hGateIdeal : Cert.GateIdeal.Facts) (hGateReferenceIdeal : Cert.GateReferenceIdeal.Facts) (hNorm : Cert.Norm.Facts) (hNormIdeal : Cert.NormIdeal.Facts) (hNormReferenceIdeal : Cert.NormReferenceIdeal.Facts) (hMemKv : Cert.MemKv.Facts) (hMemKvIdeal : Cert.MemKvIdeal.Facts) (hMemKvReferenceIdeal : Cert.MemKvReferenceIdeal.Facts) (hProj : Cert.Proj.Facts) (hProjIdeal : Cert.ProjIdeal.Facts) (hProjReferenceIdeal : Cert.ProjReferenceIdeal.Facts) (hMem : Cert.Mem.Facts) (hMemIdeal : Cert.MemIdeal.Facts) (hMemReferenceIdeal : Cert.MemReferenceIdeal.Facts) (hBelow : Cert.Below.Facts) (hBelowIdeal : Cert.BelowIdeal.Facts) (hBelowReferenceIdeal : Cert.BelowReferenceIdeal.Facts) (hSwa : Cert.Swa.Facts) (hSwaIdeal : Cert.SwaIdeal.Facts) (hSwaReferenceIdeal : Cert.SwaReferenceIdeal.Facts) (hConv : Cert.Conv.Facts) (hConvIdeal : Cert.ConvIdeal.Facts) (hConvReferenceIdeal : Cert.ConvReferenceIdeal.Facts) (hMemFwd : Cert.MemFwd.Facts) (hMemFwdIdeal : Cert.MemFwdIdeal.Facts) (hMemFwdReferenceIdeal : Cert.MemFwdReferenceIdeal.Facts) (hSwaFwd : Cert.SwaFwd.Facts) (hSwaFwdIdeal : Cert.SwaFwdIdeal.Facts) (hSwaFwdReferenceIdeal : Cert.SwaFwdReferenceIdeal.Facts) (hMemKvFwd : Cert.MemKvFwd.Facts) (hMemKvFwdIdeal : Cert.MemKvFwdIdeal.Facts) (hMemKvFwdReferenceIdeal : Cert.MemKvFwdReferenceIdeal.Facts) (hProjFwd : Cert.ProjFwd.Facts) (hProjFwdIdeal : Cert.ProjFwdIdeal.Facts) (hProjFwdReferenceIdeal : Cert.ProjFwdReferenceIdeal.Facts) (hPre_gate_finite : Cert.Pre_gate_finite.Facts) (hPre_mem_finite : Cert.Pre_mem_finite.Facts),
    quiescent_Loss (hLoss := hLoss)
    ∧ quiescent_LossIdeal (hLossIdeal := hLossIdeal)
    ∧ quiescent_LossReferenceIdeal (hLossReferenceIdeal := hLossReferenceIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_Norm (hNorm := hNorm)
    ∧ quiescent_NormIdeal (hNormIdeal := hNormIdeal)
    ∧ quiescent_NormReferenceIdeal (hNormReferenceIdeal := hNormReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mem (hMem := hMem)
    ∧ quiescent_MemIdeal (hMemIdeal := hMemIdeal)
    ∧ quiescent_MemIdeal_pre_mem_finite (hMemIdeal := hMemIdeal) (hPre_mem_finite := hPre_mem_finite)
    ∧ quiescent_MemReferenceIdeal (hMemReferenceIdeal := hMemReferenceIdeal)
    ∧ quiescent_MemReferenceIdeal_pre_mem_finite (hMemReferenceIdeal := hMemReferenceIdeal) (hPre_mem_finite := hPre_mem_finite)
    ∧ quiescent_Below (hBelow := hBelow)
    ∧ quiescent_BelowIdeal (hBelowIdeal := hBelowIdeal)
    ∧ quiescent_BelowReferenceIdeal (hBelowReferenceIdeal := hBelowReferenceIdeal)
    ∧ quiescent_Swa (hSwa := hSwa)
    ∧ quiescent_SwaIdeal (hSwaIdeal := hSwaIdeal)
    ∧ quiescent_SwaReferenceIdeal (hSwaReferenceIdeal := hSwaReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_MemFwd (hMemFwd := hMemFwd)
    ∧ quiescent_MemFwdIdeal (hMemFwdIdeal := hMemFwdIdeal)
    ∧ quiescent_MemFwdReferenceIdeal (hMemFwdReferenceIdeal := hMemFwdReferenceIdeal)
    ∧ quiescent_SwaFwd (hSwaFwd := hSwaFwd)
    ∧ quiescent_SwaFwdIdeal (hSwaFwdIdeal := hSwaFwdIdeal)
    ∧ quiescent_SwaFwdReferenceIdeal (hSwaFwdReferenceIdeal := hSwaFwdReferenceIdeal)
    ∧ quiescent_MemKvFwd (hMemKvFwd := hMemKvFwd)
    ∧ quiescent_MemKvFwdIdeal (hMemKvFwdIdeal := hMemKvFwdIdeal)
    ∧ quiescent_MemKvFwdReferenceIdeal (hMemKvFwdReferenceIdeal := hMemKvFwdReferenceIdeal)
    ∧ quiescent_ProjFwd (hProjFwd := hProjFwd)
    ∧ quiescent_ProjFwdIdeal (hProjFwdIdeal := hProjFwdIdeal)
    ∧ quiescent_ProjFwdReferenceIdeal (hProjFwdReferenceIdeal := hProjFwdReferenceIdeal)
    ∧ preserves_Loss_LossIdeal
    ∧ algebraic_LossIdeal_LossReferenceIdeal (hLossIdeal := hLossIdeal) (hLossReferenceIdeal := hLossReferenceIdeal)
    ∧ preserves_Gate_GateIdeal
    ∧ algebraic_GateIdeal_GateReferenceIdeal_pre_gate_finite (hGateIdeal := hGateIdeal) (hGateReferenceIdeal := hGateReferenceIdeal) (hPre_gate_finite := hPre_gate_finite)
    ∧ preserves_Norm_NormIdeal
    ∧ algebraic_NormIdeal_NormReferenceIdeal (hNormIdeal := hNormIdeal) (hNormReferenceIdeal := hNormReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Proj_ProjIdeal
    ∧ algebraic_ProjIdeal_ProjReferenceIdeal (hProjIdeal := hProjIdeal) (hProjReferenceIdeal := hProjReferenceIdeal)
    ∧ preserves_Mem_MemIdeal
    ∧ algebraic_MemIdeal_MemReferenceIdeal_pre_mem_finite (hMemIdeal := hMemIdeal) (hMemReferenceIdeal := hMemReferenceIdeal) (hPre_mem_finite := hPre_mem_finite)
    ∧ preserves_Below_BelowIdeal
    ∧ algebraic_BelowIdeal_BelowReferenceIdeal (hBelowIdeal := hBelowIdeal) (hBelowReferenceIdeal := hBelowReferenceIdeal)
    ∧ preserves_Swa_SwaIdeal
    ∧ preserves_Conv_ConvIdeal
    ∧ preserves_MemFwd_MemFwdIdeal
    ∧ algebraic_MemFwdIdeal_MemFwdReferenceIdeal (hMemFwdIdeal := hMemFwdIdeal) (hMemFwdReferenceIdeal := hMemFwdReferenceIdeal)
    ∧ preserves_SwaFwd_SwaFwdIdeal
    ∧ algebraic_SwaFwdIdeal_SwaFwdReferenceIdeal (hSwaFwdIdeal := hSwaFwdIdeal) (hSwaFwdReferenceIdeal := hSwaFwdReferenceIdeal)
    ∧ preserves_MemKvFwd_MemKvFwdIdeal
    ∧ algebraic_MemKvFwdIdeal_MemKvFwdReferenceIdeal (hMemKvFwdIdeal := hMemKvFwdIdeal) (hMemKvFwdReferenceIdeal := hMemKvFwdReferenceIdeal)
    ∧ preserves_ProjFwd_ProjFwdIdeal
    ∧ algebraic_ProjFwdIdeal_ProjFwdReferenceIdeal (hProjFwdIdeal := hProjFwdIdeal) (hProjFwdReferenceIdeal := hProjFwdReferenceIdeal)
-- ==== Pre_gate_finite.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S8192x1024 .f32) : IVec S8192x1024 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_mem_finite.lean ====
abbrev S8192x256 : Shape := ⟨2, ![8192, 256]⟩
abbrev S256x512 : Shape := ⟨2, ![256, 512]⟩
abbrev S1x64 : Shape := ⟨2, ![1, 64]⟩
abbrev S_ : Shape := ⟨0, ![]⟩

class Facts : Prop where
  bcast_S_S8192x256 : S_.BroadcastsInDim S8192x256 (![] : Fin 0 → Fin S8192x256.rank)
  bcast_S_S256x512 : S_.BroadcastsInDim S256x512 (![] : Fin 0 → Fin S256x512.rank)
  bcast_S_S1x64 : S_.BroadcastsInDim S1x64 (![] : Fin 0 → Fin S1x64.rank)

variable [Facts]

def fn {F : FTy → Type} [FloatOps F] (main_arg0 : FVec F S8192x256 .f32) (main_arg1 : FVec F S256x512 .f32) (main_arg2 : FVec F S1x64 .f32) (main_arg3 : FVec F S1x64 .f32) (main_arg4 : FVec F S8192x256 .f32) : IVec S8192x256 1 × IVec S256x512 1 × IVec S1x64 1 × IVec S1x64 1 × IVec S8192x256 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S256x512 .f32 := Host.absf main_arg1
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S8192x256 .f32 := Host.absf main_arg4
  let main_cst_3 : FVec F S_ .f32 := constant S_ .f32 0x7F800000#32
  let main_v13 : FVec F S8192x256 .f32 := broadcastInDim S8192x256 ![] bcast_S_S8192x256 main_cst_3
  let main_v14 : IVec S8192x256 1 := cmpf .olt main_v12 main_v13
  (main_v2, main_v5, main_v8, main_v11, main_v14)
-- ==== Loss.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x128, .f32⟩
  | .hbm, ⟨4, _⟩ => ⟨S8192x1024, .f32⟩
  | .hbm, ⟨5, _⟩ => ⟨S1x1024, .f32⟩
  | .hbm, ⟨6, _⟩ => ⟨S1x1, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32_22 : BitVec 32 := 0#32
  let v59 : BitVec 1 := Scalar.cmpi .eq arg0 c0_i32_22
  let v60 : BitVec 32 := Scalar.extui v59
  let c0_i32_23 : BitVec 32 := 0#32
  let v61 : BitVec 1 := Scalar.cmpi .ne v60 c0_i32_23
  v61

def k0_cond4 (i : grid0.Coords) : BitVec 1 :=
  let arg0 : BitVec 32 := BitVec.ofNat 32 (i 0).val
  let c0_i32_24 : BitVec 32 := 0#32
  let v62 : BitVec 1 := Scalar.cmpi .sgt arg0 c0_i32_24
  let v63 : BitVec 32 := Scalar.extui v62
  let c0_i32_25 : BitVec 32 := 0#32
  let v64 : BitVec 1 := Scalar.cmpi .ne v63 c0_i32_25
  v64

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_15 : BitVec 32 := 0#32
  let v44 : BitVec 1 := Scalar.cmpi .ne v43 c0_i32_15
  v44

def k0_cond2 (i : grid0.Coords) : BitVec 1 :=
  let arg0 : BitVec 32 := BitVec.ofNat 32 (i 0).val
  let c0_i32_16 : BitVec 32 := 0#32
  let v45 : BitVec 1 := Scalar.cmpi .sgt arg0 c0_i32_16
  let v46 : BitVec 32 := Scalar.extui v45
  let c0_i32_17 : BitVec 32 := 0#32
  let v47 : BitVec 1 := Scalar.cmpi .ne v46 c0_i32_17
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Gate.lean ====
abbrev S8192x1024 : Shape := ⟨2, ![8192, 1024]⟩
abbrev S1024x2816 : Shape := ⟨2, ![1024, 2816]⟩
abbrev S2816x1024 : Shape := ⟨2, ![2816, 1024]⟩
abbrev S1024x8x352 : Shape := ⟨3, ![1024, 8, 352]⟩
abbrev S_ : Shape := ⟨0, ![]⟩
abbrev S1024x8x384 : Shape := ⟨3, ![1024, 8, 384]⟩
abbrev S1024x4x768 : Shape := ⟨3, ![1024, 4, 768]⟩
abbrev S4x1024x768 : Shape := ⟨3, ![4, 1024, 768]⟩
abbrev S8x352x1024 : Shape := ⟨3, ![8, 352, 1024]⟩
abbrev S8x384x1024 : Shape := ⟨3, ![8, 384, 1024]⟩
abbrev S4x768x1024 : Shape := ⟨3, ![4, 768, 1024]⟩
abbrev S8192x4x768 : Shape := ⟨3, ![8192, 4, 768]⟩
abbrev S8192x3072 : Shape := ⟨2, ![8192, 3072]⟩
abbrev S4x8192x1024 : Shape := ⟨3, ![4, 8192, 1024]⟩
abbrev S512x1024 : Shape := ⟨2, ![512, 1024]⟩
abbrev S512x768 : Shape := ⟨2, ![512, 768]⟩
abbrev S1x1024x768 : Shape := ⟨3, ![1, 1024, 768]⟩
abbrev S1x768x1024 : Shape := ⟨3, ![1, 768, 1024]⟩
abbrev S1x512x1024 : Shape := ⟨3, ![1, 512, 1024]⟩
abbrev S1024x768 : Shape := ⟨2, ![1024, 768]⟩
abbrev S768x1024 : Shape := ⟨2, ![768, 1024]⟩

abbrev nBuf : Space → Nat
  | .hbm => 53
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S1024x2816, .bf16⟩
  | .hbm, ⟨6, _⟩ => ⟨S1024x8x352, .bf16⟩
  | .hbm, ⟨7, _⟩ => ⟨S_, .i32⟩
  | .hbm, ⟨8, _⟩ => ⟨S_, .bf16⟩
  | .hbm, ⟨9, _⟩ => ⟨S1024x8x384, .bf16⟩
  | .hbm, ⟨10, _⟩ => ⟨S1024x4x768, .bf16⟩
  | .hbm, ⟨11, _⟩ => ⟨S4x1024x768, .bf16⟩
  | .hbm, ⟨12, _⟩ => ⟨S1024x2816, .bf16⟩
  | .hbm, ⟨13, _⟩ => ⟨S1024x8x352, .bf16⟩
  | .hbm, ⟨14, _⟩ => ⟨S_, .i32⟩
  | .hbm, ⟨15, _⟩ => ⟨S_, .bf16⟩
  | .hbm, ⟨16, _⟩ => ⟨S1024x8x384, .bf16⟩
  | .hbm, ⟨17, _⟩ => ⟨S1024x4x768, .bf16⟩
  | .hbm, ⟨18, _⟩ => ⟨S4x1024x768, .bf16⟩
  | .hbm, ⟨19, _⟩ => ⟨S2816x1024, .bf16⟩
  | .hbm, ⟨20, _⟩ => ⟨S8x352x1024, .bf16⟩
  | .hbm, ⟨21, _⟩ => ⟨S_, .i32⟩
  | .hbm, ⟨22, _⟩ => ⟨S_, .bf16⟩
  | .hbm, ⟨23, _⟩ => ⟨S8x384x1024, .bf16⟩
  | .hbm, ⟨24, _⟩ => ⟨S4x768x1024, .bf16⟩
  | .hbm, ⟨25, _⟩ => ⟨S8192x1024, .bf16⟩
  | .hbm, ⟨26, _⟩ => ⟨S8192x4x768, .f32⟩
  | .hbm, ⟨27, _⟩ => ⟨S8192x3072, .f32⟩
  | .hbm, ⟨28, _⟩ => ⟨S8192x3072, .bf16⟩
  | .hbm, ⟨29, _⟩ => ⟨S8192x4x768, .f32⟩
  | .hbm, ⟨30, _⟩ => ⟨S8192x3072, .f32⟩
  | .hbm, ⟨31, _⟩ => ⟨S8192x3072, .bf16⟩
  | .hbm, ⟨32, _⟩ => ⟨S4x8192x1024, .bf16⟩
  | .hbm, ⟨33, _⟩ => ⟨S4x1024x768, .bf16⟩
  | .hbm, ⟨34, _⟩ => ⟨S4x1024x768, .bf16⟩
  | .hbm, ⟨35, _⟩ => ⟨S4x768x1024, .bf16⟩
  | .hbm, ⟨36, _⟩ => ⟨S4x8192x1024, .f32⟩
  | .hbm, ⟨37, _⟩ => ⟨S_, .f32⟩
  | .hbm, ⟨38, _⟩ => ⟨S8192x1024, .f32⟩
  | .hbm, ⟨39, _⟩ => ⟨S1024x4x768, .bf16⟩
  | .hbm, ⟨40, _⟩ => ⟨S1024x8x384, .bf16⟩
  | .hbm, ⟨41, _⟩ => ⟨S1024x8x352, .bf16⟩
  | .hbm, ⟨42, _⟩ => ⟨S1024x2816, .bf16⟩
  | .hbm, ⟨43, _⟩ => ⟨S1024x2816, .f32⟩
  | .hbm, ⟨44, _⟩ => ⟨S1024x4x768, .bf16⟩
  | .hbm, ⟨45, _⟩ => ⟨S1024x8x384, .bf16⟩
  | .hbm, ⟨46, _⟩ => ⟨S1024x8x352, .bf16⟩
  | .hbm, ⟨47, _⟩ => ⟨S1024x2816, .bf16⟩
  | .hbm, ⟨48, _⟩ => ⟨S1024x2816, .f32⟩
  | .hbm, ⟨49, _⟩ => ⟨S8x384x1024, .bf16⟩
  | .hbm, ⟨50, _⟩ => ⟨S8x352x1024, .bf16⟩
  | .hbm, ⟨51, _⟩ => ⟨S2816x1024, .bf16⟩
  | .hbm, ⟨52, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x1024, .bf16⟩
  | .local _ .vmem, ⟨7, _⟩ => ⟨S512x1024, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | .local _ .vmem, ⟨12, _⟩ => ⟨S1x768x1024, .bf16⟩
  | .local _ .vmem, ⟨13, _⟩ => ⟨S1x768x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x768, .bf16⟩
  | .local _ .vmem, ⟨17, _⟩ => ⟨S1x1024x768, .bf16⟩
  | .local _ .vmem, ⟨18, _⟩ => ⟨S1x1024x768, .bf16⟩
  | .local _ .vmem, ⟨19, _⟩ => ⟨S1x1024x768, .bf16⟩
  | .local _ .vmem, ⟨20, _⟩ => ⟨S1x768x1024, .bf16⟩
  | .local _ .vmem, ⟨21, _⟩ => ⟨S1x768x1024, .bf16⟩
  | .local _ .vmem, ⟨22, _⟩ => ⟨S1024x768, .f32⟩
  | .local _ .vmem, ⟨23, _⟩ => ⟨S1024x768, .f32⟩
  | .local _ .vmem, ⟨24, _⟩ => ⟨S768x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_40 : BitVec 32 := 0#32
  let v64 : BitVec 1 := Scalar.cmpi .ne v63 c0_i32_40
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GateReferenceIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S2816x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S2816x1024, .f32⟩
  | .hbm, ⟨34, _⟩ => ⟨S1024x2816, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S2816x1024, .f32⟩
  | .hbm, ⟨41, _⟩ => ⟨S1024x2816, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S4x8192x1024 : Shape := ⟨3, ![4, 8192, 1024]⟩
abbrev S512x1024 : Shape := ⟨2, ![512, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x8192x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x512x1024, .bf16⟩
  | .local _ .vmem, ⟨4, _⟩ => ⟨S4x512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_23 : BitVec 32 := 0#32
  let v55 : BitVec 1 := Scalar.cmpi .ne v54 c0_i32_23
  v55

def k0_cond2 (i : grid0.Coords) : BitVec 1 :=
  let arg0 : BitVec 32 := BitVec.ofNat 32 (i 0).val
  let c0_i32_24 : BitVec 32 := 0#32
  let v56 : BitVec 1 := Scalar.cmpi .sgt arg0 c0_i32_24
  let v57 : BitVec 32 := Scalar.extui v56
  let c0_i32_25 : BitVec 32 := 0#32
  let v58 : BitVec 1 := Scalar.cmpi .ne v57 c0_i32_25
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReferenceIdeal.lean ====
abbrev S8192x1024 : Shape := ⟨2, ![8192, 1024]⟩
abbrev S1x1024 : Shape := ⟨2, ![1, 1024]⟩
abbrev S4x8192x1024 : Shape := ⟨3, ![4, 8192, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x8192x1024, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S4x8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== MemKv.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S256x512, .f32⟩
  | .hbm, ⟨4, _⟩ => ⟨S1024x512, .bf16⟩
  | .hbm, ⟨5, _⟩ => ⟨S1x1024, .f32⟩
  | .hbm, ⟨6, _⟩ => ⟨S1024x512, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x512, .f32⟩
  | .local _ .vmem, ⟨4, _⟩ => ⟨S1x1024, .f32⟩
  | .local _ .vmem, ⟨5, _⟩ => ⟨S1024x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_12 : BitVec 32 := 0#32
  let v28 : BitVec 1 := Scalar.cmpi .ne v27 c0_i32_12
  v28

def k0_cond2 (i : grid0.Coords) : BitVec 1 :=
  let arg0 : BitVec 32 := BitVec.ofNat 32 (i 0).val
  let c0_i32_13 : BitVec 32 := 0#32
  let v29 : BitVec 1 := Scalar.cmpi .sgt arg0 c0_i32_13
  let v30 : BitVec 32 := Scalar.extui v29
  let c0_i32_14 : BitVec 32 := 0#32
  let v31 : BitVec 1 := Scalar.cmpi .ne v30 c0_i32_14
  v31

def k0_cond3 (i : grid0.Coords) : BitVec 1 :=
  let arg0 : BitVec 32 := BitVec.ofNat 32 (i 0).val
  let c0_i32_15 : BitVec 32 := 0#32
  let v32 : BitVec 1 := Scalar.cmpi .eq arg0 c0_i32_15
  let v33 : BitVec 32 := Scalar.extui v32
  let c0_i32_16 : BitVec 32 := 0#32
  let v34 : BitVec 1 := Scalar.cmpi .ne v33 c0_i32_16
  v34

def k0_cond4 (i : grid0.Coords) : BitVec 1 :=
  let arg0 : BitVec 32 := BitVec.ofNat 32 (i 0).val
  let c0_i32_17 : BitVec 32 := 0#32
  let v35 : BitVec 1 := Scalar.cmpi .sgt arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemKvReferenceIdeal.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S_ : Shape := ⟨0, ![]⟩
abbrev S256 : Shape := ⟨1, ![256]⟩
abbrev S256x1 : Shape := ⟨2, ![256, 1]⟩
abbrev S512x1024 : Shape := ⟨2, ![512, 1024]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S256x512, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x512, .f32⟩
  | .hbm, ⟨20, _⟩ => ⟨S512x1024, .f32⟩
  | .hbm, ⟨21, _⟩ => ⟨S1024x512, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S1024x1664 : Shape := ⟨2, ![1024, 1664]⟩
abbrev S8192x768 : Shape := ⟨2, ![8192, 768]⟩
abbrev S8192x384 : Shape := ⟨2, ![8192, 384]⟩
abbrev S8192x128 : Shape := ⟨2, ![8192, 128]⟩
abbrev S8192x256 : Shape := ⟨2, ![8192, 256]⟩
abbrev S8192x6x64 : Shape := ⟨3, ![8192, 6, 64]⟩
abbrev S6x8192x64 : Shape := ⟨3, ![6, 8192, 64]⟩
abbrev S8192x2x64 : Shape := ⟨3, ![8192, 2, 64]⟩
abbrev S2x8192x64 : Shape := ⟨3, ![2, 8192, 64]⟩
abbrev S8192x4x64 : Shape := ⟨3, ![8192, 4, 64]⟩
abbrev S4x8192x64 : Shape := ⟨3, ![4, 8192, 64]⟩
abbrev S256x1024 : Shape := ⟨2, ![256, 1024]⟩
abbrev S256x384 : Shape := ⟨2, ![256, 384]⟩
abbrev S6x256x64 : Shape := ⟨3, ![6, 256, 64]⟩
abbrev S2x256x64 : Shape := ⟨3, ![2, 256, 64]⟩
abbrev S4x256x64 : Shape := ⟨3, ![4, 256, 64]⟩
abbrev S256 : Shape := ⟨1, ![256]⟩
abbrev S256x1 : Shape := ⟨2, ![256, 1]⟩
abbrev S1x256x64 : Shape := ⟨3, ![1, 256, 64]⟩
abbrev S256x64 : Shape := ⟨2, ![256, 64]⟩
abbrev S256x192 : Shape := ⟨2, ![256, 192]⟩
abbrev S256x256 : Shape := ⟨2, ![256, 256]⟩
abbrev S256x128 : Shape := ⟨2, ![256, 128]⟩
abbrev S256x1408 : Shape := ⟨2, ![256, 1408]⟩
abbrev S256x1664 : Shape := ⟨2, ![256, 1664]⟩
abbrev S256x1280 : Shape := ⟨2, ![256, 1280]⟩
abbrev S256x1152 : Shape := ⟨2, ![256, 1152]⟩
abbrev S256x320 : Shape := ⟨2, ![256, 320]⟩
abbrev S256x768 : Shape := ⟨2, ![256, 768]⟩
abbrev S256x512 : Shape := ⟨2, ![256, 512]⟩
abbrev S256x896 : Shape := ⟨2, ![256, 896]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1664, .f32⟩
  | .hbm, ⟨3, _⟩ => ⟨S8192x768, .f32⟩
  | .hbm, ⟨4, _⟩ => ⟨S8192x384, .f32⟩
  | .hbm, ⟨5, _⟩ => ⟨S8192x128, .f32⟩
  | .hbm, ⟨6, _⟩ => ⟨S8192x128, .f32⟩
  | .hbm, ⟨7, _⟩ => ⟨S8192x256, .f32⟩
  | .hbm, ⟨8, _⟩ => ⟨S8192x1024, .f32⟩
  | .hbm, ⟨9, _⟩ => ⟨S1024x1664, .bf16⟩
  | .hbm, ⟨10, _⟩ => ⟨S8192x384, .f32⟩
  | .hbm, ⟨11, _⟩ => ⟨S8192x384, .f32⟩
  | .hbm, ⟨12, _⟩ => ⟨S8192x6x64, .f32⟩
  | .hbm, ⟨13, _⟩ => ⟨S6x8192x64, .f32⟩
  | .hbm, ⟨14, _⟩ => ⟨S8192x2x64, .f32⟩
  | .hbm, ⟨15, _⟩ => ⟨S2x8192x64, .f32⟩
  | .hbm, ⟨16, _⟩ => ⟨S8192x2x64, .f32⟩
  | .hbm, ⟨17, _⟩ => ⟨S2x8192x64, .f32⟩
  | .hbm, ⟨18, _⟩ => ⟨S8192x4x64, .f32⟩
  | .hbm, ⟨19, _⟩ => ⟨S4x8192x64, .f32⟩
  | .hbm, ⟨20, _⟩ => ⟨S8192x1024, .f32⟩
  | .hbm, ⟨21, _⟩ => ⟨S1x1024, .f32⟩
  | .hbm, ⟨22, _⟩ => ⟨S1024x1664, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1664, .bf16⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S6x256x64, .f32⟩
  | .local _ .vmem, ⟨9, _⟩ => ⟨S6x256x64, .f32⟩
  | .local _ .vmem, ⟨10, _⟩ => ⟨S2x256x64, .f32⟩
  | .local _ .vmem, ⟨11, _⟩ => ⟨S2x256x64, .f32⟩
  | .local _ .vmem, ⟨12, _⟩ => ⟨S2x256x64, .f32⟩
  | .local _ .vmem, ⟨13, _⟩ => ⟨S2x256x64, .f32⟩
  | .local _ .vmem, ⟨14, _⟩ => ⟨S4x256x64, .f32⟩
  | .local _ .vmem, ⟨15, _⟩ => ⟨S4x256x64, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v163 : BitVec 1 := Scalar.cmpi .eq arg0 c0_i32
  let v164 : BitVec 32 := Scalar.extui v163
  let c0_i32_54 : BitVec 32 := 0#32
  let v165 : BitVec 1 := Scalar.cmpi .ne v164 c0_i32_54
  v165

def k0_cond2 (i : grid0.Coords) : BitVec 1 :=
  let arg0 : BitVec 32 := BitVec.ofNat 32 (i 0).val
  let c0_i32_55 : BitVec 32 := 0#32
  let v166 : BitVec 1 := Scalar.cmpi .sgt arg0 c0_i32_55
  let v167 : BitVec 32 := Scalar.extui v166
  let c0_i32_56 : BitVec 32 := 0#32
  let v168 : BitVec 1 := Scalar.cmpi .ne v167 c0_i32_56
  v168

def k0_cond3 (i : grid0.Coords) : BitVec 1 :=
  let arg0 : BitVec 32 := BitVec.ofNat 32 (i 0).val
  let c0_i32_57 : BitVec 32 := 0#32
  let v169 : BitVec 1 := Scalar.cmpi .eq arg0 c0_i32_57
  let v170 : BitVec 32 := Scalar.extui v169
  let c0_i32_58 : BitVec 32 := 0#32
  let v171 : BitVec 1 := Scalar.cmpi .ne v170 c0_i32_58
  v171

def k0_cond4 (i : grid0.Coords) : BitVec 1 :=
  let arg0 : BitVec 32 := BitVec.ofNat 32 (i 0).val
  let c0_i32_59 : BitVec 32 := 0#32
  let v172 : BitVec 1 := Scalar.cmpi .sgt arg0 c0_i32_59
  let v173 : BitVec 32 := Scalar.extui v172
  let c0_i32_60 : BitVec 32 := 0#32
  let v174 : BitVec 1 := Scalar.cmpi .ne v173 c0_i32_60
  v174

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1664 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ProjReferenceIdeal.lean ====
abbrev S8192x1024 : Shape := ⟨2, ![8192, 1024]⟩
abbrev S1x1024 : Shape := ⟨2, ![1, 1024]⟩
abbrev S1024x1664 : Shape := ⟨2, ![1024, 1664]⟩
abbrev S8192x768 : Shape := ⟨2, ![8192, 768]⟩
abbrev S8192x384 : Shape := ⟨2, ![8192, 384]⟩
abbrev S8192x128 : Shape := ⟨2, ![8192, 128]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x1664 : Shape := ⟨2, ![8192, 1664]⟩
abbrev S1664x1024 : Shape := ⟨2, ![1664, 1024]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1664, .f32⟩
  | .hbm, ⟨3, _⟩ => ⟨S8192x768, .f32⟩
  | .hbm, ⟨4, _⟩ => ⟨S8192x384, .f32⟩
  | .hbm, ⟨5, _⟩ => ⟨S8192x128, .f32⟩
  | .hbm, ⟨6, _⟩ => ⟨S8192x128, .f32⟩
  | .hbm, ⟨7, _⟩ => ⟨S8192x256, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1664, .f32⟩
  | .hbm, ⟨29, _⟩ => ⟨S8192x768, .f32⟩
  | .hbm, ⟨30, _⟩ => ⟨S8192x384, .f32⟩
  | .hbm, ⟨31, _⟩ => ⟨S8192x128, .f32⟩
  | .hbm, ⟨32, _⟩ => ⟨S8192x128, .f32⟩
  | .hbm, ⟨33, _⟩ => ⟨S8192x256, .f32⟩
  | .hbm, ⟨34, _⟩ => ⟨S8192x1664, .f32⟩
  | .hbm, ⟨35, _⟩ => ⟨S1664x1024, .f32⟩
  | .hbm, ⟨36, _⟩ => ⟨S1024x1664, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Mem.lean ====
abbrev S8192x256 : Shape := ⟨2, ![8192, 256]⟩
abbrev S256x512 : Shape := ⟨2, ![256, 512]⟩
abbrev S1x64 : Shape := ⟨2, ![1, 64]⟩
abbrev S256x256 : Shape := ⟨2, ![256, 256]⟩
abbrev S256x4x64 : Shape := ⟨3, ![256, 4, 64]⟩
abbrev S4x256x64 : Shape := ⟨3, ![4, 256, 64]⟩
abbrev S8192x4x64 : Shape := ⟨3, ![8192, 4, 64]⟩
abbrev S4x8192x64 : Shape := ⟨3, ![4, 8192, 64]⟩
abbrev S4x512x64 : Shape := ⟨3, ![4, 512, 64]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S512x256 : Shape := ⟨2, ![512, 256]⟩
abbrev S3x256x64 : Shape := ⟨3, ![3, 256, 64]⟩
abbrev S64 : Shape := ⟨1, ![64]⟩
abbrev S3x512x64 : Shape := ⟨3, ![3, 512, 64]⟩
abbrev S2x256x64 : Shape := ⟨3, ![2, 256, 64]⟩
abbrev S2x512x64 : Shape := ⟨3, ![2, 512, 64]⟩

abbrev nBuf : Space → Nat
  | .hbm => 27
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S256x512, .f32⟩
  | .hbm, ⟨2, _⟩ => ⟨S1x64, .f32⟩
  | .hbm, ⟨3, _⟩ => ⟨S1x64, .f32⟩
  | .hbm, ⟨4, _⟩ => ⟨S8192x256, .f32⟩
  | .hbm, ⟨5, _⟩ => ⟨S256x256, .f32⟩
  | .hbm, ⟨6, _⟩ => ⟨S256x4x64, .f32⟩
  | .hbm, ⟨7, _⟩ => ⟨S4x256x64, .f32⟩
  | .hbm, ⟨8, _⟩ => ⟨S256x256, .f32⟩
  | .hbm, ⟨9, _⟩ => ⟨S256x4x64, .f32⟩
  | .hbm, ⟨10, _⟩ => ⟨S4x256x64, .f32⟩
  | .hbm, ⟨11, _⟩ => ⟨S8192x4x64, .f32⟩
  | .hbm, ⟨12, _⟩ => ⟨S4x8192x64, .f32⟩
  | .hbm, ⟨13, _⟩ => ⟨S8192x4x64, .f32⟩
  | .hbm, ⟨14, _⟩ => ⟨S4x8192x64, .f32⟩
  | .hbm, ⟨15, _⟩ => ⟨S4x8192x64, .f32⟩
  | .hbm, ⟨16, _⟩ => ⟨S4x256x64, .f32⟩
  | .hbm, ⟨17, _⟩ => ⟨S4x256x64, .f32⟩
  | .hbm, ⟨18, _⟩ => ⟨S1x64, .f32⟩
  | .hbm, ⟨19, _⟩ => ⟨S1x64, .f32⟩
  | .hbm, ⟨20, _⟩ => ⟨S8192x4x64, .f32⟩
  | .hbm, ⟨21, _⟩ => ⟨S8192x256, .f32⟩
  | .hbm, ⟨22, _⟩ => ⟨S256x4x64, .f32⟩
  | .hbm, ⟨23, _⟩ => ⟨S256x256, .f32⟩
  | .hbm, ⟨24, _⟩ => ⟨S256x4x64, .f32⟩
  | .hbm, ⟨25, _⟩ => ⟨S256x256, .f32⟩
  | .hbm, ⟨26, _⟩ => ⟨S256x512, .f32⟩
  | .local _ .vmem, ⟨0, _⟩ => ⟨S4x512x64, .f32⟩
  | .local _ .vmem, ⟨1, _⟩ => ⟨S4x512x64, .f32⟩
  | .local _ .vmem, ⟨2, _⟩ => ⟨S4x256x64, .f32⟩
  | .local _ .vmem, ⟨3, _⟩ => ⟨S4x256x64, .f32⟩
  | .local _ .vmem, ⟨4, _⟩ => ⟨S1x64, .f32⟩
  | .local _ .vmem, ⟨5, _⟩ => ⟨S1x64, .f32⟩
  | .local _ .vmem, ⟨6, _⟩ => ⟨S4x512x64, .f32⟩
  | .local _ .vmem, ⟨7, _⟩ => ⟨S4x512x64, .f32⟩
  | .local _ .vmem, ⟨8, _⟩ => ⟨S4x512x64, .f32⟩
  | .local _ .vmem, ⟨9, _⟩ => ⟨S4x512x64, .f32⟩
  | .local _ .vmem, ⟨10, _⟩ => ⟨S4x256x64, .f32⟩
  | .local _ .vmem, ⟨11, _⟩ => ⟨S4x256x64, .f32⟩
  | .local _ .vmem, ⟨12, _⟩ => ⟨S1x64, .f32⟩
  | .local _ .vmem, ⟨13, _⟩ => ⟨S1x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v558 : BitVec 1 := Scalar.cmpi .eq arg0 c0_i32
  let v559 : BitVec 32 := Scalar.extui v558
  let c0_i32_145 : BitVec 32 := 0#32
  let v560 : BitVec 1 := Scalar.cmpi .ne v559 c0_i32_145
  v560

def k0_cond2 (i : grid0.Coords) : BitVec 1 :=
  let arg0 : BitVec 32 := BitVec.ofNat 32 (i 0).val
  let c0_i32_146 : BitVec 32 := 0#32
  let v561 : BitVec 1 := Scalar.cmpi .sgt arg0 c0_i32_146
  let v562 : BitVec 32 := Scalar.extui v561
  let c0_i32_147 : BitVec 32 := 0#32
  let v563 : BitVec 1 := Scalar.cmpi .ne v562 c0_i32_147
  v563

def k0_cond3 (i : grid0.Coords) : BitVec 1 :=
  let arg0 : BitVec 32 := BitVec.ofNat 32 (i 0).val
  let c0_i32_148 : BitVec 32 := 0#32
  let v564 : BitVec 1 := Scalar.cmpi .eq arg0 c0_i32_148
  let v565 : BitVec 32 := Scalar.extui v564
  let c0_i32_149 : BitVec 32 := 0#32
  let v566 : BitVec 1 := Scalar.cmpi .ne v565 c0_i32_149
  v566

def k0_cond4 (i : grid0.Coords) : BitVec 1 :=
  let arg0 : BitVec 32 := BitVec.ofNat 32 (i 0).val
  let c0_i32_150 : BitVec 32 := 0#32
  let v567 : BitVec 1 := Scalar.cmpi .sgt arg0 c0_i32_150
  let v568 : BitVec 32 := Scalar.extui v567
  let c0_i32_151 : BitVec 32 := 0#32
  let v569 : BitVec 1 := Scalar.cmpi .ne v568 c0_i32_151
  v569

def k0_cond5 (i : grid0.Coords) : BitVec 1 :=
  let arg0 : BitVec 32 := BitVec.ofNat 32 (i 0).val
  let c0_i32_152 : BitVec 32 := 0#32
  let v570 : BitVec 1 := Scalar.cmpi .eq arg0 c0_i32_152
  let v571 : BitVec 32 := Scalar.extui v570
  let c0_i32_153 : BitVec 32 := 0#32
  let v572 : BitVec 1 := Scalar.cmpi .ne v571 c0_i32_153
  v572

def k0_cond6 (i : grid0.Coords) : BitVec 1 :=
  let arg0 : BitVec 32 := BitVec.ofNat 32 (i 0).val
  let c0_i32_154 : BitVec 32 := 0#32
  let v573 : BitVec 1 := Scalar.cmpi .sgt arg0 c0_i32_154
  let v574 : BitVec 32 := Scalar.extui v573
  let c0_i32_155 : BitVec 32 := 0#32
  let v575 : BitVec 1 := Scalar.cmpi .ne v574 c0_i32_155
  v575

def k0_cond7 (i : grid0.Coords) : BitVec 1 :=
  let arg0 : BitVec 32 := BitVec.ofNat 32 (i 0).val
  let c0_i32_156 : BitVec 32 := 0#32
  let v576 : BitVec 1 := Scalar.cmpi .eq arg0 c0_i32_156
  let v577 : BitVec 32 := Scalar.extui v576
  let c0_i32_157 : BitVec 32 := 0#32
  let v578 : BitVec 1 := Scalar.cmpi .ne v577 c0_i32_157
  v578

def k0_cond8 (i : grid0.Coords) : BitVec 1 :=
  let arg0 : BitVec 32 := BitVec.ofNat 32 (i 0).val
  let c0_i32_158 : BitVec 32 := 0#32
  let v579 : BitVec 1 := Scalar.cmpi .sgt arg0 c0_i32_158
  let v580 : BitVec 32 := Scalar.extui v579
  let c0_i32_159 : BitVec 32 := 0#32
  let v581 : BitVec 1 := Scalar.cmpi .ne v580 c0_i32_159
  v581

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MemReferenceIdeal.lean ====
abbrev S8192x256 : Shape := ⟨2, ![8192, 256]⟩
abbrev S256x512 : Shape := ⟨2, ![256, 512]⟩
abbrev S1x64 : Shape := ⟨2, ![1, 64]⟩
abbrev S256x256 : Shape := ⟨2, ![256, 256]⟩
abbrev S8192x4x64 : Shape := ⟨3, ![8192, 4, 64]⟩
abbrev S_ : Shape := ⟨0, ![]⟩
abbrev S8192x4 : Shape := ⟨2, ![8192, 4]⟩
abbrev S8192x4x1 : Shape := ⟨3, ![8192, 4, 1]⟩
abbrev S1x1x64 : Shape := ⟨3, ![1, 1, 64]⟩
abbrev S256x4x64 : Shape := ⟨3, ![256, 4, 64]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩
abbrev S64 : Shape := ⟨1, ![64]⟩

abbrev nBuf : Space → Nat
  | .hbm => 177
  | .vmem => 0
  | .smem => 0
  | _ => 0

abbrev hbmTy0_0 (i : Nat) : BufTy := match i % 128 with
  | 0 => ⟨S8192x256, .f32⟩
  | 1 => ⟨S256x512, .f32⟩
  | 2 => ⟨S1x64, .f32⟩
  | 3 => ⟨S1x64, .f32⟩
  | 4 => ⟨S8192x256, .f32⟩
  | 5 => ⟨S256x256, .f32⟩
  | 6 => ⟨S256x256, .f32⟩
  | 7 => ⟨S8192x4x64, .f32⟩
  | 8 => ⟨S8192x4x64, .f32⟩
  | 9 => ⟨S_, .f32⟩
  | 10 => ⟨S8192x4, .f32⟩
  | 11 => ⟨S8192x4x1, .f32⟩
  | 12 => ⟨S_, .f32⟩
  | 13 => ⟨S8192x4x1, .f32⟩
  | 14 => ⟨S8192x4x1, .f32⟩
  | 15 => ⟨S_, .f32⟩
  | 16 => ⟨S8192x4x1, .f32⟩
  | 17 => ⟨S8192x4x1, .f32⟩
  | 18 => ⟨S8192x4x1, .f32⟩
  | 19 => ⟨S8192x4x1, .f32⟩
  | 20 => ⟨S_, .f32⟩
  | 21 => ⟨S8192x4x1, .f32⟩
  | 22 => ⟨S8192x4x1, .f32⟩
  | 23 => ⟨S8192x4x64, .f32⟩
  | 24 => ⟨S8192x4x64, .f32⟩
  | 25 => ⟨S1x1x64, .f32⟩
  | 26 => ⟨S8192x4x64, .f32⟩
  | 27 => ⟨S8192x4x64, .f32⟩
  | 28 => ⟨S256x4x64, .f32⟩
  | 29 => ⟨S256x4x64, .f32⟩
  | 30 => ⟨S_, .f32⟩
  | 31 => ⟨S256x4, .f32⟩
  | 32 => ⟨S256x4x1, .f32⟩
  | 33 => ⟨S_, .f32⟩
  | 34 => ⟨S256x4x1, .f32⟩
  | 35 => ⟨S256x4x1, .f32⟩
  | 36 => ⟨S_, .f32⟩
  | 37 => ⟨S256x4x1, .f32⟩
  | 38 => ⟨S256x4x1, .f32⟩
  | 39 => ⟨S256x4x1, .f32⟩
  | 40 => ⟨S256x4x1, .f32⟩
  | 41 => ⟨S_, .f32⟩
  | 42 => ⟨S256x4x1, .f32⟩
  | 43 => ⟨S256x4x1, .f32⟩
  | 44 => ⟨S256x4x64, .f32⟩
  | 45 => ⟨S256x4x64, .f32⟩
  | 46 => ⟨S1x1x64, .f32⟩
  | 47 => ⟨S256x4x64, .f32⟩
  | 48 => ⟨S256x4x64, .f32⟩
  | 49 => ⟨S256x4x64, .f32⟩
  | 50 => ⟨S4x8192x256, .f32⟩
  | 51 => ⟨S_, .f32⟩
  | 52 => ⟨S4x8192x256, .f32⟩
  | 53 => ⟨S4x8192x256, .f32⟩
  | 54 => ⟨S_, .f32⟩
  | 55 => ⟨S4x8192, .f32⟩
  | 56 => ⟨S4x8192x1, .f32⟩
  | 57 => ⟨S4x8192x256, .f32⟩
  | 58 => ⟨S4x8192x256, .i1⟩
  | 59 => ⟨S4x8192x256, .f32⟩
  | 60 => ⟨S_, .f32⟩
  | 61 => ⟨S4x8192, .f32⟩
  | 62 => ⟨S_, .f32⟩
  | 63 => ⟨S4x8192, .f32⟩
  | 64 => ⟨S4x8192, .f32⟩
  | 65 => ⟨S_, .f32⟩
  | 66 => ⟨S4x8192, .f32⟩
  | 67 => ⟨S4x8192, .i1⟩
  | 68 => ⟨S_, .f32⟩
  | 69 => ⟨S4x8192, .f32⟩
  | 70 => ⟨S4x8192, .i1⟩
  | 71 => ⟨S_, .f32⟩
  | 72 => ⟨S4x8192, .f32⟩
  | 73 => ⟨S_, .f32⟩
  | 74 => ⟨S4x8192, .f32⟩
  | 75 => ⟨S_, .f32⟩
  | 76 => ⟨S4x8192, .f32⟩
  | 77 => ⟨S4x8192, .f32⟩
  | 78 => ⟨S4x8192, .f32⟩
  | 79 => ⟨S4x8192x1, .f32⟩
  | 80 => ⟨S4x8192x256, .f32⟩
  | 81 => ⟨S4x8192x256, .f32⟩
  | 82 => ⟨S4x8192x256, .f32⟩
  | 83 => ⟨S_, .f32⟩
  | 84 => ⟨S4x8192, .f32⟩
  | 85 => ⟨S4x8192x1, .f32⟩
  | 86 => ⟨S4x8192x256, .f32⟩
  | 87 => ⟨S4x8192x256, .f32⟩
  | 88 => ⟨S4x8192x1, .f32⟩
  | 89 => ⟨S_, .f32⟩
  | 90 => ⟨S4x8192x1, .f32⟩
  | 91 => ⟨S4x8192x1, .f32⟩
  | 92 => ⟨S4x64x8192, .f32⟩
  | 93 => ⟨S8192x4x64, .f32⟩
  | 94 => ⟨S8192x256, .f32⟩
  | 95 => ⟨S8192x4x64, .f32⟩
  | 96 => ⟨S4x64x8192, .f32⟩
  | 97 => ⟨S4x8192x256, .f32⟩
  | 98 => ⟨S4x64x256, .f32⟩
  | 99 => ⟨S256x4x64, .f32⟩
  | 100 => ⟨S4x8192x256, .f32⟩
  | 101 => ⟨S4x8192x256, .f32⟩
  | 102 => ⟨S4x8192x256, .f32⟩
  | 103 => ⟨S_, .f32⟩
  | 104 => ⟨S4x8192, .f32⟩
  | 105 => ⟨S4x8192x1, .f32⟩
  | 106 => ⟨S4x8192x1, .f32⟩
  | 107 => ⟨S4x8192x256, .f32⟩
  | 108 => ⟨S4x8192x256, .f32⟩
  | 109 => ⟨S_, .f32⟩
  | 110 => ⟨S4x8192, .f32⟩
  | 111 => ⟨S4x8192x256, .f32⟩
  | 112 => ⟨S4x8192x256, .f32⟩
  | 113 => ⟨S4x8192x256, .f32⟩
  | 114 => ⟨S_, .f32⟩
  | 115 => ⟨S4x8192x256, .f32⟩
  | 116 => ⟨S4x8192x256, .f32⟩
  | 117 => ⟨S4x256x64, .f32⟩
  | 118 => ⟨S256x4x64, .f32⟩
  | 119 => ⟨S4x8192x64, .f32⟩
  | 120 => ⟨S8192x4x64, .f32⟩
  | 121 => ⟨S256x256, .f32⟩
  | 122 => ⟨S256x4x64, .f32⟩
  | 123 => ⟨S_, .f32⟩
  | 124 => ⟨S64, .f32⟩
  | 125 => ⟨S1x1x64, .f32⟩
  | 126 => ⟨S256x4x64, .f32⟩
  | 127 => ⟨S256x4x64, .f32⟩
  | _ => ⟨S8192x256, .f32⟩

abbrev hbmTy0_1 (i : Nat) : BufTy := match i % 128 with
  | 0 => ⟨S_, .f32⟩
  | 1 => ⟨S64, .f32⟩
  | 2 => ⟨S1x64, .f32⟩
  | 3 => ⟨S256x4x64, .f32⟩
  | 4 => ⟨S_, .f32⟩
  | 5 => ⟨S256x4, .f32⟩
  | 6 => ⟨S256x4x1, .f32⟩
  | 7 => ⟨S256x4x64, .f32⟩
  | 8 => ⟨S256x4x64, .f32⟩
  | 9 => ⟨S256x4x1, .f32⟩
  | 10 => ⟨S_, .f32⟩
  | 11 => ⟨S256x4x1, .f32⟩
  | 12 => ⟨S256x4x1, .f32⟩
  | 13 => ⟨S_, .f32⟩
  | 14 => ⟨S256x4, .f32⟩
  | 15 => ⟨S256x4x64, .f32⟩
  | 16 => ⟨S256x4x64, .f32⟩
  | 17 => ⟨S256x4x64, .f32⟩
  | 18 => ⟨S256x4x64, .f32⟩
  | 19 => ⟨S256x4x64, .f32⟩
  | 20 => ⟨S256x256, .f32⟩
  | 21 => ⟨S8192x4x64, .f32⟩
  | 22 => ⟨S_, .f32⟩
  | 23 => ⟨S64, .f32⟩
  | 24 => ⟨S1x1x64, .f32⟩
  | 25 => ⟨S8192x4x64, .f32⟩
  | 26 => ⟨S8192x4x64, .f32⟩
  | 27 => ⟨S_, .f32⟩
  | 28 => ⟨S64, .f32⟩
  | 29 => ⟨S1x64, .f32⟩
  | 30 => ⟨S8192x4x64, .f32⟩
  | 31 => ⟨S_, .f32⟩
  | 32 => ⟨S8192x4, .f32⟩
  | 33 => ⟨S8192x4x1, .f32⟩
  | 34 => ⟨S8192x4x64, .f32⟩
  | 35 => ⟨S8192x4x64, .f32⟩
  | 36 => ⟨S8192x4x1, .f32⟩
  | 37 => ⟨S_, .f32⟩
  | 38 => ⟨S8192x4x1, .f32⟩
  | 39 => ⟨S8192x4x1, .f32⟩
  | 40 => ⟨S_, .f32⟩
  | 41 => ⟨S8192x4, .f32⟩
  | 42 => ⟨S8192x4x64, .f32⟩
  | 43 => ⟨S8192x4x64, .f32⟩
  | 44 => ⟨S8192x4x64, .f32⟩
  | 45 => ⟨S8192x4x64, .f32⟩
  | 46 => ⟨S8192x4x64, .f32⟩
  | 47 => ⟨S8192x256, .f32⟩
  | 48 => ⟨S256x512, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_18 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_22 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_23 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_24 : Ref sig .tc := ⟨.hbm, 138, rfl⟩
abbrev main_v108 : Ref sig .tc := ⟨.hbm, 139, rfl⟩
abbrev main_v109 : Ref sig .tc := ⟨.hbm, 140, rfl⟩
abbrev main_cst_25 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_26 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_27 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_28 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_29 : Ref sig .tc := ⟨.hbm, 165, rfl⟩
abbrev main_v130 : Ref sig .tc := ⟨.hbm, 166, rfl⟩
abbrev main_v131 : Ref sig .tc := ⟨.hbm, 167, rfl⟩
abbrev main_cst_30 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩

abbrev nD : Nat := 1
abbrev τ : Topo := Topo.v7x

variable {F : FTy → Type} [FloatOps F]
-- ==== Below.lean ====
abbrev S8192x1024 : Shape := ⟨2, ![8192, 1024]⟩
abbrev S1x1024 : Shape := ⟨2, ![1, 1024]⟩
abbrev S4x8192x1024 : Shape := ⟨3, ![4, 8192, 1024]⟩
abbrev S512x1024 : Shape := ⟨2, ![512, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x8192x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x512x1024, .bf16⟩
  | .local _ .vmem, ⟨4, _⟩ => ⟨S4x512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32_38 : BitVec 32 := 0#32
  let v94 : BitVec 1 := Scalar.cmpi .eq arg0 c0_i32_38
  let v95 : BitVec 32 := Scalar.extui v94
  let c0_i32_39 : BitVec 32 := 0#32
  let v96 : BitVec 1 := Scalar.cmpi .ne v95 c0_i32_39
  v96

def k0_cond4 (i : grid0.Coords) : BitVec 1 :=
  let arg0 : BitVec 32 := BitVec.ofNat 32 (i 0).val
  let c0_i32_40 : BitVec 32 := 0#32
  let v97 : BitVec 1 := Scalar.cmpi .sgt arg0 c0_i32_40
  let v98 : BitVec 32 := Scalar.extui v97
  let c0_i32_41 : BitVec 32 := 0#32
  let v99 : BitVec 1 := Scalar.cmpi .ne v98 c0_i32_41
  v99

def k0_cond1 (i : grid0.Coords) : BitVec 1 :=
  let arg0 : BitVec 32 := BitVec.ofNat 32 (i 0).val
  let c0_i32 : BitVec 32 := 0#32
  let v87 : BitVec 1 := Scalar.cmpi .eq arg0 c0_i32
  let v88 : BitVec 32 := Scalar.extui v87
  let c0_i32_33 : BitVec 32 := 0#32
  let v89 : BitVec 1 := Scalar.cmpi .ne v88 c0_i32_33
  v89

def k0_cond2 (i : grid0.Coords) : BitVec 1 :=
  let arg0 : BitVec 32 := BitVec.ofNat 32 (i 0).val
  let c0_i32_34 : BitVec 32 := 0#32
  let v90 : BitVec 1 := Scalar.cmpi .sgt arg0 c0_i32_34
  let v91 : BitVec 32 := Scalar.extui v90
  let c0_i32_35 : BitVec 32 := 0#32
  let v92 : BitVec 1 := Scalar.cmpi .ne v91 c0_i32_35
  v92

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BelowReferenceIdeal.lean ====
abbrev S8192x1024 : Shape := ⟨2, ![8192, 1024]⟩
abbrev S1x1024 : Shape := ⟨2, ![1, 1024]⟩
abbrev S4x8192x1024 : Shape := ⟨3, ![4, 8192, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x8192x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S4x8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Swa.lean ====
abbrev S8192x384 : Shape := ⟨2, ![8192, 384]⟩
abbrev S8192x128 : Shape := ⟨2, ![8192, 128]⟩
abbrev S8192x1 : Shape := ⟨2, ![8192, 1]⟩
abbrev S1x64 : Shape := ⟨2, ![1, 64]⟩
abbrev S1x6 : Shape := ⟨2, ![1, 6]⟩
abbrev S32 : Shape := ⟨1, ![32]⟩
abbrev S_ : Shape := ⟨0, ![]⟩
abbrev S64 : Shape := ⟨1, ![64]⟩
abbrev S8192x64 : Shape := ⟨2, ![8192, 64]⟩
abbrev S8192x6x64 : Shape := ⟨3, ![8192, 6, 64]⟩
abbrev S6x8192x64 : Shape := ⟨3, ![6, 8192, 64]⟩
abbrev S8192x2x64 : Shape := ⟨3, ![8192, 2, 64]⟩
abbrev S2x8192x64 : Shape := ⟨3, ![2, 8192, 64]⟩
abbrev S1x128 : Shape := ⟨2, ![1, 128]⟩
abbrev S6x512x64 : Shape := ⟨3, ![6, 512, 64]⟩
abbrev S2x128x64 : Shape := ⟨3, ![2, 128, 64]⟩
abbrev S2x512x64 : Shape := ⟨3, ![2, 512, 64]⟩
abbrev S128x64 : Shape := ⟨2, ![128, 64]⟩
abbrev S512x64 : Shape := ⟨2, ![512, 64]⟩
abbrev S640x64 : Shape := ⟨2, ![640, 64]⟩
abbrev S384x256 : Shape := ⟨2, ![384, 256]⟩
abbrev S384x128 : Shape := ⟨2, ![384, 128]⟩
abbrev S1x512x64 : Shape := ⟨3, ![1, 512, 64]⟩
abbrev S512 : Shape := ⟨1, ![512]⟩
abbrev S512x1 : Shape := ⟨2, ![512, 1]⟩
abbrev S512x32 : Shape := ⟨2, ![512, 32]⟩
abbrev S1x128x64 : Shape := ⟨3, ![1, 128, 64]⟩
abbrev S640 : Shape := ⟨1, ![640]⟩
abbrev S640x1 : Shape := ⟨2, ![640, 1]⟩
abbrev S640x32 : Shape := ⟨2, ![640, 32]⟩
abbrev S384 : Shape := ⟨1, ![384]⟩
abbrev S384x1 : Shape := ⟨2, ![384, 1]⟩
abbrev S256x64 : Shape := ⟨2, ![256, 64]⟩
abbrev S384x64 : Shape := ⟨2, ![384, 64]⟩
abbrev S128 : Shape := ⟨1, ![128]⟩
abbrev S5x512x64 : Shape := ⟨3, ![5, 512, 64]⟩
abbrev S4x512x64 : Shape := ⟨3, ![4, 512, 64]⟩
abbrev S3x512x64 : Shape := ⟨3, ![3, 512, 64]⟩

abbrev nBuf : Space → Nat
  | .hbm => 63
  | .vmem => 34
  | .smem => 0
  | _ => 0

abbrev bufTy : (tb : Table) → Fin (tcTables nBuf tb) → BufTy
  | .hbm, ⟨0, _⟩ => ⟨S8192x384, .f32⟩
  | .hbm, ⟨1, _⟩ => ⟨S8192x128, .f32⟩
  | .hbm, ⟨2, _⟩ => ⟨S8192x128, .f32⟩
  | .hbm, ⟨3, _⟩ => ⟨S8192x1, .i32⟩
  | .hbm, ⟨4, _⟩ => ⟨S1x64, .f32⟩
  | .hbm, ⟨5, _⟩ => ⟨S1x64, .f32⟩
  | .hbm, ⟨6, _⟩ => ⟨S1x6, .f32⟩
  | .hbm, ⟨7, _⟩ => ⟨S8192x384, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192x1, .f32⟩
  | .hbm, ⟨23, _⟩ => ⟨S64, .f32⟩
  | .hbm, ⟨24, _⟩ => ⟨S1x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S64, .i32⟩
  | .hbm, ⟨30, _⟩ => ⟨S1x64, .i32⟩
  | .hbm, ⟨31, _⟩ => ⟨S_, .i32⟩
  | .hbm, ⟨32, _⟩ => ⟨S1x64, .i32⟩
  | .hbm, ⟨33, _⟩ => ⟨S1x64, .i1⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x64, .i1⟩
  | .hbm, ⟨38, _⟩ => ⟨S8192x64, .f32⟩
  | .hbm, ⟨39, _⟩ => ⟨S8192x6x64, .f32⟩
  | .hbm, ⟨40, _⟩ => ⟨S6x8192x64, .f32⟩
  | .hbm, ⟨41, _⟩ => ⟨S8192x2x64, .f32⟩
  | .hbm, ⟨42, _⟩ => ⟨S2x8192x64, .f32⟩
  | .hbm, ⟨43, _⟩ => ⟨S8192x2x64, .f32⟩
  | .hbm, ⟨44, _⟩ => ⟨S2x8192x64, .f32⟩
  | .hbm, ⟨45, _⟩ => ⟨S_, .i32⟩
  | .hbm, ⟨46, _⟩ => ⟨S_, .f32⟩
  | .hbm, ⟨47, _⟩ => ⟨S1x128, .f32⟩
  | .hbm, ⟨48, _⟩ => ⟨S8192x6x64, .f32⟩
  | .hbm, ⟨49, _⟩ => ⟨S6x8192x64, .f32⟩
  | .hbm, ⟨50, _⟩ => ⟨S6x8192x64, .f32⟩
  | .hbm, ⟨51, _⟩ => ⟨S2x8192x64, .f32⟩
  | .hbm, ⟨52, _⟩ => ⟨S2x8192x64, .f32⟩
  | .hbm, ⟨53, _⟩ => ⟨S1x64, .f32⟩
  | .hbm, ⟨54, _⟩ => ⟨S1x64, .f32⟩
  | .hbm, ⟨55, _⟩ => ⟨S1x128, .f32⟩
  | .hbm, ⟨56, _⟩ => ⟨S8192x6x64, .f32⟩
  | .hbm, ⟨57, _⟩ => ⟨S8192x384, .f32⟩
  | .hbm, ⟨58, _⟩ => ⟨S8192x2x64, .f32⟩
  | .hbm, ⟨59, _⟩ => ⟨S8192x128, .f32⟩
  | .hbm, ⟨60, _⟩ => ⟨S8192x2x64, .f32⟩
  | .hbm, ⟨61, _⟩ => ⟨S8192x128, .f32⟩
  | .hbm, ⟨62, _⟩ => ⟨S1x6, .f32⟩
  | .local _ .vmem, ⟨0, _⟩ => ⟨S6x512x64, .f32⟩
  | .local _ .vmem, ⟨1, _⟩ => ⟨S6x512x64, .f32⟩
  | .local _ .vmem, ⟨2, _⟩ => ⟨S2x128x64, .f32⟩
  | .local _ .vmem, ⟨3, _⟩ => ⟨S2x128x64, .f32⟩
  | .local _ .vmem, ⟨4, _⟩ => ⟨S2x512x64, .f32⟩
  | .local _ .vmem, ⟨5, _⟩ => ⟨S2x512x64, .f32⟩
  | .local _ .vmem, ⟨6, _⟩ => ⟨S2x128x64, .f32⟩
  | .local _ .vmem, ⟨7, _⟩ => ⟨S2x128x64, .f32⟩
  | .local _ .vmem, ⟨8, _⟩ => ⟨S2x512x64, .f32⟩
  | .local _ .vmem, ⟨9, _⟩ => ⟨S2x512x64, .f32⟩
  | .local _ .vmem, ⟨10, _⟩ => ⟨S128x64, .f32⟩
  | .local _ .vmem, ⟨11, _⟩ => ⟨S128x64, .f32⟩
  | .local _ .vmem, ⟨12, _⟩ => ⟨S512x64, .f32⟩
  | .local _ .vmem, ⟨13, _⟩ => ⟨S512x64, .f32⟩
  | .local _ .vmem, ⟨14, _⟩ => ⟨S128x64, .f32⟩
  | .local _ .vmem, ⟨15, _⟩ => ⟨S128x64, .f32⟩
  | .local _ .vmem, ⟨16, _⟩ => ⟨S512x64, .f32⟩
  | .local _ .vmem, ⟨17, _⟩ => ⟨S512x64, .f32⟩
  | .local _ .vmem, ⟨18, _⟩ => ⟨S1x64, .f32⟩
  | .local _ .vmem, ⟨19, _⟩ => ⟨S1x64, .f32⟩
  | .local _ .vmem, ⟨20, _⟩ => ⟨S1x128, .f32⟩
  | .local _ .vmem, ⟨21, _⟩ => ⟨S6x512x64, .f32⟩
  | .local _ .vmem, ⟨22, _⟩ => ⟨S6x512x64, .f32⟩
  | .local _ .vmem, ⟨23, _⟩ => ⟨S6x512x64, .f32⟩
  | .local _ .vmem, ⟨24, _⟩ => ⟨S6x512x64, .f32⟩
  | .local _ .vmem, ⟨25, _⟩ => ⟨S2x512x64, .f32⟩
  | .local _ .vmem, ⟨26, _⟩ => ⟨S2x512x64, .f32⟩
  | .local _ .vmem, ⟨27, _⟩ => ⟨S2x512x64, .f32⟩
  | .local _ .vmem, ⟨28, _⟩ => ⟨S2x512x64, .f32⟩
  | .local _ .vmem, ⟨29, _⟩ => ⟨S1x64, .f32⟩
  | .local _ .vmem, ⟨30, _⟩ => ⟨S1x64, .f32⟩
  | .local _ .vmem, ⟨31, _⟩ => ⟨S1x128, .f32⟩
  | .local _ .vmem, ⟨32, _⟩ => ⟨S2x512x64, .f32⟩
  | .local _ .vmem, ⟨33, _⟩ => ⟨S2x512x64, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_call1_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev main_v34_4 : Ref sig .tc := ⟨.hbm, 54, rfl⟩
abbrev main_v34_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_0 : BitVec 32 := 0#32
  let v5 : BitVec 1 := Scalar.cmpi .ne v4 c0_i32_0
  v5

def k0_cond2 (i : grid0.Coords) : BitVec 1 :=
  let arg0 : BitVec 32 := BitVec.ofNat 32 (i 0).val
  let c0_i32_315 : BitVec 32 := 0#32
  let v1345 : BitVec 1 := Scalar.cmpi .sgt arg0 c0_i32_315
  let v1346 : BitVec 32 := Scalar.extui v1345
  let c0_i32_316 : BitVec 32 := 0#32
  let v1347 : BitVec 1 := Scalar.cmpi .ne v1346 c0_i32_316
  v1347

def k0_cond10 (i : grid0.Coords) : BitVec 1 :=
  let arg0 : BitVec 32 := BitVec.ofNat 32 (i 0).val
  let c16_i32_1 : BitVec 32 := 16#32
  let v6 : BitVec 1 := Scalar.cmpi .eq arg0 c16_i32_1
  let v7 : BitVec 32 := Scalar.extui v6
  let c0_i32_2 : BitVec 32 := 0#32
  let v8 : BitVec 1 := Scalar.cmpi .ne v7 c0_i32_2
  v8

def k0_cond3 (i : grid0.Coords) : BitVec 1 :=
  let arg0 : BitVec 32 := BitVec.ofNat 32 (i 0).val
  let c0_i32_320 : BitVec 32 := 0#32
  let v1351 : BitVec 1 := Scalar.cmpi .sgt arg0 c0_i32_320
  let v1352 : BitVec 32 := Scalar.extui v1351
  let c0_i32_321 : BitVec 32 := 0#32
  let v1353 : BitVec 1 := Scalar.cmpi .ne v1352 c0_i32_321
  v1353

def k0_cond4 (i : grid0.Coords) : BitVec 1 :=
  let arg0 : BitVec 32 := BitVec.ofNat 32 (i 0).val
  let c0_i32_325 : BitVec 32 := 0#32
  let v1357 : BitVec 1 := Scalar.cmpi .eq arg0 c0_i32_325
  let v1358 : BitVec 32 := Scalar.extui v1357
  let c0_i32_326 : BitVec 32 := 0#32
  let v1359 : BitVec 1 := Scalar.cmpi .ne v1358 c0_i32_326
  v1359

def k0_cond5 (i : grid0.Coords) : BitVec 1 :=
  let arg0 : BitVec 32 := BitVec.ofNat 32 (i 0).val
  let c0_i32_327 : BitVec 32 := 0#32
  let v1360 : BitVec 1 := Scalar.cmpi .sgt arg0 c0_i32_327
  let v1361 : BitVec 32 := Scalar.extui v1360
  let c0_i32_328 : BitVec 32 := 0#32
  let v1362 : BitVec 1 := Scalar.cmpi .ne v1361 c0_i32_328
  v1362

def k0_cond6 (i : grid0.Coords) : BitVec 1 :=
  let arg0 : BitVec 32 := BitVec.ofNat 32 (i 0).val
  let c0_i32_329 : BitVec 32 := 0#32
  let v1363 : BitVec 1 := Scalar.cmpi .eq arg0 c0_i32_329
  let v1364 : BitVec 32 := Scalar.extui v1363
  let c0_i32_330 : BitVec 32 := 0#32
  let v1365 : BitVec 1 := Scalar.cmpi .ne v1364 c0_i32_330
  v1365

def k0_cond7 (i : grid0.Coords) : BitVec 1 :=
  let arg0 : BitVec 32 := BitVec.ofNat 32 (i 0).val
  let c0_i32_331 : BitVec 32 := 0#32
  let v1366 : BitVec 1 := Scalar.cmpi .sgt arg0 c0_i32_331
  let v1367 : BitVec 32 := Scalar.extui v1366
  let c0_i32_332 : BitVec 32 := 0#32
  let v1368 : BitVec 1 := Scalar.cmpi .ne v1367 c0_i32_332
  v1368

def k0_cond8 (i : grid0.Coords) : BitVec 1 :=
  let arg0 : BitVec 32 := BitVec.ofNat 32 (i 0).val
  let c0_i32_333 : BitVec 32 := 0#32
  let v1369 : BitVec 1 := Scalar.cmpi .eq arg0 c0_i32_333
  let v1370 : BitVec 32 := Scalar.extui v1369
  let c0_i32_334 : BitVec 32 := 0#32
  let v1371 : BitVec 1 := Scalar.cmpi .ne v1370 c0_i32_334
  v1371

def k0_cond9 (i : grid0.Coords) : BitVec 1 :=
  let arg0 : BitVec 32 := BitVec.ofNat 32 (i 0).val
  let c0_i32_335 : BitVec 32 := 0#32
  let v1372 : BitVec 1 := Scalar.cmpi .sgt arg0 c0_i32_335
  let v1373 : BitVec 32 := Scalar.extui v1372
  let c0_i32_336 : BitVec 32 := 0#32
  let v1374 : BitVec 1 := Scalar.cmpi .ne v1373 c0_i32_336
  v1374

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S6x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S6x512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== SwaIdeal.lean ====
variable {F : FTy → Type} [FloatOps F] [Named F]
def κ : String → Option EReal := fun
  | "mask" => some ⊥
  | _ => none
-- ==== SwaReferenceIdeal.lean ====
abbrev S8192x384 : Shape := ⟨2, ![8192, 384]⟩
abbrev S8192x128 : Shape := ⟨2, ![8192, 128]⟩
abbrev S8192x1 : Shape := ⟨2, ![8192, 1]⟩
abbrev S1x64 : Shape := ⟨2, ![1, 64]⟩
abbrev S1x6 : Shape := ⟨2, ![1, 6]⟩
abbrev S32 : Shape := ⟨1, ![32]⟩
abbrev S_ : Shape := ⟨0, ![]⟩
abbrev S1x32 : Shape := ⟨2, ![1, 32]⟩
abbrev S8192x32 : Shape := ⟨2, ![8192, 32]⟩
abbrev S8192x1x32 : Shape := ⟨3, ![8192, 1, 32]⟩
abbrev S8192x6x64 : Shape := ⟨3, ![8192, 6, 64]⟩
abbrev S8192x6 : Shape := ⟨2, ![8192, 6]⟩
abbrev S8192x6x1 : Shape := ⟨3, ![8192, 6, 1]⟩
abbrev S1x1x64 : Shape := ⟨3, ![1, 1, 64]⟩
abbrev S8192x6x32 : Shape := ⟨3, ![8192, 6, 32]⟩
abbrev S64x128x2x3x64 : Shape := ⟨5, ![64, 128, 2, 3, 64]⟩
abbrev S8192x2x64 : Shape := ⟨3, ![8192, 2, 64]⟩
abbrev S8192x2 : Shape := ⟨2, ![8192, 2]⟩
abbrev S8192x2x1 : Shape := ⟨3, ![8192, 2, 1]⟩
abbrev S8192x2x32 : Shape := ⟨3, ![8192, 2, 32]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S64x2x256x128x3 : Shape := ⟨5, ![64, 2, 256, 128, 3]⟩
abbrev S64x2x3x128x256 : Shape := ⟨5, ![64, 2, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x3 : Shape := ⟨2, ![2, 3]⟩
abbrev S1x2x3x1x1 : Shape := ⟨5, ![1, 2, 3, 1, 1]⟩
abbrev S64x2x3x128x1 : Shape := ⟨5, ![64, 2, 3, 128, 1]⟩
abbrev S64x2x3x128x257 : Shape := ⟨5, ![64, 2, 3, 128, 257]⟩
abbrev S64x2x3x128 : Shape := ⟨4, ![64, 2, 3, 128]⟩
abbrev S64x2x64x3x128 : Shape := ⟨5, ![64, 2, 64, 3, 128]⟩
abbrev S64x2x64x256 : Shape := ⟨4, ![64, 2, 64, 256]⟩
abbrev S64x2x128x3x64 : Shape := ⟨5, ![64, 2, 128, 3, 64]⟩
abbrev S64x2x256x64 : Shape := ⟨4, ![64, 2, 256, 64]⟩

abbrev nBuf : Space → Nat
  | .hbm => 350
  | .vmem => 0
  | .smem => 0
  | _ => 0

abbrev hbmTy0_0 (i : Nat) : BufTy := match i % 128 with
  | 0 => ⟨S8192x384, .f32⟩
  | 1 => ⟨S8192x128, .f32⟩
  | 2 => ⟨S8192x128, .f32⟩
  | 3 => ⟨S8192x1, .i32⟩
  | 4 => ⟨S1x64, .f32⟩
  | 5 => ⟨S1x64, .f32⟩
  | 6 => ⟨S1x6, .f32⟩
  | 7 => ⟨S8192x384, .f32⟩
  | 8 => ⟨S8192x1, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S1x32, .f32⟩
  | 24 => ⟨S8192x32, .f32⟩
  | 25 => ⟨S8192x32, .f32⟩
  | 26 => ⟨S8192x32, .f32⟩
  | 27 => ⟨S8192x32, .f32⟩
  | 28 => ⟨S8192x1x32, .f32⟩
  | 29 => ⟨S8192x32, .f32⟩
  | 30 => ⟨S8192x1x32, .f32⟩
  | 31 => ⟨S8192x6x64, .f32⟩
  | 32 => ⟨S8192x6x64, .f32⟩
  | 33 => ⟨S_, .f32⟩
  | 34 => ⟨S8192x6, .f32⟩
  | 35 => ⟨S8192x6x1, .f32⟩
  | 36 => ⟨S_, .f32⟩
  | 37 => ⟨S8192x6x1, .f32⟩
  | 38 => ⟨S8192x6x1, .f32⟩
  | 39 => ⟨S_, .f32⟩
  | 40 => ⟨S8192x6x1, .f32⟩
  | 41 => ⟨S8192x6x1, .f32⟩
  | 42 => ⟨S8192x6x1, .f32⟩
  | 43 => ⟨S8192x6x1, .f32⟩
  | 44 => ⟨S_, .f32⟩
  | 45 => ⟨S8192x6x1, .f32⟩
  | 46 => ⟨S8192x6x1, .f32⟩
  | 47 => ⟨S8192x6x64, .f32⟩
  | 48 => ⟨S8192x6x64, .f32⟩
  | 49 => ⟨S1x1x64, .f32⟩
  | 50 => ⟨S8192x6x64, .f32⟩
  | 51 => ⟨S8192x6x64, .f32⟩
  | 52 => ⟨S8192x6x32, .f32⟩
  | 53 => ⟨S8192x6x32, .f32⟩
  | 54 => ⟨S8192x6x32, .f32⟩
  | 55 => ⟨S8192x6x32, .f32⟩
  | 56 => ⟨S8192x6x32, .f32⟩
  | 57 => ⟨S8192x6x32, .f32⟩
  | 58 => ⟨S8192x6x32, .f32⟩
  | 59 => ⟨S8192x6x32, .f32⟩
  | 60 => ⟨S8192x6x32, .f32⟩
  | 61 => ⟨S8192x6x32, .f32⟩
  | 62 => ⟨S8192x6x32, .f32⟩
  | 63 => ⟨S8192x6x32, .f32⟩
  | 64 => ⟨S8192x6x64, .f32⟩
  | 65 => ⟨S64x128x2x3x64, .f32⟩
  | 66 => ⟨S8192x2x64, .f32⟩
  | 67 => ⟨S8192x2x64, .f32⟩
  | 68 => ⟨S_, .f32⟩
  | 69 => ⟨S8192x2, .f32⟩
  | 70 => ⟨S8192x2x1, .f32⟩
  | 71 => ⟨S_, .f32⟩
  | 72 => ⟨S8192x2x1, .f32⟩
  | 73 => ⟨S8192x2x1, .f32⟩
  | 74 => ⟨S_, .f32⟩
  | 75 => ⟨S8192x2x1, .f32⟩
  | 76 => ⟨S8192x2x1, .f32⟩
  | 77 => ⟨S8192x2x1, .f32⟩
  | 78 => ⟨S8192x2x1, .f32⟩
  | 79 => ⟨S_, .f32⟩
  | 80 => ⟨S8192x2x1, .f32⟩
  | 81 => ⟨S8192x2x1, .f32⟩
  | 82 => ⟨S8192x2x64, .f32⟩
  | 83 => ⟨S8192x2x64, .f32⟩
  | 84 => ⟨S1x1x64, .f32⟩
  | 85 => ⟨S8192x2x64, .f32⟩
  | 86 => ⟨S8192x2x64, .f32⟩
  | 87 => ⟨S8192x2x32, .f32⟩
  | 88 => ⟨S8192x2x32, .f32⟩
  | 89 => ⟨S8192x2x32, .f32⟩
  | 90 => ⟨S8192x2x32, .f32⟩
  | 91 => ⟨S8192x2x32, .f32⟩
  | 92 => ⟨S8192x2x32, .f32⟩
  | 93 => ⟨S8192x2x32, .f32⟩
  | 94 => ⟨S8192x2x32, .f32⟩
  | 95 => ⟨S8192x2x32, .f32⟩
  | 96 => ⟨S8192x2x32, .f32⟩
  | 97 => ⟨S8192x2x32, .f32⟩
  | 98 => ⟨S8192x2x32, .f32⟩
  | 99 => ⟨S8192x2x64, .f32⟩
  | 100 => ⟨S64x128x2x64, .f32⟩
  | 101 => ⟨S64x128x2x64, .f32⟩
  | 102 => ⟨S1x128x2x64, .f32⟩
  | 103 => ⟨S_, .f32⟩
  | 104 => ⟨S1x128x2x64, .f32⟩
  | 105 => ⟨S63x128x2x64, .f32⟩
  | 106 => ⟨S64x128x2x64, .f32⟩
  | 107 => ⟨S_, .f32⟩
  | 108 => ⟨S1x128x2x64, .f32⟩
  | 109 => ⟨S64x256x2x64, .f32⟩
  | 110 => ⟨S64x2x256x128x3, .f32⟩
  | 111 => ⟨S64x2x3x128x256, .f32⟩
  | 112 => ⟨S_, .f32⟩
  | 113 => ⟨S64x2x3x128x256, .f32⟩
  | 114 => ⟨S64x2x3x128x256, .f32⟩
  | 115 => ⟨S128, .i32⟩
  | 116 => ⟨S128x1, .i32⟩
  | 117 => ⟨S_, .i32⟩
  | 118 => ⟨S128x1, .i32⟩
  | 119 => ⟨S128x1, .i32⟩
  | 120 => ⟨S256, .i32⟩
  | 121 => ⟨S1x256, .i32⟩
  | 122 => ⟨S128x256, .i32⟩
  | 123 => ⟨S128x256, .i32⟩
  | 124 => ⟨S128x256, .i32⟩
  | 125 => ⟨S64, .i32⟩
  | 126 => ⟨S64x1x1, .i32⟩
  | 127 => ⟨S_, .i32⟩
  | _ => ⟨S8192x384, .f32⟩

abbrev hbmTy0_1 (i : Nat) : BufTy := match i % 128 with
  | 0 => ⟨S64x1x1, .i32⟩
  | 1 => ⟨S64x1x1, .i1⟩
  | 2 => ⟨S256, .i32⟩
  | 3 => ⟨S1x1x256, .i32⟩
  | 4 => ⟨S_, .i32⟩
  | 5 => ⟨S1x1x256, .i32⟩
  | 6 => ⟨S1x1x256, .i1⟩
  | 7 => ⟨S64x1x256, .i1⟩
  | 8 => ⟨S64x1x256, .i1⟩
  | 9 => ⟨S64x1x256, .i1⟩
  | 10 => ⟨S_, .i32⟩
  | 11 => ⟨S128x256, .i32⟩
  | 12 => ⟨S128x256, .i1⟩
  | 13 => ⟨S_, .i32⟩
  | 14 => ⟨S128x256, .i32⟩
  | 15 => ⟨S128x256, .i1⟩
  | 16 => ⟨S128x256, .i1⟩
  | 17 => ⟨S1x128x256, .i1⟩
  | 18 => ⟨S64x128x256, .i1⟩
  | 19 => ⟨S64x128x256, .i1⟩
  | 20 => ⟨S64x128x256, .i1⟩
  | 21 => ⟨S64x1x1x128x256, .i1⟩
  | 22 => ⟨S_, .f32⟩
  | 23 => ⟨S_, .f32⟩
  | 24 => ⟨S64x2x3x128x256, .i1⟩
  | 25 => ⟨S64x2x3x128x256, .f32⟩
  | 26 => ⟨S64x2x3x128x256, .f32⟩
  | 27 => ⟨S_, .f32⟩
  | 28 => ⟨S64x2x3x128x256, .f32⟩
  | 29 => ⟨S2x3, .f32⟩
  | 30 => ⟨S1x2x3x1x1, .f32⟩
  | 31 => ⟨S64x2x3x128x1, .f32⟩
  | 32 => ⟨S64x2x3x128x257, .f32⟩
  | 33 => ⟨S_, .f32⟩
  | 34 => ⟨S64x2x3x128, .f32⟩
  | 35 => ⟨S64x2x3x128x1, .f32⟩
  | 36 => ⟨S64x2x3x128x257, .f32⟩
  | 37 => ⟨S64x2x3x128x257, .i1⟩
  | 38 => ⟨S64x2x3x128x257, .f32⟩
  | 39 => ⟨S_, .f32⟩
  | 40 => ⟨S64x2x3x128, .f32⟩
  | 41 => ⟨S_, .f32⟩
  | 42 => ⟨S64x2x3x128, .f32⟩
  | 43 => ⟨S64x2x3x128, .f32⟩
  | 44 => ⟨S_, .f32⟩
  | 45 => ⟨S64x2x3x128, .f32⟩
  | 46 => ⟨S64x2x3x128, .i1⟩
  | 47 => ⟨S_, .f32⟩
  | 48 => ⟨S64x2x3x128, .f32⟩
  | 49 => ⟨S64x2x3x128, .i1⟩
  | 50 => ⟨S_, .f32⟩
  | 51 => ⟨S64x2x3x128, .f32⟩
  | 52 => ⟨S_, .f32⟩
  | 53 => ⟨S64x2x3x128, .f32⟩
  | 54 => ⟨S_, .f32⟩
  | 55 => ⟨S64x2x3x128, .f32⟩
  | 56 => ⟨S64x2x3x128, .f32⟩
  | 57 => ⟨S64x2x3x128, .f32⟩
  | 58 => ⟨S64x2x3x128x1, .f32⟩
  | 59 => ⟨S64x2x3x128x257, .f32⟩
  | 60 => ⟨S64x2x3x128x257, .f32⟩
  | 61 => ⟨S64x2x3x128x257, .f32⟩
  | 62 => ⟨S_, .f32⟩
  | 63 => ⟨S64x2x3x128, .f32⟩
  | 64 => ⟨S64x2x3x128x1, .f32⟩
  | 65 => ⟨S64x2x3x128x257, .f32⟩
  | 66 => ⟨S64x2x3x128x257, .f32⟩
  | 67 => ⟨S64x2x3x128x1, .f32⟩
  | 68 => ⟨S_, .f32⟩
  | 69 => ⟨S64x2x3x128x1, .f32⟩
  | 70 => ⟨S64x2x3x128x1, .f32⟩
  | 71 => ⟨S64x2x3x128x256, .f32⟩
  | 72 => ⟨S1x128x2x64, .f32⟩
  | 73 => ⟨S_, .f32⟩
  | 74 => ⟨S1x128x2x64, .f32⟩
  | 75 => ⟨S63x128x2x64, .f32⟩
  | 76 => ⟨S64x128x2x64, .f32⟩
  | 77 => ⟨S_, .f32⟩
  | 78 => ⟨S1x128x2x64, .f32⟩
  | 79 => ⟨S64x256x2x64, .f32⟩
  | 80 => ⟨S64x2x64x3x128, .f32⟩
  | 81 => ⟨S64x128x2x3x64, .f32⟩
  | 82 => ⟨S8192x384, .f32⟩
  | 83 => ⟨S64x128x2x3x64, .f32⟩
  | 84 => ⟨S64x2x64x3x128, .f32⟩
  | 85 => ⟨S64x2x3x128x256, .f32⟩
  | 86 => ⟨S64x2x64x256, .f32⟩
  | 87 => ⟨S64x256x2x64, .f32⟩
  | 88 => ⟨S64x128x2x64, .f32⟩
  | 89 => ⟨S64x128x2x64, .f32⟩
  | 90 => ⟨S1x128x2x64, .f32⟩
  | 91 => ⟨S63x128x2x64, .f32⟩
  | 92 => ⟨S_, .f32⟩
  | 93 => ⟨S64x128x2x64, .f32⟩
  | 94 => ⟨S64x128x2x64, .f32⟩
  | 95 => ⟨S_, .f32⟩
  | 96 => ⟨S64x2x3x128x257, .f32⟩
  | 97 => ⟨S64x2x3x128x257, .f32⟩
  | 98 => ⟨S64x2x3x128x257, .f32⟩
  | 99 => ⟨S64x2x3x128x257, .f32⟩
  | 100 => ⟨S_, .f32⟩
  | 101 => ⟨S64x2x3x128, .f32⟩
  | 102 => ⟨S64x2x3x128x1, .f32⟩
  | 103 => ⟨S64x2x3x128x1, .f32⟩
  | 104 => ⟨S64x2x3x128x257, .f32⟩
  | 105 => ⟨S64x2x3x128x257, .f32⟩
  | 106 => ⟨S_, .f32⟩
  | 107 => ⟨S64x2x3x128, .f32⟩
  | 108 => ⟨S64x2x3x128x257, .f32⟩
  | 109 => ⟨S64x2x3x128x257, .f32⟩
  | 110 => ⟨S64x2x3x128x257, .f32⟩
  | 111 => ⟨S64x2x3x128x256, .f32⟩
  | 112 => ⟨S64x2x3x128x1, .f32⟩
  | 113 => ⟨S_, .f32⟩
  | 114 => ⟨S2x3, .f32⟩
  | 115 => ⟨S1x2x3x1x1, .f32⟩
  | 116 => ⟨S_, .f32⟩
  | 117 => ⟨S2x3, .f32⟩
  | 118 => ⟨S1x6, .f32⟩
  | 119 => ⟨S_, .f32⟩
  | 120 => ⟨S64x2x3x128x256, .f32⟩
  | 121 => ⟨S64x2x3x128x256, .f32⟩
  | 122 => ⟨S_, .f32⟩
  | 123 => ⟨S64x2x3x128x256, .f32⟩
  | 124 => ⟨S64x2x3x128x256, .f32⟩
  | 125 => ⟨S64x2x256x128x3, .f32⟩
  | 126 => ⟨S64x2x128x3x64, .f32⟩
  | 127 => ⟨S64x128x2x3x64, .f32⟩
  | _ => ⟨S8192x384, .f32⟩

abbrev hbmTy0_2 (i : Nat) : BufTy := match i % 128 with
  | 0 => ⟨S64x2x256x64, .f32⟩
  | 1 => ⟨S64x256x2x64, .f32⟩
  | 2 => ⟨S64x128x2x64, .f32⟩
  | 3 => ⟨S64x128x2x64, .f32⟩
  | 4 => ⟨S1x128x2x64, .f32⟩
  | 5 => ⟨S63x128x2x64, .f32⟩
  | 6 => ⟨S_, .f32⟩
  | 7 => ⟨S64x128x2x64, .f32⟩
  | 8 => ⟨S64x128x2x64, .f32⟩
  | 9 => ⟨S8192x128, .f32⟩
  | 10 => ⟨S8192x2x64, .f32⟩
  | 11 => ⟨S8192x2x32, .f32⟩
  | 12 => ⟨S8192x2x32, .f32⟩
  | 13 => ⟨S8192x2x32, .f32⟩
  | 14 => ⟨S8192x2x32, .f32⟩
  | 15 => ⟨S8192x2x32, .f32⟩
  | 16 => ⟨S8192x2x32, .f32⟩
  | 17 => ⟨S8192x2x32, .f32⟩
  | 18 => ⟨S8192x2x32, .f32⟩
  | 19 => ⟨S8192x2x32, .f32⟩
  | 20 => ⟨S8192x2x32, .f32⟩
  | 21 => ⟨S8192x2x32, .f32⟩
  | 22 => ⟨S8192x2x32, .f32⟩
  | 23 => ⟨S8192x2x32, .f32⟩
  | 24 => ⟨S8192x2x64, .f32⟩
  | 25 => ⟨S8192x2x64, .f32⟩
  | 26 => ⟨S_, .f32⟩
  | 27 => ⟨S64, .f32⟩
  | 28 => ⟨S1x1x64, .f32⟩
  | 29 => ⟨S8192x2x64, .f32⟩
  | 30 => ⟨S8192x2x64, .f32⟩
  | 31 => ⟨S_, .f32⟩
  | 32 => ⟨S64, .f32⟩
  | 33 => ⟨S1x64, .f32⟩
  | 34 => ⟨S8192x2x64, .f32⟩
  | 35 => ⟨S_, .f32⟩
  | 36 => ⟨S8192x2, .f32⟩
  | 37 => ⟨S8192x2x1, .f32⟩
  | 38 => ⟨S8192x2x64, .f32⟩
  | 39 => ⟨S8192x2x64, .f32⟩
  | 40 => ⟨S8192x2x1, .f32⟩
  | 41 => ⟨S_, .f32⟩
  | 42 => ⟨S8192x2x1, .f32⟩
  | 43 => ⟨S8192x2x1, .f32⟩
  | 44 => ⟨S_, .f32⟩
  | 45 => ⟨S8192x2, .f32⟩
  | 46 => ⟨S8192x2x64, .f32⟩
  | 47 => ⟨S8192x2x64, .f32⟩
  | 48 => ⟨S8192x2x64, .f32⟩
  | 49 => ⟨S8192x2x64, .f32⟩
  | 50 => ⟨S8192x2x64, .f32⟩
  | 51 => ⟨S8192x128, .f32⟩
  | 52 => ⟨S8192x6x64, .f32⟩
  | 53 => ⟨S8192x6x32, .f32⟩
  | 54 => ⟨S8192x6x32, .f32⟩
  | 55 => ⟨S8192x6x32, .f32⟩
  | 56 => ⟨S8192x6x32, .f32⟩
  | 57 => ⟨S8192x6x32, .f32⟩
  | 58 => ⟨S8192x6x32, .f32⟩
  | 59 => ⟨S8192x6x32, .f32⟩
  | 60 => ⟨S8192x6x32, .f32⟩
  | 61 => ⟨S8192x6x32, .f32⟩
  | 62 => ⟨S8192x6x32, .f32⟩
  | 63 => ⟨S8192x6x32, .f32⟩
  | 64 => ⟨S8192x6x32, .f32⟩
  | 65 => ⟨S8192x6x32, .f32⟩
  | 66 => ⟨S8192x6x64, .f32⟩
  | 67 => ⟨S8192x6x64, .f32⟩
  | 68 => ⟨S_, .f32⟩
  | 69 => ⟨S64, .f32⟩
  | 70 => ⟨S1x1x64, .f32⟩
  | 71 => ⟨S8192x6x64, .f32⟩
  | 72 => ⟨S8192x6x64, .f32⟩
  | 73 => ⟨S_, .f32⟩
  | 74 => ⟨S64, .f32⟩
  | 75 => ⟨S1x64, .f32⟩
  | 76 => ⟨S8192x6x64, .f32⟩
  | 77 => ⟨S_, .f32⟩
  | 78 => ⟨S8192x6, .f32⟩
  | 79 => ⟨S8192x6x1, .f32⟩
  | 80 => ⟨S8192x6x64, .f32⟩
  | 81 => ⟨S8192x6x64, .f32⟩
  | 82 => ⟨S8192x6x1, .f32⟩
  | 83 => ⟨S_, .f32⟩
  | 84 => ⟨S8192x6x1, .f32⟩
  | 85 => ⟨S8192x6x1, .f32⟩
  | 86 => ⟨S_, .f32⟩
  | 87 => ⟨S8192x6, .f32⟩
  | 88 => ⟨S8192x6x64, .f32⟩
  | 89 => ⟨S8192x6x64, .f32⟩
  | 90 => ⟨S8192x6x64, .f32⟩
  | 91 => ⟨S8192x6x64, .f32⟩
  | 92 => ⟨S8192x6x64, .f32⟩
  | 93 => ⟨S8192x384, .f32⟩
  | _ => ⟨S8192x384, .f32⟩

abbrev hbmTy (i : Nat) : BufTy := match i / 128 with
  | 0 => hbmTy0_0 i
  | 1 => hbmTy0_1 i
  | 2 => hbmTy0_2 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_11 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_13 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_c_14 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_15 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_c_16 : Ref sig .tc := ⟨.hbm, 138, rfl⟩
abbrev main_v112 : Ref sig .tc := ⟨.hbm, 139, rfl⟩
abbrev main_v113 : Ref sig .tc := ⟨.hbm, 140, rfl⟩
abbrev main_c_17 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_18 : Ref sig .tc := ⟨.hbm, 150, rfl⟩
abbrev main_call0_v0 : Ref sig .tc := ⟨.hbm, 151, rfl⟩
abbrev main_v122_1 : Ref sig .tc := ⟨.hbm, 152, rfl⟩
abbrev main_call0_v2 : Ref sig .tc := ⟨.hbm, 153, rfl⟩
abbrev main_v122_0 : Ref sig .tc := ⟨.hbm, 154, rfl⟩
abbrev main_call0_cst : Ref sig .tc := ⟨.hbm, 155, rfl⟩
abbrev main_v122_2 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_19 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_20 : Ref sig .tc := ⟨.hbm, 167, rfl⟩
abbrev main_v132 : Ref sig .tc := ⟨.hbm, 168, rfl⟩
abbrev main_cst_21 : Ref sig .tc := ⟨.hbm, 169, rfl⟩
abbrev main_v133 : Ref sig .tc := ⟨.hbm, 170, rfl⟩
abbrev main_v134 : Ref sig .tc := ⟨.hbm, 171, rfl⟩
abbrev main_cst_22 : Ref sig .tc := ⟨.hbm, 172, rfl⟩
abbrev main_v135 : Ref sig .tc := ⟨.hbm, 173, rfl⟩
abbrev main_v136 : Ref sig .tc := ⟨.hbm, 174, rfl⟩
abbrev main_cst_23 : Ref sig .tc := ⟨.hbm, 175, rfl⟩
abbrev main_v137 : Ref sig .tc := ⟨.hbm, 176, rfl⟩
abbrev main_v138 : Ref sig .tc := ⟨.hbm, 177, rfl⟩
abbrev main_cst_24 : Ref sig .tc := ⟨.hbm, 178, rfl⟩
abbrev main_v139 : Ref sig .tc := ⟨.hbm, 179, rfl⟩
abbrev main_cst_25 : Ref sig .tc := ⟨.hbm, 180, rfl⟩
abbrev main_v140 : Ref sig .tc := ⟨.hbm, 181, rfl⟩
abbrev main_cst_26 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_27 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_28 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_29 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_30 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_31 : Ref sig .tc := ⟨.hbm, 220, rfl⟩
abbrev main_v174 : Ref sig .tc := ⟨.hbm, 221, rfl⟩
abbrev main_v175 : Ref sig .tc := ⟨.hbm, 222, rfl⟩
abbrev main_cst_32 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_33 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_34 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_35 : Ref sig .tc := ⟨.hbm, 241, rfl⟩
abbrev main_v191 : Ref sig .tc := ⟨.hbm, 242, rfl⟩
abbrev main_v192 : Ref sig .tc := ⟨.hbm, 243, rfl⟩
abbrev main_cst_36 : Ref sig .tc := ⟨.hbm, 244, rfl⟩
abbrev main_v193 : Ref sig .tc := ⟨.hbm, 245, rfl⟩
abbrev main_v194 : Ref sig .tc := ⟨.hbm, 246, rfl⟩
abbrev main_call1_cst : Ref sig .tc := ⟨.hbm, 247, rfl⟩
abbrev main_call1_v0 : Ref sig .tc := ⟨.hbm, 248, rfl⟩
abbrev main_v195 : Ref sig .tc := ⟨.hbm, 249, rfl⟩
abbrev main_cst_37 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_38 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_cst_39 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_cst_40 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_cst_41 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_cst_42 : Ref sig .tc := ⟨.hbm, 297, rfl⟩
abbrev main_v238 : Ref sig .tc := ⟨.hbm, 298, rfl⟩
abbrev main_v239 : Ref sig .tc := ⟨.hbm, 299, rfl⟩
abbrev main_cst_43 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_cst_44 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_cst_45 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_cst_46 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_cst_47 : Ref sig .tc := ⟨.hbm, 339, rfl⟩
abbrev main_v275 : Ref sig .tc := ⟨.hbm, 340, rfl⟩
abbrev main_v276 : Ref sig .tc := ⟨.hbm, 341, rfl⟩
abbrev main_cst_48 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩

abbrev nD : Nat := 1
abbrev τ : Topo := Topo.v7x

variable {F : FTy → Type} [FloatOps F]
-- ==== Conv.lean ====
abbrev S8192x768 : Shape := ⟨2, ![8192, 768]⟩
abbrev S31x384 : Shape := ⟨2, ![31, 384]⟩
abbrev S1x384 : Shape := ⟨2, ![1, 384]⟩
abbrev S8192x384 : Shape := ⟨2, ![8192, 384]⟩
abbrev S_ : Shape := ⟨0, ![]⟩
abbrev S32x384 : Shape := ⟨2, ![32, 384]⟩
abbrev S512x384 : Shape := ⟨2, ![512, 384]⟩
abbrev S544x384 : Shape := ⟨2, ![544, 384]⟩
abbrev S536x384 : Shape := ⟨2, ![536, 384]⟩
abbrev S64x384 : Shape := ⟨2, ![64, 384]⟩
abbrev S512 : Shape := ⟨1, ![512]⟩
abbrev S512x1 : Shape := ⟨2, ![512, 1]⟩
abbrev S384 : Shape := ⟨1, ![384]⟩
abbrev S576x384 : Shape := ⟨2, ![576, 384]⟩
abbrev S568x384 : Shape := ⟨2, ![568, 384]⟩
abbrev S32x1 : Shape := ⟨2, ![32, 1]⟩
abbrev S8x384 : Shape := ⟨2, ![8, 384]⟩

abbrev nBuf : Space → Nat
  | .hbm => 19
  | .vmem => 24
  | .smem => 0
  | _ => 0

abbrev bufTy : (tb : Table) → Fin (tcTables nBuf tb) → BufTy
  | .hbm, ⟨0, _⟩ => ⟨S8192x768, .f32⟩
  | .hbm, ⟨1, _⟩ => ⟨S31x384, .f32⟩
  | .hbm, ⟨2, _⟩ => ⟨S1x384, .f32⟩
  | .hbm, ⟨3, _⟩ => ⟨S1x384, .f32⟩
  | .hbm, ⟨4, _⟩ => ⟨S1x384, .f32⟩
  | .hbm, ⟨5, _⟩ => ⟨S8192x384, .f32⟩
  | .hbm, ⟨6, _⟩ => ⟨S8192x384, .f32⟩
  | .hbm, ⟨7, _⟩ => ⟨S8192x384, .f32⟩
  | .hbm, ⟨8, _⟩ => ⟨S_, .i32⟩
  | .hbm, ⟨9, _⟩ => ⟨S_, .f32⟩
  | .hbm, ⟨10, _⟩ => ⟨S32x384, .f32⟩
  | .hbm, ⟨11, _⟩ => ⟨S8192x384, .f32⟩
  | .hbm, ⟨12, _⟩ => ⟨S8192x384, .f32⟩
  | .hbm, ⟨13, _⟩ => ⟨S32x384, .f32⟩
  | .hbm, ⟨14, _⟩ => ⟨S1x384, .f32⟩
  | .hbm, ⟨15, _⟩ => ⟨S1x384, .f32⟩
  | .hbm, ⟨16, _⟩ => ⟨S1x384, .f32⟩
  | .hbm, ⟨17, _⟩ => ⟨S8192x768, .f32⟩
  | .hbm, ⟨18, _⟩ => ⟨S31x384, .f32⟩
  | .local _ .vmem, ⟨0, _⟩ => ⟨S32x384, .f32⟩
  | .local _ .vmem, ⟨1, _⟩ => ⟨S32x384, .f32⟩
  | .local _ .vmem, ⟨2, _⟩ => ⟨S512x384, .f32⟩
  | .local _ .vmem, ⟨3, _⟩ => ⟨S512x384, .f32⟩
  | .local _ .vmem, ⟨4, _⟩ => ⟨S32x384, .f32⟩
  | .local _ .vmem, ⟨5, _⟩ => ⟨S32x384, .f32⟩
  | .local _ .vmem, ⟨6, _⟩ => ⟨S512x384, .f32⟩
  | .local _ .vmem, ⟨7, _⟩ => ⟨S512x384, .f32⟩
  | .local _ .vmem, ⟨8, _⟩ => ⟨S32x384, .f32⟩
  | .local _ .vmem, ⟨9, _⟩ => ⟨S1x384, .f32⟩
  | .local _ .vmem, ⟨10, _⟩ => ⟨S1x384, .f32⟩
  | .local _ .vmem, ⟨11, _⟩ => ⟨S1x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S32x384, .f32⟩
  | .local _ .vmem, ⟨19, _⟩ => ⟨S1x384, .f32⟩
  | .local _ .vmem, ⟨20, _⟩ => ⟨S1x384, .f32⟩
  | .local _ .vmem, ⟨21, _⟩ => ⟨S1x384, .f32⟩
  | .local _ .vmem, ⟨22, _⟩ => ⟨S512x384, .f32⟩
  | .local _ .vmem, ⟨23, _⟩ => ⟨S512x384, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_0 : BitVec 32 := 0#32
  let v5 : BitVec 1 := Scalar.cmpi .ne v4 c0_i32_0
  v5

def k0_cond2 (i : grid0.Coords) : BitVec 1 :=
  let arg0 : BitVec 32 := BitVec.ofNat 32 (i 0).val
  let c0_i32_138 : BitVec 32 := 0#32
  let v7133 : BitVec 1 := Scalar.cmpi .sgt arg0 c0_i32_138
  let v7134 : BitVec 32 := Scalar.extui v7133
  let c0_i32_139 : BitVec 32 := 0#32
  let v7135 : BitVec 1 := Scalar.cmpi .ne v7134 c0_i32_139
  v7135

def k0_cond12 (i : grid0.Coords) : BitVec 1 :=
  let arg0 : BitVec 32 := BitVec.ofNat 32 (i 0).val
  let c16_i32_1 : BitVec 32 := 16#32
  let v6 : BitVec 1 := Scalar.cmpi .eq arg0 c16_i32_1
  let v7 : BitVec 32 := Scalar.extui v6
  let c0_i32_2 : BitVec 32 := 0#32
  let v8 : BitVec 1 := Scalar.cmpi .ne v7 c0_i32_2
  v8

def k0_cond3 (i : grid0.Coords) : BitVec 1 :=
  let arg0 : BitVec 32 := BitVec.ofNat 32 (i 0).val
  let c0_i32_142 : BitVec 32 := 0#32
  let v7139 : BitVec 1 := Scalar.cmpi .sgt arg0 c0_i32_142
  let v7140 : BitVec 32 := Scalar.extui v7139
  let c0_i32_143 : BitVec 32 := 0#32
  let v7141 : BitVec 1 := Scalar.cmpi .ne v7140 c0_i32_143
  v7141

def k0_cond4 (i : grid0.Coords) : BitVec 1 :=
  let arg0 : BitVec 32 := BitVec.ofNat 32 (i 0).val
  let c0_i32_146 : BitVec 32 := 0#32
  let v7145 : BitVec 1 := Scalar.cmpi .eq arg0 c0_i32_146
  let v7146 : BitVec 32 := Scalar.extui v7145
  let c0_i32_147 : BitVec 32 := 0#32
  let v7147 : BitVec 1 := Scalar.cmpi .ne v7146 c0_i32_147
  v7147

def k0_cond5 (i : grid0.Coords) : BitVec 1 :=
  let arg0 : BitVec 32 := BitVec.ofNat 32 (i 0).val
  let c0_i32_148 : BitVec 32 := 0#32
  let v7148 : BitVec 1 := Scalar.cmpi .sgt arg0 c0_i32_148
  let v7149 : BitVec 32 := Scalar.extui v7148
  let c0_i32_149 : BitVec 32 := 0#32
  let v7150 : BitVec 1 := Scalar.cmpi .ne v7149 c0_i32_149
  v7150

def k0_cond6 (i : grid0.Coords) : BitVec 1 :=
  let arg0 : BitVec 32 := BitVec.ofNat 32 (i 0).val
  let c0_i32_150 : BitVec 32 := 0#32
  let v7151 : BitVec 1 := Scalar.cmpi .eq arg0 c0_i32_150
  let v7152 : BitVec 32 := Scalar.extui v7151
  let c0_i32_151 : BitVec 32 := 0#32
  let v7153 : BitVec 1 := Scalar.cmpi .ne v7152 c0_i32_151
  v7153

def k0_cond7 (i : grid0.Coords) : BitVec 1 :=
  let arg0 : BitVec 32 := BitVec.ofNat 32 (i 0).val
  let c0_i32_152 : BitVec 32 := 0#32
  let v7154 : BitVec 1 := Scalar.cmpi .sgt arg0 c0_i32_152
  let v7155 : BitVec 32 := Scalar.extui v7154
  let c0_i32_153 : BitVec 32 := 0#32
  let v7156 : BitVec 1 := Scalar.cmpi .ne v7155 c0_i32_153
  v7156

def k0_cond8 (i : grid0.Coords) : BitVec 1 :=
  let arg0 : BitVec 32 := BitVec.ofNat 32 (i 0).val
  let c0_i32_154 : BitVec 32 := 0#32
  let v7157 : BitVec 1 := Scalar.cmpi .eq arg0 c0_i32_154
  let v7158 : BitVec 32 := Scalar.extui v7157
  let c0_i32_155 : BitVec 32 := 0#32
  let v7159 : BitVec 1 := Scalar.cmpi .ne v7158 c0_i32_155
  v7159

def k0_cond9 (i : grid0.Coords) : BitVec 1 :=
  let arg0 : BitVec 32 := BitVec.ofNat 32 (i 0).val
  let c0_i32_156 : BitVec 32 := 0#32
  let v7160 : BitVec 1 := Scalar.cmpi .sgt arg0 c0_i32_156
  let v7161 : BitVec 32 := Scalar.extui v7160
  let c0_i32_157 : BitVec 32 := 0#32
  let v7162 : BitVec 1 := Scalar.cmpi .ne v7161 c0_i32_157
  v7162

def k0_cond10 (i : grid0.Coords) : BitVec 1 :=
  let arg0 : BitVec 32 := BitVec.ofNat 32 (i 0).val
  let c0_i32_158 : BitVec 32 := 0#32
  let v7163 : BitVec 1 := Scalar.cmpi .eq arg0 c0_i32_158
  let v7164 : BitVec 32 := Scalar.extui v7163
  let c0_i32_159 : BitVec 32 := 0#32
  let v7165 : BitVec 1 := Scalar.cmpi .ne v7164 c0_i32_159
  v7165

def k0_cond11 (i : grid0.Coords) : BitVec 1 :=
  let arg0 : BitVec 32 := BitVec.ofNat 32 (i 0).val
  let c0_i32_160 : BitVec 32 := 0#32
  let v7166 : BitVec 1 := Scalar.cmpi .sgt arg0 c0_i32_160
  let v7167 : BitVec 32 := Scalar.extui v7166
  let c0_i32_161 : BitVec 32 := 0#32
  let v7168 : BitVec 1 := Scalar.cmpi .ne v7167 c0_i32_161
  v7168

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvReferenceIdeal.lean ====
abbrev S8192x768 : Shape := ⟨2, ![8192, 768]⟩
abbrev S31x384 : Shape := ⟨2, ![31, 384]⟩
abbrev S1x384 : Shape := ⟨2, ![1, 384]⟩
abbrev S8192x384 : Shape := ⟨2, ![8192, 384]⟩
abbrev S_ : Shape := ⟨0, ![]⟩
abbrev S30x384 : Shape := ⟨2, ![30, 384]⟩
abbrev S8222x384 : Shape := ⟨2, ![8222, 384]⟩
abbrev S384 : Shape := ⟨1, ![384]⟩
abbrev S8192 : Shape := ⟨1, ![8192]⟩
abbrev S8192x1 : Shape := ⟨2, ![8192, 1]⟩

abbrev nBuf : Space → Nat
  | .hbm => 810
  | .vmem => 0
  | .smem => 0
  | _ => 0

abbrev hbmTy0_0 (i : Nat) : BufTy := match i % 128 with
  | 0 => ⟨S8192x768, .f32⟩
  | 1 => ⟨S31x384, .f32⟩
  | 2 => ⟨S1x384, .f32⟩
  | 3 => ⟨S1x384, .f32⟩
  | 4 => ⟨S1x384, .f32⟩
  | 5 => ⟨S8192x384, .f32⟩
  | 6 => ⟨S8192x384, .f32⟩
  | 7 => ⟨S8192x384, .f32⟩
  | 8 => ⟨S_, .f32⟩
  | 9 => ⟨S30x384, .f32⟩
  | 10 => ⟨S8192x384, .f32⟩
  | 11 => ⟨S8192x384, .f32⟩
  | 12 => ⟨S_, .f32⟩
  | 13 => ⟨S8192x384, .f32⟩
  | 14 => ⟨S8192x384, .f32⟩
  | 15 => ⟨S_, .f32⟩
  | 16 => ⟨S8192x384, .f32⟩
  | 17 => ⟨S8192x384, .f32⟩
  | 18 => ⟨S_, .f32⟩
  | 19 => ⟨S8192x384, .f32⟩
  | 20 => ⟨S8192x384, .f32⟩
  | 21 => ⟨S8192x384, .f32⟩
  | 22 => ⟨S8192x384, .f32⟩
  | 23 => ⟨S8222x384, .f32⟩
  | 24 => ⟨S_, .f32⟩
  | 25 => ⟨S30x384, .f32⟩
  | 26 => ⟨S1x384, .f32⟩
  | 27 => ⟨S384, .f32⟩
  | 28 => ⟨S8192x384, .f32⟩
  | 29 => ⟨S1x384, .f32⟩
  | 30 => ⟨S8192x384, .f32⟩
  | 31 => ⟨S8192x384, .f32⟩
  | 32 => ⟨S_, .f32⟩
  | 33 => ⟨S8192x384, .f32⟩
  | 34 => ⟨S8192x384, .f32⟩
  | 35 => ⟨S1x384, .f32⟩
  | 36 => ⟨S384, .f32⟩
  | 37 => ⟨S8192x384, .f32⟩
  | 38 => ⟨S1x384, .f32⟩
  | 39 => ⟨S8192x384, .f32⟩
  | 40 => ⟨S8192x384, .f32⟩
  | 41 => ⟨S8192x384, .f32⟩
  | 42 => ⟨S1x384, .f32⟩
  | 43 => ⟨S384, .f32⟩
  | 44 => ⟨S8192x384, .f32⟩
  | 45 => ⟨S1x384, .f32⟩
  | 46 => ⟨S8192x384, .f32⟩
  | 47 => ⟨S8192x384, .f32⟩
  | 48 => ⟨S8192x384, .f32⟩
  | 49 => ⟨S1x384, .f32⟩
  | 50 => ⟨S384, .f32⟩
  | 51 => ⟨S8192x384, .f32⟩
  | 52 => ⟨S1x384, .f32⟩
  | 53 => ⟨S8192x384, .f32⟩
  | 54 => ⟨S8192x384, .f32⟩
  | 55 => ⟨S8192x384, .f32⟩
  | 56 => ⟨S1x384, .f32⟩
  | 57 => ⟨S384, .f32⟩
  | 58 => ⟨S8192x384, .f32⟩
  | 59 => ⟨S1x384, .f32⟩
  | 60 => ⟨S8192x384, .f32⟩
  | 61 => ⟨S8192x384, .f32⟩
  | 62 => ⟨S8192x384, .f32⟩
  | 63 => ⟨S1x384, .f32⟩
  | 64 => ⟨S384, .f32⟩
  | 65 => ⟨S8192x384, .f32⟩
  | 66 => ⟨S1x384, .f32⟩
  | 67 => ⟨S8192x384, .f32⟩
  | 68 => ⟨S8192x384, .f32⟩
  | 69 => ⟨S8192x384, .f32⟩
  | 70 => ⟨S1x384, .f32⟩
  | 71 => ⟨S384, .f32⟩
  | 72 => ⟨S8192x384, .f32⟩
  | 73 => ⟨S1x384, .f32⟩
  | 74 => ⟨S8192x384, .f32⟩
  | 75 => ⟨S8192x384, .f32⟩
  | 76 => ⟨S8192x384, .f32⟩
  | 77 => ⟨S1x384, .f32⟩
  | 78 => ⟨S384, .f32⟩
  | 79 => ⟨S8192x384, .f32⟩
  | 80 => ⟨S1x384, .f32⟩
  | 81 => ⟨S8192x384, .f32⟩
  | 82 => ⟨S8192x384, .f32⟩
  | 83 => ⟨S8192x384, .f32⟩
  | 84 => ⟨S1x384, .f32⟩
  | 85 => ⟨S384, .f32⟩
  | 86 => ⟨S8192x384, .f32⟩
  | 87 => ⟨S1x384, .f32⟩
  | 88 => ⟨S8192x384, .f32⟩
  | 89 => ⟨S8192x384, .f32⟩
  | 90 => ⟨S8192x384, .f32⟩
  | 91 => ⟨S1x384, .f32⟩
  | 92 => ⟨S384, .f32⟩
  | 93 => ⟨S8192x384, .f32⟩
  | 94 => ⟨S1x384, .f32⟩
  | 95 => ⟨S8192x384, .f32⟩
  | 96 => ⟨S8192x384, .f32⟩
  | 97 => ⟨S8192x384, .f32⟩
  | 98 => ⟨S1x384, .f32⟩
  | 99 => ⟨S384, .f32⟩
  | 100 => ⟨S8192x384, .f32⟩
  | 101 => ⟨S1x384, .f32⟩
  | 102 => ⟨S8192x384, .f32⟩
  | 103 => ⟨S8192x384, .f32⟩
  | 104 => ⟨S8192x384, .f32⟩
  | 105 => ⟨S1x384, .f32⟩
  | 106 => ⟨S384, .f32⟩
  | 107 => ⟨S8192x384, .f32⟩
  | 108 => ⟨S1x384, .f32⟩
  | 109 => ⟨S8192x384, .f32⟩
  | 110 => ⟨S8192x384, .f32⟩
  | 111 => ⟨S8192x384, .f32⟩
  | 112 => ⟨S1x384, .f32⟩
  | 113 => ⟨S384, .f32⟩
  | 114 => ⟨S8192x384, .f32⟩
  | 115 => ⟨S1x384, .f32⟩
  | 116 => ⟨S8192x384, .f32⟩
  | 117 => ⟨S8192x384, .f32⟩
  | 118 => ⟨S8192x384, .f32⟩
  | 119 => ⟨S1x384, .f32⟩
  | 120 => ⟨S384, .f32⟩
  | 121 => ⟨S8192x384, .f32⟩
  | 122 => ⟨S1x384, .f32⟩
  | 123 => ⟨S8192x384, .f32⟩
  | 124 => ⟨S8192x384, .f32⟩
  | 125 => ⟨S8192x384, .f32⟩
  | 126 => ⟨S1x384, .f32⟩
  | 127 => ⟨S384, .f32⟩
  | _ => ⟨S8192x768, .f32⟩

abbrev hbmTy0_1 (i : Nat) : BufTy := match i % 128 with
  | 0 => ⟨S8192x384, .f32⟩
  | 1 => ⟨S1x384, .f32⟩
  | 2 => ⟨S8192x384, .f32⟩
  | 3 => ⟨S8192x384, .f32⟩
  | 4 => ⟨S8192x384, .f32⟩
  | 5 => ⟨S1x384, .f32⟩
  | 6 => ⟨S384, .f32⟩
  | 7 => ⟨S8192x384, .f32⟩
  | 8 => ⟨S1x384, .f32⟩
  | 9 => ⟨S8192x384, .f32⟩
  | 10 => ⟨S8192x384, .f32⟩
  | 11 => ⟨S8192x384, .f32⟩
  | 12 => ⟨S1x384, .f32⟩
  | 13 => ⟨S384, .f32⟩
  | 14 => ⟨S8192x384, .f32⟩
  | 15 => ⟨S1x384, .f32⟩
  | 16 => ⟨S8192x384, .f32⟩
  | 17 => ⟨S8192x384, .f32⟩
  | 18 => ⟨S8192x384, .f32⟩
  | 19 => ⟨S1x384, .f32⟩
  | 20 => ⟨S384, .f32⟩
  | 21 => ⟨S8192x384, .f32⟩
  | 22 => ⟨S1x384, .f32⟩
  | 23 => ⟨S8192x384, .f32⟩
  | 24 => ⟨S8192x384, .f32⟩
  | 25 => ⟨S8192x384, .f32⟩
  | 26 => ⟨S1x384, .f32⟩
  | 27 => ⟨S384, .f32⟩
  | 28 => ⟨S8192x384, .f32⟩
  | 29 => ⟨S1x384, .f32⟩
  | 30 => ⟨S8192x384, .f32⟩
  | 31 => ⟨S8192x384, .f32⟩
  | 32 => ⟨S8192x384, .f32⟩
  | 33 => ⟨S1x384, .f32⟩
  | 34 => ⟨S384, .f32⟩
  | 35 => ⟨S8192x384, .f32⟩
  | 36 => ⟨S1x384, .f32⟩
  | 37 => ⟨S8192x384, .f32⟩
  | 38 => ⟨S8192x384, .f32⟩
  | 39 => ⟨S8192x384, .f32⟩
  | 40 => ⟨S1x384, .f32⟩
  | 41 => ⟨S384, .f32⟩
  | 42 => ⟨S8192x384, .f32⟩
  | 43 => ⟨S1x384, .f32⟩
  | 44 => ⟨S8192x384, .f32⟩
  | 45 => ⟨S8192x384, .f32⟩
  | 46 => ⟨S8192x384, .f32⟩
  | 47 => ⟨S1x384, .f32⟩
  | 48 => ⟨S384, .f32⟩
  | 49 => ⟨S8192x384, .f32⟩
  | 50 => ⟨S1x384, .f32⟩
  | 51 => ⟨S8192x384, .f32⟩
  | 52 => ⟨S8192x384, .f32⟩
  | 53 => ⟨S8192x384, .f32⟩
  | 54 => ⟨S1x384, .f32⟩
  | 55 => ⟨S384, .f32⟩
  | 56 => ⟨S8192x384, .f32⟩
  | 57 => ⟨S1x384, .f32⟩
  | 58 => ⟨S8192x384, .f32⟩
  | 59 => ⟨S8192x384, .f32⟩
  | 60 => ⟨S8192x384, .f32⟩
  | 61 => ⟨S1x384, .f32⟩
  | 62 => ⟨S384, .f32⟩
  | 63 => ⟨S8192x384, .f32⟩
  | 64 => ⟨S1x384, .f32⟩
  | 65 => ⟨S8192x384, .f32⟩
  | 66 => ⟨S8192x384, .f32⟩
  | 67 => ⟨S8192x384, .f32⟩
  | 68 => ⟨S1x384, .f32⟩
  | 69 => ⟨S384, .f32⟩
  | 70 => ⟨S8192x384, .f32⟩
  | 71 => ⟨S1x384, .f32⟩
  | 72 => ⟨S8192x384, .f32⟩
  | 73 => ⟨S8192x384, .f32⟩
  | 74 => ⟨S8192x384, .f32⟩
  | 75 => ⟨S1x384, .f32⟩
  | 76 => ⟨S384, .f32⟩
  | 77 => ⟨S8192x384, .f32⟩
  | 78 => ⟨S1x384, .f32⟩
  | 79 => ⟨S8192x384, .f32⟩
  | 80 => ⟨S8192x384, .f32⟩
  | 81 => ⟨S8192x384, .f32⟩
  | 82 => ⟨S1x384, .f32⟩
  | 83 => ⟨S384, .f32⟩
  | 84 => ⟨S8192x384, .f32⟩
  | 85 => ⟨S1x384, .f32⟩
  | 86 => ⟨S8192x384, .f32⟩
  | 87 => ⟨S8192x384, .f32⟩
  | 88 => ⟨S8192x384, .f32⟩
  | 89 => ⟨S1x384, .f32⟩
  | 90 => ⟨S384, .f32⟩
  | 91 => ⟨S8192x384, .f32⟩
  | 92 => ⟨S1x384, .f32⟩
  | 93 => ⟨S8192x384, .f32⟩
  | 94 => ⟨S8192x384, .f32⟩
  | 95 => ⟨S8192x384, .f32⟩
  | 96 => ⟨S1x384, .f32⟩
  | 97 => ⟨S384, .f32⟩
  | 98 => ⟨S8192x384, .f32⟩
  | 99 => ⟨S1x384, .f32⟩
  | 100 => ⟨S8192x384, .f32⟩
  | 101 => ⟨S8192x384, .f32⟩
  | 102 => ⟨S8192x384, .f32⟩
  | 103 => ⟨S1x384, .f32⟩
  | 104 => ⟨S384, .f32⟩
  | 105 => ⟨S8192x384, .f32⟩
  | 106 => ⟨S1x384, .f32⟩
  | 107 => ⟨S8192x384, .f32⟩
  | 108 => ⟨S8192x384, .f32⟩
  | 109 => ⟨S8192x384, .f32⟩
  | 110 => ⟨S1x384, .f32⟩
  | 111 => ⟨S384, .f32⟩
  | 112 => ⟨S8192x384, .f32⟩
  | 113 => ⟨S1x384, .f32⟩
  | 114 => ⟨S8192x384, .f32⟩
  | 115 => ⟨S8192x384, .f32⟩
  | 116 => ⟨S8192x384, .f32⟩
  | 117 => ⟨S8192x384, .f32⟩
  | 118 => ⟨S8192x384, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x384, .f32⟩
  | 126 => ⟨S8192x384, .f32⟩
  | 127 => ⟨S8192x384, .f32⟩
  | _ => ⟨S8192x768, .f32⟩

abbrev hbmTy0_2 (i : Nat) : BufTy := match i % 128 with
  | 0 => ⟨S_, .f32⟩
  | 1 => ⟨S8192x384, .f32⟩
  | 2 => ⟨S8192x384, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S8192x384, .f32⟩
  | 10 => ⟨S8192x384, .f32⟩
  | 11 => ⟨S_, .f32⟩
  | 12 => ⟨S8192x1, .f32⟩
  | 13 => ⟨S8192x1, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x384, .f32⟩
  | 20 => ⟨S8192x384, .f32⟩
  | 21 => ⟨S8192x384, .f32⟩
  | 22 => ⟨S8192x384, .f32⟩
  | 23 => ⟨S8192x384, .f32⟩
  | 24 => ⟨S8192x384, .f32⟩
  | 25 => ⟨S8192x384, .f32⟩
  | 26 => ⟨S8192x384, .f32⟩
  | 27 => ⟨S_, .f32⟩
  | 28 => ⟨S8192x384, .f32⟩
  | 29 => ⟨S8192x384, .f32⟩
  | 30 => ⟨S_, .f32⟩
  | 31 => ⟨S8192x384, .f32⟩
  | 32 => ⟨S8192x384, .f32⟩
  | 33 => ⟨S_, .f32⟩
  | 34 => ⟨S8192x384, .f32⟩
  | 35 => ⟨S8192x384, .f32⟩
  | 36 => ⟨S8192x384, .f32⟩
  | 37 => ⟨S8192x384, .f32⟩
  | 38 => ⟨S8192x384, .f32⟩
  | 39 => ⟨S8192x384, .f32⟩
  | 40 => ⟨S8192x384, .f32⟩
  | 41 => ⟨S8192x384, .f32⟩
  | 42 => ⟨S_, .f32⟩
  | 43 => ⟨S384, .f32⟩
  | 44 => ⟨S1x384, .f32⟩
  | 45 => ⟨S8192x384, .f32⟩
  | 46 => ⟨S_, .f32⟩
  | 47 => ⟨S384, .f32⟩
  | 48 => ⟨S1x384, .f32⟩
  | 49 => ⟨S8192x384, .f32⟩
  | 50 => ⟨S8192x384, .f32⟩
  | 51 => ⟨S8192x384, .f32⟩
  | 52 => ⟨S_, .f32⟩
  | 53 => ⟨S8192, .f32⟩
  | 54 => ⟨S8192x1, .f32⟩
  | 55 => ⟨S8192x384, .f32⟩
  | 56 => ⟨S8192x384, .f32⟩
  | 57 => ⟨S8192x1, .f32⟩
  | 58 => ⟨S8192x384, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192, .f32⟩
  | 67 => ⟨S8192x384, .f32⟩
  | 68 => ⟨S8192x384, .f32⟩
  | 69 => ⟨S8192x384, .f32⟩
  | 70 => ⟨S_, .f32⟩
  | 71 => ⟨S8192, .f32⟩
  | 72 => ⟨S8192x1, .f32⟩
  | 73 => ⟨S8192x384, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192, .f32⟩
  | 80 => ⟨S8192x384, .f32⟩
  | 81 => ⟨S8192x384, .f32⟩
  | 82 => ⟨S_, .f32⟩
  | 83 => ⟨S384, .f32⟩
  | 84 => ⟨S1x384, .f32⟩
  | 85 => ⟨S8192x384, .f32⟩
  | 86 => ⟨S8192x384, .f32⟩
  | 87 => ⟨S8192x384, .f32⟩
  | 88 => ⟨S_, .f32⟩
  | 89 => ⟨S384, .f32⟩
  | 90 => ⟨S1x384, .f32⟩
  | 91 => ⟨S_, .f32⟩
  | 92 => ⟨S384, .f32⟩
  | 93 => ⟨S_, .f32⟩
  | 94 => ⟨S8222x384, .f32⟩
  | 95 => ⟨S1x384, .f32⟩
  | 96 => ⟨S_, .f32⟩
  | 97 => ⟨S31x384, .f32⟩
  | 98 => ⟨S8192x384, .f32⟩
  | 99 => ⟨S8192x384, .f32⟩
  | 100 => ⟨S8192x384, .f32⟩
  | 101 => ⟨S_, .f32⟩
  | 102 => ⟨S384, .f32⟩
  | 103 => ⟨S1x384, .f32⟩
  | 104 => ⟨S_, .f32⟩
  | 105 => ⟨S384, .f32⟩
  | 106 => ⟨S_, .f32⟩
  | 107 => ⟨S8222x384, .f32⟩
  | 108 => ⟨S8222x384, .f32⟩
  | 109 => ⟨S1x384, .f32⟩
  | 110 => ⟨S_, .f32⟩
  | 111 => ⟨S31x384, .f32⟩
  | 112 => ⟨S31x384, .f32⟩
  | 113 => ⟨S8192x384, .f32⟩
  | 114 => ⟨S8192x384, .f32⟩
  | 115 => ⟨S8192x384, .f32⟩
  | 116 => ⟨S_, .f32⟩
  | 117 => ⟨S384, .f32⟩
  | 118 => ⟨S1x384, .f32⟩
  | 119 => ⟨S_, .f32⟩
  | 120 => ⟨S384, .f32⟩
  | 121 => ⟨S_, .f32⟩
  | 122 => ⟨S8222x384, .f32⟩
  | 123 => ⟨S8222x384, .f32⟩
  | 124 => ⟨S1x384, .f32⟩
  | 125 => ⟨S_, .f32⟩
  | 126 => ⟨S31x384, .f32⟩
  | 127 => ⟨S31x384, .f32⟩
  | _ => ⟨S8192x768, .f32⟩

abbrev hbmTy0_3 (i : Nat) : BufTy := match i % 128 with
  | 0 => ⟨S8192x384, .f32⟩
  | 1 => ⟨S8192x384, .f32⟩
  | 2 => ⟨S8192x384, .f32⟩
  | 3 => ⟨S_, .f32⟩
  | 4 => ⟨S384, .f32⟩
  | 5 => ⟨S1x384, .f32⟩
  | 6 => ⟨S_, .f32⟩
  | 7 => ⟨S384, .f32⟩
  | 8 => ⟨S_, .f32⟩
  | 9 => ⟨S8222x384, .f32⟩
  | 10 => ⟨S8222x384, .f32⟩
  | 11 => ⟨S1x384, .f32⟩
  | 12 => ⟨S_, .f32⟩
  | 13 => ⟨S31x384, .f32⟩
  | 14 => ⟨S31x384, .f32⟩
  | 15 => ⟨S8192x384, .f32⟩
  | 16 => ⟨S8192x384, .f32⟩
  | 17 => ⟨S8192x384, .f32⟩
  | 18 => ⟨S_, .f32⟩
  | 19 => ⟨S384, .f32⟩
  | 20 => ⟨S1x384, .f32⟩
  | 21 => ⟨S_, .f32⟩
  | 22 => ⟨S384, .f32⟩
  | 23 => ⟨S_, .f32⟩
  | 24 => ⟨S8222x384, .f32⟩
  | 25 => ⟨S8222x384, .f32⟩
  | 26 => ⟨S1x384, .f32⟩
  | 27 => ⟨S_, .f32⟩
  | 28 => ⟨S31x384, .f32⟩
  | 29 => ⟨S31x384, .f32⟩
  | 30 => ⟨S8192x384, .f32⟩
  | 31 => ⟨S8192x384, .f32⟩
  | 32 => ⟨S8192x384, .f32⟩
  | 33 => ⟨S_, .f32⟩
  | 34 => ⟨S384, .f32⟩
  | 35 => ⟨S1x384, .f32⟩
  | 36 => ⟨S_, .f32⟩
  | 37 => ⟨S384, .f32⟩
  | 38 => ⟨S_, .f32⟩
  | 39 => ⟨S8222x384, .f32⟩
  | 40 => ⟨S8222x384, .f32⟩
  | 41 => ⟨S1x384, .f32⟩
  | 42 => ⟨S_, .f32⟩
  | 43 => ⟨S31x384, .f32⟩
  | 44 => ⟨S31x384, .f32⟩
  | 45 => ⟨S8192x384, .f32⟩
  | 46 => ⟨S8192x384, .f32⟩
  | 47 => ⟨S8192x384, .f32⟩
  | 48 => ⟨S_, .f32⟩
  | 49 => ⟨S384, .f32⟩
  | 50 => ⟨S1x384, .f32⟩
  | 51 => ⟨S_, .f32⟩
  | 52 => ⟨S384, .f32⟩
  | 53 => ⟨S_, .f32⟩
  | 54 => ⟨S8222x384, .f32⟩
  | 55 => ⟨S8222x384, .f32⟩
  | 56 => ⟨S1x384, .f32⟩
  | 57 => ⟨S_, .f32⟩
  | 58 => ⟨S31x384, .f32⟩
  | 59 => ⟨S31x384, .f32⟩
  | 60 => ⟨S8192x384, .f32⟩
  | 61 => ⟨S8192x384, .f32⟩
  | 62 => ⟨S8192x384, .f32⟩
  | 63 => ⟨S_, .f32⟩
  | 64 => ⟨S384, .f32⟩
  | 65 => ⟨S1x384, .f32⟩
  | 66 => ⟨S_, .f32⟩
  | 67 => ⟨S384, .f32⟩
  | 68 => ⟨S_, .f32⟩
  | 69 => ⟨S8222x384, .f32⟩
  | 70 => ⟨S8222x384, .f32⟩
  | 71 => ⟨S1x384, .f32⟩
  | 72 => ⟨S_, .f32⟩
  | 73 => ⟨S31x384, .f32⟩
  | 74 => ⟨S31x384, .f32⟩
  | 75 => ⟨S8192x384, .f32⟩
  | 76 => ⟨S8192x384, .f32⟩
  | 77 => ⟨S8192x384, .f32⟩
  | 78 => ⟨S_, .f32⟩
  | 79 => ⟨S384, .f32⟩
  | 80 => ⟨S1x384, .f32⟩
  | 81 => ⟨S_, .f32⟩
  | 82 => ⟨S384, .f32⟩
  | 83 => ⟨S_, .f32⟩
  | 84 => ⟨S8222x384, .f32⟩
  | 85 => ⟨S8222x384, .f32⟩
  | 86 => ⟨S1x384, .f32⟩
  | 87 => ⟨S_, .f32⟩
  | 88 => ⟨S31x384, .f32⟩
  | 89 => ⟨S31x384, .f32⟩
  | 90 => ⟨S8192x384, .f32⟩
  | 91 => ⟨S8192x384, .f32⟩
  | 92 => ⟨S8192x384, .f32⟩
  | 93 => ⟨S_, .f32⟩
  | 94 => ⟨S384, .f32⟩
  | 95 => ⟨S1x384, .f32⟩
  | 96 => ⟨S_, .f32⟩
  | 97 => ⟨S384, .f32⟩
  | 98 => ⟨S_, .f32⟩
  | 99 => ⟨S8222x384, .f32⟩
  | 100 => ⟨S8222x384, .f32⟩
  | 101 => ⟨S1x384, .f32⟩
  | 102 => ⟨S_, .f32⟩
  | 103 => ⟨S31x384, .f32⟩
  | 104 => ⟨S31x384, .f32⟩
  | 105 => ⟨S8192x384, .f32⟩
  | 106 => ⟨S8192x384, .f32⟩
  | 107 => ⟨S8192x384, .f32⟩
  | 108 => ⟨S_, .f32⟩
  | 109 => ⟨S384, .f32⟩
  | 110 => ⟨S1x384, .f32⟩
  | 111 => ⟨S_, .f32⟩
  | 112 => ⟨S384, .f32⟩
  | 113 => ⟨S_, .f32⟩
  | 114 => ⟨S8222x384, .f32⟩
  | 115 => ⟨S8222x384, .f32⟩
  | 116 => ⟨S1x384, .f32⟩
  | 117 => ⟨S_, .f32⟩
  | 118 => ⟨S31x384, .f32⟩
  | 119 => ⟨S31x384, .f32⟩
  | 120 => ⟨S8192x384, .f32⟩
  | 121 => ⟨S8192x384, .f32⟩
  | 122 => ⟨S8192x384, .f32⟩
  | 123 => ⟨S_, .f32⟩
  | 124 => ⟨S384, .f32⟩
  | 125 => ⟨S1x384, .f32⟩
  | 126 => ⟨S_, .f32⟩
  | 127 => ⟨S384, .f32⟩
  | _ => ⟨S8192x768, .f32⟩

abbrev hbmTy0_4 (i : Nat) : BufTy := match i % 128 with
  | 0 => ⟨S_, .f32⟩
  | 1 => ⟨S8222x384, .f32⟩
  | 2 => ⟨S8222x384, .f32⟩
  | 3 => ⟨S1x384, .f32⟩
  | 4 => ⟨S_, .f32⟩
  | 5 => ⟨S31x384, .f32⟩
  | 6 => ⟨S31x384, .f32⟩
  | 7 => ⟨S8192x384, .f32⟩
  | 8 => ⟨S8192x384, .f32⟩
  | 9 => ⟨S8192x384, .f32⟩
  | 10 => ⟨S_, .f32⟩
  | 11 => ⟨S384, .f32⟩
  | 12 => ⟨S1x384, .f32⟩
  | 13 => ⟨S_, .f32⟩
  | 14 => ⟨S384, .f32⟩
  | 15 => ⟨S_, .f32⟩
  | 16 => ⟨S8222x384, .f32⟩
  | 17 => ⟨S8222x384, .f32⟩
  | 18 => ⟨S1x384, .f32⟩
  | 19 => ⟨S_, .f32⟩
  | 20 => ⟨S31x384, .f32⟩
  | 21 => ⟨S31x384, .f32⟩
  | 22 => ⟨S8192x384, .f32⟩
  | 23 => ⟨S8192x384, .f32⟩
  | 24 => ⟨S8192x384, .f32⟩
  | 25 => ⟨S_, .f32⟩
  | 26 => ⟨S384, .f32⟩
  | 27 => ⟨S1x384, .f32⟩
  | 28 => ⟨S_, .f32⟩
  | 29 => ⟨S384, .f32⟩
  | 30 => ⟨S_, .f32⟩
  | 31 => ⟨S8222x384, .f32⟩
  | 32 => ⟨S8222x384, .f32⟩
  | 33 => ⟨S1x384, .f32⟩
  | 34 => ⟨S_, .f32⟩
  | 35 => ⟨S31x384, .f32⟩
  | 36 => ⟨S31x384, .f32⟩
  | 37 => ⟨S8192x384, .f32⟩
  | 38 => ⟨S8192x384, .f32⟩
  | 39 => ⟨S8192x384, .f32⟩
  | 40 => ⟨S_, .f32⟩
  | 41 => ⟨S384, .f32⟩
  | 42 => ⟨S1x384, .f32⟩
  | 43 => ⟨S_, .f32⟩
  | 44 => ⟨S384, .f32⟩
  | 45 => ⟨S_, .f32⟩
  | 46 => ⟨S8222x384, .f32⟩
  | 47 => ⟨S8222x384, .f32⟩
  | 48 => ⟨S1x384, .f32⟩
  | 49 => ⟨S_, .f32⟩
  | 50 => ⟨S31x384, .f32⟩
  | 51 => ⟨S31x384, .f32⟩
  | 52 => ⟨S8192x384, .f32⟩
  | 53 => ⟨S8192x384, .f32⟩
  | 54 => ⟨S8192x384, .f32⟩
  | 55 => ⟨S_, .f32⟩
  | 56 => ⟨S384, .f32⟩
  | 57 => ⟨S1x384, .f32⟩
  | 58 => ⟨S_, .f32⟩
  | 59 => ⟨S384, .f32⟩
  | 60 => ⟨S_, .f32⟩
  | 61 => ⟨S8222x384, .f32⟩
  | 62 => ⟨S8222x384, .f32⟩
  | 63 => ⟨S1x384, .f32⟩
  | 64 => ⟨S_, .f32⟩
  | 65 => ⟨S31x384, .f32⟩
  | 66 => ⟨S31x384, .f32⟩
  | 67 => ⟨S8192x384, .f32⟩
  | 68 => ⟨S8192x384, .f32⟩
  | 69 => ⟨S8192x384, .f32⟩
  | 70 => ⟨S_, .f32⟩
  | 71 => ⟨S384, .f32⟩
  | 72 => ⟨S1x384, .f32⟩
  | 73 => ⟨S_, .f32⟩
  | 74 => ⟨S384, .f32⟩
  | 75 => ⟨S_, .f32⟩
  | 76 => ⟨S8222x384, .f32⟩
  | 77 => ⟨S8222x384, .f32⟩
  | 78 => ⟨S1x384, .f32⟩
  | 79 => ⟨S_, .f32⟩
  | 80 => ⟨S31x384, .f32⟩
  | 81 => ⟨S31x384, .f32⟩
  | 82 => ⟨S8192x384, .f32⟩
  | 83 => ⟨S8192x384, .f32⟩
  | 84 => ⟨S8192x384, .f32⟩
  | 85 => ⟨S_, .f32⟩
  | 86 => ⟨S384, .f32⟩
  | 87 => ⟨S1x384, .f32⟩
  | 88 => ⟨S_, .f32⟩
  | 89 => ⟨S384, .f32⟩
  | 90 => ⟨S_, .f32⟩
  | 91 => ⟨S8222x384, .f32⟩
  | 92 => ⟨S8222x384, .f32⟩
  | 93 => ⟨S1x384, .f32⟩
  | 94 => ⟨S_, .f32⟩
  | 95 => ⟨S31x384, .f32⟩
  | 96 => ⟨S31x384, .f32⟩
  | 97 => ⟨S8192x384, .f32⟩
  | 98 => ⟨S8192x384, .f32⟩
  | 99 => ⟨S8192x384, .f32⟩
  | 100 => ⟨S_, .f32⟩
  | 101 => ⟨S384, .f32⟩
  | 102 => ⟨S1x384, .f32⟩
  | 103 => ⟨S_, .f32⟩
  | 104 => ⟨S384, .f32⟩
  | 105 => ⟨S_, .f32⟩
  | 106 => ⟨S8222x384, .f32⟩
  | 107 => ⟨S8222x384, .f32⟩
  | 108 => ⟨S1x384, .f32⟩
  | 109 => ⟨S_, .f32⟩
  | 110 => ⟨S31x384, .f32⟩
  | 111 => ⟨S31x384, .f32⟩
  | 112 => ⟨S8192x384, .f32⟩
  | 113 => ⟨S8192x384, .f32⟩
  | 114 => ⟨S8192x384, .f32⟩
  | 115 => ⟨S_, .f32⟩
  | 116 => ⟨S384, .f32⟩
  | 117 => ⟨S1x384, .f32⟩
  | 118 => ⟨S_, .f32⟩
  | 119 => ⟨S384, .f32⟩
  | 120 => ⟨S_, .f32⟩
  | 121 => ⟨S8222x384, .f32⟩
  | 122 => ⟨S8222x384, .f32⟩
  | 123 => ⟨S1x384, .f32⟩
  | 124 => ⟨S_, .f32⟩
  | 125 => ⟨S31x384, .f32⟩
  | 126 => ⟨S31x384, .f32⟩
  | 127 => ⟨S8192x384, .f32⟩
  | _ => ⟨S8192x768, .f32⟩

abbrev hbmTy0_5 (i : Nat) : BufTy := match i % 128 with
  | 0 => ⟨S8192x384, .f32⟩
  | 1 => ⟨S8192x384, .f32⟩
  | 2 => ⟨S_, .f32⟩
  | 3 => ⟨S384, .f32⟩
  | 4 => ⟨S1x384, .f32⟩
  | 5 => ⟨S_, .f32⟩
  | 6 => ⟨S384, .f32⟩
  | 7 => ⟨S_, .f32⟩
  | 8 => ⟨S8222x384, .f32⟩
  | 9 => ⟨S8222x384, .f32⟩
  | 10 => ⟨S1x384, .f32⟩
  | 11 => ⟨S_, .f32⟩
  | 12 => ⟨S31x384, .f32⟩
  | 13 => ⟨S31x384, .f32⟩
  | 14 => ⟨S8192x384, .f32⟩
  | 15 => ⟨S8192x384, .f32⟩
  | 16 => ⟨S8192x384, .f32⟩
  | 17 => ⟨S_, .f32⟩
  | 18 => ⟨S384, .f32⟩
  | 19 => ⟨S1x384, .f32⟩
  | 20 => ⟨S_, .f32⟩
  | 21 => ⟨S384, .f32⟩
  | 22 => ⟨S_, .f32⟩
  | 23 => ⟨S8222x384, .f32⟩
  | 24 => ⟨S8222x384, .f32⟩
  | 25 => ⟨S1x384, .f32⟩
  | 26 => ⟨S_, .f32⟩
  | 27 => ⟨S31x384, .f32⟩
  | 28 => ⟨S31x384, .f32⟩
  | 29 => ⟨S8192x384, .f32⟩
  | 30 => ⟨S8192x384, .f32⟩
  | 31 => ⟨S8192x384, .f32⟩
  | 32 => ⟨S_, .f32⟩
  | 33 => ⟨S384, .f32⟩
  | 34 => ⟨S1x384, .f32⟩
  | 35 => ⟨S_, .f32⟩
  | 36 => ⟨S384, .f32⟩
  | 37 => ⟨S_, .f32⟩
  | 38 => ⟨S8222x384, .f32⟩
  | 39 => ⟨S8222x384, .f32⟩
  | 40 => ⟨S1x384, .f32⟩
  | 41 => ⟨S_, .f32⟩
  | 42 => ⟨S31x384, .f32⟩
  | 43 => ⟨S31x384, .f32⟩
  | 44 => ⟨S8192x384, .f32⟩
  | 45 => ⟨S8192x384, .f32⟩
  | 46 => ⟨S8192x384, .f32⟩
  | 47 => ⟨S_, .f32⟩
  | 48 => ⟨S384, .f32⟩
  | 49 => ⟨S1x384, .f32⟩
  | 50 => ⟨S_, .f32⟩
  | 51 => ⟨S384, .f32⟩
  | 52 => ⟨S_, .f32⟩
  | 53 => ⟨S8222x384, .f32⟩
  | 54 => ⟨S8222x384, .f32⟩
  | 55 => ⟨S1x384, .f32⟩
  | 56 => ⟨S_, .f32⟩
  | 57 => ⟨S31x384, .f32⟩
  | 58 => ⟨S31x384, .f32⟩
  | 59 => ⟨S8192x384, .f32⟩
  | 60 => ⟨S8192x384, .f32⟩
  | 61 => ⟨S8192x384, .f32⟩
  | 62 => ⟨S_, .f32⟩
  | 63 => ⟨S384, .f32⟩
  | 64 => ⟨S1x384, .f32⟩
  | 65 => ⟨S_, .f32⟩
  | 66 => ⟨S384, .f32⟩
  | 67 => ⟨S_, .f32⟩
  | 68 => ⟨S8222x384, .f32⟩
  | 69 => ⟨S8222x384, .f32⟩
  | 70 => ⟨S1x384, .f32⟩
  | 71 => ⟨S_, .f32⟩
  | 72 => ⟨S31x384, .f32⟩
  | 73 => ⟨S31x384, .f32⟩
  | 74 => ⟨S8192x384, .f32⟩
  | 75 => ⟨S8192x384, .f32⟩
  | 76 => ⟨S8192x384, .f32⟩
  | 77 => ⟨S_, .f32⟩
  | 78 => ⟨S384, .f32⟩
  | 79 => ⟨S1x384, .f32⟩
  | 80 => ⟨S_, .f32⟩
  | 81 => ⟨S384, .f32⟩
  | 82 => ⟨S_, .f32⟩
  | 83 => ⟨S8222x384, .f32⟩
  | 84 => ⟨S8222x384, .f32⟩
  | 85 => ⟨S1x384, .f32⟩
  | 86 => ⟨S_, .f32⟩
  | 87 => ⟨S31x384, .f32⟩
  | 88 => ⟨S31x384, .f32⟩
  | 89 => ⟨S8192x384, .f32⟩
  | 90 => ⟨S8192x384, .f32⟩
  | 91 => ⟨S8192x384, .f32⟩
  | 92 => ⟨S_, .f32⟩
  | 93 => ⟨S384, .f32⟩
  | 94 => ⟨S1x384, .f32⟩
  | 95 => ⟨S_, .f32⟩
  | 96 => ⟨S384, .f32⟩
  | 97 => ⟨S_, .f32⟩
  | 98 => ⟨S8222x384, .f32⟩
  | 99 => ⟨S8222x384, .f32⟩
  | 100 => ⟨S1x384, .f32⟩
  | 101 => ⟨S_, .f32⟩
  | 102 => ⟨S31x384, .f32⟩
  | 103 => ⟨S31x384, .f32⟩
  | 104 => ⟨S8192x384, .f32⟩
  | 105 => ⟨S8192x384, .f32⟩
  | 106 => ⟨S8192x384, .f32⟩
  | 107 => ⟨S_, .f32⟩
  | 108 => ⟨S384, .f32⟩
  | 109 => ⟨S1x384, .f32⟩
  | 110 => ⟨S_, .f32⟩
  | 111 => ⟨S384, .f32⟩
  | 112 => ⟨S_, .f32⟩
  | 113 => ⟨S8222x384, .f32⟩
  | 114 => ⟨S8222x384, .f32⟩
  | 115 => ⟨S1x384, .f32⟩
  | 116 => ⟨S_, .f32⟩
  | 117 => ⟨S31x384, .f32⟩
  | 118 => ⟨S31x384, .f32⟩
  | 119 => ⟨S8192x384, .f32⟩
  | 120 => ⟨S8192x384, .f32⟩
  | 121 => ⟨S8192x384, .f32⟩
  | 122 => ⟨S_, .f32⟩
  | 123 => ⟨S384, .f32⟩
  | 124 => ⟨S1x384, .f32⟩
  | 125 => ⟨S_, .f32⟩
  | 126 => ⟨S384, .f32⟩
  | 127 => ⟨S_, .f32⟩
  | _ => ⟨S8192x768, .f32⟩

abbrev hbmTy0_6 (i : Nat) : BufTy := match i % 128 with
  | 0 => ⟨S8222x384, .f32⟩
  | 1 => ⟨S8222x384, .f32⟩
  | 2 => ⟨S1x384, .f32⟩
  | 3 => ⟨S_, .f32⟩
  | 4 => ⟨S31x384, .f32⟩
  | 5 => ⟨S31x384, .f32⟩
  | 6 => ⟨S8192x384, .f32⟩
  | 7 => ⟨S8192x384, .f32⟩
  | 8 => ⟨S8192x384, .f32⟩
  | 9 => ⟨S_, .f32⟩
  | 10 => ⟨S384, .f32⟩
  | 11 => ⟨S1x384, .f32⟩
  | 12 => ⟨S_, .f32⟩
  | 13 => ⟨S384, .f32⟩
  | 14 => ⟨S_, .f32⟩
  | 15 => ⟨S8222x384, .f32⟩
  | 16 => ⟨S8222x384, .f32⟩
  | 17 => ⟨S1x384, .f32⟩
  | 18 => ⟨S_, .f32⟩
  | 19 => ⟨S31x384, .f32⟩
  | 20 => ⟨S31x384, .f32⟩
  | 21 => ⟨S8192x384, .f32⟩
  | 22 => ⟨S8192x384, .f32⟩
  | 23 => ⟨S8192x384, .f32⟩
  | 24 => ⟨S_, .f32⟩
  | 25 => ⟨S384, .f32⟩
  | 26 => ⟨S1x384, .f32⟩
  | 27 => ⟨S_, .f32⟩
  | 28 => ⟨S384, .f32⟩
  | 29 => ⟨S_, .f32⟩
  | 30 => ⟨S8222x384, .f32⟩
  | 31 => ⟨S8222x384, .f32⟩
  | 32 => ⟨S1x384, .f32⟩
  | 33 => ⟨S_, .f32⟩
  | 34 => ⟨S31x384, .f32⟩
  | 35 => ⟨S31x384, .f32⟩
  | 36 => ⟨S30x384, .f32⟩
  | 37 => ⟨S8192x384, .f32⟩
  | 38 => ⟨S8192x384, .f32⟩
  | 39 => ⟨S8192x384, .f32⟩
  | 40 => ⟨S8192x384, .f32⟩
  | 41 => ⟨S8192x768, .f32⟩
  | _ => ⟨S8192x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_cst_5 : Ref sig .tc := ⟨.hbm, 247, rfl⟩
abbrev main_v235 : Ref sig .tc := ⟨.hbm, 248, rfl⟩
abbrev main_v236 : Ref sig .tc := ⟨.hbm, 249, rfl⟩
abbrev main_cst_6 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_cst_7 : Ref sig .tc := ⟨.hbm, 256, rfl⟩
abbrev main_v242 : Ref sig .tc := ⟨.hbm, 257, rfl⟩
abbrev main_v243 : Ref sig .tc := ⟨.hbm, 258, rfl⟩
abbrev main_cst_8 : Ref sig .tc := ⟨.hbm, 259, rfl⟩
abbrev main_v244 : Ref sig .tc := ⟨.hbm, 260, rfl⟩
abbrev main_v245 : Ref sig .tc := ⟨.hbm, 261, rfl⟩
abbrev main_cst_9 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_cst_10 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_cst_11 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_call0_v0 : Ref sig .tc := ⟨.hbm, 281, rfl⟩
abbrev main_call0_v1 : Ref sig .tc := ⟨.hbm, 282, rfl⟩
abbrev main_call0_cst : Ref sig .tc := ⟨.hbm, 283, rfl⟩
abbrev main_call0_v2 : Ref sig .tc := ⟨.hbm, 284, rfl⟩
abbrev main_call0_v3 : Ref sig .tc := ⟨.hbm, 285, rfl⟩
abbrev main_call0_cst_0 : Ref sig .tc := ⟨.hbm, 286, rfl⟩
abbrev main_call0_v4 : Ref sig .tc := ⟨.hbm, 287, rfl⟩
abbrev main_v262_2 : Ref sig .tc := ⟨.hbm, 288, rfl⟩
abbrev main_call0_cst_1 : Ref sig .tc := ⟨.hbm, 289, rfl⟩
abbrev main_call0_v6 : Ref sig .tc := ⟨.hbm, 290, rfl⟩
abbrev main_call0_v7 : Ref sig .tc := ⟨.hbm, 291, rfl⟩
abbrev main_v262_1 : Ref sig .tc := ⟨.hbm, 292, rfl⟩
abbrev main_v262_0 : Ref sig .tc := ⟨.hbm, 293, rfl⟩
abbrev main_call1_v0 : Ref sig .tc := ⟨.hbm, 294, rfl⟩
abbrev main_call1_v1 : Ref sig .tc := ⟨.hbm, 295, rfl⟩
abbrev main_call1_v2 : Ref sig .tc := ⟨.hbm, 296, rfl⟩
abbrev main_v263 : Ref sig .tc := ⟨.hbm, 297, rfl⟩
abbrev main_cst_12 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_cst_13 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_cst_14 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_cst_15 : Ref sig .tc := ⟨.hbm, 315, rfl⟩
abbrev main_v278 : Ref sig .tc := ⟨.hbm, 316, rfl⟩
abbrev main_v279 : Ref sig .tc := ⟨.hbm, 317, rfl⟩
abbrev main_cst_16 : Ref sig .tc := ⟨.hbm, 318, rfl⟩
abbrev main_v280 : Ref sig .tc := ⟨.hbm, 319, rfl⟩
abbrev main_v281 : Ref sig .tc := ⟨.hbm, 320, rfl⟩
abbrev main_cst_17 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_cst_18 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_cst_19 : Ref sig .tc := ⟨.hbm, 331, rfl⟩
abbrev main_v290 : Ref sig .tc := ⟨.hbm, 332, rfl⟩
abbrev main_v291 : Ref sig .tc := ⟨.hbm, 333, rfl⟩
abbrev main_cst_20 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_cst_21 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_cst_22 : Ref sig .tc := ⟨.hbm, 344, rfl⟩
abbrev main_v300 : Ref sig .tc := ⟨.hbm, 345, rfl⟩
abbrev main_v301 : Ref sig .tc := ⟨.hbm, 346, rfl⟩
abbrev main_cst_23 : Ref sig .tc := ⟨.hbm, 347, rfl⟩
abbrev main_v302 : Ref sig .tc := ⟨.hbm, 348, rfl⟩
abbrev main_cst_24 : Ref sig .tc := ⟨.hbm, 349, rfl⟩
abbrev main_v303 : Ref sig .tc := ⟨.hbm, 350, rfl⟩
abbrev main_v304 : Ref sig .tc := ⟨.hbm, 351, rfl⟩
abbrev main_cst_25 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_cst_26 : Ref sig .tc := ⟨.hbm, 357, rfl⟩
abbrev main_v309 : Ref sig .tc := ⟨.hbm, 358, rfl⟩
abbrev main_v310 : Ref sig .tc := ⟨.hbm, 359, rfl⟩
abbrev main_cst_27 : Ref sig .tc := ⟨.hbm, 360, rfl⟩
abbrev main_v311 : Ref sig .tc := ⟨.hbm, 361, rfl⟩
abbrev main_cst_28 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_cst_29 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_cst_30 : Ref sig .tc := ⟨.hbm, 372, rfl⟩
abbrev main_v320 : Ref sig .tc := ⟨.hbm, 373, rfl⟩
abbrev main_v321 : Ref sig .tc := ⟨.hbm, 374, rfl⟩
abbrev main_cst_31 : Ref sig .tc := ⟨.hbm, 375, rfl⟩
abbrev main_v322 : Ref sig .tc := ⟨.hbm, 376, rfl⟩
abbrev main_cst_32 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_cst_33 : Ref sig .tc := ⟨.hbm, 381, rfl⟩
abbrev main_v326 : Ref sig .tc := ⟨.hbm, 382, rfl⟩
abbrev main_v327 : Ref sig .tc := ⟨.hbm, 383, rfl⟩
abbrev main_v328 : Ref sig .tc := ⟨.hbm, 384, rfl⟩
abbrev main_v329 : Ref sig .tc := ⟨.hbm, 385, rfl⟩
abbrev main_v330 : Ref sig .tc := ⟨.hbm, 386, rfl⟩
abbrev main_cst_34 : Ref sig .tc := ⟨.hbm, 387, rfl⟩
abbrev main_v331 : Ref sig .tc := ⟨.hbm, 388, rfl⟩
abbrev main_v332 : Ref sig .tc := ⟨.hbm, 389, rfl⟩
abbrev main_cst_35 : Ref sig .tc := ⟨.hbm, 390, rfl⟩
abbrev main_v333 : Ref sig .tc := ⟨.hbm, 391, rfl⟩
abbrev main_cst_36 : Ref sig .tc := ⟨.hbm, 392, rfl⟩
abbrev main_v334 : Ref sig .tc := ⟨.hbm, 393, rfl⟩
abbrev main_v335 : Ref sig .tc := ⟨.hbm, 394, rfl⟩
abbrev main_v336 : Ref sig .tc := ⟨.hbm, 395, rfl⟩
abbrev main_cst_37 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_cst_38 : Ref sig .tc := ⟨.hbm, 402, rfl⟩
abbrev main_v342 : Ref sig .tc := ⟨.hbm, 403, rfl⟩
abbrev main_v343 : Ref sig .tc := ⟨.hbm, 404, rfl⟩
abbrev main_cst_39 : Ref sig .tc := ⟨.hbm, 405, rfl⟩
abbrev main_v344 : Ref sig .tc := ⟨.hbm, 406, rfl⟩
abbrev main_cst_40 : Ref sig .tc := ⟨.hbm, 407, rfl⟩
abbrev main_v345 : Ref sig .tc := ⟨.hbm, 408, rfl⟩
abbrev main_v346 : Ref sig .tc := ⟨.hbm, 409, rfl⟩
abbrev main_v347 : Ref sig .tc := ⟨.hbm, 410, rfl⟩
abbrev main_cst_41 : Ref sig .tc := ⟨.hbm, 411, rfl⟩
abbrev main_v348 : Ref sig .tc := ⟨.hbm, 412, rfl⟩
abbrev main_v349 : Ref sig .tc := ⟨.hbm, 413, rfl⟩
abbrev main_v350 : Ref sig .tc := ⟨.hbm, 414, rfl⟩
abbrev main_v351 : Ref sig .tc := ⟨.hbm, 415, rfl⟩
abbrev main_v352 : Ref sig .tc := ⟨.hbm, 416, rfl⟩
abbrev main_cst_42 : Ref sig .tc := ⟨.hbm, 417, rfl⟩
abbrev main_v353 : Ref sig .tc := ⟨.hbm, 418, rfl⟩
abbrev main_v354 : Ref sig .tc := ⟨.hbm, 419, rfl⟩
abbrev main_cst_43 : Ref sig .tc := ⟨.hbm, 420, rfl⟩
abbrev main_v355 : Ref sig .tc := ⟨.hbm, 421, rfl⟩
abbrev main_cst_44 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_cst_45 : Ref sig .tc := ⟨.hbm, 426, rfl⟩
abbrev main_v359 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_cst_46 : Ref sig .tc := ⟨.hbm, 432, rfl⟩
abbrev main_v364 : Ref sig .tc := ⟨.hbm, 433, rfl⟩
abbrev main_v365 : Ref sig .tc := ⟨.hbm, 434, rfl⟩
abbrev main_cst_47 : Ref sig .tc := ⟨.hbm, 435, rfl⟩
abbrev main_v366 : Ref sig .tc := ⟨.hbm, 436, rfl⟩
abbrev main_cst_48 : Ref sig .tc := ⟨.hbm, 437, rfl⟩
abbrev main_v367 : Ref sig .tc := ⟨.hbm, 438, rfl⟩
abbrev main_v368 : Ref sig .tc := ⟨.hbm, 439, rfl⟩
abbrev main_v369 : Ref sig .tc := ⟨.hbm, 440, rfl⟩
abbrev main_cst_49 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_v374 : Ref sig .tc := ⟨.hbm, 446, rfl⟩
abbrev main_cst_50 : Ref sig .tc := ⟨.hbm, 447, rfl⟩
abbrev main_v375 : Ref sig .tc := ⟨.hbm, 448, rfl⟩
abbrev main_v376 : Ref sig .tc := ⟨.hbm, 449, rfl⟩
abbrev main_cst_51 : Ref sig .tc := ⟨.hbm, 450, rfl⟩
abbrev main_v377 : Ref sig .tc := ⟨.hbm, 451, rfl⟩
abbrev main_cst_52 : Ref sig .tc := ⟨.hbm, 452, rfl⟩
abbrev main_v378 : Ref sig .tc := ⟨.hbm, 453, rfl⟩
abbrev main_v379 : Ref sig .tc := ⟨.hbm, 454, rfl⟩
abbrev main_v380 : Ref sig .tc := ⟨.hbm, 455, rfl⟩
abbrev main_cst_53 : Ref sig .tc := ⟨.hbm, 456, rfl⟩
abbrev main_v381 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_cst_54 : Ref sig .tc := ⟨.hbm, 462, rfl⟩
abbrev main_v386 : Ref sig .tc := ⟨.hbm, 463, rfl⟩
abbrev main_v387 : Ref sig .tc := ⟨.hbm, 464, rfl⟩
abbrev main_cst_55 : Ref sig .tc := ⟨.hbm, 465, rfl⟩
abbrev main_v388 : Ref sig .tc := ⟨.hbm, 466, rfl⟩
abbrev main_cst_56 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_cst_57 : Ref sig .tc := ⟨.hbm, 471, rfl⟩
abbrev main_v392 : Ref sig .tc := ⟨.hbm, 472, rfl⟩
abbrev main_v393 : Ref sig .tc := ⟨.hbm, 473, rfl⟩
abbrev main_v394 : Ref sig .tc := ⟨.hbm, 474, rfl⟩
abbrev main_v395 : Ref sig .tc := ⟨.hbm, 475, rfl⟩
abbrev main_v396 : Ref sig .tc := ⟨.hbm, 476, rfl⟩
abbrev main_cst_58 : Ref sig .tc := ⟨.hbm, 477, rfl⟩
abbrev main_v397 : Ref sig .tc := ⟨.hbm, 478, rfl⟩
abbrev main_v398 : Ref sig .tc := ⟨.hbm, 479, rfl⟩
abbrev main_cst_59 : Ref sig .tc := ⟨.hbm, 480, rfl⟩
abbrev main_v399 : Ref sig .tc := ⟨.hbm, 481, rfl⟩
abbrev main_cst_60 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_cst_61 : Ref sig .tc := ⟨.hbm, 486, rfl⟩
abbrev main_v403 : Ref sig .tc := ⟨.hbm, 487, rfl⟩
abbrev main_v404 : Ref sig .tc := ⟨.hbm, 488, rfl⟩
abbrev main_v405 : Ref sig .tc := ⟨.hbm, 489, rfl⟩
abbrev main_v406 : Ref sig .tc := ⟨.hbm, 490, rfl⟩
abbrev main_v407 : Ref sig .tc := ⟨.hbm, 491, rfl⟩
abbrev main_cst_62 : Ref sig .tc := ⟨.hbm, 492, rfl⟩
abbrev main_v408 : Ref sig .tc := ⟨.hbm, 493, rfl⟩
abbrev main_v409 : Ref sig .tc := ⟨.hbm, 494, rfl⟩
abbrev main_cst_63 : Ref sig .tc := ⟨.hbm, 495, rfl⟩
abbrev main_v410 : Ref sig .tc := ⟨.hbm, 496, rfl⟩
abbrev main_cst_64 : Ref sig .tc := ⟨.hbm, 497, rfl⟩
abbrev main_v411 : Ref sig .tc := ⟨.hbm, 498, rfl⟩
abbrev main_v412 : Ref sig .tc := ⟨.hbm, 499, rfl⟩
abbrev main_v413 : Ref sig .tc := ⟨.hbm, 500, rfl⟩
abbrev main_cst_65 : Ref sig .tc := ⟨.hbm, 501, rfl⟩
abbrev main_v414 : Ref sig .tc := ⟨.hbm, 502, rfl⟩
abbrev main_v415 : Ref sig .tc := ⟨.hbm, 503, rfl⟩
abbrev main_v416 : Ref sig .tc := ⟨.hbm, 504, rfl⟩
abbrev main_v417 : Ref sig .tc := ⟨.hbm, 505, rfl⟩
abbrev main_v418 : Ref sig .tc := ⟨.hbm, 506, rfl⟩
abbrev main_cst_66 : Ref sig .tc := ⟨.hbm, 507, rfl⟩
abbrev main_v419 : Ref sig .tc := ⟨.hbm, 508, rfl⟩
abbrev main_v420 : Ref sig .tc := ⟨.hbm, 509, rfl⟩
abbrev main_cst_67 : Ref sig .tc := ⟨.hbm, 510, rfl⟩
abbrev main_v421 : Ref sig .tc := ⟨.hbm, 511, rfl⟩
abbrev main_cst_68 : Ref sig .tc := ⟨.hbm, 512, rfl⟩
abbrev main_v422 : Ref sig .tc := ⟨.hbm, 513, rfl⟩
abbrev main_v423 : Ref sig .tc := ⟨.hbm, 514, rfl⟩
abbrev main_v424 : Ref sig .tc := ⟨.hbm, 515, rfl⟩
abbrev main_cst_69 : Ref sig .tc := ⟨.hbm, 516, rfl⟩
abbrev main_v425 : Ref sig .tc := ⟨.hbm, 517, rfl⟩
abbrev main_v426 : Ref sig .tc := ⟨.hbm, 518, rfl⟩
abbrev main_v427 : Ref sig .tc := ⟨.hbm, 519, rfl⟩
abbrev main_v428 : Ref sig .tc := ⟨.hbm, 520, rfl⟩
abbrev main_v429 : Ref sig .tc := ⟨.hbm, 521, rfl⟩
abbrev main_cst_70 : Ref sig .tc := ⟨.hbm, 522, rfl⟩
abbrev main_v430 : Ref sig .tc := ⟨.hbm, 523, rfl⟩
abbrev main_v431 : Ref sig .tc := ⟨.hbm, 524, rfl⟩
abbrev main_cst_71 : Ref sig .tc := ⟨.hbm, 525, rfl⟩
abbrev main_v432 : Ref sig .tc := ⟨.hbm, 526, rfl⟩
abbrev main_cst_72 : Ref sig .tc := ⟨.hbm, 527, rfl⟩
abbrev main_v433 : Ref sig .tc := ⟨.hbm, 528, rfl⟩
abbrev main_v434 : Ref sig .tc := ⟨.hbm, 529, rfl⟩
abbrev main_v435 : Ref sig .tc := ⟨.hbm, 530, rfl⟩
abbrev main_cst_73 : Ref sig .tc := ⟨.hbm, 531, rfl⟩
abbrev main_v436 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_cst_74 : Ref sig .tc := ⟨.hbm, 537, rfl⟩
abbrev main_v441 : Ref sig .tc := ⟨.hbm, 538, rfl⟩
abbrev main_v442 : Ref sig .tc := ⟨.hbm, 539, rfl⟩
abbrev main_cst_75 : Ref sig .tc := ⟨.hbm, 540, rfl⟩
abbrev main_v443 : Ref sig .tc := ⟨.hbm, 541, rfl⟩
abbrev main_cst_76 : Ref sig .tc := ⟨.hbm, 542, rfl⟩
abbrev main_v444 : Ref sig .tc := ⟨.hbm, 543, rfl⟩
abbrev main_v445 : Ref sig .tc := ⟨.hbm, 544, rfl⟩
abbrev main_v446 : Ref sig .tc := ⟨.hbm, 545, rfl⟩
abbrev main_cst_77 : Ref sig .tc := ⟨.hbm, 546, rfl⟩
abbrev main_v447 : Ref sig .tc := ⟨.hbm, 547, rfl⟩
abbrev main_v448 : Ref sig .tc := ⟨.hbm, 548, rfl⟩
abbrev main_v449 : Ref sig .tc := ⟨.hbm, 549, rfl⟩
abbrev main_v450 : Ref sig .tc := ⟨.hbm, 550, rfl⟩
abbrev main_v451 : Ref sig .tc := ⟨.hbm, 551, rfl⟩
abbrev main_cst_78 : Ref sig .tc := ⟨.hbm, 552, rfl⟩
abbrev main_v452 : Ref sig .tc := ⟨.hbm, 553, rfl⟩
abbrev main_v453 : Ref sig .tc := ⟨.hbm, 554, rfl⟩
abbrev main_cst_79 : Ref sig .tc := ⟨.hbm, 555, rfl⟩
abbrev main_v454 : Ref sig .tc := ⟨.hbm, 556, rfl⟩
abbrev main_cst_80 : Ref sig .tc := ⟨.hbm, 557, rfl⟩
abbrev main_v455 : Ref sig .tc := ⟨.hbm, 558, rfl⟩
abbrev main_v456 : Ref sig .tc := ⟨.hbm, 559, rfl⟩
abbrev main_v457 : Ref sig .tc := ⟨.hbm, 560, rfl⟩
abbrev main_cst_81 : Ref sig .tc := ⟨.hbm, 561, rfl⟩
abbrev main_v458 : Ref sig .tc := ⟨.hbm, 562, rfl⟩
abbrev main_v459 : Ref sig .tc := ⟨.hbm, 563, rfl⟩
abbrev main_v460 : Ref sig .tc := ⟨.hbm, 564, rfl⟩
abbrev main_v461 : Ref sig .tc := ⟨.hbm, 565, rfl⟩
abbrev main_v462 : Ref sig .tc := ⟨.hbm, 566, rfl⟩
abbrev main_cst_82 : Ref sig .tc := ⟨.hbm, 567, rfl⟩
abbrev main_v463 : Ref sig .tc := ⟨.hbm, 568, rfl⟩
abbrev main_v464 : Ref sig .tc := ⟨.hbm, 569, rfl⟩
abbrev main_cst_83 : Ref sig .tc := ⟨.hbm, 570, rfl⟩
abbrev main_v465 : Ref sig .tc := ⟨.hbm, 571, rfl⟩
abbrev main_cst_84 : Ref sig .tc := ⟨.hbm, 572, rfl⟩
abbrev main_v466 : Ref sig .tc := ⟨.hbm, 573, rfl⟩
abbrev main_v467 : Ref sig .tc := ⟨.hbm, 574, rfl⟩
abbrev main_v468 : Ref sig .tc := ⟨.hbm, 575, rfl⟩
abbrev main_cst_85 : Ref sig .tc := ⟨.hbm, 576, rfl⟩
abbrev main_v469 : Ref sig .tc := ⟨.hbm, 577, rfl⟩
abbrev main_v470 : Ref sig .tc := ⟨.hbm, 578, rfl⟩
abbrev main_v471 : Ref sig .tc := ⟨.hbm, 579, rfl⟩
abbrev main_v472 : Ref sig .tc := ⟨.hbm, 580, rfl⟩
abbrev main_v473 : Ref sig .tc := ⟨.hbm, 581, rfl⟩
abbrev main_cst_86 : Ref sig .tc := ⟨.hbm, 582, rfl⟩
abbrev main_v474 : Ref sig .tc := ⟨.hbm, 583, rfl⟩
abbrev main_v475 : Ref sig .tc := ⟨.hbm, 584, rfl⟩
abbrev main_cst_87 : Ref sig .tc := ⟨.hbm, 585, rfl⟩
abbrev main_v476 : Ref sig .tc := ⟨.hbm, 586, rfl⟩
abbrev main_cst_88 : Ref sig .tc := ⟨.hbm, 587, rfl⟩
abbrev main_v477 : Ref sig .tc := ⟨.hbm, 588, rfl⟩
abbrev main_v478 : Ref sig .tc := ⟨.hbm, 589, rfl⟩
abbrev main_v479 : Ref sig .tc := ⟨.hbm, 590, rfl⟩
abbrev main_cst_89 : Ref sig .tc := ⟨.hbm, 591, rfl⟩
abbrev main_v480 : Ref sig .tc := ⟨.hbm, 592, rfl⟩
abbrev main_v481 : Ref sig .tc := ⟨.hbm, 593, rfl⟩
abbrev main_v482 : Ref sig .tc := ⟨.hbm, 594, rfl⟩
abbrev main_v483 : Ref sig .tc := ⟨.hbm, 595, rfl⟩
abbrev main_v484 : Ref sig .tc := ⟨.hbm, 596, rfl⟩
abbrev main_cst_90 : Ref sig .tc := ⟨.hbm, 597, rfl⟩
abbrev main_v485 : Ref sig .tc := ⟨.hbm, 598, rfl⟩
abbrev main_v486 : Ref sig .tc := ⟨.hbm, 599, rfl⟩
abbrev main_cst_91 : Ref sig .tc := ⟨.hbm, 600, rfl⟩
abbrev main_v487 : Ref sig .tc := ⟨.hbm, 601, rfl⟩
abbrev main_cst_92 : Ref sig .tc := ⟨.hbm, 602, rfl⟩
abbrev main_v488 : Ref sig .tc := ⟨.hbm, 603, rfl⟩
abbrev main_v489 : Ref sig .tc := ⟨.hbm, 604, rfl⟩
abbrev main_v490 : Ref sig .tc := ⟨.hbm, 605, rfl⟩
abbrev main_cst_93 : Ref sig .tc := ⟨.hbm, 606, rfl⟩
abbrev main_v491 : Ref sig .tc := ⟨.hbm, 607, rfl⟩
abbrev main_v492 : Ref sig .tc := ⟨.hbm, 608, rfl⟩
abbrev main_v493 : Ref sig .tc := ⟨.hbm, 609, rfl⟩
abbrev main_v494 : Ref sig .tc := ⟨.hbm, 610, rfl⟩
abbrev main_v495 : Ref sig .tc := ⟨.hbm, 611, rfl⟩
abbrev main_cst_94 : Ref sig .tc := ⟨.hbm, 612, rfl⟩
abbrev main_v496 : Ref sig .tc := ⟨.hbm, 613, rfl⟩
abbrev main_v497 : Ref sig .tc := ⟨.hbm, 614, rfl⟩
abbrev main_cst_95 : Ref sig .tc := ⟨.hbm, 615, rfl⟩
abbrev main_v498 : Ref sig .tc := ⟨.hbm, 616, rfl⟩
abbrev main_cst_96 : Ref sig .tc := ⟨.hbm, 617, rfl⟩
abbrev main_v499 : Ref sig .tc := ⟨.hbm, 618, rfl⟩
abbrev main_v500 : Ref sig .tc := ⟨.hbm, 619, rfl⟩
abbrev main_v501 : Ref sig .tc := ⟨.hbm, 620, rfl⟩
abbrev main_cst_97 : Ref sig .tc := ⟨.hbm, 621, rfl⟩
abbrev main_v502 : Ref sig .tc := ⟨.hbm, 622, rfl⟩
abbrev main_v503 : Ref sig .tc := ⟨.hbm, 623, rfl⟩
abbrev main_v504 : Ref sig .tc := ⟨.hbm, 624, rfl⟩
abbrev main_v505 : Ref sig .tc := ⟨.hbm, 625, rfl⟩
abbrev main_v506 : Ref sig .tc := ⟨.hbm, 626, rfl⟩
abbrev main_cst_98 : Ref sig .tc := ⟨.hbm, 627, rfl⟩
abbrev main_v507 : Ref sig .tc := ⟨.hbm, 628, rfl⟩
abbrev main_v508 : Ref sig .tc := ⟨.hbm, 629, rfl⟩
abbrev main_cst_99 : Ref sig .tc := ⟨.hbm, 630, rfl⟩
abbrev main_v509 : Ref sig .tc := ⟨.hbm, 631, rfl⟩
abbrev main_cst_100 : Ref sig .tc := ⟨.hbm, 632, rfl⟩
abbrev main_v510 : Ref sig .tc := ⟨.hbm, 633, rfl⟩
abbrev main_v511 : Ref sig .tc := ⟨.hbm, 634, rfl⟩
abbrev main_v512 : Ref sig .tc := ⟨.hbm, 635, rfl⟩
abbrev main_cst_101 : Ref sig .tc := ⟨.hbm, 636, rfl⟩
abbrev main_v513 : Ref sig .tc := ⟨.hbm, 637, rfl⟩
abbrev main_v514 : Ref sig .tc := ⟨.hbm, 638, rfl⟩
abbrev main_v515 : Ref sig .tc := ⟨.hbm, 639, rfl⟩
abbrev main_v516 : Ref sig .tc := ⟨.hbm, 640, rfl⟩
abbrev main_v517 : Ref sig .tc := ⟨.hbm, 641, rfl⟩
abbrev main_cst_102 : Ref sig .tc := ⟨.hbm, 642, rfl⟩
abbrev main_v518 : Ref sig .tc := ⟨.hbm, 643, rfl⟩
abbrev main_v519 : Ref sig .tc := ⟨.hbm, 644, rfl⟩
abbrev main_cst_103 : Ref sig .tc := ⟨.hbm, 645, rfl⟩
abbrev main_v520 : Ref sig .tc := ⟨.hbm, 646, rfl⟩
abbrev main_cst_104 : Ref sig .tc := ⟨.hbm, 647, rfl⟩
abbrev main_v521 : Ref sig .tc := ⟨.hbm, 648, rfl⟩
abbrev main_v522 : Ref sig .tc := ⟨.hbm, 649, rfl⟩
abbrev main_v523 : Ref sig .tc := ⟨.hbm, 650, rfl⟩
abbrev main_cst_105 : Ref sig .tc := ⟨.hbm, 651, rfl⟩
abbrev main_v524 : Ref sig .tc := ⟨.hbm, 652, rfl⟩
abbrev main_v525 : Ref sig .tc := ⟨.hbm, 653, rfl⟩
abbrev main_v526 : Ref sig .tc := ⟨.hbm, 654, rfl⟩
abbrev main_v527 : Ref sig .tc := ⟨.hbm, 655, rfl⟩
abbrev main_v528 : Ref sig .tc := ⟨.hbm, 656, rfl⟩
abbrev main_cst_106 : Ref sig .tc := ⟨.hbm, 657, rfl⟩
abbrev main_v529 : Ref sig .tc := ⟨.hbm, 658, rfl⟩
abbrev main_v530 : Ref sig .tc := ⟨.hbm, 659, rfl⟩
abbrev main_cst_107 : Ref sig .tc := ⟨.hbm, 660, rfl⟩
abbrev main_v531 : Ref sig .tc := ⟨.hbm, 661, rfl⟩
abbrev main_cst_108 : Ref sig .tc := ⟨.hbm, 662, rfl⟩
abbrev main_v532 : Ref sig .tc := ⟨.hbm, 663, rfl⟩
abbrev main_v533 : Ref sig .tc := ⟨.hbm, 664, rfl⟩
abbrev main_v534 : Ref sig .tc := ⟨.hbm, 665, rfl⟩
abbrev main_cst_109 : Ref sig .tc := ⟨.hbm, 666, rfl⟩
abbrev main_v535 : Ref sig .tc := ⟨.hbm, 667, rfl⟩
abbrev main_v536 : Ref sig .tc := ⟨.hbm, 668, rfl⟩
abbrev main_v537 : Ref sig .tc := ⟨.hbm, 669, rfl⟩
abbrev main_v538 : Ref sig .tc := ⟨.hbm, 670, rfl⟩
abbrev main_v539 : Ref sig .tc := ⟨.hbm, 671, rfl⟩
abbrev main_cst_110 : Ref sig .tc := ⟨.hbm, 672, rfl⟩
abbrev main_v540 : Ref sig .tc := ⟨.hbm, 673, rfl⟩
abbrev main_v541 : Ref sig .tc := ⟨.hbm, 674, rfl⟩
abbrev main_cst_111 : Ref sig .tc := ⟨.hbm, 675, rfl⟩
abbrev main_v542 : Ref sig .tc := ⟨.hbm, 676, rfl⟩
abbrev main_cst_112 : Ref sig .tc := ⟨.hbm, 677, rfl⟩
abbrev main_v543 : Ref sig .tc := ⟨.hbm, 678, rfl⟩
abbrev main_v544 : Ref sig .tc := ⟨.hbm, 679, rfl⟩
abbrev main_v545 : Ref sig .tc := ⟨.hbm, 680, rfl⟩
abbrev main_cst_113 : Ref sig .tc := ⟨.hbm, 681, rfl⟩
abbrev main_v546 : Ref sig .tc := ⟨.hbm, 682, rfl⟩
abbrev main_v547 : Ref sig .tc := ⟨.hbm, 683, rfl⟩
abbrev main_v548 : Ref sig .tc := ⟨.hbm, 684, rfl⟩
abbrev main_v549 : Ref sig .tc := ⟨.hbm, 685, rfl⟩
abbrev main_v550 : Ref sig .tc := ⟨.hbm, 686, rfl⟩
abbrev main_cst_114 : Ref sig .tc := ⟨.hbm, 687, rfl⟩
abbrev main_v551 : Ref sig .tc := ⟨.hbm, 688, rfl⟩
abbrev main_v552 : Ref sig .tc := ⟨.hbm, 689, rfl⟩
abbrev main_cst_115 : Ref sig .tc := ⟨.hbm, 690, rfl⟩
abbrev main_v553 : Ref sig .tc := ⟨.hbm, 691, rfl⟩
abbrev main_cst_116 : Ref sig .tc := ⟨.hbm, 692, rfl⟩
abbrev main_v554 : Ref sig .tc := ⟨.hbm, 693, rfl⟩
abbrev main_v555 : Ref sig .tc := ⟨.hbm, 694, rfl⟩
abbrev main_v556 : Ref sig .tc := ⟨.hbm, 695, rfl⟩
abbrev main_cst_117 : Ref sig .tc := ⟨.hbm, 696, rfl⟩
abbrev main_v557 : Ref sig .tc := ⟨.hbm, 697, rfl⟩
abbrev main_v558 : Ref sig .tc := ⟨.hbm, 698, rfl⟩
abbrev main_v559 : Ref sig .tc := ⟨.hbm, 699, rfl⟩
abbrev main_v560 : Ref sig .tc := ⟨.hbm, 700, rfl⟩
abbrev main_v561 : Ref sig .tc := ⟨.hbm, 701, rfl⟩
abbrev main_cst_118 : Ref sig .tc := ⟨.hbm, 702, rfl⟩
abbrev main_v562 : Ref sig .tc := ⟨.hbm, 703, rfl⟩
abbrev main_v563 : Ref sig .tc := ⟨.hbm, 704, rfl⟩
abbrev main_cst_119 : Ref sig .tc := ⟨.hbm, 705, rfl⟩
abbrev main_v564 : Ref sig .tc := ⟨.hbm, 706, rfl⟩
abbrev main_cst_120 : Ref sig .tc := ⟨.hbm, 707, rfl⟩
abbrev main_v565 : Ref sig .tc := ⟨.hbm, 708, rfl⟩
abbrev main_v566 : Ref sig .tc := ⟨.hbm, 709, rfl⟩
abbrev main_v567 : Ref sig .tc := ⟨.hbm, 710, rfl⟩
abbrev main_cst_121 : Ref sig .tc := ⟨.hbm, 711, rfl⟩
abbrev main_v568 : Ref sig .tc := ⟨.hbm, 712, rfl⟩
abbrev main_v569 : Ref sig .tc := ⟨.hbm, 713, rfl⟩
abbrev main_v570 : Ref sig .tc := ⟨.hbm, 714, rfl⟩
abbrev main_v571 : Ref sig .tc := ⟨.hbm, 715, rfl⟩
abbrev main_v572 : Ref sig .tc := ⟨.hbm, 716, rfl⟩
abbrev main_cst_122 : Ref sig .tc := ⟨.hbm, 717, rfl⟩
abbrev main_v573 : Ref sig .tc := ⟨.hbm, 718, rfl⟩
abbrev main_v574 : Ref sig .tc := ⟨.hbm, 719, rfl⟩
abbrev main_cst_123 : Ref sig .tc := ⟨.hbm, 720, rfl⟩
abbrev main_v575 : Ref sig .tc := ⟨.hbm, 721, rfl⟩
abbrev main_cst_124 : Ref sig .tc := ⟨.hbm, 722, rfl⟩
abbrev main_v576 : Ref sig .tc := ⟨.hbm, 723, rfl⟩
abbrev main_v577 : Ref sig .tc := ⟨.hbm, 724, rfl⟩
abbrev main_v578 : Ref sig .tc := ⟨.hbm, 725, rfl⟩
abbrev main_cst_125 : Ref sig .tc := ⟨.hbm, 726, rfl⟩
abbrev main_v579 : Ref sig .tc := ⟨.hbm, 727, rfl⟩
abbrev main_v580 : Ref sig .tc := ⟨.hbm, 728, rfl⟩
abbrev main_v581 : Ref sig .tc := ⟨.hbm, 729, rfl⟩
abbrev main_v582 : Ref sig .tc := ⟨.hbm, 730, rfl⟩
abbrev main_v583 : Ref sig .tc := ⟨.hbm, 731, rfl⟩
abbrev main_cst_126 : Ref sig .tc := ⟨.hbm, 732, rfl⟩
abbrev main_v584 : Ref sig .tc := ⟨.hbm, 733, rfl⟩
abbrev main_v585 : Ref sig .tc := ⟨.hbm, 734, rfl⟩
abbrev main_cst_127 : Ref sig .tc := ⟨.hbm, 735, rfl⟩
abbrev main_v586 : Ref sig .tc := ⟨.hbm, 736, rfl⟩
abbrev main_cst_128 : Ref sig .tc := ⟨.hbm, 737, rfl⟩
abbrev main_v587 : Ref sig .tc := ⟨.hbm, 738, rfl⟩
abbrev main_v588 : Ref sig .tc := ⟨.hbm, 739, rfl⟩
abbrev main_v589 : Ref sig .tc := ⟨.hbm, 740, rfl⟩
abbrev main_cst_129 : Ref sig .tc := ⟨.hbm, 741, rfl⟩
abbrev main_v590 : Ref sig .tc := ⟨.hbm, 742, rfl⟩
abbrev main_v591 : Ref sig .tc := ⟨.hbm, 743, rfl⟩
abbrev main_v592 : Ref sig .tc := ⟨.hbm, 744, rfl⟩
abbrev main_v593 : Ref sig .tc := ⟨.hbm, 745, rfl⟩
abbrev main_v594 : Ref sig .tc := ⟨.hbm, 746, rfl⟩
abbrev main_cst_130 : Ref sig .tc := ⟨.hbm, 747, rfl⟩
abbrev main_v595 : Ref sig .tc := ⟨.hbm, 748, rfl⟩
abbrev main_v596 : Ref sig .tc := ⟨.hbm, 749, rfl⟩
abbrev main_cst_131 : Ref sig .tc := ⟨.hbm, 750, rfl⟩
abbrev main_v597 : Ref sig .tc := ⟨.hbm, 751, rfl⟩
abbrev main_cst_132 : Ref sig .tc := ⟨.hbm, 752, rfl⟩
abbrev main_v598 : Ref sig .tc := ⟨.hbm, 753, rfl⟩
abbrev main_v599 : Ref sig .tc := ⟨.hbm, 754, rfl⟩
abbrev main_v600 : Ref sig .tc := ⟨.hbm, 755, rfl⟩
abbrev main_cst_133 : Ref sig .tc := ⟨.hbm, 756, rfl⟩
abbrev main_v601 : Ref sig .tc := ⟨.hbm, 757, rfl⟩
abbrev main_v602 : Ref sig .tc := ⟨.hbm, 758, rfl⟩
abbrev main_v603 : Ref sig .tc := ⟨.hbm, 759, rfl⟩
abbrev main_v604 : Ref sig .tc := ⟨.hbm, 760, rfl⟩
abbrev main_v605 : Ref sig .tc := ⟨.hbm, 761, rfl⟩
abbrev main_cst_134 : Ref sig .tc := ⟨.hbm, 762, rfl⟩
abbrev main_v606 : Ref sig .tc := ⟨.hbm, 763, rfl⟩
abbrev main_v607 : Ref sig .tc := ⟨.hbm, 764, rfl⟩
abbrev main_cst_135 : Ref sig .tc := ⟨.hbm, 765, rfl⟩
abbrev main_v608 : Ref sig .tc := ⟨.hbm, 766, rfl⟩
abbrev main_cst_136 : Ref sig .tc := ⟨.hbm, 767, rfl⟩
abbrev main_v609 : Ref sig .tc := ⟨.hbm, 768, rfl⟩
abbrev main_v610 : Ref sig .tc := ⟨.hbm, 769, rfl⟩
abbrev main_v611 : Ref sig .tc := ⟨.hbm, 770, rfl⟩
abbrev main_cst_137 : Ref sig .tc := ⟨.hbm, 771, rfl⟩
abbrev main_v612 : Ref sig .tc := ⟨.hbm, 772, rfl⟩
abbrev main_v613 : Ref sig .tc := ⟨.hbm, 773, rfl⟩
abbrev main_v614 : Ref sig .tc := ⟨.hbm, 774, rfl⟩
abbrev main_v615 : Ref sig .tc := ⟨.hbm, 775, rfl⟩
abbrev main_v616 : Ref sig .tc := ⟨.hbm, 776, rfl⟩
abbrev main_cst_138 : Ref sig .tc := ⟨.hbm, 777, rfl⟩
abbrev main_v617 : Ref sig .tc := ⟨.hbm, 778, rfl⟩
abbrev main_v618 : Ref sig .tc := ⟨.hbm, 779, rfl⟩
abbrev main_cst_139 : Ref sig .tc := ⟨.hbm, 780, rfl⟩
abbrev main_v619 : Ref sig .tc := ⟨.hbm, 781, rfl⟩
abbrev main_cst_140 : Ref sig .tc := ⟨.hbm, 782, rfl⟩
abbrev main_v620 : Ref sig .tc := ⟨.hbm, 783, rfl⟩
abbrev main_v621 : Ref sig .tc := ⟨.hbm, 784, rfl⟩
abbrev main_v622 : Ref sig .tc := ⟨.hbm, 785, rfl⟩
abbrev main_cst_141 : Ref sig .tc := ⟨.hbm, 786, rfl⟩
abbrev main_v623 : Ref sig .tc := ⟨.hbm, 787, rfl⟩
abbrev main_v624 : Ref sig .tc := ⟨.hbm, 788, rfl⟩
abbrev main_v625 : Ref sig .tc := ⟨.hbm, 789, rfl⟩
abbrev main_v626 : Ref sig .tc := ⟨.hbm, 790, rfl⟩
abbrev main_v627 : Ref sig .tc := ⟨.hbm, 791, rfl⟩
abbrev main_cst_142 : Ref sig .tc := ⟨.hbm, 792, rfl⟩
abbrev main_v628 : Ref sig .tc := ⟨.hbm, 793, rfl⟩
abbrev main_v629 : Ref sig .tc := ⟨.hbm, 794, rfl⟩
abbrev main_cst_143 : Ref sig .tc := ⟨.hbm, 795, rfl⟩
abbrev main_v630 : Ref sig .tc := ⟨.hbm, 796, rfl⟩
abbrev main_cst_144 : Ref sig .tc := ⟨.hbm, 797, rfl⟩
abbrev main_v631 : Ref sig .tc := ⟨.hbm, 798, rfl⟩
abbrev main_v632 : Ref sig .tc := ⟨.hbm, 799, rfl⟩
abbrev main_v633 : Ref sig .tc := ⟨.hbm, 800, rfl⟩
abbrev main_cst_145 : Ref sig .tc := ⟨.hbm, 801, rfl⟩
abbrev main_v634 : Ref sig .tc := ⟨.hbm, 802, rfl⟩
abbrev main_v635 : Ref sig .tc := ⟨.hbm, 803, rfl⟩
abbrev main_v636 : Ref sig .tc := ⟨.hbm, 804, rfl⟩
abbrev main_v637 : Ref sig .tc := ⟨.hbm, 805, rfl⟩
abbrev main_v638 : Ref sig .tc := ⟨.hbm, 806, rfl⟩
abbrev main_v639 : Ref sig .tc := ⟨.hbm, 807, rfl⟩
abbrev main_v640 : Ref sig .tc := ⟨.hbm, 808, rfl⟩
abbrev main_v641 : Ref sig .tc := ⟨.hbm, 809, rfl⟩

abbrev nD : Nat := 1
abbrev τ : Topo := Topo.v7x

variable {F : FTy → Type} [FloatOps F]
-- ==== MemFwd.lean ====
abbrev S8192x256 : Shape := ⟨2, ![8192, 256]⟩
abbrev S256x512 : Shape := ⟨2, ![256, 512]⟩
abbrev S1x64 : Shape := ⟨2, ![1, 64]⟩
abbrev S256x256 : Shape := ⟨2, ![256, 256]⟩
abbrev S256x4x64 : Shape := ⟨3, ![256, 4, 64]⟩
abbrev S4x256x64 : Shape := ⟨3, ![4, 256, 64]⟩
abbrev S8192x4x64 : Shape := ⟨3, ![8192, 4, 64]⟩
abbrev S4x8192x64 : Shape := ⟨3, ![4, 8192, 64]⟩
abbrev S4x512x64 : Shape := ⟨3, ![4, 512, 64]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S512x256 : Shape := ⟨2, ![512, 256]⟩

abbrev nBuf : Space → Nat
  | .hbm => 15
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S256x512, .f32⟩
  | .hbm, ⟨2, _⟩ => ⟨S1x64, .f32⟩
  | .hbm, ⟨3, _⟩ => ⟨S1x64, .f32⟩
  | .hbm, ⟨4, _⟩ => ⟨S256x256, .f32⟩
  | .hbm, ⟨5, _⟩ => ⟨S256x4x64, .f32⟩
  | .hbm, ⟨6, _⟩ => ⟨S4x256x64, .f32⟩
  | .hbm, ⟨7, _⟩ => ⟨S256x256, .f32⟩
  | .hbm, ⟨8, _⟩ => ⟨S256x4x64, .f32⟩
  | .hbm, ⟨9, _⟩ => ⟨S4x256x64, .f32⟩
  | .hbm, ⟨10, _⟩ => ⟨S8192x4x64, .f32⟩
  | .hbm, ⟨11, _⟩ => ⟨S4x8192x64, .f32⟩
  | .hbm, ⟨12, _⟩ => ⟨S4x8192x64, .f32⟩
  | .hbm, ⟨13, _⟩ => ⟨S8192x4x64, .f32⟩
  | .hbm, ⟨14, _⟩ => ⟨S8192x256, .f32⟩
  | .local _ .vmem, ⟨0, _⟩ => ⟨S4x512x64, .f32⟩
  | .local _ .vmem, ⟨1, _⟩ => ⟨S4x512x64, .f32⟩
  | .local _ .vmem, ⟨2, _⟩ => ⟨S4x256x64, .f32⟩
  | .local _ .vmem, ⟨3, _⟩ => ⟨S4x256x64, .f32⟩
  | .local _ .vmem, ⟨4, _⟩ => ⟨S1x64, .f32⟩
  | .local _ .vmem, ⟨5, _⟩ => ⟨S1x64, .f32⟩
  | .local _ .vmem, ⟨6, _⟩ => ⟨S4x512x64, .f32⟩
  | .local _ .vmem, ⟨7, _⟩ => ⟨S4x512x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemFwdReferenceIdeal.lean ====
abbrev S8192x256 : Shape := ⟨2, ![8192, 256]⟩
abbrev S256x512 : Shape := ⟨2, ![256, 512]⟩
abbrev S1x64 : Shape := ⟨2, ![1, 64]⟩
abbrev S256x256 : Shape := ⟨2, ![256, 256]⟩
abbrev S8192x4x64 : Shape := ⟨3, ![8192, 4, 64]⟩
abbrev S_ : Shape := ⟨0, ![]⟩
abbrev S8192x4 : Shape := ⟨2, ![8192, 4]⟩
abbrev S8192x4x1 : Shape := ⟨3, ![8192, 4, 1]⟩
abbrev S1x1x64 : Shape := ⟨3, ![1, 1, 64]⟩
abbrev S256x4x64 : Shape := ⟨3, ![256, 4, 64]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x512, .f32⟩
  | .hbm, ⟨2, _⟩ => ⟨S1x64, .f32⟩
  | .hbm, ⟨3, _⟩ => ⟨S1x64, .f32⟩
  | .hbm, ⟨4, _⟩ => ⟨S256x256, .f32⟩
  | .hbm, ⟨5, _⟩ => ⟨S256x256, .f32⟩
  | .hbm, ⟨6, _⟩ => ⟨S8192x4x64, .f32⟩
  | .hbm, ⟨7, _⟩ => ⟨S8192x4x64, .f32⟩
  | .hbm, ⟨8, _⟩ => ⟨S_, .f32⟩
  | .hbm, ⟨9, _⟩ => ⟨S8192x4, .f32⟩
  | .hbm, ⟨10, _⟩ => ⟨S8192x4x1, .f32⟩
  | .hbm, ⟨11, _⟩ => ⟨S_, .f32⟩
  | .hbm, ⟨12, _⟩ => ⟨S8192x4x1, .f32⟩
  | .hbm, ⟨13, _⟩ => ⟨S8192x4x1, .f32⟩
  | .hbm, ⟨14, _⟩ => ⟨S_, .f32⟩
  | .hbm, ⟨15, _⟩ => ⟨S8192x4x1, .f32⟩
  | .hbm, ⟨16, _⟩ => ⟨S8192x4x1, .f32⟩
  | .hbm, ⟨17, _⟩ => ⟨S8192x4x1, .f32⟩
  | .hbm, ⟨18, _⟩ => ⟨S8192x4x64, .f32⟩
  | .hbm, ⟨19, _⟩ => ⟨S8192x4x64, .f32⟩
  | .hbm, ⟨20, _⟩ => ⟨S1x1x64, .f32⟩
  | .hbm, ⟨21, _⟩ => ⟨S8192x4x64, .f32⟩
  | .hbm, ⟨22, _⟩ => ⟨S8192x4x64, .f32⟩
  | .hbm, ⟨23, _⟩ => ⟨S256x4x64, .f32⟩
  | .hbm, ⟨24, _⟩ => ⟨S256x4x64, .f32⟩
  | .hbm, ⟨25, _⟩ => ⟨S_, .f32⟩
  | .hbm, ⟨26, _⟩ => ⟨S256x4, .f32⟩
  | .hbm, ⟨27, _⟩ => ⟨S256x4x1, .f32⟩
  | .hbm, ⟨28, _⟩ => ⟨S_, .f32⟩
  | .hbm, ⟨29, _⟩ => ⟨S256x4x1, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S256x4x1, .f32⟩
  | .hbm, ⟨35, _⟩ => ⟨S256x4x64, .f32⟩
  | .hbm, ⟨36, _⟩ => ⟨S256x4x64, .f32⟩
  | .hbm, ⟨37, _⟩ => ⟨S1x1x64, .f32⟩
  | .hbm, ⟨38, _⟩ => ⟨S256x4x64, .f32⟩
  | .hbm, ⟨39, _⟩ => ⟨S256x4x64, .f32⟩
  | .hbm, ⟨40, _⟩ => ⟨S256x4x64, .f32⟩
  | .hbm, ⟨41, _⟩ => ⟨S4x8192x256, .f32⟩
  | .hbm, ⟨42, _⟩ => ⟨S_, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S_, .f32⟩
  | .hbm, ⟨48, _⟩ => ⟨S4x8192, .f32⟩
  | .hbm, ⟨49, _⟩ => ⟨S4x8192, .f32⟩
  | .hbm, ⟨50, _⟩ => ⟨S4x8192x1, .f32⟩
  | .hbm, ⟨51, _⟩ => ⟨S4x8192x256, .f32⟩
  | .hbm, ⟨52, _⟩ => ⟨S4x8192x256, .f32⟩
  | .hbm, ⟨53, _⟩ => ⟨S4x8192x256, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S4x8192x256, .f32⟩
  | .hbm, ⟨58, _⟩ => ⟨S4x8192x256, .f32⟩
  | .hbm, ⟨59, _⟩ => ⟨S4x64x8192, .f32⟩
  | .hbm, ⟨60, _⟩ => ⟨S8192x4x64, .f32⟩
  | .hbm, ⟨61, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== SwaFwd.lean ====
abbrev S8192x384 : Shape := ⟨2, ![8192, 384]⟩
abbrev S8192x128 : Shape := ⟨2, ![8192, 128]⟩
abbrev S8192x1 : Shape := ⟨2, ![8192, 1]⟩
abbrev S1x64 : Shape := ⟨2, ![1, 64]⟩
abbrev S1x6 : Shape := ⟨2, ![1, 6]⟩
abbrev S32 : Shape := ⟨1, ![32]⟩
abbrev S_ : Shape := ⟨0, ![]⟩
abbrev S64 : Shape := ⟨1, ![64]⟩
abbrev S8192x64 : Shape := ⟨2, ![8192, 64]⟩
abbrev S8192x6x64 : Shape := ⟨3, ![8192, 6, 64]⟩
abbrev S6x8192x64 : Shape := ⟨3, ![6, 8192, 64]⟩
abbrev S8192x2x64 : Shape := ⟨3, ![8192, 2, 64]⟩
abbrev S2x8192x64 : Shape := ⟨3, ![2, 8192, 64]⟩
abbrev S1x128 : Shape := ⟨2, ![1, 128]⟩
abbrev S6x512x64 : Shape := ⟨3, ![6, 512, 64]⟩
abbrev S2x128x64 : Shape := ⟨3, ![2, 128, 64]⟩
abbrev S2x512x64 : Shape := ⟨3, ![2, 512, 64]⟩
abbrev S128x64 : Shape := ⟨2, ![128, 64]⟩
abbrev S512x64 : Shape := ⟨2, ![512, 64]⟩
abbrev S640x64 : Shape := ⟨2, ![640, 64]⟩
abbrev S384x256 : Shape := ⟨2, ![384, 256]⟩
abbrev S384x128 : Shape := ⟨2, ![384, 128]⟩
abbrev S1x512x64 : Shape := ⟨3, ![1, 512, 64]⟩
abbrev S512 : Shape := ⟨1, ![512]⟩
abbrev S512x1 : Shape := ⟨2, ![512, 1]⟩
abbrev S512x32 : Shape := ⟨2, ![512, 32]⟩
abbrev S1x128x64 : Shape := ⟨3, ![1, 128, 64]⟩
abbrev S640 : Shape := ⟨1, ![640]⟩
abbrev S640x1 : Shape := ⟨2, ![640, 1]⟩
abbrev S640x32 : Shape := ⟨2, ![640, 32]⟩
abbrev S384 : Shape := ⟨1, ![384]⟩
abbrev S384x1 : Shape := ⟨2, ![384, 1]⟩
abbrev S256x64 : Shape := ⟨2, ![256, 64]⟩
abbrev S384x64 : Shape := ⟨2, ![384, 64]⟩

abbrev nBuf : Space → Nat
  | .hbm => 50
  | .vmem => 23
  | .smem => 0
  | _ => 0

abbrev bufTy : (tb : Table) → Fin (tcTables nBuf tb) → BufTy
  | .hbm, ⟨0, _⟩ => ⟨S8192x384, .f32⟩
  | .hbm, ⟨1, _⟩ => ⟨S8192x128, .f32⟩
  | .hbm, ⟨2, _⟩ => ⟨S8192x128, .f32⟩
  | .hbm, ⟨3, _⟩ => ⟨S8192x1, .i32⟩
  | .hbm, ⟨4, _⟩ => ⟨S1x64, .f32⟩
  | .hbm, ⟨5, _⟩ => ⟨S1x64, .f32⟩
  | .hbm, ⟨6, _⟩ => ⟨S1x6, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S8192x1, .f32⟩
  | .hbm, ⟨22, _⟩ => ⟨S64, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S64, .i32⟩
  | .hbm, ⟨29, _⟩ => ⟨S1x64, .i32⟩
  | .hbm, ⟨30, _⟩ => ⟨S_, .i32⟩
  | .hbm, ⟨31, _⟩ => ⟨S1x64, .i32⟩
  | .hbm, ⟨32, _⟩ => ⟨S1x64, .i1⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .i1⟩
  | .hbm, ⟨37, _⟩ => ⟨S8192x64, .f32⟩
  | .hbm, ⟨38, _⟩ => ⟨S8192x6x64, .f32⟩
  | .hbm, ⟨39, _⟩ => ⟨S6x8192x64, .f32⟩
  | .hbm, ⟨40, _⟩ => ⟨S8192x2x64, .f32⟩
  | .hbm, ⟨41, _⟩ => ⟨S2x8192x64, .f32⟩
  | .hbm, ⟨42, _⟩ => ⟨S8192x2x64, .f32⟩
  | .hbm, ⟨43, _⟩ => ⟨S2x8192x64, .f32⟩
  | .hbm, ⟨44, _⟩ => ⟨S_, .i32⟩
  | .hbm, ⟨45, _⟩ => ⟨S_, .f32⟩
  | .hbm, ⟨46, _⟩ => ⟨S1x128, .f32⟩
  | .hbm, ⟨47, _⟩ => ⟨S6x8192x64, .f32⟩
  | .hbm, ⟨48, _⟩ => ⟨S8192x6x64, .f32⟩
  | .hbm, ⟨49, _⟩ => ⟨S8192x384, .f32⟩
  | .local _ .vmem, ⟨0, _⟩ => ⟨S6x512x64, .f32⟩
  | .local _ .vmem, ⟨1, _⟩ => ⟨S6x512x64, .f32⟩
  | .local _ .vmem, ⟨2, _⟩ => ⟨S2x128x64, .f32⟩
  | .local _ .vmem, ⟨3, _⟩ => ⟨S2x128x64, .f32⟩
  | .local _ .vmem, ⟨4, _⟩ => ⟨S2x512x64, .f32⟩
  | .local _ .vmem, ⟨5, _⟩ => ⟨S2x512x64, .f32⟩
  | .local _ .vmem, ⟨6, _⟩ => ⟨S2x128x64, .f32⟩
  | .local _ .vmem, ⟨7, _⟩ => ⟨S2x128x64, .f32⟩
  | .local _ .vmem, ⟨8, _⟩ => ⟨S2x512x64, .f32⟩
  | .local _ .vmem, ⟨9, _⟩ => ⟨S2x512x64, .f32⟩
  | .local _ .vmem, ⟨10, _⟩ => ⟨S128x64, .f32⟩
  | .local _ .vmem, ⟨11, _⟩ => ⟨S128x64, .f32⟩
  | .local _ .vmem, ⟨12, _⟩ => ⟨S512x64, .f32⟩
  | .local _ .vmem, ⟨13, _⟩ => ⟨S512x64, .f32⟩
  | .local _ .vmem, ⟨14, _⟩ => ⟨S128x64, .f32⟩
  | .local _ .vmem, ⟨15, _⟩ => ⟨S128x64, .f32⟩
  | .local _ .vmem, ⟨16, _⟩ => ⟨S512x64, .f32⟩
  | .local _ .vmem, ⟨17, _⟩ => ⟨S512x64, .f32⟩
  | .local _ .vmem, ⟨18, _⟩ => ⟨S1x64, .f32⟩
  | .local _ .vmem, ⟨19, _⟩ => ⟨S1x64, .f32⟩
  | .local _ .vmem, ⟨20, _⟩ => ⟨S1x128, .f32⟩
  | .local _ .vmem, ⟨21, _⟩ => ⟨S6x512x64, .f32⟩
  | .local _ .vmem, ⟨22, _⟩ => ⟨S6x512x64, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S6x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S6x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SwaFwdIdeal.lean ====
variable {F : FTy → Type} [FloatOps F] [Named F]
def κ : String → Option EReal := fun
  | "mask" => some ⊥
  | _ => none
-- ==== SwaFwdReferenceIdeal.lean ====
abbrev S8192x384 : Shape := ⟨2, ![8192, 384]⟩
abbrev S8192x128 : Shape := ⟨2, ![8192, 128]⟩
abbrev S8192x1 : Shape := ⟨2, ![8192, 1]⟩
abbrev S1x64 : Shape := ⟨2, ![1, 64]⟩
abbrev S1x6 : Shape := ⟨2, ![1, 6]⟩
abbrev S32 : Shape := ⟨1, ![32]⟩
abbrev S_ : Shape := ⟨0, ![]⟩
abbrev S1x32 : Shape := ⟨2, ![1, 32]⟩
abbrev S8192x32 : Shape := ⟨2, ![8192, 32]⟩
abbrev S8192x1x32 : Shape := ⟨3, ![8192, 1, 32]⟩
abbrev S8192x6x64 : Shape := ⟨3, ![8192, 6, 64]⟩
abbrev S8192x6 : Shape := ⟨2, ![8192, 6]⟩
abbrev S8192x6x1 : Shape := ⟨3, ![8192, 6, 1]⟩
abbrev S1x1x64 : Shape := ⟨3, ![1, 1, 64]⟩
abbrev S8192x6x32 : Shape := ⟨3, ![8192, 6, 32]⟩
abbrev S64x128x2x3x64 : Shape := ⟨5, ![64, 128, 2, 3, 64]⟩
abbrev S8192x2x64 : Shape := ⟨3, ![8192, 2, 64]⟩
abbrev S8192x2 : Shape := ⟨2, ![8192, 2]⟩
abbrev S8192x2x1 : Shape := ⟨3, ![8192, 2, 1]⟩
abbrev S8192x2x32 : Shape := ⟨3, ![8192, 2, 32]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S64x2x256x128x3 : Shape := ⟨5, ![64, 2, 256, 128, 3]⟩
abbrev S64x2x3x128x256 : Shape := ⟨5, ![64, 2, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x3 : Shape := ⟨2, ![2, 3]⟩
abbrev S1x2x3x1x1 : Shape := ⟨5, ![1, 2, 3, 1, 1]⟩
abbrev S64x2x3x128x1 : Shape := ⟨5, ![64, 2, 3, 128, 1]⟩
abbrev S64x2x3x128x257 : Shape := ⟨5, ![64, 2, 3, 128, 257]⟩
abbrev S64x2x3x128 : Shape := ⟨4, ![64, 2, 3, 128]⟩
abbrev S64x2x64x3x128 : Shape := ⟨5, ![64, 2, 64, 3, 128]⟩

abbrev nBuf : Space → Nat
  | .hbm => 172
  | .vmem => 0
  | .smem => 0
  | _ => 0

abbrev hbmTy0_0 (i : Nat) : BufTy := match i % 128 with
  | 0 => ⟨S8192x384, .f32⟩
  | 1 => ⟨S8192x128, .f32⟩
  | 2 => ⟨S8192x128, .f32⟩
  | 3 => ⟨S8192x1, .i32⟩
  | 4 => ⟨S1x64, .f32⟩
  | 5 => ⟨S1x64, .f32⟩
  | 6 => ⟨S1x6, .f32⟩
  | 7 => ⟨S8192x1, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S1x32, .f32⟩
  | 23 => ⟨S8192x32, .f32⟩
  | 24 => ⟨S8192x32, .f32⟩
  | 25 => ⟨S8192x32, .f32⟩
  | 26 => ⟨S8192x32, .f32⟩
  | 27 => ⟨S8192x1x32, .f32⟩
  | 28 => ⟨S8192x32, .f32⟩
  | 29 => ⟨S8192x1x32, .f32⟩
  | 30 => ⟨S8192x6x64, .f32⟩
  | 31 => ⟨S8192x6x64, .f32⟩
  | 32 => ⟨S_, .f32⟩
  | 33 => ⟨S8192x6, .f32⟩
  | 34 => ⟨S8192x6x1, .f32⟩
  | 35 => ⟨S_, .f32⟩
  | 36 => ⟨S8192x6x1, .f32⟩
  | 37 => ⟨S8192x6x1, .f32⟩
  | 38 => ⟨S_, .f32⟩
  | 39 => ⟨S8192x6x1, .f32⟩
  | 40 => ⟨S8192x6x1, .f32⟩
  | 41 => ⟨S8192x6x1, .f32⟩
  | 42 => ⟨S8192x6x64, .f32⟩
  | 43 => ⟨S8192x6x64, .f32⟩
  | 44 => ⟨S1x1x64, .f32⟩
  | 45 => ⟨S8192x6x64, .f32⟩
  | 46 => ⟨S8192x6x64, .f32⟩
  | 47 => ⟨S8192x6x32, .f32⟩
  | 48 => ⟨S8192x6x32, .f32⟩
  | 49 => ⟨S8192x6x32, .f32⟩
  | 50 => ⟨S8192x6x32, .f32⟩
  | 51 => ⟨S8192x6x32, .f32⟩
  | 52 => ⟨S8192x6x32, .f32⟩
  | 53 => ⟨S8192x6x32, .f32⟩
  | 54 => ⟨S8192x6x32, .f32⟩
  | 55 => ⟨S8192x6x32, .f32⟩
  | 56 => ⟨S8192x6x32, .f32⟩
  | 57 => ⟨S8192x6x32, .f32⟩
  | 58 => ⟨S8192x6x32, .f32⟩
  | 59 => ⟨S8192x6x64, .f32⟩
  | 60 => ⟨S64x128x2x3x64, .f32⟩
  | 61 => ⟨S8192x2x64, .f32⟩
  | 62 => ⟨S8192x2x64, .f32⟩
  | 63 => ⟨S_, .f32⟩
  | 64 => ⟨S8192x2, .f32⟩
  | 65 => ⟨S8192x2x1, .f32⟩
  | 66 => ⟨S_, .f32⟩
  | 67 => ⟨S8192x2x1, .f32⟩
  | 68 => ⟨S8192x2x1, .f32⟩
  | 69 => ⟨S_, .f32⟩
  | 70 => ⟨S8192x2x1, .f32⟩
  | 71 => ⟨S8192x2x1, .f32⟩
  | 72 => ⟨S8192x2x1, .f32⟩
  | 73 => ⟨S8192x2x64, .f32⟩
  | 74 => ⟨S8192x2x64, .f32⟩
  | 75 => ⟨S1x1x64, .f32⟩
  | 76 => ⟨S8192x2x64, .f32⟩
  | 77 => ⟨S8192x2x64, .f32⟩
  | 78 => ⟨S8192x2x32, .f32⟩
  | 79 => ⟨S8192x2x32, .f32⟩
  | 80 => ⟨S8192x2x32, .f32⟩
  | 81 => ⟨S8192x2x32, .f32⟩
  | 82 => ⟨S8192x2x32, .f32⟩
  | 83 => ⟨S8192x2x32, .f32⟩
  | 84 => ⟨S8192x2x32, .f32⟩
  | 85 => ⟨S8192x2x32, .f32⟩
  | 86 => ⟨S8192x2x32, .f32⟩
  | 87 => ⟨S8192x2x32, .f32⟩
  | 88 => ⟨S8192x2x32, .f32⟩
  | 89 => ⟨S8192x2x32, .f32⟩
  | 90 => ⟨S8192x2x64, .f32⟩
  | 91 => ⟨S64x128x2x64, .f32⟩
  | 92 => ⟨S64x128x2x64, .f32⟩
  | 93 => ⟨S1x128x2x64, .f32⟩
  | 94 => ⟨S_, .f32⟩
  | 95 => ⟨S1x128x2x64, .f32⟩
  | 96 => ⟨S63x128x2x64, .f32⟩
  | 97 => ⟨S64x128x2x64, .f32⟩
  | 98 => ⟨S64x256x2x64, .f32⟩
  | 99 => ⟨S64x2x256x128x3, .f32⟩
  | 100 => ⟨S64x2x3x128x256, .f32⟩
  | 101 => ⟨S_, .f32⟩
  | 102 => ⟨S64x2x3x128x256, .f32⟩
  | 103 => ⟨S64x2x3x128x256, .f32⟩
  | 104 => ⟨S128, .i32⟩
  | 105 => ⟨S128x1, .i32⟩
  | 106 => ⟨S_, .i32⟩
  | 107 => ⟨S128x1, .i32⟩
  | 108 => ⟨S128x1, .i32⟩
  | 109 => ⟨S256, .i32⟩
  | 110 => ⟨S1x256, .i32⟩
  | 111 => ⟨S128x256, .i32⟩
  | 112 => ⟨S128x256, .i32⟩
  | 113 => ⟨S128x256, .i32⟩
  | 114 => ⟨S64, .i32⟩
  | 115 => ⟨S64x1x1, .i32⟩
  | 116 => ⟨S_, .i32⟩
  | 117 => ⟨S64x1x1, .i32⟩
  | 118 => ⟨S64x1x1, .i1⟩
  | 119 => ⟨S256, .i32⟩
  | 120 => ⟨S1x1x256, .i32⟩
  | 121 => ⟨S_, .i32⟩
  | 122 => ⟨S1x1x256, .i32⟩
  | 123 => ⟨S1x1x256, .i1⟩
  | 124 => ⟨S64x1x256, .i1⟩
  | 125 => ⟨S64x1x256, .i1⟩
  | 126 => ⟨S64x1x256, .i1⟩
  | 127 => ⟨S_, .i32⟩
  | _ => ⟨S8192x384, .f32⟩

abbrev hbmTy0_1 (i : Nat) : BufTy := match i % 128 with
  | 0 => ⟨S128x256, .i32⟩
  | 1 => ⟨S128x256, .i1⟩
  | 2 => ⟨S_, .i32⟩
  | 3 => ⟨S128x256, .i32⟩
  | 4 => ⟨S128x256, .i1⟩
  | 5 => ⟨S128x256, .i1⟩
  | 6 => ⟨S1x128x256, .i1⟩
  | 7 => ⟨S64x128x256, .i1⟩
  | 8 => ⟨S64x128x256, .i1⟩
  | 9 => ⟨S64x128x256, .i1⟩
  | 10 => ⟨S64x1x1x128x256, .i1⟩
  | 11 => ⟨S_, .f32⟩
  | 12 => ⟨S_, .f32⟩
  | 13 => ⟨S64x2x3x128x256, .i1⟩
  | 14 => ⟨S64x2x3x128x256, .f32⟩
  | 15 => ⟨S64x2x3x128x256, .f32⟩
  | 16 => ⟨S2x3, .f32⟩
  | 17 => ⟨S1x2x3x1x1, .f32⟩
  | 18 => ⟨S64x2x3x128x1, .f32⟩
  | 19 => ⟨S64x2x3x128x257, .f32⟩
  | 20 => ⟨S_, .f32⟩
  | 21 => ⟨S64x2x3x128, .f32⟩
  | 22 => ⟨S_, .f32⟩
  | 23 => ⟨S64x2x3x128, .f32⟩
  | 24 => ⟨S64x2x3x128, .f32⟩
  | 25 => ⟨S64x2x3x128x1, .f32⟩
  | 26 => ⟨S64x2x3x128x257, .f32⟩
  | 27 => ⟨S64x2x3x128x257, .f32⟩
  | 28 => ⟨S64x2x3x128x257, .f32⟩
  | 29 => ⟨S_, .f32⟩
  | 30 => ⟨S64x2x3x128, .f32⟩
  | 31 => ⟨S64x2x3x128x1, .f32⟩
  | 32 => ⟨S64x2x3x128x257, .f32⟩
  | 33 => ⟨S64x2x3x128x257, .f32⟩
  | 34 => ⟨S64x2x3x128x256, .f32⟩
  | 35 => ⟨S1x128x2x64, .f32⟩
  | 36 => ⟨S_, .f32⟩
  | 37 => ⟨S1x128x2x64, .f32⟩
  | 38 => ⟨S63x128x2x64, .f32⟩
  | 39 => ⟨S64x128x2x64, .f32⟩
  | 40 => ⟨S64x256x2x64, .f32⟩
  | 41 => ⟨S64x2x64x3x128, .f32⟩
  | 42 => ⟨S64x128x2x3x64, .f32⟩
  | 43 => ⟨S8192x384, .f32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c_11 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_c_12 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_c_13 : Ref sig .tc := ⟨.hbm, 127, rfl⟩
abbrev main_v105 : Ref sig .tc := ⟨.hbm, 128, rfl⟩
abbrev main_v106 : Ref sig .tc := ⟨.hbm, 129, rfl⟩
abbrev main_c_14 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_15 : Ref sig .tc := ⟨.hbm, 139, rfl⟩
abbrev main_call0_v0 : Ref sig .tc := ⟨.hbm, 140, rfl⟩
abbrev main_call0_v1 : Ref sig .tc := ⟨.hbm, 141, rfl⟩
abbrev main_call0_v2 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_16 : Ref sig .tc := ⟨.hbm, 148, rfl⟩
abbrev main_v120 : Ref sig .tc := ⟨.hbm, 149, rfl⟩
abbrev main_cst_17 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_18 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_19 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩

abbrev nD : Nat := 1
abbrev τ : Topo := Topo.v7x

variable {F : FTy → Type} [FloatOps F]
-- ==== MemKvFwd.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S1024x512, .bf16⟩
  | .hbm, ⟨4, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== MemKvFwdReferenceIdeal.lean ====
abbrev S256x1024 : Shape := ⟨2, ![256, 1024]⟩
abbrev S1x1024 : Shape := ⟨2, ![1, 1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S256x512 : Shape := ⟨2, ![256, 512]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== ProjFwd.lean ====
abbrev S8192x1024 : Shape := ⟨2, ![8192, 1024]⟩
abbrev S1x1024 : Shape := ⟨2, ![1, 1024]⟩
abbrev S1024x1664 : Shape := ⟨2, ![1024, 1664]⟩
abbrev S8192x384 : Shape := ⟨2, ![8192, 384]⟩
abbrev S6x8192x64 : Shape := ⟨3, ![6, 8192, 64]⟩
abbrev S2x8192x64 : Shape := ⟨3, ![2, 8192, 64]⟩
abbrev S4x8192x64 : Shape := ⟨3, ![4, 8192, 64]⟩
abbrev S512x1024 : Shape := ⟨2, ![512, 1024]⟩
abbrev S512x384 : Shape := ⟨2, ![512, 384]⟩
abbrev S6x512x64 : Shape := ⟨3, ![6, 512, 64]⟩
abbrev S2x512x64 : Shape := ⟨3, ![2, 512, 64]⟩
abbrev S4x512x64 : Shape := ⟨3, ![4, 512, 64]⟩
abbrev S512 : Shape := ⟨1, ![512]⟩
abbrev S512x1 : Shape := ⟨2, ![512, 1]⟩
abbrev S512x1664 : Shape := ⟨2, ![512, 1664]⟩
abbrev S512x64 : Shape := ⟨2, ![512, 64]⟩
abbrev S1x512x64 : Shape := ⟨3, ![1, 512, 64]⟩
abbrev S512x128 : Shape := ⟨2, ![512, 128]⟩
abbrev S512x256 : Shape := ⟨2, ![512, 256]⟩
abbrev S8192x768 : Shape := ⟨2, ![8192, 768]⟩
abbrev S8192x6x64 : Shape := ⟨3, ![8192, 6, 64]⟩
abbrev S8192x2x64 : Shape := ⟨3, ![8192, 2, 64]⟩
abbrev S8192x128 : Shape := ⟨2, ![8192, 128]⟩
abbrev S8192x4x64 : Shape := ⟨3, ![8192, 4, 64]⟩
abbrev S8192x256 : Shape := ⟨2, ![8192, 256]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1664, .f32⟩
  | .hbm, ⟨3, _⟩ => ⟨S1024x1664, .bf16⟩
  | .hbm, ⟨4, _⟩ => ⟨S8192x384, .f32⟩
  | .hbm, ⟨5, _⟩ => ⟨S8192x384, .f32⟩
  | .hbm, ⟨6, _⟩ => ⟨S6x8192x64, .f32⟩
  | .hbm, ⟨7, _⟩ => ⟨S2x8192x64, .f32⟩
  | .hbm, ⟨8, _⟩ => ⟨S2x8192x64, .f32⟩
  | .hbm, ⟨9, _⟩ => ⟨S4x8192x64, .f32⟩
  | .hbm, ⟨10, _⟩ => ⟨S8192x768, .f32⟩
  | .hbm, ⟨11, _⟩ => ⟨S8192x6x64, .f32⟩
  | .hbm, ⟨12, _⟩ => ⟨S8192x384, .f32⟩
  | .hbm, ⟨13, _⟩ => ⟨S8192x2x64, .f32⟩
  | .hbm, ⟨14, _⟩ => ⟨S8192x128, .f32⟩
  | .hbm, ⟨15, _⟩ => ⟨S8192x2x64, .f32⟩
  | .hbm, ⟨16, _⟩ => ⟨S8192x128, .f32⟩
  | .hbm, ⟨17, _⟩ => ⟨S8192x4x64, .f32⟩
  | .hbm, ⟨18, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1664, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S6x512x64, .f32⟩
  | .local _ .vmem, ⟨9, _⟩ => ⟨S6x512x64, .f32⟩
  | .local _ .vmem, ⟨10, _⟩ => ⟨S2x512x64, .f32⟩
  | .local _ .vmem, ⟨11, _⟩ => ⟨S2x512x64, .f32⟩
  | .local _ .vmem, ⟨12, _⟩ => ⟨S2x512x64, .f32⟩
  | .local _ .vmem, ⟨13, _⟩ => ⟨S2x512x64, .f32⟩
  | .local _ .vmem, ⟨14, _⟩ => ⟨S4x512x64, .f32⟩
  | .local _ .vmem, ⟨15, _⟩ => ⟨S4x512x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjFwdReferenceIdeal.lean ====
abbrev S8192x1024 : Shape := ⟨2, ![8192, 1024]⟩
abbrev S1x1024 : Shape := ⟨2, ![1, 1024]⟩
abbrev S1024x1664 : Shape := ⟨2, ![1024, 1664]⟩
abbrev S_ : Shape := ⟨0, ![]⟩
abbrev S8192 : Shape := ⟨1, ![8192]⟩
abbrev S8192x1 : Shape := ⟨2, ![8192, 1]⟩
abbrev S8192x1664 : Shape := ⟨2, ![8192, 1664]⟩
abbrev S8192x768 : Shape := ⟨2, ![8192, 768]⟩
abbrev S8192x384 : Shape := ⟨2, ![8192, 384]⟩
abbrev S8192x128 : Shape := ⟨2, ![8192, 128]⟩
abbrev S8192x256 : Shape := ⟨2, ![8192, 256]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1664, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1664, .f32⟩
  | .hbm, ⟨19, _⟩ => ⟨S8192x768, .f32⟩
  | .hbm, ⟨20, _⟩ => ⟨S8192x384, .f32⟩
  | .hbm, ⟨21, _⟩ => ⟨S8192x128, .f32⟩
  | .hbm, ⟨22, _⟩ => ⟨S8192x128, .f32⟩
  | .hbm, ⟨23, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Rms.lean ====
module

public import Idealize.ShloMosaic.Lib.Pointwise

/-! The gradient of an RMS norm over one row of 1024 numbers, as both programs of a pair compute it. -/

@[expose] public section

noncomputable section

namespace Rms
open Idealize.ShloMosaic

/-- A row of 1024 numbers. -/
abbrev Row := Fin 1024 → EReal

/-- The mean of a row's squares plus the norm's epsilon. -/
def ms (x : Row) : EReal :=
  Ideal.div (∑ k, x k * x k) (Ideal.ofBits FTy.f32 1149239296#32) + Ideal.ofBits FTy.f32 897988541#32

/-- What one entry's square receives back through the mean. -/
def pull (x g d : Row) : EReal :=
  Ideal.div ((∑ k, x k * (d k * g k)) * (Ideal.ofBits FTy.f32 3204448256#32 * Ideal.div (Ideal.rsqrt (ms x)) (ms x)))
    (Ideal.ofBits FTy.f32 1149239296#32)

/-- The gradient of the norm in the row: `d` is the cotangent, `g` the scale. -/
def grad (x g d : Row) (l : Fin 1024) : EReal :=
  d l * g l * Ideal.rsqrt (ms x) + x l * (∑ _k : Fin 1, pull x g d) + (∑ _k : Fin 1, pull x g d) * x l

/-- The row's share of the gradient in the scale. -/
def gradScale (x d : Row) (l : Fin 1024) : EReal :=
  x l * Ideal.rsqrt (ms x) * d l

/-- The normalised row times the scale. -/
def norm (x g : Row) (l : Fin 1024) : EReal :=
  x l * Ideal.rsqrt (ms x) * g l

/-- A 32-bit float matrix with rows of 1024. -/
abbrev Mat (n : Nat) := FVec Ideal ⟨2, ![n, 1024]⟩ .f32

/-- A row of a matrix. -/
def rowOf {n : Nat} (X : Mat n) (r : Fin n) : Row := fun l => X (ix2 r l)

/-- One entry of the normalised matrix times the weights. -/
def proj {n k : Nat} (X : Mat n) (G : Mat 1) (W : FVec Ideal ⟨2, ![1024, k]⟩ .f32) (r : Fin n) (j : Fin k) : EReal :=
  ∑ l : Fin 1024, norm (rowOf X r) (rowOf G 0) l * W (ix2 l j)

end Rms
end
-- ==== Proof.NormSpec.lean ====
module

public import proofs.«01_k».proof.Proof.Rms

/-! What the pair `Norm` computes: the gradients of the FFN's RMS norm, over whole arrays. -/

@[expose] public section

noncomputable section

namespace NormSpec
open Idealize.ShloMosaic Rms

/-- The four column blocks' shares of the gradient at the norm's output. -/
abbrev Parts := FVec Ideal ⟨3, ![4, 8192, 1024]⟩ .bf16

/-- One row of the cotangent: the four shares summed. -/
def ct (P : Parts) (r : Fin 8192) : Row := fun l => ∑ p : Fin 4, P (ix3 p r l)

/-- One entry of the gradient at the norm's input, the residual's share added. -/
def dx (X : Mat 8192) (G : Mat 1) (P : Parts) (D : Mat 8192) (r : Fin 8192) (l : Fin 1024) : EReal :=
  grad (rowOf X r) (rowOf G 0) (ct P r) l + D (ix2 r l)

/-- One entry of the gradient in the scale. -/
def dg (X : Mat 8192) (P : Parts) (l : Fin 1024) : EReal :=
  ∑ r : Fin 8192, gradScale (rowOf X r) (ct P r) l

end NormSpec
end
-- ==== Proof.BelowSpec.lean ====
module

public import proofs.«01_k».proof.Proof.NormSpec

/-! What the pair `Below` computes: the gradient of the FFN's RMS norm, carried on through the norm at the end of the block
below. -/

@[expose] public section

noncomputable section

namespace BelowSpec
open Idealize.ShloMosaic Rms NormSpec

/-- One row of the gradient at the first norm's input, the residual's share added. -/
def mid (X : Mat 8192) (G : Mat 1) (P : Parts) (D : Mat 8192) (r : Fin 8192) : Row := fun l => NormSpec.dx X G P D r l

/-- One entry of the gradient at the lower norm's input. -/
def dx (X : Mat 8192) (G : Mat 1) (P : Parts) (D H : Mat 8192) (GF : Mat 1) (r : Fin 8192) (l : Fin 1024) : EReal :=
  grad (rowOf H r) (rowOf GF 0) (mid X G P D r) l

/-- One entry of the gradient in the lower norm's scale. -/
def dgf (X : Mat 8192) (G : Mat 1) (P : Parts) (D H : Mat 8192) (l : Fin 1024) : EReal :=
  ∑ r : Fin 8192, gradScale (rowOf H r) (mid X G P D r) l

end BelowSpec
end
-- ==== Proof.BelowRef.lean ====
module

public import proofs.«01_k».proof.Proof.Gen.BelowReferenceIdeal.Run
public import proofs.«01_k».proof.Proof.BelowSpec
public import Idealize.ShloMosaic.Lib.Pointwise

/-! The values of the reference of the pair `Below`. -/

@[expose] public section

set_option maxRecDepth 16384

noncomputable section

namespace Cert.BelowReferenceIdeal.Value
open Idealize.ShloMosaic Idealize.ShloMosaic.TcCoe Idealize.SL.Sem
open Cert.BelowReferenceIdeal

variable (m : (ℓ : Loc nD τ sig) → Buf (Elt Ideal) ℓ)

theorem ref_dx (c : Dev nD) : res_main_v70 (F := Ideal) m c =
    fun i => BelowSpec.dx (m (c.tc.loc main_arg0)) (m (c.tc.loc main_arg1)) (m (c.tc.loc main_arg2)) (m (c.tc.loc main_arg3))
      (m (c.tc.loc main_arg4)) (m (c.tc.loc main_arg5)) (i 0) (i 1) := by
  funext i
  idx_vars i
  pointwise [res_main_v70]
  rfl

theorem ref_dgf (c : Dev nD) : res_main_v54 (F := Ideal) m c =
    fun i => BelowSpec.dgf (m (c.tc.loc main_arg0)) (m (c.tc.loc main_arg1)) (m (c.tc.loc main_arg2)) (m (c.tc.loc main_arg3))
      (m (c.tc.loc main_arg4)) (i 1) := by
  funext i
  idx_vars i
  pointwise [res_main_v54]
  rfl

/-- The reference's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v70) = (fun i => BelowSpec.dx (m (c.tc.loc main_arg0)) (m (c.tc.loc main_arg1))
        (m (c.tc.loc main_arg2)) (m (c.tc.loc main_arg3)) (m (c.tc.loc main_arg4)) (m (c.tc.loc main_arg5)) (i 0) (i 1))
      ∧ r.2.mem (c.tc.loc main_v19) = (fun i => NormSpec.dg (m (c.tc.loc main_arg0)) (m (c.tc.loc main_arg2)) (i 1))
      ∧ r.2.mem (c.tc.loc main_v54) = (fun i => BelowSpec.dgf (m (c.tc.loc main_arg0)) (m (c.tc.loc main_arg1))
        (m (c.tc.loc main_arg2)) (m (c.tc.loc main_arg3)) (m (c.tc.loc main_arg4)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun r h c => ?_) (run (F := Ideal) m ρ)
  obtain ⟨h0, h1, h2, h3⟩ := h c
  refine ⟨h0.trans (ref_dx m c), h1.trans ?_, h2.trans (ref_dgf m c), h3⟩
  funext i
  idx_vars i
  pointwise
  rfl

end Cert.BelowReferenceIdeal.Value
end
-- ==== Proof.NormValue.lean ====
module

public import proofs.«01_k».proof.Proof.Gen.NormIdeal.Value
public import proofs.«01_k».proof.Proof.NormSpec
public import Idealize.ShloMosaic.Lib.Pipeline.ValueKit
public import Idealize.ShloMosaic.Lib.Pointwise

/-! The values of the kernel of the pair `Norm`: each grid point takes 512 rows, the scale's gradient is accumulated over
the points. -/

@[expose] public section

set_option maxRecDepth 16384

noncomputable section

namespace Cert.NormIdeal.Value
open Idealize.ShloMosaic Idealize.ShloMosaic.TcCoe Idealize.SL.Sem
open Idealize.ShloMosaic.Pipeline (Dat)
open Cert.NormIdeal Cert.NormIdeal.Gen

/-- The four shares as the body loads them, one array each, summed in a row. -/
def ct4 (P0 P1 P2 P3 : FVec Ideal S1x512x1024 .bf16) (r : Fin 512) : Rms.Row :=
  fun l => P0 (ix3 0 r l) + P1 (ix3 0 r l) + P2 (ix3 0 r l) + P3 (ix3 0 r l)

theorem pay_dx (P0 P1 P2 P3 : Vec Ideal S1x512x1024 .bf16) (X D : Vec Ideal S512x1024 .f32) (G : Vec Ideal S1x1024 .f32)
    (r : Fin 512) (l : Fin 1024) :
    k0_pay1 (F := Ideal) X (k0_pay5 X) (k0_pay6 X) (k0_pay8 P0 P1 P2 P3 G) (k0_pay9 P0 P1 P2 P3 X G) D (ix2 r l) =
      Rms.grad (Rms.rowOf X r) (Rms.rowOf G 0) (ct4 P0 P1 P2 P3 r) l + D (ix2 r l) := by
  pointwise [k0_pay1, k0_pay3, k0_pay4, k0_pay5, k0_pay6, k0_pay8, k0_pay9]
  rfl

theorem pay_dg (P0 P1 P2 P3 : Vec Ideal S1x512x1024 .bf16) (X : Vec Ideal S512x1024 .f32) (l : Fin 1024) :
    k0_pay7 (F := Ideal) P0 P1 P2 P3 X (ix2 0 l) =
      ∑ r : Fin 512, Rms.gradScale (Rms.rowOf X r) (ct4 P0 P1 P2 P3 r) l := by
  pointwise [k0_pay7, k0_pay3, k0_pay4, k0_pay5]
  rfl

theorem pay_acc (v : Vec Ideal S1x1024 .f32) (a : Vec Ideal S1x1024 .f32) (l : Fin 1024) :
    k0_pay2 (F := Ideal) v a (ix2 0 l) = a (ix2 0 l) + v (ix2 0 l) := by
  pointwise [k0_pay2]

variable (m : (ℓ : Loc nD τ sig) → Buf (Elt Ideal) ℓ)

theorem idx : ∀ t : Fin cfg0.N, win0_0.index t = ![t.val, 0] ∧ win0_1.index t = ![0, 0] ∧ win0_2.index t = ![0, t.val, 0]
    ∧ win0_3.index t = ![t.val, 0] ∧ win0_4.index t = ![t.val, 0] ∧ win0_5.index t = ![0, 0] :=
  (by decide +kernel : ∀ t : Fin grid0.N, _)

/-- The row of the whole array that is row `r` of grid point `t`. -/
def row (t : Fin cfg0.N) (r : Fin 512) : Fin 8192 := ⟨t.val * 512 + r.val, by have := lt_of_lt_of_eq t.isLt N_0; omega⟩

theorem blk_x (c : Dev nD) (t : Fin cfg0.N) (r : Fin 512) (l : Fin 1024) :
    iblk m c 0 t (ix2 r l) = m (c.tc.loc main_arg0) (ix2 (row t r) l) := by
  blk_point [iblk, V, idx t, row]

theorem blk_g (c : Dev nD) (t : Fin cfg0.N) (l : Fin 1024) :
    iblk m c 1 t (ix2 0 l) = m (c.tc.loc main_arg1) (ix2 0 l) := by
  blk_point [iblk, V, idx t, row]

theorem blk_dh (c : Dev nD) (t : Fin cfg0.N) (r : Fin 512) (l : Fin 1024) :
    iblk m c 3 t (ix2 r l) = m (c.tc.loc main_arg3) (ix2 (row t r) l) := by
  blk_point [iblk, V, idx t, row]

theorem blk_p (c : Dev nD) (t : Fin cfg0.N) (p : Fin 4) (r : Fin 512) (l : Fin 1024) :
    iblk m c 2 t (ix3 p r l) = m (c.tc.loc main_arg2) (ix3 p (row t r) l) := by
  blk_point [iblk, V, idx t, row]

theorem rows_x (c : Dev nD) (t : Fin cfg0.N) (r : Fin 512) :
    Rms.rowOf (iblk m c 0 t) r = Rms.rowOf (m (c.tc.loc main_arg0)) (row t r) :=
  funext fun l => blk_x m c t r l

theorem rows_g (c : Dev nD) (t : Fin cfg0.N) : Rms.rowOf (iblk m c 1 t) 0 = Rms.rowOf (m (c.tc.loc main_arg1)) 0 :=
  funext fun l => blk_g m c t l

/-- The four loads of a block, summed, are the four shares of the block's rows. -/
theorem loads (B : Vec Ideal S4x512x1024 .bf16) (r : Fin 512) (l : Fin 1024) :
    ct4 (View.ld B (Rect.unit ![0, 0, 0] ![1, 512, 1024] inb_S4x512x1024_S1x512x1024_0_0_0))
        (View.ld B (Rect.unit ![1, 0, 0] ![1, 512, 1024] inb_S4x512x1024_S1x512x1024_1_0_0))
        (View.ld B (Rect.unit ![2, 0, 0] ![1, 512, 1024] inb_S4x512x1024_S1x512x1024_2_0_0))
        (View.ld B (Rect.unit ![3, 0, 0] ![1, 512, 1024] inb_S4x512x1024_S1x512x1024_3_0_0)) r l
      = ∑ p : Fin 4, (B (ix3 p r l) : EReal) := by
  unfold ct4
  pointwise
  rw [Fin.sum_univ_four]

theorem out_at (t : Fin cfg0.N) (r : Fin 512) (l : Fin 1024) :
    ((View.whole main_v0_0).slice (win0_4.rect t)).emb (ix2 r l) = ix2 (row t r) l := by
  blk_ext [idx t, row]

section
variable (c : Dev nD) (t : Fin cfg0.N)

/-- A share of the gradient at the norm's output, as the body loads it. -/
abbrev load0 : Vec Ideal S1x512x1024 .bf16 :=
  View.ld (iblk m c 2 t) (Rect.unit ![0, 0, 0] ![1, 512, 1024] inb_S4x512x1024_S1x512x1024_0_0_0)
@[inherit_doc load0]
abbrev load1 : Vec Ideal S1x512x1024 .bf16 :=
  View.ld (iblk m c 2 t) (Rect.unit ![1, 0, 0] ![1, 512, 1024] inb_S4x512x1024_S1x512x1024_1_0_0)
@[inherit_doc load0]
abbrev load2 : Vec Ideal S1x512x1024 .bf16 :=
  View.ld (iblk m c 2 t) (Rect.unit ![2, 0, 0] ![1, 512, 1024] inb_S4x512x1024_S1x512x1024_2_0_0)
@[inherit_doc load0]
abbrev load3 : Vec Ideal S1x512x1024 .bf16 :=
  View.ld (iblk m c 2 t) (Rect.unit ![3, 0, 0] ![1, 512, 1024] inb_S4x512x1024_S1x512x1024_3_0_0)

theorem rows_ct (r : Fin 512) : ct4 (load0 m c t) (load1 m c t) (load2 m c t) (load3 m c t) r
      = NormSpec.ct (m (c.tc.loc main_arg2)) (row t r) :=
  funext fun l => (loads _ r l).trans (Finset.sum_congr rfl fun p _ => blk_p m c t p r l)

theorem point_dx (r : Fin 512) (l : Fin 1024) :
    k0_pay1 (F := Ideal) (iblk m c 0 t) (k0_pay5 (iblk m c 0 t)) (k0_pay6 (iblk m c 0 t))
      (k0_pay8 (load0 m c t) (load1 m c t) (load2 m c t) (load3 m c t) (iblk m c 1 t))
      (k0_pay9 (load0 m c t) (load1 m c t) (load2 m c t) (load3 m c t) (iblk m c 0 t) (iblk m c 1 t)) (iblk m c 3 t) (ix2 r l)
      = NormSpec.dx (m (c.tc.loc main_arg0)) (m (c.tc.loc main_arg1)) (m (c.tc.loc main_arg2)) (m (c.tc.loc main_arg3))
        (row t r) l := by
  unfold NormSpec.dx
  rw [← rows_ct, ← rows_x, ← rows_g, ← blk_dh m c t r l]
  exact pay_dx _ _ _ _ _ _ _ r l

/-- The 512 rows' share of the scale's gradient. -/
def term (l : Fin 1024) : EReal :=
  ∑ r : Fin 512, Rms.gradScale (Rms.rowOf (m (c.tc.loc main_arg0)) (row t r)) (NormSpec.ct (m (c.tc.loc main_arg2)) (row t r)) l

theorem point_dg (l : Fin 1024) :
    k0_pay7 (F := Ideal) (load0 m c t) (load1 m c t) (load2 m c t) (load3 m c t) (iblk m c 0 t) (ix2 0 l) = term m c t l := by
  unfold term
  simp only [← rows_ct, ← rows_x]
  exact pay_dg _ _ _ _ _ l

theorem step_dg (a : Vec Ideal S1x1024 .f32) (l : Fin 1024) :
    k0_pay2 (F := Ideal) (k0_pay7 (load0 m c t) (load1 m c t) (load2 m c t) (load3 m c t) (iblk m c 0 t)) a (ix2 0 l)
      = a (ix2 0 l) + term m c t l := by
  rw [← point_dg]
  exact pay_acc _ a l
end

theorem final_dx (c : Dev nD) : (dats m 0 c).arrAt 4 (cfgs 0).N = fun i => NormSpec.dx (m (c.tc.loc main_arg0))
    (m (c.tc.loc main_arg1)) (m (c.tc.loc main_arg2)) (m (c.tc.loc main_arg3)) (i 0) (i 1) := by
  refine (dats m 0 c).arrAt_eq_of_covers 4 _ (by decide +kernel) fun t _ y => ?_
  blk_simp
  idx_vars y
  have ht := lt_of_lt_of_eq t.isLt N_0
  rw [after0_4, out_at]
  by_cases h : t.val % 16 = 0
  · rw [outsAt0_A m c t h (by omega)]
    frame_out
    exact point_dx m c t y0 y1
  · rw [outsAt0_B m c t h (by omega)]
    frame_out
    exact point_dx m c t y0 y1

theorem sum_terms (c : Dev nD) (l : Fin 1024) :
    ∑ t : Fin cfg0.N, term m c t l = NormSpec.dg (m (c.tc.loc main_arg0)) (m (c.tc.loc main_arg2)) l :=
  Fin.sum_mul_add_congr fun t r hl => rfl

theorem final_dg (c : Dev nD) : (dats m 0 c).arrAt 5 (cfgs 0).N = fun i => NormSpec.dg (m (c.tc.loc main_arg0))
    (m (c.tc.loc main_arg2)) (i 1) := by
  refine (dats m 0 c).arrAt_eq_of_after_last 5 t0_15 (by decide +kernel) _ fun j => ?_
  blk_simp
  idx_vars j
  rw [after0_5, Pipeline.eq_sum_fin_of_reset_step_apply_last (fun n h => (outsAt0 m c n h).2) 16 (fun _ => (0 : EReal))
    (fun t i => term m c t (i 1)) ?_ ?_ (le_of_eq N_0) t0_15 rfl, zero_add]
  · exact sum_terms m c j1
  · intro t h i
    have ht := lt_of_lt_of_eq t.isLt N_0
    rw [outsAt0_A m c t h (by omega), zero_add]
    frame_out
    idx_vars i
    obtain rfl : i0 = 0 := Subsingleton.elim _ _
    exact point_dg m c t i1
  · intro t h i
    have ht := lt_of_lt_of_eq t.isLt N_0
    rw [outsAt0_B m c t h (by omega)]
    frame_out
    idx_vars i
    obtain rfl : i0 = 0 := Subsingleton.elim _ _
    exact step_dg m c t _ i1

/-- The kernel's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v0_0) = (fun i => NormSpec.dx (m (c.tc.loc main_arg0)) (m (c.tc.loc main_arg1))
        (m (c.tc.loc main_arg2)) (m (c.tc.loc main_arg3)) (i 0) (i 1))
      ∧ r.2.mem (c.tc.loc main_v0_1) = (fun i => NormSpec.dg (m (c.tc.loc main_arg0)) (m (c.tc.loc main_arg2)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ?_) (run_blocks (F := Ideal) m ρ)
  obtain ⟨h0, h1, h2⟩ := h c
  exact ⟨h0.trans (final_dx m c), h1.trans (final_dg m c), h2⟩

end Cert.NormIdeal.Value
end
-- ==== Proof.BelowValue.lean ====
module

public import proofs.«01_k».proof.Proof.Gen.BelowIdeal.Frame
public import proofs.«01_k».proof.Proof.BelowSpec
public import proofs.«01_k».proof.Proof.NormValue
public import Idealize.ShloMosaic.Lib.Pipeline.ValueKit
public import Idealize.ShloMosaic.Lib.Pointwise

/-! The values of the kernel of the pair `Below`: each grid point takes 512 rows through both norms, the two scales'
gradients are accumulated over the points. -/

@[expose] public section

set_option maxRecDepth 16384

noncomputable section

namespace Cert.BelowIdeal.Value
open Idealize.ShloMosaic Idealize.ShloMosaic.TcCoe Idealize.SL.Sem
open Idealize.ShloMosaic.Pipeline (Dat)
open Cert.BelowIdeal Cert.BelowIdeal.Gen
open Cert.NormIdeal.Value (ct4 loads)

section
variable (P0 P1 P2 P3 : Vec Ideal S1x512x1024 .bf16) (X D H : Vec Ideal S512x1024 .f32) (G GF : Vec Ideal S1x1024 .f32)

/-- The gradient at the first norm's input as the body holds it. -/
abbrev midB : Vec Ideal S512x1024 .f32 :=
  k0_pay11 (F := Ideal) X (k0_pay6 X) (k0_pay7 X) (k0_pay9 P0 P1 P2 P3 G) (k0_pay10 P0 P1 P2 P3 X G) D

theorem pay_mid (r : Fin 512) (l : Fin 1024) : midB P0 P1 P2 P3 X D G (ix2 r l) =
    Rms.grad (Rms.rowOf X r) (Rms.rowOf G 0) (ct4 P0 P1 P2 P3 r) l + D (ix2 r l) := by
  pointwise [k0_pay11, k0_pay10, k0_pay9, k0_pay7, k0_pay6, k0_pay5, k0_pay4]
  rfl

theorem pay_dx (s u : Vec Ideal S512x1 .f32) (p : Vec Ideal S512x1024 .f32) (q : Vec Ideal S512 .f32) (r : Fin 512)
    (l : Fin 1024) : k0_pay1 (F := Ideal) H (k0_pay16 X s u p q D H GF) (k0_pay17 X s u p q D H GF) (ix2 r l) =
      Rms.grad (Rms.rowOf H r) (Rms.rowOf GF 0) (Rms.rowOf (k0_pay11 (F := Ideal) X s u p q D) r) l := by
  pointwise [k0_pay1, k0_pay16, k0_pay17, k0_pay15, k0_pay13, k0_pay12]
  rfl

theorem pay_dgf (s u : Vec Ideal S512x1 .f32) (p : Vec Ideal S512x1024 .f32) (q : Vec Ideal S512 .f32) (l : Fin 1024) :
    k0_pay14 (F := Ideal) X s u p q D H (ix2 0 l) =
      ∑ r : Fin 512, Rms.gradScale (Rms.rowOf H r) (Rms.rowOf (k0_pay11 (F := Ideal) X s u p q D) r) l := by
  pointwise [k0_pay14, k0_pay13, k0_pay12]
  rfl

theorem pay_dg (l : Fin 1024) : k0_pay8 (F := Ideal) P0 P1 P2 P3 X (ix2 0 l) =
    ∑ r : Fin 512, Rms.gradScale (Rms.rowOf X r) (ct4 P0 P1 P2 P3 r) l := by
  pointwise [k0_pay8, k0_pay6, k0_pay5, k0_pay4]
  rfl
end

theorem pay_acc (v a : Vec Ideal S1x1024 .f32) (l : Fin 1024) :
    k0_pay2 (F := Ideal) v a (ix2 0 l) = a (ix2 0 l) + v (ix2 0 l) := by
  pointwise [k0_pay2]

theorem pay_acc' (v a : Vec Ideal S1x1024 .f32) (l : Fin 1024) :
    k0_pay3 (F := Ideal) v a (ix2 0 l) = a (ix2 0 l) + v (ix2 0 l) := by
  pointwise [k0_pay3]

variable (m : (ℓ : Loc nD τ sig) → Buf (Elt Ideal) ℓ)

theorem idx : ∀ t : Fin cfg0.N, win0_0.index t = ![t.val, 0] ∧ win0_1.index t = ![0, 0] ∧ win0_2.index t = ![0, t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![0, 0] :=
  (by decide +kernel : ∀ t : Fin grid0.N, _)

/-- The row of the whole array that is row `r` of grid point `t`. -/
def row (t : Fin cfg0.N) (r : Fin 512) : Fin 8192 := ⟨t.val * 512 + r.val, by have := lt_of_lt_of_eq t.isLt N_0; omega⟩

section
variable (c : Dev nD) (t : Fin cfg0.N)

theorem rows_x (r : Fin 512) : Rms.rowOf (iblk m c 0 t) r = Rms.rowOf (m (c.tc.loc main_arg0)) (row t r) :=
  funext fun l => show iblk m c 0 t (ix2 r l) = m (c.tc.loc main_arg0) (ix2 (row t r) l) by
    blk_point [iblk, V, idx t, row]

theorem rows_g : Rms.rowOf (iblk m c 1 t) 0 = Rms.rowOf (m (c.tc.loc main_arg1)) 0 :=
  funext fun l => show iblk m c 1 t (ix2 0 l) = m (c.tc.loc main_arg1) (ix2 0 l) by
    blk_point [iblk, V, idx t, row]

theorem blk_p (p : Fin 4) (r : Fin 512) (l : Fin 1024) :
    iblk m c 2 t (ix3 p r l) = m (c.tc.loc main_arg2) (ix3 p (row t r) l) := by
  blk_point [iblk, V, idx t, row]

theorem blk_dh (r : Fin 512) (l : Fin 1024) :
    iblk m c 3 t (ix2 r l) = m (c.tc.loc main_arg3) (ix2 (row t r) l) := by
  blk_point [iblk, V, idx t, row]

theorem rows_h (r : Fin 512) : Rms.rowOf (iblk m c 4 t) r = Rms.rowOf (m (c.tc.loc main_arg4)) (row t r) :=
  funext fun l => show iblk m c 4 t (ix2 r l) = m (c.tc.loc main_arg4) (ix2 (row t r) l) by
    blk_point [iblk, V, idx t, row]

theorem rows_gf : Rms.rowOf (iblk m c 5 t) 0 = Rms.rowOf (m (c.tc.loc main_arg5)) 0 :=
  funext fun l => show iblk m c 5 t (ix2 0 l) = m (c.tc.loc main_arg5) (ix2 0 l) by
    blk_point [iblk, V, idx t, row]

theorem out_at (r : Fin 512) (l : Fin 1024) :
    ((View.whole main_v0_0).slice (win0_6.rect t)).emb (ix2 r l) = ix2 (row t r) l := by
  blk_ext [idx t, row]

/-- A share of the gradient at the first norm's output, as the body loads it. -/
abbrev load0 : Vec Ideal S1x512x1024 .bf16 :=
  View.ld (iblk m c 2 t) (Rect.unit ![0, 0, 0] ![1, 512, 1024] inb_S4x512x1024_S1x512x1024_0_0_0)
@[inherit_doc load0]
abbrev load1 : Vec Ideal S1x512x1024 .bf16 :=
  View.ld (iblk m c 2 t) (Rect.unit ![1, 0, 0] ![1, 512, 1024] inb_S4x512x1024_S1x512x1024_1_0_0)
@[inherit_doc load0]
abbrev load2 : Vec Ideal S1x512x1024 .bf16 :=
  View.ld (iblk m c 2 t) (Rect.unit ![2, 0, 0] ![1, 512, 1024] inb_S4x512x1024_S1x512x1024_2_0_0)
@[inherit_doc load0]
abbrev load3 : Vec Ideal S1x512x1024 .bf16 :=
  View.ld (iblk m c 2 t) (Rect.unit ![3, 0, 0] ![1, 512, 1024] inb_S4x512x1024_S1x512x1024_3_0_0)

theorem rows_ct (r : Fin 512) : ct4 (load0 m c t) (load1 m c t) (load2 m c t) (load3 m c t) r
      = NormSpec.ct (m (c.tc.loc main_arg2)) (row t r) :=
  funext fun l => (loads _ r l).trans (Finset.sum_congr rfl fun p _ => blk_p m c t p r l)

/-- The gradient at the first norm's input on the point's rows. -/
abbrev midAt : Vec Ideal S512x1024 .f32 :=
  midB (load0 m c t) (load1 m c t) (load2 m c t) (load3 m c t) (iblk m c 0 t) (iblk m c 3 t) (iblk m c 1 t)

theorem rows_mid (r : Fin 512) : Rms.rowOf (midAt m c t) r = BelowSpec.mid (m (c.tc.loc main_arg0))
    (m (c.tc.loc main_arg1)) (m (c.tc.loc main_arg2)) (m (c.tc.loc main_arg3)) (row t r) := by
  funext l
  refine (pay_mid _ _ _ _ _ _ _ r l).trans ?_
  unfold BelowSpec.mid NormSpec.dx
  rw [← rows_ct, ← rows_x, ← rows_g, ← blk_dh m c t r l]

/-- The inputs of the payloads that carry the gradient through the lower norm. -/
abbrev s6 := k0_pay6 (F := Ideal) (iblk m c 0 t)
@[inherit_doc s6]
abbrev s7 := k0_pay7 (F := Ideal) (iblk m c 0 t)
@[inherit_doc s6]
abbrev s9 := k0_pay9 (F := Ideal) (load0 m c t) (load1 m c t) (load2 m c t) (load3 m c t) (iblk m c 1 t)
@[inherit_doc s6]
abbrev s10 := k0_pay10 (F := Ideal) (load0 m c t) (load1 m c t) (load2 m c t) (load3 m c t) (iblk m c 0 t) (iblk m c 1 t)

theorem point_dx (r : Fin 512) (l : Fin 1024) :
    k0_pay1 (F := Ideal) (iblk m c 4 t)
      (k0_pay16 (iblk m c 0 t) (s6 m c t) (s7 m c t) (s9 m c t) (s10 m c t) (iblk m c 3 t) (iblk m c 4 t) (iblk m c 5 t))
      (k0_pay17 (iblk m c 0 t) (s6 m c t) (s7 m c t) (s9 m c t) (s10 m c t) (iblk m c 3 t) (iblk m c 4 t) (iblk m c 5 t))
      (ix2 r l) = BelowSpec.dx (m (c.tc.loc main_arg0)) (m (c.tc.loc main_arg1)) (m (c.tc.loc main_arg2))
        (m (c.tc.loc main_arg3)) (m (c.tc.loc main_arg4)) (m (c.tc.loc main_arg5)) (row t r) l := by
  unfold BelowSpec.dx
  rw [← rows_mid, ← rows_h, ← rows_gf]
  exact pay_dx _ _ _ _ _ _ _ _ r l

/-- The 512 rows' share of the upper scale's gradient. -/
def term (l : Fin 1024) : EReal :=
  ∑ r : Fin 512, Rms.gradScale (Rms.rowOf (m (c.tc.loc main_arg0)) (row t r)) (NormSpec.ct (m (c.tc.loc main_arg2)) (row t r)) l

/-- The 512 rows' share of the lower scale's gradient. -/
def termF (l : Fin 1024) : EReal :=
  ∑ r : Fin 512, Rms.gradScale (Rms.rowOf (m (c.tc.loc main_arg4)) (row t r)) (BelowSpec.mid (m (c.tc.loc main_arg0))
    (m (c.tc.loc main_arg1)) (m (c.tc.loc main_arg2)) (m (c.tc.loc main_arg3)) (row t r)) l

theorem point_dg (l : Fin 1024) :
    k0_pay8 (F := Ideal) (load0 m c t) (load1 m c t) (load2 m c t) (load3 m c t) (iblk m c 0 t) (ix2 0 l) = term m c t l := by
  unfold term
  simp only [← rows_ct, ← rows_x]
  exact pay_dg _ _ _ _ _ l

theorem point_dgf (l : Fin 1024) :
    k0_pay14 (F := Ideal) (iblk m c 0 t) (s6 m c t) (s7 m c t) (s9 m c t) (s10 m c t) (iblk m c 3 t) (iblk m c 4 t) (ix2 0 l)
      = termF m c t l := by
  unfold termF
  simp only [← rows_mid, ← rows_h]
  exact pay_dgf _ _ _ _ _ _ _ l
end

theorem final_dx (c : Dev nD) : (dats m 0 c).arrAt 6 (cfgs 0).N = fun i => BelowSpec.dx (m (c.tc.loc main_arg0))
    (m (c.tc.loc main_arg1)) (m (c.tc.loc main_arg2)) (m (c.tc.loc main_arg3)) (m (c.tc.loc main_arg4))
    (m (c.tc.loc main_arg5)) (i 0) (i 1) := by
  refine (dats m 0 c).arrAt_eq_of_covers 6 _ (by decide +kernel) fun t _ y => ?_
  blk_simp
  idx_vars y
  have ht := lt_of_lt_of_eq t.isLt N_0
  rw [after0_6, out_at]
  by_cases h : t.val % 16 = 0
  · rw [outsAt0_A m c t h (by omega) h (by omega)]
    frame_out
    exact point_dx m c t y0 y1
  · rw [outsAt0_B m c t h (by omega) h (by omega)]
    frame_out
    exact point_dx m c t y0 y1

theorem sum_terms (c : Dev nD) (l : Fin 1024) :
    ∑ t : Fin cfg0.N, term m c t l = NormSpec.dg (m (c.tc.loc main_arg0)) (m (c.tc.loc main_arg2)) l :=
  Fin.sum_mul_add_congr fun t r hl => rfl

theorem sum_termFs (c : Dev nD) (l : Fin 1024) : ∑ t : Fin cfg0.N, termF m c t l = BelowSpec.dgf (m (c.tc.loc main_arg0))
    (m (c.tc.loc main_arg1)) (m (c.tc.loc main_arg2)) (m (c.tc.loc main_arg3)) (m (c.tc.loc main_arg4)) l :=
  Fin.sum_mul_add_congr fun t r hl => rfl

theorem final_dg (c : Dev nD) : (dats m 0 c).arrAt 7 (cfgs 0).N = fun i => NormSpec.dg (m (c.tc.loc main_arg0))
    (m (c.tc.loc main_arg2)) (i 1) := by
  refine (dats m 0 c).arrAt_eq_of_after_last 7 t0_15 (by decide +kernel) _ fun j => ?_
  blk_simp
  idx_vars j
  rw [after0_7, Pipeline.eq_sum_fin_of_reset_step_apply_last (fun n h => (outsAt0 m c n h).2.1) 16 (fun _ => (0 : EReal))
    (fun t i => term m c t (i 1)) ?_ ?_ (le_of_eq N_0) t0_15 rfl, zero_add]
  · exact sum_terms m c j1
  · intro t h i
    have ht := lt_of_lt_of_eq t.isLt N_0
    rw [outsAt0_A m c t h (by omega) h (by omega), zero_add]
    frame_out
    idx_vars i
    obtain rfl : i0 = 0 := Subsingleton.elim _ _
    exact point_dg m c t i1
  · intro t h i
    have ht := lt_of_lt_of_eq t.isLt N_0
    rw [outsAt0_B m c t h (by omega) h (by omega)]
    frame_out
    idx_vars i
    obtain rfl : i0 = 0 := Subsingleton.elim _ _
    rw [← point_dg]
    exact pay_acc' _ _ i1

theorem final_dgf (c : Dev nD) : (dats m 0 c).arrAt 8 (cfgs 0).N = fun i => BelowSpec.dgf (m (c.tc.loc main_arg0))
    (m (c.tc.loc main_arg1)) (m (c.tc.loc main_arg2)) (m (c.tc.loc main_arg3)) (m (c.tc.loc main_arg4)) (i 1) := by
  refine (dats m 0 c).arrAt_eq_of_after_last 8 t0_15 (by decide +kernel) _ fun j => ?_
  blk_simp
  idx_vars j
  rw [after0_8, Pipeline.eq_sum_fin_of_reset_step_apply_last (fun n h => (outsAt0 m c n h).2.2) 16 (fun _ => (0 : EReal))
    (fun t i => termF m c t (i 1)) ?_ ?_ (le_of_eq N_0) t0_15 rfl, zero_add]
  · exact sum_termFs m c j1
  · intro t h i
    have ht := lt_of_lt_of_eq t.isLt N_0
    rw [outsAt0_A m c t h (by omega) h (by omega), zero_add]
    frame_out
    idx_vars i
    obtain rfl : i0 = 0 := Subsingleton.elim _ _
    exact point_dgf m c t i1
  · intro t h i
    have ht := lt_of_lt_of_eq t.isLt N_0
    rw [outsAt0_B m c t h (by omega) h (by omega)]
    frame_out
    idx_vars i
    obtain rfl : i0 = 0 := Subsingleton.elim _ _
    rw [← point_dgf]
    exact pay_acc _ _ i1

/-- The kernel's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v0_0) = (fun i => BelowSpec.dx (m (c.tc.loc main_arg0)) (m (c.tc.loc main_arg1))
        (m (c.tc.loc main_arg2)) (m (c.tc.loc main_arg3)) (m (c.tc.loc main_arg4)) (m (c.tc.loc main_arg5)) (i 0) (i 1))
      ∧ r.2.mem (c.tc.loc main_v0_1) = (fun i => NormSpec.dg (m (c.tc.loc main_arg0)) (m (c.tc.loc main_arg2)) (i 1))
      ∧ r.2.mem (c.tc.loc main_v0_2) = (fun i => BelowSpec.dgf (m (c.tc.loc main_arg0)) (m (c.tc.loc main_arg1))
        (m (c.tc.loc main_arg2)) (m (c.tc.loc main_arg3)) (m (c.tc.loc main_arg4)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  run_from Cert.BelowIdeal.Gen.run_main m ρ
  · exact final_dx m c
  · exact final_dg m c
  · exact final_dgf m c

end Cert.BelowIdeal.Value
end
-- ==== Proof.ConvIdealFrame.lean ====
module

public import proofs.«01_k».proof.Proof.Gen.ConvIdeal.Skeleton
public import proofs.«01_k».proof.Proof.Gen.ConvIdeal.Frame

/-! The body of the convolution's gradient kernel runs at every grid point, whatever its buffers hold. -/

@[expose] public section

set_option maxRecDepth 16384

noncomputable section

namespace Cert.ConvIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Gen

variable {F : FTy → Type} [FloatOps F]

local notation "𝕄" => MT nD τ sig Unit (Elt F) ℕ (UR sig nD τ) ℕ

/-- Every buffer the body is called with, at any contents. -/
def held (c : Dev nD) (t : Fin cfg0.N) : sProp 𝕄 :=
  iprop((∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) (st0_14 t) fullShare d)
    ∗ (∃ d, owns (c : Thread nD τ) (Memref.whole cc0_scratch0) fullShare d) ∗ (∃ d, owns (c : Thread nD τ) (Memref.whole cc0_scratch1) fullShare d))

/-- Which branches a point takes: the first, one in the middle, the last. -/
theorem cases : ∀ t : Fin cfg0.N, (k0_cond1 (grid0.coords t) = 1#1 ∧ ¬k0_cond2 (grid0.coords t) = 1#1 ∧ ¬k0_cond3 (grid0.coords t) = 1#1 ∧ k0_cond4 (grid0.coords t) = 1#1 ∧ ¬k0_cond5 (grid0.coords t) = 1#1 ∧ k0_cond6 (grid0.coords t) = 1#1 ∧ ¬k0_cond7 (grid0.coords t) = 1#1 ∧ k0_cond8 (grid0.coords t) = 1#1 ∧ ¬k0_cond9 (grid0.coords t) = 1#1 ∧ k0_cond10 (grid0.coords t) = 1#1 ∧ ¬k0_cond11 (grid0.coords t) = 1#1 ∧ ¬k0_cond12 (grid0.coords t) = 1#1)
    ∨ (k0_cond1 (grid0.coords t) = 1#1 ∧ k0_cond2 (grid0.coords t) = 1#1 ∧ k0_cond3 (grid0.coords t) = 1#1 ∧ ¬k0_cond4 (grid0.coords t) = 1#1 ∧ k0_cond5 (grid0.coords t) = 1#1 ∧ ¬k0_cond6 (grid0.coords t) = 1#1 ∧ k0_cond7 (grid0.coords t) = 1#1 ∧ ¬k0_cond8 (grid0.coords t) = 1#1 ∧ k0_cond9 (grid0.coords t) = 1#1 ∧ ¬k0_cond10 (grid0.coords t) = 1#1 ∧ k0_cond11 (grid0.coords t) = 1#1 ∧ ¬k0_cond12 (grid0.coords t) = 1#1)
    ∨ (¬k0_cond1 (grid0.coords t) = 1#1 ∧ k0_cond2 (grid0.coords t) = 1#1 ∧ k0_cond3 (grid0.coords t) = 1#1 ∧ ¬k0_cond4 (grid0.coords t) = 1#1 ∧ k0_cond5 (grid0.coords t) = 1#1 ∧ ¬k0_cond6 (grid0.coords t) = 1#1 ∧ k0_cond7 (grid0.coords t) = 1#1 ∧ ¬k0_cond8 (grid0.coords t) = 1#1 ∧ k0_cond9 (grid0.coords t) = 1#1 ∧ ¬k0_cond10 (grid0.coords t) = 1#1 ∧ k0_cond11 (grid0.coords t) = 1#1 ∧ k0_cond12 (grid0.coords t) = 1#1) := by decide

/-- The body runs whatever its buffers hold, and holds them afterwards. -/
theorem body_any (c : Dev nD) (t : Fin cfg0.N) :
    held c t ⊢ wp frame (wpE (defs₀ (F := F)) Variants.none c none) Set.univ (bodyAt0 t) (fun _ => held c t) := by
  unfold held owns
  iintro ⟨⟨%dH0, %fH0, %hH0, H0⟩, ⟨%dH1, %fH1, %hH1, H1⟩, ⟨%dH2, %fH2, %hH2, H2⟩, ⟨%dH3, %fH3, %hH3, H3⟩, ⟨%dH4, %fH4, %hH4, H4⟩, ⟨%dH5, %fH5, %hH5, H5⟩, ⟨%dH6, %fH6, %hH6, H6⟩, ⟨%dH7, %fH7, %hH7, H7⟩, ⟨%dH8, %fH8, %hH8, H8⟩, ⟨%dH9, %fH9, %hH9, H9⟩, ⟨%dH10, %fH10, %hH10, H10⟩, ⟨%dH11, %fH11, %hH11, H11⟩, ⟨%dH12, %fH12, %hH12, H12⟩, ⟨%dH13, %fH13, %hH13, H13⟩, ⟨%dH14, %fH14, %hH14, H14⟩, ⟨%dS0, %fS0, %hS0, S0⟩, ⟨%dS1, %fS1, %hS1, S1⟩⟩
  rcases cases t with ⟨h1, h2, h3, h4, h5, h6, h7, h8, h9, h10, h11, h12⟩ | ⟨h1, h2, h3, h4, h5, h6, h7, h8, h9, h10, h11, h12⟩ | ⟨h1, h2, h3, h4, h5, h6, h7, h8, h9, h10, h11, h12⟩ <;>
    (sl_exec_parts (disch := first | sl_exact h1 | sl_exact h2 | sl_exact h3 | sl_exact h4 | sl_exact h5 | sl_exact h6 | sl_exact h7 | sl_exact h8 | sl_exact h9 | sl_exact h10 | sl_exact h11 | sl_exact h12)
     sl_step
     sl_close)

/-- The buffers the host writes after the region. -/
def results : Finset (Ref sig .tc) := {main_v4, main_v5}

theorem tail_writes : ∀ ops ∈ ([hostOps1] : List (List (HloOp τ sig (Elt F)))), ∀ op ∈ ops, ∀ b : Ref sig .tc,
    Proc.devRef .tc b ∈ op.writes → b ∈ results := by
  intro ops hops op hop b hb
  simp only [List.mem_cons, List.mem_nil_iff, or_false] at hops
  subst hops
  simp only [hostOps1, List.mem_cons, List.mem_nil_iff, or_false] at hop
  by_contra hn
  simp only [results, Finset.mem_insert, Finset.mem_singleton, not_or] at hn
  rcases hop with rfl | rfl <;>
    (simp only [StableHlo.unary_writes, StableHlo.binary_writes, StableHlo.reshape_writes, Finset.mem_singleton] at hb
     exact StableHlo.devRef_ne_of_ne (by tauto) hb)

/-- What a run of the region needs of the buffers: the inputs as the host left them, of the rest nothing. -/
def rdats (m : (ℓ : Loc nD τ sig) → Buf (Elt F) ℓ) (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem carries_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem obligation (m : (ℓ : Loc nD τ sig) → Buf (Elt F) ℓ) (c : Dev nD) :
    (rdats m c).BodyObligation (defs₀ (F := F)) Variants.none () Set.univ := fun t Y _ => by
  rw [bigSep_W0, bigSep_W0]
  show iprop(Pipeline.ΦA spec0 c ∗ (rdats m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14))
    ⊢ wp frame (wpE (defs₀ (F := F)) Variants.none c none) Set.univ (bodyAt0 t) (fun _ => iprop(Pipeline.ΦA spec0 c ∗ (rdats m c).owesAt () t.castSucc ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜True⌝ ∗ owns (c : Thread nD τ) (st0_10 t) fullShare X) ∗ (∃ X, ⌜True⌝ ∗ owns (c : Thread nD τ) (st0_11 t) fullShare X) ∗ (∃ X, ⌜True⌝ ∗ owns (c : Thread nD τ) (st0_12 t) fullShare X) ∗ (∃ X, ⌜True⌝ ∗ owns (c : Thread nD τ) (st0_13 t) fullShare X) ∗ (∃ X, ⌜True⌝ ∗ owns (c : Thread nD τ) (st0_14 t) fullShare X)))
  rw [carries_eq]
  refine (?_ : _ ⊢ iprop(held c t ∗ (∃ r, prngReg c r) ∗ (rdats m c).owesAt () t.castSucc)).trans
    ((sep_mono_left (body_any c t)).trans ((wp_frame_r frame _ Set.univ).trans (wp_mono _ _ _ fun _ => ?_)))
  · unfold held
    generalize (rdats m c).owesAt () t.castSucc = R
    iintro ⟨⟨⟨⟨%s0, S0⟩, ⟨%s1, S1⟩⟩, ⟨%g, Hg⟩⟩, Ho, H0, H1, H2, H3, H4, H5, H6, H7, H8, H9, H10, H11, H12, H13, H14⟩
    sl_close
  · unfold held
    generalize (rdats m c).owesAt () t.castSucc = R
    iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%s0, S0⟩, ⟨%s1, S1⟩⟩, ⟨%g, Hg⟩, Ho⟩
    sl_close

set_option backward.isDefEq.respectTransparency.types false in
theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), (h.1.arr_in c 5 rfl).trans (V_main_arg2 m c), (h.1.arr_in c 6 rfl).trans (V_main_arg3 m c), (h.1.arr_in c 7 rfl).trans (V_main_arg4 m c), (h.1.arr_in c 8 rfl).trans (V_main_arg5 m c)⟩, h.2⟩)
    (Pipeline.RDat.θ_run_frame_around_T_track_shared (Q' := fun r => Pipeline.RDat.FramePostR cfg0 (rdats m) results (fun c b => V0 m c (Proc.devRef .tc b)) r ∧ r.2.sem = fun _ => 0)
      cfgs (0 : Fin 1) launch₀0 defs₀ Variants.none (rdats m) results m ρ main
      (hbody := obligation m) (hq := fun _ _ _ => rfl) (howed := fun _ _ => rfl) (V₀ := V0 m) (opss := [hostOps1])
      (hsub := sfx_sub) (hfresh := sfx_fresh) (hkeep := sfx_keeps) (hT := tail_writes) (hmain := hmain m Variants.none)
      (hA := fun _ _ => rfl) (hin := fun _ => .rfl) (hout := fun _ => .rfl))
end Cert.ConvIdeal

end
-- ==== Proof.LossSpec.lean ====
module

public import proofs.«01_k».proof.Proof.Rms

/-! What the pair `Loss` computes: the mean squared error of the normalised rows, and its gradients. -/

@[expose] public section

set_option maxRecDepth 16384

noncomputable section

namespace LossSpec
open Idealize.ShloMosaic Rms

theorem half_eq : Ideal.ofBits FTy.f32 1056964608#32 = ((1 / 2 : ℝ) : EReal) := by
  simp [Ideal.ofBits, Ideal.ieee, -EReal.coe_mul]; norm_num

theorem two_eq : Ideal.ofBits FTy.f32 1073741824#32 = ((2 : ℝ) : EReal) := by
  simp [Ideal.ofBits, Ideal.ieee, -EReal.coe_mul]; norm_num

theorem width_eq : Ideal.ofBits FTy.f32 1149239296#32 = ((1024 : ℝ) : EReal) := by
  simp [Ideal.ofBits, Ideal.ieee, -EReal.coe_mul]; norm_num

theorem inv_width_eq : Ideal.ofBits FTy.f32 981467136#32 = ((1 / 1024 : ℝ) : EReal) := by
  simp [Ideal.ofBits, Ideal.ieee, -EReal.coe_mul]; norm_num

/-- A half, over the width, of twice a number is the number over the width. -/
theorem scale_eq (y : EReal) : Ideal.div (Ideal.ofBits FTy.f32 1056964608#32) (Ideal.ofBits FTy.f32 1149239296#32) *
    (Ideal.ofBits FTy.f32 1073741824#32 * y) = y * Ideal.ofBits FTy.f32 981467136#32 := by
  rw [half_eq, two_eq, width_eq, inv_width_eq, Ideal.div_coe (by norm_num), ← mul_assoc, ← EReal.coe_mul, ← EReal.coe_mul,
    mul_comm]
  norm_num

/-- The half of a sum is the sum of the halves. -/
theorem half_sum {n : Nat} (f : Fin n → EReal) : Ideal.ofBits FTy.f32 1056964608#32 * ∑ k, f k =
    ∑ k, Ideal.ofBits FTy.f32 1056964608#32 * f k := by
  have h0 : (0 : EReal) ≤ Ideal.ofBits FTy.f32 1056964608#32 := by
    rw [half_eq]; exact EReal.coe_nonneg.mpr (by norm_num)
  have h1 : Ideal.ofBits FTy.f32 1056964608#32 ≠ (⊤ : EReal) := by rw [half_eq]; exact EReal.coe_ne_top _
  exact map_sum (⟨⟨fun x => Ideal.ofBits FTy.f32 1056964608#32 * x, mul_zero _⟩,
    fun a b => EReal.left_distrib_of_nonneg_of_ne_top h0 h1 a b⟩ : EReal →+ EReal) f Finset.univ

/-- The gradient of a row's error at the normalised row. -/
def ct (x g t : Row) : Row := fun l => (norm x g l - t l) * Ideal.ofBits FTy.f32 981467136#32

/-- A row's mean squared error. -/
def rowLoss (x g t : Row) : EReal :=
  Ideal.div (∑ l, (norm x g l - t l) * (norm x g l - t l)) (Ideal.ofBits FTy.f32 1149239296#32)

/-- The loss. -/
def loss (X : Mat 8192) (G : Mat 1) (T : Mat 8192) : EReal :=
  Ideal.ofBits FTy.f32 1056964608#32 * ∑ r : Fin 8192, rowLoss (rowOf X r) (rowOf G 0) (rowOf T r)

/-- One entry of the gradient at the hidden state. -/
def dh (X : Mat 8192) (G : Mat 1) (T : Mat 8192) (r : Fin 8192) (l : Fin 1024) : EReal :=
  grad (rowOf X r) (rowOf G 0) (ct (rowOf X r) (rowOf G 0) (rowOf T r)) l

/-- One entry of the gradient in the norm's scale. -/
def dg (X : Mat 8192) (G : Mat 1) (T : Mat 8192) (l : Fin 1024) : EReal :=
  ∑ r : Fin 8192, gradScale (rowOf X r) (ct (rowOf X r) (rowOf G 0) (rowOf T r)) l

end LossSpec
end
-- ==== Proof.GateSpec.lean ====
module

public import proofs.«01_k».proof.Proof.LossSpec
public import Idealize.ShloMosaic.Lib.Pointwise
public import Idealize.ShloMosaic.Lib.Pointwise.Sums

/-! The gradient of the gated product, written over the arrays, and the same over the padded columns the kernel works on. -/

@[expose] public section

set_option maxRecDepth 16384

noncomputable section

namespace GateSpec
open Idealize.ShloMosaic

/-- Rows of the tokens, and the three weights. -/
abbrev Tok := FVec Ideal ⟨2, ![8192, 1024]⟩ .f32
@[inherit_doc Tok]
abbrev Up := FVec Ideal ⟨2, ![1024, 2816]⟩ .f32
@[inherit_doc Tok]
abbrev Down := FVec Ideal ⟨2, ![2816, 1024]⟩ .f32

/-- One half, as the programs write it. -/
abbrev half : EReal := Ideal.ofBits FTy.f32 1056964608#32

/-- The cotangent of the product with the last weight. -/
def dy (d : Tok) (r : Fin 8192) (l : Fin 1024) : EReal := half * d (ix2 r l)

/-- A hidden column before the gate. -/
def hid (y : Tok) (w : Up) (r : Fin 8192) (k : Fin 2816) : EReal := ∑ l : Fin 1024, y (ix2 r l) * w (ix2 l k)

/-- The cotangent of the gated hidden column. -/
def dhid (d : Tok) (w : Down) (r : Fin 8192) (k : Fin 2816) : EReal := ∑ l : Fin 1024, dy d r l * w (ix2 k l)

/-- The gate. -/
def silu (a : EReal) : EReal := a * Ideal.logistic a

/-- The cotangent that reaches the gate's argument from `x` at its value: the two summands of the product rule. -/
def siluPull (a x : EReal) : EReal := x * Ideal.logistic a + a * x * (Ideal.logistic a * (1 - Ideal.logistic a))

/-- The same with the gate's derivative as one factor. -/
def siluFactor (a x : EReal) : EReal := x * (Ideal.logistic a * (1 + a * (1 - Ideal.logistic a)))

theorem siluFactor_eq (a : EReal) (x : ℝ) : siluFactor a x = siluPull a x := by
  unfold siluFactor siluPull
  induction a with
  | bot =>
    have e : Ideal.exp ⊤ = ⊤ := rfl
    have h : Ideal.logistic ⊥ = 0 := by
      unfold Ideal.logistic
      rw [EReal.neg_bot, e]
      have e1 : (1 : EReal) + ⊤ = ⊤ := EReal.coe_add_top 1
      show Ideal.div 1 ((1 : EReal) + ⊤) = 0
      rw [e1]
      simp [Ideal.div]
    simp [h]
  | top =>
    have e : Ideal.exp ⊥ = 0 := rfl
    have h : Ideal.logistic ⊤ = 1 := by simp [Ideal.logistic, e, Ideal.div]
    have h1 : (1 : EReal) - 1 = 0 := by rw [← EReal.coe_one, ← EReal.coe_sub, sub_self]; rfl
    simp [h, h1]
  | coe a =>
    rw [Ideal.logistic_coe]
    norm_cast
    congr 1
    ring

def db (y : Tok) (w1 : Up) (w2 : Down) (d : Tok) (r : Fin 8192) (k : Fin 2816) : EReal := dhid d w2 r k * silu (hid y w1 r k)
def da (y : Tok) (w1 w3 : Up) (w2 : Down) (d : Tok) (r : Fin 8192) (k : Fin 2816) : EReal :=
  siluPull (hid y w1 r k) (dhid d w2 r k * hid y w3 r k)

/-- The four gradients. -/
def dx (y : Tok) (w1 w3 : Up) (w2 : Down) (d : Tok) (r : Fin 8192) (l : Fin 1024) : EReal :=
  ∑ k, da y w1 w3 w2 d r k * w1 (ix2 l k) + ∑ k, db y w1 w2 d r k * w3 (ix2 l k)
@[inherit_doc dx]
def dw1 (y : Tok) (w1 w3 : Up) (w2 : Down) (d : Tok) (l : Fin 1024) (k : Fin 2816) : EReal :=
  ∑ r, y (ix2 r l) * da y w1 w3 w2 d r k
@[inherit_doc dx]
def dw3 (y : Tok) (w1 : Up) (w2 : Down) (d : Tok) (l : Fin 1024) (k : Fin 2816) : EReal :=
  ∑ r, y (ix2 r l) * db y w1 w2 d r k
@[inherit_doc dx]
def dw2 (y : Tok) (w1 w3 : Up) (d : Tok) (k : Fin 2816) (l : Fin 1024) : EReal :=
  ∑ r, silu (hid y w1 r k) * hid y w3 r k * dy d r l

/-! ## Finite arguments -/

/-- Every entry is a real number. -/
def Real {n k : Nat} (x : FVec Ideal ⟨2, ![n, k]⟩ .f32) : Prop := ∀ i j, ∃ v : ℝ, x (ix2 i j) = (v : EReal)

theorem sum_real {ι : Type*} (s : Finset ι) (f : ι → EReal) (h : ∀ i ∈ s, ∃ v : ℝ, f i = (v : EReal)) :
    ∃ v : ℝ, ∑ i ∈ s, f i = (v : EReal) := by
  refine Finset.sum_induction f (fun a => ∃ v : ℝ, a = (v : EReal)) ?_ ⟨0, EReal.coe_zero.symm⟩ h
  rintro _ _ ⟨u, rfl⟩ ⟨v, rfl⟩
  exact ⟨u + v, (EReal.coe_add u v).symm⟩

theorem mul_real {a b : EReal} (ha : ∃ v : ℝ, a = (v : EReal)) (hb : ∃ v : ℝ, b = (v : EReal)) :
    ∃ v : ℝ, a * b = (v : EReal) := by
  obtain ⟨u, rfl⟩ := ha
  obtain ⟨v, rfl⟩ := hb
  exact ⟨u * v, (EReal.coe_mul u v).symm⟩

theorem hid_real {y : Tok} {w : Up} (hy : Real y) (hw : Real w) (r : Fin 8192) (k : Fin 2816) :
    ∃ v : ℝ, hid y w r k = (v : EReal) := sum_real _ _ fun l _ => mul_real (hy r l) (hw l k)

theorem dhid_real {d : Tok} {w : Down} (hd : Real d) (hw : Real w) (r : Fin 8192) (k : Fin 2816) :
    ∃ v : ℝ, dhid d w r k = (v : EReal) :=
  sum_real _ _ fun l _ => mul_real (mul_real ⟨_, LossSpec.half_eq⟩ (hd r l)) (hw k l)

theorem da_factor {y : Tok} {w1 w3 : Up} {w2 : Down} {d : Tok} (hy : Real y) (h3 : Real w3) (h2 : Real w2) (hd : Real d)
    (r : Fin 8192) (k : Fin 2816) :
    siluFactor (hid y w1 r k) (dhid d w2 r k * hid y w3 r k) = da y w1 w3 w2 d r k := by
  obtain ⟨v, hv⟩ := mul_real (dhid_real hd h2 r k) (hid_real hy h3 r k)
  unfold da
  rw [hv, siluFactor_eq]

/-! ## The padded columns

The columns come as four chunks of 768, a chunk as two stretches of 384, of which the first 352 hold columns of the weight
and the others zeros. -/

/-- Whether place `j` of a chunk holds a column. -/
abbrev Held (j : Fin 768) : Prop := j.val % 384 < 352

/-- The column at place `j` of chunk `c`. -/
def col (c : Fin 4) (j : Fin 768) (h : Held j) : Fin 2816 := ⟨(c.val * 2 + j.val / 384) * 352 + j.val % 384, by omega⟩

/-- A function of the columns, zero at the places that hold none. -/
def spread (f : Fin 2816 → EReal) (c : Fin 4) (j : Fin 768) : EReal := if h : Held j then f (col c j h) else 0

theorem spread_sum (f : Fin 2816 → EReal) : ∑ c : Fin 4, ∑ j : Fin 768, spread f c j = ∑ k, f k := by
  rw [Fin.sum_univ_tiles 4 704 rfl f]
  refine Finset.sum_congr rfl fun c _ => ?_
  rw [Fin.sum_univ_tiles 2 384 rfl, Fin.sum_univ_tiles 2 352 rfl]
  refine Finset.sum_congr rfl fun e _ => ?_
  refine (Fin.sum_univ_add (a := 352) (b := 32) _).trans ?_
  rw [Finset.sum_eq_zero (s := (Finset.univ : Finset (Fin 32))), add_zero]
  · refine Finset.sum_congr rfl fun q _ => ?_
    have hq := q.isLt
    have he := e.isLt
    unfold spread
    rw [dif_pos (by show (e.val * 384 + q.val) % 384 < 352; omega)]
    refine congrArg f (Fin.ext ?_)
    show (c.val * 2 + (e.val * 384 + q.val) / 384) * 352 + (e.val * 384 + q.val) % 384 = c.val * 704 + (e.val * 352 + q.val)
    omega
  · intro q _
    have hq := q.isLt
    unfold spread
    exact dif_neg (by show ¬ (e.val * 384 + (352 + q.val)) % 384 < 352; omega)

section
variable (y : Tok) (w1 w3 : Up) (w2 : Down) (d : Tok) (r : Fin 8192) (c : Fin 4) (j : Fin 768)

/-- The kernel's four quantities at a place. -/
def hidP (w : Up) : EReal := ∑ l : Fin 1024, y (ix2 r l) * spread (fun k => w (ix2 l k)) c j
@[inherit_doc hidP]
def dhidP : EReal := ∑ l : Fin 1024, dy d r l * spread (fun k => w2 (ix2 k l)) c j
@[inherit_doc hidP]
def dbP : EReal := dhidP w2 d r c j * silu (hidP y r c j w1)
@[inherit_doc hidP]
def daP : EReal := siluFactor (hidP y r c j w1) (dhidP w2 d r c j * hidP y r c j w3)

theorem hidP_eq (w : Up) : hidP y r c j w = spread (hid y w r) c j := by
  unfold hidP spread
  by_cases h : Held j <;> simp [h, hid]

theorem dhidP_eq : dhidP w2 d r c j = spread (dhid d w2 r) c j := by
  unfold dhidP spread
  by_cases h : Held j <;> simp [h, dhid]

theorem dbP_eq : dbP y w1 w2 d r c j = spread (db y w1 w2 d r) c j := by
  unfold dbP
  rw [hidP_eq, dhidP_eq]
  unfold spread
  by_cases h : Held j <;> simp [h, db]

theorem daP_eq (hy : Real y) (h3 : Real w3) (h2 : Real w2) (hd : Real d) :
    daP y w1 w3 w2 d r c j = spread (da y w1 w3 w2 d r) c j := by
  unfold daP
  rw [hidP_eq, hidP_eq, dhidP_eq]
  unfold spread
  by_cases h : Held j
  · simp only [h, dif_pos]
    exact da_factor hy h3 h2 hd r _
  · simp [h, siluFactor]

theorem spread_mul (f g : Fin 2816 → EReal) : spread f c j * spread g c j = spread (fun k => f k * g k) c j := by
  unfold spread
  by_cases h : Held j <;> simp [h]

/-- The place of column `k`. -/
theorem spread_place (f : Fin 2816 → EReal) (k : Fin 2816) (hc : k.val / 352 / 2 < 4)
    (hj : k.val / 352 % 2 * 384 + k.val % 352 < 768) :
    spread f ⟨k.val / 352 / 2, hc⟩ ⟨k.val / 352 % 2 * 384 + k.val % 352, hj⟩ = f k := by
  have hk := k.isLt
  unfold spread
  rw [dif_pos (by show (k.val / 352 % 2 * 384 + k.val % 352) % 384 < 352; omega)]
  refine congrArg f (Fin.ext ?_)
  show (k.val / 352 / 2 * 2 + (k.val / 352 % 2 * 384 + k.val % 352) / 384) * 352 + (k.val / 352 % 2 * 384 + k.val % 352) % 384 = k.val
  omega

/-- A chunk's share of the gradient at the tokens. -/
def dxP (l : Fin 1024) : EReal :=
  ∑ j, daP y w1 w3 w2 d r c j * spread (fun k => w1 (ix2 l k)) c j
    + ∑ j, dbP y w1 w2 d r c j * spread (fun k => w3 (ix2 l k)) c j

/-- A row's share of the weights' gradients at a place. -/
def rowTerm1 (l : Fin 1024) (j : Fin 768) (r : Fin 8192) : EReal := y (ix2 r l) * daP y w1 w3 w2 d r c j
@[inherit_doc rowTerm1]
def rowTerm3 (l : Fin 1024) (j : Fin 768) (r : Fin 8192) : EReal := y (ix2 r l) * dbP y w1 w2 d r c j
@[inherit_doc rowTerm1]
def rowTerm2 (j : Fin 768) (l : Fin 1024) (r : Fin 8192) : EReal :=
  silu (hidP y r c j w1) * hidP y r c j w3 * dy d r l
end

theorem silu_zero : silu 0 = 0 := zero_mul _

theorem sum_rowTerm1 {y : Tok} {w1 w3 : Up} {w2 : Down} {d : Tok} (hy : Real y) (h3 : Real w3) (h2 : Real w2) (hd : Real d)
    (c : Fin 4) (l : Fin 1024) (j : Fin 768) :
    ∑ r, rowTerm1 y w1 w3 w2 d c l j r = spread (dw1 y w1 w3 w2 d l) c j := by
  unfold rowTerm1
  simp only [daP_eq y w1 w3 w2 d _ c j hy h3 h2 hd]
  unfold spread
  by_cases h : Held j <;> simp [h, dw1]

theorem sum_rowTerm3 (y : Tok) (w1 : Up) (w2 : Down) (d : Tok) (c : Fin 4) (l : Fin 1024) (j : Fin 768) :
    ∑ r, rowTerm3 y w1 w2 d c l j r = spread (dw3 y w1 w2 d l) c j := by
  unfold rowTerm3
  simp only [dbP_eq]
  unfold spread
  by_cases h : Held j <;> simp [h, dw3]

theorem sum_rowTerm2 (y : Tok) (w1 w3 : Up) (d : Tok) (c : Fin 4) (j : Fin 768) (l : Fin 1024) :
    ∑ r, rowTerm2 y w1 w3 d c j l r = spread (fun k => dw2 y w1 w3 d k l) c j := by
  unfold rowTerm2
  simp only [hidP_eq]
  unfold spread
  by_cases h : Held j <;> simp [h, dw2, silu_zero]

theorem sum_dxP {y : Tok} {w1 w3 : Up} {w2 : Down} {d : Tok} (hy : Real y) (h3 : Real w3) (h2 : Real w2) (hd : Real d)
    (r : Fin 8192) (l : Fin 1024) : ∑ c, dxP y w1 w3 w2 d r c l = dx y w1 w3 w2 d r l := by
  unfold dxP dx
  rw [Finset.sum_add_distrib, ← spread_sum, ← spread_sum]
  simp only [daP_eq y w1 w3 w2 d r _ _ hy h3 h2 hd, dbP_eq, spread_mul]

end GateSpec
end
-- ==== Proof.GateRef.lean ====
module

public import proofs.«01_k».proof.Proof.Gen.GateReferenceIdeal.Run
public import proofs.«01_k».proof.Proof.GateSpec
public import Idealize.ShloMosaic.Lib.Pointwise

/-! The results of the reference of the pair `Gate`, entry by entry. -/

@[expose] public section

set_option maxRecDepth 16384

noncomputable section

namespace Cert.GateReferenceIdeal.Value
open Idealize.ShloMosaic Idealize.ShloMosaic.TcCoe Idealize.SL.Sem
open Cert.GateReferenceIdeal

variable (m : (ℓ : Loc nD τ sig) → Buf (Elt Ideal) ℓ)

/-- The gate as the host writes it. -/
theorem logistic_eq (a : EReal) : Ideal.div 1 (1 + Ideal.exp (-a)) = Ideal.logistic a := rfl

/-- The reference's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v21) = (fun i => GateSpec.dx (m (c.tc.loc main_arg0)) (m (c.tc.loc main_arg1)) (m (c.tc.loc main_arg2)) (m (c.tc.loc main_arg3)) (m (c.tc.loc main_arg4)) (i 0) (i 1))
      ∧ r.2.mem (c.tc.loc main_v19) = (fun i => GateSpec.dw1 (m (c.tc.loc main_arg0)) (m (c.tc.loc main_arg1)) (m (c.tc.loc main_arg2)) (m (c.tc.loc main_arg3)) (m (c.tc.loc main_arg4)) (i 0) (i 1))
      ∧ r.2.mem (c.tc.loc main_v15) = (fun i => GateSpec.dw3 (m (c.tc.loc main_arg0)) (m (c.tc.loc main_arg1)) (m (c.tc.loc main_arg3)) (m (c.tc.loc main_arg4)) (i 0) (i 1))
      ∧ r.2.mem (c.tc.loc main_v10) = (fun i => GateSpec.dw2 (m (c.tc.loc main_arg0)) (m (c.tc.loc main_arg1)) (m (c.tc.loc main_arg2)) (m (c.tc.loc main_arg4)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run defs _ _).mono (fun r h c => ?_) (run (F := Ideal) m ρ)
  obtain ⟨h0, h1, h2, h3, h4⟩ := h c
  refine ⟨h0.trans ?_, h1.trans ?_, h2.trans ?_, h3.trans ?_, h4⟩ <;> clear h h0 h1 h2 h3 h4 <;> funext i <;> idx_vars i
  · pointwise
    refine (add_comm _ _).trans ?_
    unfold GateSpec.dx
    refine congrArg₂ (· + ·) (Finset.sum_congr rfl fun k _ => rfl) (Finset.sum_congr rfl fun k _ => ?_)
    exact congrArg (· * _) (mul_comm _ _)
  · pointwise
    unfold GateSpec.dw1
    exact Finset.sum_congr rfl fun r _ => mul_comm _ _
  · pointwise
    unfold GateSpec.dw3
    refine Finset.sum_congr rfl fun r _ => (mul_comm _ _).trans ?_
    exact congrArg₂ (fun a b : EReal => a * b) rfl (mul_comm _ _)
  · pointwise
    unfold GateSpec.dw2
    exact Finset.sum_congr rfl fun r _ => mul_comm _ _

end Cert.GateReferenceIdeal.Value
end
-- ==== Proof.GateArr.lean ====
module

public import proofs.«01_k».proof.Proof.Gen.GateIdeal.Frame
public import proofs.«01_k».proof.Proof.GateSpec
public import Idealize.ShloMosaic.Lib.Pipeline.ValueKit
public import Idealize.ShloMosaic.Lib.Pointwise
public import Idealize.ShloMosaic.Lib.KernelVsHost

/-! What the kernel of the pair `Gate` finds in its arrays, and what a grid point computes from its blocks. -/

@[expose] public section

set_option maxRecDepth 16384

noncomputable section

namespace Cert.GateIdeal.Value
open Idealize.ShloMosaic Idealize.ShloMosaic.TcCoe Idealize.SL.Sem
open Idealize.ShloMosaic.Pipeline (Dat)
open Cert.GateIdeal Cert.GateIdeal.Gen

/-! ## The arrays the host prepares -/

/-- Padding the last axis from 352 to 384. -/
theorem pad_last (x : FVec Ideal S1024x8x352 .bf16) (v : FVec Ideal S_ .bf16) (hv : v = fun _ => (0 : EReal)) (l : Fin 1024)
    (e : Fin 8) (q : Fin 384) :
    pad S1024x8x384 ![0, 0, 0] ![0, 0, 32] ![0, 0, 0] x v pads_S1024x8x352_S1024x8x384_000_000_0320 h_S_ (ix3 l e q)
      = if h : q.val < 352 then (x (ix3 l e ⟨q.val, h⟩) : EReal) else 0 := by
  by_cases h : q.val < 352
  · rw [dif_pos h]
    refine pad_apply_of_inside _ _ _ _ _ _ _ _ (ix3 l e ⟨q.val, h⟩) fun a => ?_
    fin_cases a <;> simp [ix3]
  · rw [dif_neg h, pad_apply_of_not_inside _ _ _ _ _ _ _ _ (2 : Fin 3), hv]
    exact fun hh => h (by simpa [ix3, Nat.mod_one] using hh.2.2)

/-- Padding the middle axis from 352 to 384. -/
theorem pad_middle (x : FVec Ideal S8x352x1024 .bf16) (v : FVec Ideal S_ .bf16) (hv : v = fun _ => (0 : EReal)) (l : Fin 1024)
    (e : Fin 8) (q : Fin 384) :
    pad S8x384x1024 ![0, 0, 0] ![0, 32, 0] ![0, 0, 0] x v pads_S8x352x1024_S8x384x1024_000_0320_000 h_S_ (ix3 e q l)
      = if h : q.val < 352 then (x (ix3 e ⟨q.val, h⟩ l) : EReal) else 0 := by
  by_cases h : q.val < 352
  · rw [dif_pos h]
    refine pad_apply_of_inside _ _ _ _ _ _ _ _ (ix3 e ⟨q.val, h⟩ l) fun a => ?_
    fin_cases a <;> simp [ix3]
  · rw [dif_neg h, pad_apply_of_not_inside _ _ _ _ _ _ _ _ (1 : Fin 3), hv]
    exact fun hh => h (by simpa [ix3, Nat.mod_one] using hh.2.2)

theorem zero_word : (sitofp FTy.bf16 (constantI S_ 32 0#32) : FVec Ideal S_ .bf16) = fun _ => (0 : EReal) := by
  funext i
  pointwise
  simp [FloatOps.sitofp]

variable (m : (ℓ : Loc nD τ sig) → Buf (Elt Ideal) ℓ) (c : Dev nD)

theorem arr_w1 (e : Fin 4) (l : Fin 1024) (j : Fin 768) :
    V m c main_v4 (ix3 e l j) = GateSpec.spread (fun k => m (c.tc.loc main_arg1) (ix2 l k)) e j := by
  simp only [V, V0, List.flatten, List.append_eq, List.cons_append, List.nil_append, List.append_nil]
  after_results
  pointwise
  simp only [StableHlo.TRef.toBuf, StableHlo.TRef.ofBuf, cast_eq]
  rw [pad_last _ _ zero_word]
  rfl

theorem arr_w3 (e : Fin 4) (l : Fin 1024) (j : Fin 768) :
    V m c main_v9 (ix3 e l j) = GateSpec.spread (fun k => m (c.tc.loc main_arg2) (ix2 l k)) e j := by
  simp only [V, V0, List.flatten, List.append_eq, List.cons_append, List.nil_append, List.append_nil]
  after_results
  pointwise
  simp only [StableHlo.TRef.toBuf, StableHlo.TRef.ofBuf, cast_eq]
  rw [pad_last _ _ zero_word]
  rfl

theorem arr_w2 (e : Fin 4) (l : Fin 1024) (j : Fin 768) :
    V m c main_v13 (ix3 e j l) = GateSpec.spread (fun k => m (c.tc.loc main_arg3) (ix2 k l)) e j := by
  simp only [V, V0, List.flatten, List.append_eq, List.cons_append, List.nil_append, List.append_nil]
  after_results
  pointwise
  simp only [StableHlo.TRef.toBuf, StableHlo.TRef.ofBuf, cast_eq]
  rw [pad_middle _ _ zero_word]
  rfl

theorem arr_y (r : Fin 8192) (l : Fin 1024) : V m c main_v14 (ix2 r l) = m (c.tc.loc main_arg0) (ix2 r l) := by
  simp only [V, V0, List.flatten, List.append_eq, List.cons_append, List.nil_append, List.append_nil]
  after_results
  pointwise

theorem arr_a (r : Fin 8192) (J : Fin 3072) :
    V m c main_v17 (ix2 r J) = GateSpec.hidP (m (c.tc.loc main_arg0)) r ⟨J.val / 768, by omega⟩ ⟨J.val % 768, by omega⟩
      (m (c.tc.loc main_arg1)) := by
  simp only [V, V0, List.flatten, List.append_eq, List.cons_append, List.nil_append, List.append_nil]
  after_results
  pointwise
  simp only [StableHlo.TRef.toBuf, StableHlo.TRef.ofBuf, cast_eq]
  simp only [pad_last _ _ zero_word]
  rfl

theorem arr_b (r : Fin 8192) (J : Fin 3072) :
    V m c main_v20 (ix2 r J) = GateSpec.hidP (m (c.tc.loc main_arg0)) r ⟨J.val / 768, by omega⟩ ⟨J.val % 768, by omega⟩
      (m (c.tc.loc main_arg2)) := by
  simp only [V, V0, List.flatten, List.append_eq, List.cons_append, List.nil_append, List.append_nil]
  after_results
  pointwise
  simp only [StableHlo.TRef.toBuf, StableHlo.TRef.ofBuf, cast_eq]
  simp only [pad_last _ _ zero_word]
  rfl

/-! ## The blocks of a grid point -/

theorem idx : ∀ t : Fin cfg0.N, win0_0.index t = ![t.val % 16, 0] ∧ win0_1.index t = ![t.val % 16, t.val / 16]
    ∧ win0_2.index t = ![t.val % 16, t.val / 16] ∧ win0_3.index t = ![t.val % 16, 0] ∧ win0_4.index t = ![t.val / 16, 0, 0]
    ∧ win0_5.index t = ![t.val / 16, 0, 0] ∧ win0_6.index t = ![t.val / 16, 0, 0]
    ∧ win0_7.index t = ![t.val / 16, t.val % 16, 0] ∧ win0_8.index t = ![t.val / 16, 0, 0]
    ∧ win0_9.index t = ![t.val / 16, 0, 0] ∧ win0_10.index t = ![t.val / 16, 0, 0] :=
  (by decide +kernel : ∀ t : Fin grid0.N, _)

/-- The row of the whole array that is row `r` of grid point `t`. -/
def row (t : Fin cfg0.N) (r : Fin 512) : Fin 8192 := ⟨t.val % 16 * 512 + r.val, by omega⟩

/-- The chunk of columns of grid point `t`. -/
def chunk (t : Fin cfg0.N) : Fin 4 := ⟨t.val / 16, by have := lt_of_lt_of_eq t.isLt N_0; omega⟩

section
variable (t : Fin cfg0.N)

theorem blk_d (r : Fin 512) (l : Fin 1024) : iblk m c 0 t (ix2 r l) = m (c.tc.loc main_arg4) (ix2 (row t r) l) := by
  refine Eq.trans (b := V m c main_arg4 (ix2 (row t r) l)) ?_ ?_
  · blk_point [iblk, idx t, row]
  · simp only [V, V0, List.flatten, List.append_eq, List.cons_append, List.nil_append, List.append_nil]
    after_results

theorem blk_y (r : Fin 512) (l : Fin 1024) : iblk m c 3 t (ix2 r l) = m (c.tc.loc main_arg0) (ix2 (row t r) l) := by
  refine Eq.trans (b := V m c main_v14 (ix2 (row t r) l)) ?_ (arr_y m c _ _)
  blk_point [iblk, idx t, row]

theorem blk_w1 (l : Fin 1024) (j : Fin 768) :
    iblk m c 4 t (ix3 0 l j) = GateSpec.spread (fun k => m (c.tc.loc main_arg1) (ix2 l k)) (chunk t) j := by
  refine Eq.trans (b := V m c main_v4 (ix3 (chunk t) l j)) ?_ (arr_w1 m c _ _ _)
  blk_point [iblk, idx t, chunk]

theorem blk_w3 (l : Fin 1024) (j : Fin 768) :
    iblk m c 5 t (ix3 0 l j) = GateSpec.spread (fun k => m (c.tc.loc main_arg2) (ix2 l k)) (chunk t) j := by
  refine Eq.trans (b := V m c main_v9 (ix3 (chunk t) l j)) ?_ (arr_w3 m c _ _ _)
  blk_point [iblk, idx t, chunk]

theorem blk_w2 (j : Fin 768) (l : Fin 1024) :
    iblk m c 6 t (ix3 0 j l) = GateSpec.spread (fun k => m (c.tc.loc main_arg3) (ix2 k l)) (chunk t) j := by
  refine Eq.trans (b := V m c main_v13 (ix3 (chunk t) j l)) ?_ (arr_w2 m c _ _ _)
  blk_point [iblk, idx t, chunk]

/-- Column `j` of chunk `e` among the 3072 padded columns. -/
def place (e : Fin 4) (j : Fin 768) : Fin 3072 := ⟨e.val * 768 + j.val, by omega⟩

theorem place_div (e : Fin 4) (j : Fin 768) (h) : (⟨(place e j).val / 768, h⟩ : Fin 4) = e :=
  Fin.ext (by show (e.val * 768 + j.val) / 768 = e.val; omega)
theorem place_mod (e : Fin 4) (j : Fin 768) (h) : (⟨(place e j).val % 768, h⟩ : Fin 768) = j :=
  Fin.ext (by show (e.val * 768 + j.val) % 768 = j.val; omega)

theorem blk_a (r : Fin 512) (j : Fin 768) : iblk m c 1 t (ix2 r j)
    = GateSpec.hidP (m (c.tc.loc main_arg0)) (row t r) (chunk t) j (m (c.tc.loc main_arg1)) := by
  refine Eq.trans (b := V m c main_v17 (ix2 (row t r) (place (chunk t) j))) ?_ ?_
  · blk_point [iblk, idx t, row, chunk, place]
  · rw [arr_a, place_div, place_mod]

theorem blk_b (r : Fin 512) (j : Fin 768) : iblk m c 2 t (ix2 r j)
    = GateSpec.hidP (m (c.tc.loc main_arg0)) (row t r) (chunk t) j (m (c.tc.loc main_arg2)) := by
  refine Eq.trans (b := V m c main_v20 (ix2 (row t r) (place (chunk t) j))) ?_ ?_
  · blk_point [iblk, idx t, row, chunk, place]
  · rw [arr_b, place_div, place_mod]
end

end Cert.GateIdeal.Value
end
-- ==== Proof.GatePoint.lean ====
module

public import proofs.«01_k».proof.Proof.GateArr

/-! What a grid point of the pair `Gate` computes, entry by entry. -/

@[expose] public section

set_option maxRecDepth 16384

noncomputable section

namespace Cert.GateIdeal.Value
open Idealize.ShloMosaic Idealize.ShloMosaic.TcCoe Idealize.SL.Sem
open Idealize.ShloMosaic.Pipeline (Dat)
open Cert.GateIdeal Cert.GateIdeal.Gen

section
variable (D : Vec Ideal S512x1024 .f32) (A B : Vec Ideal S512x768 .bf16) (Y : Vec Ideal S512x1024 .bf16)
  (W1 W3 : Vec Ideal S1x1024x768 .bf16) (W2 : Vec Ideal S1x768x1024 .bf16)

theorem pay_db (r : Fin 512) (j : Fin 768) : k0_pay21 (F := Ideal) D W2 A (ix2 r j)
    = (∑ l : Fin 1024, GateSpec.half * D (ix2 r l) * W2 (ix3 0 j l)) * GateSpec.silu (A (ix2 r j)) := by
  pointwise [k0_pay21, k0_pay20, k0_pay19, k0_pay18, k0_pay17, k0_pay16, k0_pay13]
  rfl

theorem pay_da (r : Fin 512) (j : Fin 768) : k0_pay22 (F := Ideal) D W2 A B (ix2 r j)
    = GateSpec.siluFactor (A (ix2 r j)) ((∑ l : Fin 1024, GateSpec.half * D (ix2 r l) * W2 (ix3 0 j l)) * B (ix2 r j)) := by
  pointwise [k0_pay22, k0_pay20, k0_pay18, k0_pay17, k0_pay16, k0_pay13]
  rfl

theorem pay_dx (x : FVec Ideal S512x768 .bf16) (z : FVec Ideal S512x768 .f32) (r : Fin 512) (l : Fin 1024) :
    k0_pay2 (F := Ideal) (k0_pay14 W1) (k0_pay15 W3) x z (ix3 0 r l)
      = ∑ j : Fin 768, z (ix2 r j) * W1 (ix3 0 l j) + ∑ j : Fin 768, x (ix2 r j) * W3 (ix3 0 l j) := by
  pointwise [k0_pay2, k0_pay1, k0_pay14, k0_pay15]

theorem pay_dw1 (z : FVec Ideal S512x768 .f32) (a : Vec Ideal S1024x768 .f32) (l : Fin 1024) (j : Fin 768) :
    k0_pay3 (F := Ideal) (k0_pay12 Y) z a (ix2 l j) = a (ix2 l j) + ∑ r : Fin 512, Y (ix2 r l) * z (ix2 r j) := by
  pointwise [k0_pay3, k0_pay1, k0_pay12]

theorem pay_dw3 (z : FVec Ideal S512x768 .bf16) (a : Vec Ideal S1024x768 .f32) (l : Fin 1024) (j : Fin 768) :
    k0_pay4 (F := Ideal) (k0_pay12 Y) z a (ix2 l j) = a (ix2 l j) + ∑ r : Fin 512, Y (ix2 r l) * z (ix2 r j) := by
  pointwise [k0_pay4, k0_pay12]

theorem pay_dw2 (a : Vec Ideal S768x1024 .f32) (j : Fin 768) (l : Fin 1024) :
    k0_pay5 (F := Ideal) (k0_pay13 D) (k0_pay17 B) (k0_pay19 A) a (ix2 j l)
      = a (ix2 j l) + ∑ r : Fin 512, GateSpec.silu (A (ix2 r j)) * B (ix2 r j) * (GateSpec.half * D (ix2 r l)) := by
  pointwise [k0_pay5, k0_pay13, k0_pay16, k0_pay17, k0_pay18, k0_pay19]
  rfl
end

theorem pay_zero1 (l : Fin 1024) (j : Fin 768) : k0_pay9 (F := Ideal) (ix2 l j) = (0 : EReal) := by
  pointwise [k0_pay9]
theorem pay_zero3 (l : Fin 1024) (j : Fin 768) : k0_pay10 (F := Ideal) (ix2 l j) = (0 : EReal) := by
  pointwise [k0_pay10]
theorem pay_zero2 (j : Fin 768) (l : Fin 1024) : k0_pay11 (F := Ideal) (ix2 j l) = (0 : EReal) := by
  pointwise [k0_pay11]
theorem pay_out1 (a : Vec Ideal S1024x768 .f32) (l : Fin 1024) (j : Fin 768) :
    k0_pay6 (F := Ideal) a (ix3 0 l j) = a (ix2 l j) := by
  pointwise [k0_pay6]
theorem pay_out3 (a : Vec Ideal S1024x768 .f32) (l : Fin 1024) (j : Fin 768) :
    k0_pay7 (F := Ideal) a (ix3 0 l j) = a (ix2 l j) := by
  pointwise [k0_pay7]
theorem pay_out2 (a : Vec Ideal S768x1024 .f32) (j : Fin 768) (l : Fin 1024) :
    k0_pay8 (F := Ideal) a (ix3 0 j l) = a (ix2 j l) := by
  pointwise [k0_pay8]

variable (m : (ℓ : Loc nD τ sig) → Buf (Elt Ideal) ℓ) (c : Dev nD) (t : Fin cfg0.N)

theorem point_db (r : Fin 512) (j : Fin 768) :
    k0_pay21 (F := Ideal) (iblk m c 0 t) (iblk m c 6 t) (iblk m c 1 t) (ix2 r j)
      = GateSpec.dbP (m (c.tc.loc main_arg0)) (m (c.tc.loc main_arg1)) (m (c.tc.loc main_arg3)) (m (c.tc.loc main_arg4))
          (row t r) (chunk t) j := by
  refine (pay_db _ _ _ r j).trans ?_
  unfold GateSpec.dbP
  rw [blk_a]
  refine congrArg (fun u : EReal => u * _) (Finset.sum_congr rfl fun l _ => ?_)
  rw [blk_d, blk_w2]
  rfl

theorem point_da (r : Fin 512) (j : Fin 768) :
    k0_pay22 (F := Ideal) (iblk m c 0 t) (iblk m c 6 t) (iblk m c 1 t) (iblk m c 2 t) (ix2 r j)
      = GateSpec.daP (m (c.tc.loc main_arg0)) (m (c.tc.loc main_arg1)) (m (c.tc.loc main_arg2)) (m (c.tc.loc main_arg3))
          (m (c.tc.loc main_arg4)) (row t r) (chunk t) j := by
  refine (pay_da _ _ _ _ r j).trans ?_
  unfold GateSpec.daP
  rw [blk_a, blk_b]
  refine congrArg (fun u : EReal => GateSpec.siluFactor _ (u * _)) (Finset.sum_congr rfl fun l _ => ?_)
  rw [blk_d, blk_w2]
  rfl

theorem point_dx (r : Fin 512) (l : Fin 1024) :
    k0_pay2 (F := Ideal) (k0_pay14 (iblk m c 4 t)) (k0_pay15 (iblk m c 5 t))
      (k0_pay21 (iblk m c 0 t) (iblk m c 6 t) (iblk m c 1 t))
      (k0_pay22 (iblk m c 0 t) (iblk m c 6 t) (iblk m c 1 t) (iblk m c 2 t)) (ix3 0 r l)
      = GateSpec.dxP (m (c.tc.loc main_arg0)) (m (c.tc.loc main_arg1)) (m (c.tc.loc main_arg2)) (m (c.tc.loc main_arg3))
          (m (c.tc.loc main_arg4)) (row t r) (chunk t) l := by
  refine (pay_dx _ _ _ _ r l).trans ?_
  unfold GateSpec.dxP
  refine congrArg₂ (fun u v : EReal => u + v) (Finset.sum_congr rfl fun j _ => ?_) (Finset.sum_congr rfl fun j _ => ?_)
  · rw [point_da, blk_w1]
  · rw [point_db, blk_w3]

/-- The shares of a grid point in the three weights' gradients. -/
def term1 (l : Fin 1024) (j : Fin 768) : EReal := ∑ r : Fin 512, GateSpec.rowTerm1 (m (c.tc.loc main_arg0))
  (m (c.tc.loc main_arg1)) (m (c.tc.loc main_arg2)) (m (c.tc.loc main_arg3)) (m (c.tc.loc main_arg4)) (chunk t) l j (row t r)
@[inherit_doc term1]
def term3 (l : Fin 1024) (j : Fin 768) : EReal := ∑ r : Fin 512, GateSpec.rowTerm3 (m (c.tc.loc main_arg0))
  (m (c.tc.loc main_arg1)) (m (c.tc.loc main_arg3)) (m (c.tc.loc main_arg4)) (chunk t) l j (row t r)
@[inherit_doc term1]
def term2 (j : Fin 768) (l : Fin 1024) : EReal := ∑ r : Fin 512, GateSpec.rowTerm2 (m (c.tc.loc main_arg0))
  (m (c.tc.loc main_arg1)) (m (c.tc.loc main_arg2)) (m (c.tc.loc main_arg4)) (chunk t) j l (row t r)

theorem step1 (a : Vec Ideal S1024x768 .f32) (l : Fin 1024) (j : Fin 768) :
    k0_pay3 (F := Ideal) (k0_pay12 (iblk m c 3 t))
      (k0_pay22 (iblk m c 0 t) (iblk m c 6 t) (iblk m c 1 t) (iblk m c 2 t)) a (ix2 l j) = a (ix2 l j) + term1 m c t l j := by
  refine (pay_dw1 _ _ _ l j).trans (congrArg (fun u : EReal => _ + u) (Finset.sum_congr rfl fun r _ => ?_))
  rw [point_da, blk_y]
  rfl

theorem step3 (a : Vec Ideal S1024x768 .f32) (l : Fin 1024) (j : Fin 768) :
    k0_pay4 (F := Ideal) (k0_pay12 (iblk m c 3 t)) (k0_pay21 (iblk m c 0 t) (iblk m c 6 t) (iblk m c 1 t)) a (ix2 l j)
      = a (ix2 l j) + term3 m c t l j := by
  refine (pay_dw3 _ _ _ l j).trans (congrArg (fun u : EReal => _ + u) (Finset.sum_congr rfl fun r _ => ?_))
  rw [point_db, blk_y]
  rfl

theorem step2 (a : Vec Ideal S768x1024 .f32) (j : Fin 768) (l : Fin 1024) :
    k0_pay5 (F := Ideal) (k0_pay13 (iblk m c 0 t)) (k0_pay17 (iblk m c 2 t)) (k0_pay19 (iblk m c 1 t)) a (ix2 j l)
      = a (ix2 j l) + term2 m c t j l := by
  refine (pay_dw2 _ _ _ _ j l).trans (congrArg (fun u : EReal => _ + u) (Finset.sum_congr rfl fun r _ => ?_))
  rw [blk_a, blk_b, blk_d]
  rfl

end Cert.GateIdeal.Value
end
-- ==== Proof.GateValue.lean ====
module

public import proofs.«01_k».proof.Proof.GatePoint
public import proofs.«01_k».proof.Proof.Gen.Pre_gate_finite
public import proofs.«01_k».proof.Defs

/-! The arrays the kernel of the pair `Gate` leaves, and its results. -/

@[expose] public section

set_option maxRecDepth 16384

noncomputable section

namespace Cert.GateIdeal.Value
open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ) (c : Dev nD)

theorem dx_at (t : Fin cfg0.N) (r : Fin 512) (l : Fin 1024) :
    ((View.whole main_v21_0).slice (win0_7.rect t)).emb (ix3 0 r l) = ix3 (chunk t) (row t r) l := by
  blk_ext [idx t, row, chunk]
theorem dw1_at (t : Fin cfg0.N) (l : Fin 1024) (j : Fin 768) :
    ((View.whole main_v21_1).slice (win0_8.rect t)).emb (ix3 0 l j) = ix3 (chunk t) l j := by
  blk_ext [idx t, chunk]
theorem dw3_at (t : Fin cfg0.N) (l : Fin 1024) (j : Fin 768) :
    ((View.whole main_v21_2).slice (win0_9.rect t)).emb (ix3 0 l j) = ix3 (chunk t) l j := by
  blk_ext [idx t, chunk]
theorem dw2_at (t : Fin cfg0.N) (j : Fin 768) (l : Fin 1024) :
    ((View.whole main_v21_3).slice (win0_10.rect t)).emb (ix3 0 j l) = ix3 (chunk t) j l := by
  blk_ext [idx t, chunk]

theorem final_dx : (dats m 0 c).arrAt 7 (cfgs 0).N = fun i => GateSpec.dxP (m (c.tc.loc main_arg0)) (m (c.tc.loc main_arg1)) (m (c.tc.loc main_arg2)) (m (c.tc.loc main_arg3)) (m (c.tc.loc main_arg4)) (i 1) (i 0) (i 2) := by
  refine (dats m 0 c).arrAt_eq_of_covers 7 _ (by decide +kernel) fun t _ y => ?_
  blk_simp
  idx_vars y
  obtain rfl : y0 = 0 := Subsingleton.elim _ _
  rw [after0_7, dx_at]
  by_cases h : t.val % 16 = 0
  · rw [outsAt0_A m c t h (by omega)]
    frame_out
    exact point_dx m c t y1 y2
  · by_cases h1 : t.val % 16 = 15
    · rw [outsAt0_C m c t h h1]
      frame_out
      exact point_dx m c t y1 y2
    · rw [outsAt0_B m c t h h1]
      frame_out
      exact point_dx m c t y1 y2

/-- At the end of a run of 16 points the scratch holds the run's sum. -/
theorem scratch1 (t : Fin cfg0.N) (ht : t.val % 16 = 15) (i : S1024x768.Idx) : (outsAt0 m c t.val t.isLt).2.2.2.2.1 i
    = ∑ s : Fin 16, term1 m c ⟨16 * (t.val / 16) + s.val, Pipeline.run_point_lt_of_flush t ht s⟩ (i 0) (i 1) := by
  rw [Pipeline.eq_sum_fin_of_reset_step_apply_of_flush (fun n h => (outsAt0 m c n h).2.2.2.2.1) 16 (fun _ => (0 : EReal))
    (fun t i => term1 m c t (i 0) (i 1)) ?_ ?_ t ht i, zero_add]
  · intro t h i
    rw [outsAt0_A m c t h (by omega)]
    frame_out
    idx_vars i
    refine (step1 m c t _ i0 i1).trans ?_
    rw [pay_zero1]
  · intro t h i
    by_cases h1 : t.val % 16 = 15
    · rw [outsAt0_C m c t h h1]
      frame_out
      idx_vars i
      refine (step1 m c t _ i0 i1).trans ?_
      exact congrArg (fun u : EReal => u + _) (congrFun (Memref.IsWhole.read_unread (Memref.isWhole_whole cc0_scratch0) _) _)
    · rw [outsAt0_B m c t h h1]
      frame_out
      idx_vars i
      refine (step1 m c t _ i0 i1).trans ?_
      exact congrArg (fun u : EReal => u + _) (congrFun (Memref.IsWhole.read_unread (Memref.isWhole_whole cc0_scratch0) _) _)

/-- The last point of a run writes out its scratch. -/
theorem last1 (t : Fin cfg0.N) (ht : t.val % 16 = 15) (p : Fin 1024) (q : Fin 768) :
    (outsAt0 m c t.val t.isLt).2.1 (ix3 0 p q) = (outsAt0 m c t.val t.isLt).2.2.2.2.1 (ix2 p q) := by
  rw [outsAt0_C m c t (by omega) ht]
  frame_out
  exact pay_out1 _ p q

/-- The 16 points of a run take every row once. -/
theorem rows1 (t : Fin cfg0.N) (ht : t.val % 16 = 15) (p : Fin 1024) (q : Fin 768) :
    ∑ s : Fin 16, term1 m c ⟨16 * (t.val / 16) + s.val, Pipeline.run_point_lt_of_flush t ht s⟩ p q
      = ∑ r, GateSpec.rowTerm1 (m (c.tc.loc main_arg0)) (m (c.tc.loc main_arg1)) (m (c.tc.loc main_arg2)) (m (c.tc.loc main_arg3)) (m (c.tc.loc main_arg4)) (chunk t) p q r := by
  have ht4 := lt_of_lt_of_eq t.isLt N_0
  refine (Finset.sum_congr rfl fun s _ => ?_).trans (Fin.sum_univ_tiles 16 512 rfl _).symm
  have hs := s.isLt
  have hc : chunk ⟨16 * (t.val / 16) + s.val, Pipeline.run_point_lt_of_flush t ht s⟩ = chunk t :=
    Fin.ext (by show (16 * (t.val / 16) + s.val) / 16 = t.val / 16; omega)
  have hr : ∀ r, row ⟨16 * (t.val / 16) + s.val, Pipeline.run_point_lt_of_flush t ht s⟩ r = ⟨s.val * 512 + r.val, by omega⟩ :=
    fun r => Fin.ext (by show (16 * (t.val / 16) + s.val) % 16 * 512 + r.val = s.val * 512 + r.val; omega)
  unfold term1
  simp only [hc, hr]

theorem final_dw1 : (dats m 0 c).arrAt 8 (cfgs 0).N
    = fun i => ∑ r, GateSpec.rowTerm1 (m (c.tc.loc main_arg0)) (m (c.tc.loc main_arg1)) (m (c.tc.loc main_arg2)) (m (c.tc.loc main_arg3)) (m (c.tc.loc main_arg4)) (i 0) (i 1) (i 2) r := by
  refine (dats m 0 c).arrAt_eq_of_covers 8 _ (by decide +kernel) fun t hf y => ?_
  have ht := (flush0_8 t).mp hf
  blk_simp
  idx_vars y
  obtain rfl : y0 = 0 := Subsingleton.elim _ _
  rw [after0_8, dw1_at]
  exact (last1 m c t ht y1 y2).trans ((scratch1 m c t ht _).trans (rows1 m c t ht y1 y2))

/-- At the end of a run of 16 points the scratch holds the run's sum. -/
theorem scratch3 (t : Fin cfg0.N) (ht : t.val % 16 = 15) (i : S1024x768.Idx) : (outsAt0 m c t.val t.isLt).2.2.2.2.2.1 i
    = ∑ s : Fin 16, term3 m c ⟨16 * (t.val / 16) + s.val, Pipeline.run_point_lt_of_flush t ht s⟩ (i 0) (i 1) := by
  rw [Pipeline.eq_sum_fin_of_reset_step_apply_of_flush (fun n h => (outsAt0 m c n h).2.2.2.2.2.1) 16 (fun _ => (0 : EReal))
    (fun t i => term3 m c t (i 0) (i 1)) ?_ ?_ t ht i, zero_add]
  · intro t h i
    rw [outsAt0_A m c t h (by omega)]
    frame_out
    idx_vars i
    refine (step3 m c t _ i0 i1).trans ?_
    rw [pay_zero3]
  · intro t h i
    by_cases h1 : t.val % 16 = 15
    · rw [outsAt0_C m c t h h1]
      frame_out
      idx_vars i
      refine (step3 m c t _ i0 i1).trans ?_
      exact congrArg (fun u : EReal => u + _) (congrFun (Memref.IsWhole.read_unread (Memref.isWhole_whole cc0_scratch1) _) _)
    · rw [outsAt0_B m c t h h1]
      frame_out
      idx_vars i
      refine (step3 m c t _ i0 i1).trans ?_
      exact congrArg (fun u : EReal => u + _) (congrFun (Memref.IsWhole.read_unread (Memref.isWhole_whole cc0_scratch1) _) _)

/-- The last point of a run writes out its scratch. -/
theorem last3 (t : Fin cfg0.N) (ht : t.val % 16 = 15) (p : Fin 1024) (q : Fin 768) :
    (outsAt0 m c t.val t.isLt).2.2.1 (ix3 0 p q) = (outsAt0 m c t.val t.isLt).2.2.2.2.2.1 (ix2 p q) := by
  rw [outsAt0_C m c t (by omega) ht]
  frame_out
  exact pay_out3 _ p q

/-- The 16 points of a run take every row once. -/
theorem rows3 (t : Fin cfg0.N) (ht : t.val % 16 = 15) (p : Fin 1024) (q : Fin 768) :
    ∑ s : Fin 16, term3 m c ⟨16 * (t.val / 16) + s.val, Pipeline.run_point_lt_of_flush t ht s⟩ p q
      = ∑ r, GateSpec.rowTerm3 (m (c.tc.loc main_arg0)) (m (c.tc.loc main_arg1)) (m (c.tc.loc main_arg3)) (m (c.tc.loc main_arg4)) (chunk t) p q r := by
  have ht4 := lt_of_lt_of_eq t.isLt N_0
  refine (Finset.sum_congr rfl fun s _ => ?_).trans (Fin.sum_univ_tiles 16 512 rfl _).symm
  have hs := s.isLt
  have hc : chunk ⟨16 * (t.val / 16) + s.val, Pipeline.run_point_lt_of_flush t ht s⟩ = chunk t :=
    Fin.ext (by show (16 * (t.val / 16) + s.val) / 16 = t.val / 16; omega)
  have hr : ∀ r, row ⟨16 * (t.val / 16) + s.val, Pipeline.run_point_lt_of_flush t ht s⟩ r = ⟨s.val * 512 + r.val, by omega⟩ :=
    fun r => Fin.ext (by show (16 * (t.val / 16) + s.val) % 16 * 512 + r.val = s.val * 512 + r.val; omega)
  unfold term3
  simp only [hc, hr]

theorem final_dw3 : (dats m 0 c).arrAt 9 (cfgs 0).N
    = fun i => ∑ r, GateSpec.rowTerm3 (m (c.tc.loc main_arg0)) (m (c.tc.loc main_arg1)) (m (c.tc.loc main_arg3)) (m (c.tc.loc main_arg4)) (i 0) (i 1) (i 2) r := by
  refine (dats m 0 c).arrAt_eq_of_covers 9 _ (by decide +kernel) fun t hf y => ?_
  have ht := (flush0_9 t).mp hf
  blk_simp
  idx_vars y
  obtain rfl : y0 = 0 := Subsingleton.elim _ _
  rw [after0_9, dw3_at]
  exact (last3 m c t ht y1 y2).trans ((scratch3 m c t ht _).trans (rows3 m c t ht y1 y2))

/-- At the end of a run of 16 points the scratch holds the run's sum. -/
theorem scratch2 (t : Fin cfg0.N) (ht : t.val % 16 = 15) (i : S768x1024.Idx) : (outsAt0 m c t.val t.isLt).2.2.2.2.2.2 i
    = ∑ s : Fin 16, term2 m c ⟨16 * (t.val / 16) + s.val, Pipeline.run_point_lt_of_flush t ht s⟩ (i 0) (i 1) := by
  rw [Pipeline.eq_sum_fin_of_reset_step_apply_of_flush (fun n h => (outsAt0 m c n h).2.2.2.2.2.2) 16 (fun _ => (0 : EReal))
    (fun t i => term2 m c t (i 0) (i 1)) ?_ ?_ t ht i, zero_add]
  · intro t h i
    rw [outsAt0_A m c t h (by omega)]
    frame_out
    idx_vars i
    refine (step2 m c t _ i0 i1).trans ?_
    rw [pay_zero2]
  · intro t h i
    by_cases h1 : t.val % 16 = 15
    · rw [outsAt0_C m c t h h1]
      frame_out
      idx_vars i
      refine (step2 m c t _ i0 i1).trans ?_
      exact congrArg (fun u : EReal => u + _) (congrFun (Memref.IsWhole.read_unread (Memref.isWhole_whole cc0_scratch2) _) _)
    · rw [outsAt0_B m c t h h1]
      frame_out
      idx_vars i
      refine (step2 m c t _ i0 i1).trans ?_
      exact congrArg (fun u : EReal => u + _) (congrFun (Memref.IsWhole.read_unread (Memref.isWhole_whole cc0_scratch2) _) _)

/-- The last point of a run writes out its scratch. -/
theorem last2 (t : Fin cfg0.N) (ht : t.val % 16 = 15) (p : Fin 768) (q : Fin 1024) :
    (outsAt0 m c t.val t.isLt).2.2.2.1 (ix3 0 p q) = (outsAt0 m c t.val t.isLt).2.2.2.2.2.2 (ix2 p q) := by
  rw [outsAt0_C m c t (by omega) ht]
  frame_out
  exact pay_out2 _ p q

/-- The 16 points of a run take every row once. -/
theorem rows2 (t : Fin cfg0.N) (ht : t.val % 16 = 15) (p : Fin 768) (q : Fin 1024) :
    ∑ s : Fin 16, term2 m c ⟨16 * (t.val / 16) + s.val, Pipeline.run_point_lt_of_flush t ht s⟩ p q
      = ∑ r, GateSpec.rowTerm2 (m (c.tc.loc main_arg0)) (m (c.tc.loc main_arg1)) (m (c.tc.loc main_arg2)) (m (c.tc.loc main_arg4)) (chunk t) p q r := by
  have ht4 := lt_of_lt_of_eq t.isLt N_0
  refine (Finset.sum_congr rfl fun s _ => ?_).trans (Fin.sum_univ_tiles 16 512 rfl _).symm
  have hs := s.isLt
  have hc : chunk ⟨16 * (t.val / 16) + s.val, Pipeline.run_point_lt_of_flush t ht s⟩ = chunk t :=
    Fin.ext (by show (16 * (t.val / 16) + s.val) / 16 = t.val / 16; omega)
  have hr : ∀ r, row ⟨16 * (t.val / 16) + s.val, Pipeline.run_point_lt_of_flush t ht s⟩ r = ⟨s.val * 512 + r.val, by omega⟩ :=
    fun r => Fin.ext (by show (16 * (t.val / 16) + s.val) % 16 * 512 + r.val = s.val * 512 + r.val; omega)
  unfold term2
  simp only [hc, hr]

theorem final_dw2 : (dats m 0 c).arrAt 10 (cfgs 0).N
    = fun i => ∑ r, GateSpec.rowTerm2 (m (c.tc.loc main_arg0)) (m (c.tc.loc main_arg1)) (m (c.tc.loc main_arg2)) (m (c.tc.loc main_arg4)) (i 0) (i 1) (i 2) r := by
  refine (dats m 0 c).arrAt_eq_of_covers 10 _ (by decide +kernel) fun t hf y => ?_
  have ht := (flush0_10 t).mp hf
  blk_simp
  idx_vars y
  obtain rfl : y0 = 0 := Subsingleton.elim _ _
  rw [after0_10, dw2_at]
  exact (last2 m c t ht y1 y2).trans ((scratch2 m c t ht _).trans (rows2 m c t ht y1 y2))

theorem res_dx (hy : GateSpec.Real (m (c.tc.loc main_arg0))) (h3 : GateSpec.Real (m (c.tc.loc main_arg2)))
    (h2 : GateSpec.Real (m (c.tc.loc main_arg3))) (hd : GateSpec.Real (m (c.tc.loc main_arg4))) :
    Pipeline.afterTail₀ cfgs (dats m) 0 (V0 m) [hostOps1] c main_v23 = fun i => GateSpec.dx (m (c.tc.loc main_arg0)) (m (c.tc.loc main_arg1)) (m (c.tc.loc main_arg2)) (m (c.tc.loc main_arg3)) (m (c.tc.loc main_arg4)) (i 0) (i 1) := by
  unfold Pipeline.afterTail₀
  show StableHlo.after hostOps1 _ _ = _
  after_results
  erw [Pipeline.withArrays_arr (cfgs 0).spec launch0.win.arr_inj c (V0 m c) (fun w => (dats m 0 c).arrAt w (cfgs 0).N) 7,
    final_dx]
  funext i
  idx_vars i
  pointwise
  exact GateSpec.sum_dxP hy h3 h2 hd i0 i1

theorem res_dw1 (hy : GateSpec.Real (m (c.tc.loc main_arg0))) (h3 : GateSpec.Real (m (c.tc.loc main_arg2)))
    (h2 : GateSpec.Real (m (c.tc.loc main_arg3))) (hd : GateSpec.Real (m (c.tc.loc main_arg4))) :
    Pipeline.afterTail₀ cfgs (dats m) 0 (V0 m) [hostOps1] c main_v28 = fun i => GateSpec.dw1 (m (c.tc.loc main_arg0)) (m (c.tc.loc main_arg1)) (m (c.tc.loc main_arg2)) (m (c.tc.loc main_arg3)) (m (c.tc.loc main_arg4)) (i 0) (i 1) := by
  unfold Pipeline.afterTail₀
  show StableHlo.after hostOps1 _ _ = _
  after_results
  erw [Pipeline.withArrays_arr (cfgs 0).spec launch0.win.arr_inj c (V0 m c) (fun w => (dats m 0 c).arrAt w (cfgs 0).N) 8,
    final_dw1]
  funext i
  idx_vars i
  pointwise
  exact (GateSpec.sum_rowTerm1 hy h3 h2 hd _ _ _).trans (GateSpec.spread_place _ i1 _ _)

theorem res_dw3  :
    Pipeline.afterTail₀ cfgs (dats m) 0 (V0 m) [hostOps1] c main_v33 = fun i => GateSpec.dw3 (m (c.tc.loc main_arg0)) (m (c.tc.loc main_arg1)) (m (c.tc.loc main_arg3)) (m (c.tc.loc main_arg4)) (i 0) (i 1) := by
  unfold Pipeline.afterTail₀
  show StableHlo.after hostOps1 _ _ = _
  after_results
  erw [Pipeline.withArrays_arr (cfgs 0).spec launch0.win.arr_inj c (V0 m c) (fun w => (dats m 0 c).arrAt w (cfgs 0).N) 9,
    final_dw3]
  funext i
  idx_vars i
  pointwise
  exact (GateSpec.sum_rowTerm3 (m (c.tc.loc main_arg0)) (m (c.tc.loc main_arg1)) (m (c.tc.loc main_arg3)) (m (c.tc.loc main_arg4)) _ _ _).trans (GateSpec.spread_place _ i1 _ _)

theorem res_dw2  :
    Pipeline.afterTail₀ cfgs (dats m) 0 (V0 m) [hostOps1] c main_v37 = fun i => GateSpec.dw2 (m (c.tc.loc main_arg0)) (m (c.tc.loc main_arg1)) (m (c.tc.loc main_arg2)) (m (c.tc.loc main_arg4)) (i 0) (i 1) := by
  unfold Pipeline.afterTail₀
  show StableHlo.after hostOps1 _ _ = _
  after_results
  erw [Pipeline.withArrays_arr (cfgs 0).spec launch0.win.arr_inj c (V0 m c) (fun w => (dats m 0 c).arrAt w (cfgs 0).N) 10,
    final_dw2]
  funext i
  idx_vars i
  pointwise
  exact (GateSpec.sum_rowTerm2 (m (c.tc.loc main_arg0)) (m (c.tc.loc main_arg1)) (m (c.tc.loc main_arg2)) (m (c.tc.loc main_arg4)) _ _ _).trans (GateSpec.spread_place _ i0 _ _)

/-- An array whose entries are all below infinity in absolute value is real. -/
theorem real_of {n k : Nat} (x : FVec Ideal ⟨2, ![n, k]⟩ .f32) (h : (⟨0, ![]⟩ : Shape).BroadcastsInDim ⟨2, ![n, k]⟩ ![])
    (hx : cmpf .olt (Host.absf x) (broadcastInDim ⟨2, ![n, k]⟩ ![] h (constant ⟨0, ![]⟩ .f32 0x7F800000#32)) = fun _ => 1#1) :
    GateSpec.Real x := by
  intro i j
  have := congrFun hx (ix2 i j)
  revert this
  pointwise
  intro h
  have h' : FloatOps.absf (x (ix2 i j)) < (⊤ : EReal) := by
    have one : ∀ b : Bool, BitVec.ofBool b = 1#1 → b = true := by decide
    have := decide_eq_true_iff.mp (one _ h)
    simpa [Ideal.ofBits, Ideal.ieee] using this
  generalize x (ix2 i j) = v at h'
  induction v using EReal.rec with
  | bot => exact absurd h' (by simp [FloatOps.absf])
  | top => exact absurd h' (by simp [FloatOps.absf])
  | coe a => exact ⟨a, rfl⟩

/-- What the precondition says: the arguments it names are real numbers. -/
theorem fin_of_pre {m : (ℓ : Loc nD τ sig) → Buf (Elt Ideal) ℓ} (h : Pre_GateIdeal_gate_finite m) (c : Dev nD) :
    GateSpec.Real (m (c.tc.loc main_arg0)) ∧ GateSpec.Real (m (c.tc.loc main_arg2)) ∧ GateSpec.Real (m (c.tc.loc main_arg3))
      ∧ GateSpec.Real (m (c.tc.loc main_arg4)) := by
  obtain ⟨a, b, d, e⟩ := h c
  exact ⟨real_of _ _ a, real_of _ _ b, real_of _ _ d, real_of _ _ e⟩

/-- The kernel's run, its results read entry by entry. -/
theorem run_spec (hfin : ∀ c : Dev nD, GateSpec.Real (m (c.tc.loc main_arg0)) ∧ GateSpec.Real (m (c.tc.loc main_arg2))
      ∧ GateSpec.Real (m (c.tc.loc main_arg3)) ∧ GateSpec.Real (m (c.tc.loc main_arg4))) (ρ : Dev nD → PrngReg) :
    θ_run defs (onTc (τ := τ) (main (F := Ideal))) ⟨m, fun _ => 0, ρ⟩ fun r => ∀ c : Dev nD,
      r.2.mem (c.tc.loc main_v23) = (fun i => GateSpec.dx (m (c.tc.loc main_arg0)) (m (c.tc.loc main_arg1)) (m (c.tc.loc main_arg2)) (m (c.tc.loc main_arg3)) (m (c.tc.loc main_arg4)) (i 0) (i 1))
      ∧ r.2.mem (c.tc.loc main_v28) = (fun i => GateSpec.dw1 (m (c.tc.loc main_arg0)) (m (c.tc.loc main_arg1)) (m (c.tc.loc main_arg2)) (m (c.tc.loc main_arg3)) (m (c.tc.loc main_arg4)) (i 0) (i 1))
      ∧ r.2.mem (c.tc.loc main_v33) = (fun i => GateSpec.dw3 (m (c.tc.loc main_arg0)) (m (c.tc.loc main_arg1)) (m (c.tc.loc main_arg3)) (m (c.tc.loc main_arg4)) (i 0) (i 1))
      ∧ r.2.mem (c.tc.loc main_v37) = (fun i => GateSpec.dw2 (m (c.tc.loc main_arg0)) (m (c.tc.loc main_arg1)) (m (c.tc.loc main_arg2)) (m (c.tc.loc main_arg4)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  run_from Cert.GateIdeal.Gen.run_main m ρ
  · obtain ⟨hy, h3, h2, hd⟩ := hfin c
    exact res_dx m c hy h3 h2 hd
  · obtain ⟨hy, h3, h2, hd⟩ := hfin c
    exact res_dw1 m c hy h3 h2 hd
  · exact res_dw3 m c
  · exact res_dw2 m c
  · exact W_main_arg0 m (dats m) c
  · exact W_main_arg1 m (dats m) c
  · exact W_main_arg2 m (dats m) c
  · exact W_main_arg3 m (dats m) c

end Cert.GateIdeal.Value
end
-- ==== Proof.LossRef.lean ====
module

public import proofs.«01_k».proof.Proof.Gen.LossReferenceIdeal.Run
public import proofs.«01_k».proof.Proof.LossSpec
public import Idealize.ShloMosaic.Lib.Pointwise

/-! The values of the reference of the pair `Loss`. -/

@[expose] public section

set_option maxRecDepth 16384

noncomputable section

namespace Cert.LossReferenceIdeal.Value
open Idealize.ShloMosaic Idealize.ShloMosaic.TcCoe Idealize.SL.Sem
open Cert.LossReferenceIdeal

variable (m : (ℓ : Loc nD τ sig) → Buf (Elt Ideal) ℓ)

/-- The reference's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v23) = (fun _ => LossSpec.loss (m (c.tc.loc main_arg0)) (m (c.tc.loc main_arg1)) (m (c.tc.loc main_arg2)))
      ∧ r.2.mem (c.tc.loc main_v48) = (fun i => LossSpec.dh (m (c.tc.loc main_arg0)) (m (c.tc.loc main_arg1)) (m (c.tc.loc main_arg2)) (i 0) (i 1))
      ∧ r.2.mem (c.tc.loc main_v32) = (fun i => LossSpec.dg (m (c.tc.loc main_arg0)) (m (c.tc.loc main_arg1)) (m (c.tc.loc main_arg2)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ?_) (run (F := Ideal) m ρ)
  obtain ⟨h0, h1, h2, h3⟩ := h c
  refine ⟨h0.trans ?_, h1.trans ?_, h2.trans ?_, h3⟩ <;> clear h h0 h1 h2 h3 <;> funext i
  · pointwise
    rfl
  · idx_vars i
    pointwise [res_main_v48]
    simp only [LossSpec.scale_eq]
    rfl
  · idx_vars i
    pointwise
    simp only [LossSpec.scale_eq]
    rfl

end Cert.LossReferenceIdeal.Value
end
-- ==== Proof.LossValue.lean ====
module

public import proofs.«01_k».proof.Proof.Gen.LossIdeal.Frame
public import proofs.«01_k».proof.Proof.LossSpec
public import Idealize.ShloMosaic.Lib.Pipeline.ValueKit
public import Idealize.ShloMosaic.Lib.Pointwise
public import Idealize.ShloMosaic.Lib.Claim

/-! The values of the kernel of the pair `Loss`: each grid point takes 512 rows; the loss and the scale's gradient are
accumulated over the points. -/

@[expose] public section

set_option maxRecDepth 16384

noncomputable section

namespace Cert.LossIdeal.Value
open Idealize.ShloMosaic Idealize.ShloMosaic.TcCoe Idealize.SL.Sem
open Idealize.ShloMosaic.Pipeline (Dat)
open Cert.LossIdeal Cert.LossIdeal.Gen

section
variable (X T : Vec Ideal S512x1024 .f32) (G : Vec Ideal S1x1024 .f32)

theorem pay_loss (l : Fin 128) : k0_pay2 (F := Ideal) (k0_pay7 X G T) (ix2 0 l) = Ideal.ofBits FTy.f32 1056964608#32 *
    ∑ r : Fin 512, LossSpec.rowLoss (Rms.rowOf X r) (Rms.rowOf G 0) (Rms.rowOf T r) := by
  pointwise [k0_pay2, k0_pay7, k0_pay6, k0_pay5, k0_pay4]
  rfl

theorem pay_dh (r : Fin 512) (l : Fin 1024) : k0_pay10 (F := Ideal) X G T (ix2 r l) =
    Rms.grad (Rms.rowOf X r) (Rms.rowOf G 0) (LossSpec.ct (Rms.rowOf X r) (Rms.rowOf G 0) (Rms.rowOf T r)) l := by
  pointwise [k0_pay10, k0_pay8, k0_pay7, k0_pay6, k0_pay5, k0_pay4]
  rfl

theorem pay_dg (l : Fin 1024) : k0_pay9 (F := Ideal) X G T (ix2 0 l) =
    ∑ r : Fin 512, Rms.gradScale (Rms.rowOf X r) (LossSpec.ct (Rms.rowOf X r) (Rms.rowOf G 0) (Rms.rowOf T r)) l := by
  pointwise [k0_pay9, k0_pay8, k0_pay7, k0_pay6, k0_pay5, k0_pay4]
  rfl

theorem acc_loss (v : FVec Ideal S512x1024 .f32) (a : Vec Ideal S1x128 .f32) (l : Fin 128) :
    k0_pay3 (F := Ideal) v a (ix2 0 l) = a (ix2 0 l) + k0_pay2 v (ix2 0 l) := by
  pointwise [k0_pay3]

theorem acc_dg (v a : Vec Ideal S1x1024 .f32) (l : Fin 1024) :
    k0_pay1 (F := Ideal) v a (ix2 0 l) = a (ix2 0 l) + v (ix2 0 l) := by
  pointwise [k0_pay1]

end

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The row of the whole array that is row `r` of grid point `t`. -/
def row (t : Fin cfg0.N) (r : Fin 512) : Fin 8192 := ⟨t.val * 512 + r.val, by have := lt_of_lt_of_eq t.isLt N_0; omega⟩

section
variable (c : Dev nD) (t : Fin cfg0.N)

theorem blk_x (r : Fin 512) (l : Fin 1024) : iblk m c 0 t (ix2 r l) = m (c.tc.loc main_arg0) (ix2 (row t r) l) := by
  blk_point [iblk, V, idx t, row]

theorem blk_g (l : Fin 1024) : iblk m c 1 t (ix2 0 l) = m (c.tc.loc main_arg1) (ix2 0 l) := by
  blk_point [iblk, V, idx t, row]

theorem blk_t (r : Fin 512) (l : Fin 1024) : iblk m c 2 t (ix2 r l) = m (c.tc.loc main_arg2) (ix2 (row t r) l) := by
  blk_point [iblk, V, idx t, row]

theorem rows_x (r : Fin 512) : Rms.rowOf (iblk m c 0 t) r = Rms.rowOf (m (c.tc.loc main_arg0)) (row t r) :=
  funext fun l => blk_x m c t r l

theorem rows_g : Rms.rowOf (iblk m c 1 t) 0 = Rms.rowOf (m (c.tc.loc main_arg1)) 0 :=
  funext fun l => blk_g m c t l

theorem rows_t (r : Fin 512) : Rms.rowOf (iblk m c 2 t) r = Rms.rowOf (m (c.tc.loc main_arg2)) (row t r) :=
  funext fun l => blk_t m c t r l

/-- The 512 rows' share of the loss. -/
def termLoss : EReal := Ideal.ofBits FTy.f32 1056964608#32 * ∑ r : Fin 512, LossSpec.rowLoss
  (Rms.rowOf (m (c.tc.loc main_arg0)) (row t r)) (Rms.rowOf (m (c.tc.loc main_arg1)) 0) (Rms.rowOf (m (c.tc.loc main_arg2)) (row t r))

/-- The 512 rows' share of the scale's gradient. -/
def termDg (l : Fin 1024) : EReal := ∑ r : Fin 512, Rms.gradScale (Rms.rowOf (m (c.tc.loc main_arg0)) (row t r)) (LossSpec.ct
  (Rms.rowOf (m (c.tc.loc main_arg0)) (row t r)) (Rms.rowOf (m (c.tc.loc main_arg1)) 0) (Rms.rowOf (m (c.tc.loc main_arg2)) (row t r))) l

theorem point_loss (l : Fin 128) :
    k0_pay2 (F := Ideal) (k0_pay7 (iblk m c 0 t) (iblk m c 1 t) (iblk m c 2 t)) (ix2 0 l) = termLoss m c t := by
  unfold termLoss
  simp only [← rows_x, ← rows_g m c t, ← rows_t]
  exact pay_loss _ _ _ l

theorem step_loss (a : Vec Ideal S1x128 .f32) (l : Fin 128) :
    k0_pay3 (F := Ideal) (k0_pay7 (iblk m c 0 t) (iblk m c 1 t) (iblk m c 2 t)) a (ix2 0 l) = a (ix2 0 l) + termLoss m c t := by
  rw [← point_loss m c t l]
  exact acc_loss _ a l

theorem point_dh (r : Fin 512) (l : Fin 1024) : k0_pay10 (F := Ideal) (iblk m c 0 t) (iblk m c 1 t) (iblk m c 2 t) (ix2 r l)
    = LossSpec.dh (m (c.tc.loc main_arg0)) (m (c.tc.loc main_arg1)) (m (c.tc.loc main_arg2)) (row t r) l := by
  unfold LossSpec.dh
  simp only [← rows_x, ← rows_g m c t, ← rows_t]
  exact pay_dh _ _ _ r l

theorem point_dg (l : Fin 1024) : k0_pay9 (F := Ideal) (iblk m c 0 t) (iblk m c 1 t) (iblk m c 2 t) (ix2 0 l) = termDg m c t l := by
  unfold termDg
  simp only [← rows_x, ← rows_g m c t, ← rows_t]
  exact pay_dg _ _ _ l

theorem step_dg (a : Vec Ideal S1x1024 .f32) (l : Fin 1024) :
    k0_pay1 (F := Ideal) (k0_pay9 (iblk m c 0 t) (iblk m c 1 t) (iblk m c 2 t)) a (ix2 0 l) = a (ix2 0 l) + termDg m c t l := by
  rw [← point_dg]
  exact acc_dg _ a l

end

theorem out_at (t : Fin cfg0.N) (r : Fin 512) (l : Fin 1024) :
    ((View.whole main_v0_1).slice (win0_4.rect t)).emb (ix2 r l) = ix2 (row t r) l := by
  blk_ext [idx t, row]

theorem final_dh (c : Dev nD) : (dats m 0 c).arrAt 4 (cfgs 0).N = fun i => LossSpec.dh (m (c.tc.loc main_arg0)) (m (c.tc.loc main_arg1)) (m (c.tc.loc main_arg2)) (i 0) (i 1) := by
  refine (dats m 0 c).arrAt_eq_of_covers 4 _ (by decide +kernel) fun t _ y => ?_
  blk_simp
  idx_vars y
  have ht := lt_of_lt_of_eq t.isLt N_0
  rw [after0_4, out_at]
  by_cases h : t.val % 16 = 0
  · rw [outsAt0_A m c t h (by omega) h (by omega)]
    frame_out
    exact point_dh m c t y0 y1
  · rw [outsAt0_B m c t h (by omega) h (by omega)]
    frame_out
    exact point_dh m c t y0 y1

theorem sum_loss (c : Dev nD) : ∑ t : Fin cfg0.N, termLoss m c t = LossSpec.loss (m (c.tc.loc main_arg0)) (m (c.tc.loc main_arg1)) (m (c.tc.loc main_arg2)) := by
  unfold LossSpec.loss
  rw [LossSpec.half_sum]
  refine (Finset.sum_congr rfl fun t _ => LossSpec.half_sum _).trans ?_
  exact Fin.sum_mul_add_congr fun t r hl => rfl

theorem sum_dg (c : Dev nD) (l : Fin 1024) : ∑ t : Fin cfg0.N, termDg m c t l = LossSpec.dg (m (c.tc.loc main_arg0)) (m (c.tc.loc main_arg1)) (m (c.tc.loc main_arg2)) l :=
  Fin.sum_mul_add_congr fun t r hl => rfl

theorem final_loss (c : Dev nD) : (dats m 0 c).arrAt 3 (cfgs 0).N = fun _ => LossSpec.loss (m (c.tc.loc main_arg0)) (m (c.tc.loc main_arg1)) (m (c.tc.loc main_arg2)) := by
  refine (dats m 0 c).arrAt_eq_of_after_last 3 t0_15 (by decide +kernel) _ fun j => ?_
  blk_simp
  idx_vars j
  rw [after0_3, Pipeline.eq_sum_fin_of_reset_step_apply_last (fun n h => (outsAt0 m c n h).1) 16 (fun _ => (0 : EReal))
    (fun t i => termLoss m c t) ?_ ?_ (le_of_eq N_0) t0_15 rfl, zero_add]
  · exact sum_loss m c
  · intro t h i
    have ht := lt_of_lt_of_eq t.isLt N_0
    rw [outsAt0_A m c t h (by omega) h (by omega), zero_add]
    frame_out
    idx_vars i
    obtain rfl : i0 = 0 := Subsingleton.elim _ _
    exact point_loss m c t i1
  · intro t h i
    have ht := lt_of_lt_of_eq t.isLt N_0
    rw [outsAt0_B m c t h (by omega) h (by omega)]
    frame_out
    idx_vars i
    obtain rfl : i0 = 0 := Subsingleton.elim _ _
    exact step_loss m c t _ i1

theorem final_dg (c : Dev nD) : (dats m 0 c).arrAt 5 (cfgs 0).N = fun i => LossSpec.dg (m (c.tc.loc main_arg0)) (m (c.tc.loc main_arg1)) (m (c.tc.loc main_arg2)) (i 1) := by
  refine (dats m 0 c).arrAt_eq_of_after_last 5 t0_15 (by decide +kernel) _ fun j => ?_
  blk_simp
  idx_vars j
  rw [after0_5, Pipeline.eq_sum_fin_of_reset_step_apply_last (fun n h => (outsAt0 m c n h).2.2) 16 (fun _ => (0 : EReal))
    (fun t i => termDg m c t (i 1)) ?_ ?_ (le_of_eq N_0) t0_15 rfl, zero_add]
  · exact sum_dg m c j1
  · intro t h i
    have ht := lt_of_lt_of_eq t.isLt N_0
    rw [outsAt0_A m c t h (by omega) h (by omega), zero_add]
    frame_out
    idx_vars i
    obtain rfl : i0 = 0 := Subsingleton.elim _ _
    exact point_dg m c t i1
  · intro t h i
    have ht := lt_of_lt_of_eq t.isLt N_0
    rw [outsAt0_B m c t h (by omega) h (by omega)]
    frame_out
    idx_vars i
    obtain rfl : i0 = 0 := Subsingleton.elim _ _
    exact step_dg m c t _ i1

/-- The first lane of the loss's row, as the host lines after the call read it. -/
theorem tail_loss (c : Dev nD) :
    Pipeline.afterTail₀ cfgs (dats m) 0 (V0 m) [hostOps1] c main_v2 = fun _ => LossSpec.loss (m (c.tc.loc main_arg0)) (m (c.tc.loc main_arg1)) (m (c.tc.loc main_arg2)) := by
  unfold Pipeline.afterTail₀
  show StableHlo.after hostOps1 _ _ = _
  after_results
  erw [Pipeline.withArrays_arr (cfgs 0).spec launch0.win.arr_inj c (V0 m c) (fun w => (dats m 0 c).arrAt w (cfgs 0).N) 3, final_loss]
  funext i
  pointwise

/-- The kernel's run, its results read entry by entry. -/
theorem run_spec (ρ : Dev nD → PrngReg) :
    θ_run defs (onTc (τ := τ) (main (F := Ideal))) ⟨m, fun _ => 0, ρ⟩ fun r => ∀ c : Dev nD,
      r.2.mem ((c.tc : Thread nD τ).loc main_v2) = (fun _ => LossSpec.loss (m (c.tc.loc main_arg0)) (m (c.tc.loc main_arg1)) (m (c.tc.loc main_arg2)))
      ∧ r.2.mem ((c.tc : Thread nD τ).loc main_v0_1) = (fun i => LossSpec.dh (m (c.tc.loc main_arg0)) (m (c.tc.loc main_arg1)) (m (c.tc.loc main_arg2)) (i 0) (i 1))
      ∧ r.2.mem ((c.tc : Thread nD τ).loc main_v0_2) = (fun i => LossSpec.dg (m (c.tc.loc main_arg0)) (m (c.tc.loc main_arg1)) (m (c.tc.loc main_arg2)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  run_from Cert.LossIdeal.Gen.run_main m ρ
  · exact tail_loss m c
  · exact final_dh m c
  · exact final_dg m c

end Cert.LossIdeal.Value
end
-- ==== Proof.AttnSpec.lean ====
module

public import Idealize.ShloMosaic.Lib.Pointwise

/-! The row functions of an attention's gradient: the norm of 64 numbers, and the softmax of a row of scores. -/

@[expose] public section

noncomputable section

namespace Attn
open Idealize.ShloMosaic

/-- A row of 64 numbers. -/
abbrev Row := Fin 64 → EReal

/-- The factor of the scores. -/
abbrev eighth : EReal := Ideal.ofBits FTy.f32 1040187392#32

/-- The number of a row's entries. -/
abbrev width : EReal := Ideal.ofBits FTy.f32 1115684864#32

/-- The mean of a row's squares plus the norm's epsilon. -/
def ms (x : Row) : EReal := Ideal.div (∑ k, x k * x k) width + Ideal.ofBits FTy.f32 897988541#32

/-- The normalised row times the scale. -/
def norm (x g : Row) (l : Fin 64) : EReal := x l * Ideal.rsqrt (ms x) * g l

/-- What one entry's square receives back through the mean. -/
def pull (x g d : Row) : EReal :=
  Ideal.div ((∑ k, x k * (d k * g k)) * (Ideal.ofBits FTy.f32 3204448256#32 * Ideal.div (Ideal.rsqrt (ms x)) (ms x))) width

/-- The gradient of the norm in the row: `d` is the cotangent, `g` the scale. -/
def grad (x g d : Row) (l : Fin 64) : EReal :=
  d l * g l * Ideal.rsqrt (ms x) + x l * (∑ _k : Fin 1, pull x g d) + (∑ _k : Fin 1, pull x g d) * x l

/-- The row's share of the gradient in the scale. -/
def gradScale (x d : Row) (l : Fin 64) : EReal := x l * Ideal.rsqrt (ms x) * d l

section
variable {n : Nat}

/-- The largest of a row of scores. -/
def top (s : Fin n → EReal) : EReal := Finset.univ.fold max (Ideal.ofBits FTy.f32 4286578688#32) s

/-- The exponentials of a row of scores, each less the largest. -/
def exps (s : Fin n → EReal) (j : Fin n) : EReal := Ideal.exp (s j - top s)

/-- The probabilities belonging to exponentials. -/
def prob (e : Fin n → EReal) (j : Fin n) : EReal := Ideal.div (e j) (∑ k, e k)

/-- The cotangent of the scores, `p` the probabilities' cotangent. -/
def pullScore (e p : Fin n → EReal) (j : Fin n) : EReal :=
  (Ideal.div (p j) (∑ k, e k)
    + ∑ _k : Fin 1, (0 - ∑ k, p k * Ideal.div 1 ((∑ k, e k) * (∑ k, e k)) * e k)) * e j
end

/-! ## One head, its scores not masked

`x` are the query rows, `k` and `v` the keys and values, `d` the rows of the output's cotangent. -/

section
variable {n N : Nat}

/-- A query's exponentials over the keys. -/
def exRow (k : Fin n → Row) (gq gk : Row) (x : Row) : Fin n → EReal :=
  exps fun j => (∑ l, norm x gq l * norm (k j) gk l) * eighth

/-- The cotangent of a query's products with the keys. -/
def cotRow (k v : Fin n → Row) (gq gk : Row) (x d : Row) (j : Fin n) : EReal :=
  pullScore (exRow k gq gk x) (fun j => ∑ l, d l * v j l) j * eighth

/-- The cotangent of a normalised query. -/
def cotQ (k v : Fin n → Row) (gq gk : Row) (x d : Row) (l : Fin 64) : EReal :=
  ∑ j, cotRow k v gq gk x d j * norm (k j) gk l

/-- The cotangent of a normalised key. -/
def cotK (k v : Fin n → Row) (gq gk : Row) (x d : Fin N → Row) (j : Fin n) (l : Fin 64) : EReal :=
  ∑ r, cotRow k v gq gk (x r) (d r) j * norm (x r) gq l

/-- The five gradients. -/
def headQ (k v : Fin n → Row) (gq gk : Row) (x d : Row) : Row := grad x gq (cotQ k v gq gk x d)
@[inherit_doc headQ]
def headK (k v : Fin n → Row) (gq gk : Row) (x d : Fin N → Row) (j : Fin n) : Row := grad (k j) gk (cotK k v gq gk x d j)
@[inherit_doc headQ]
def headV (k : Fin n → Row) (gq gk : Row) (x d : Fin N → Row) (j : Fin n) (l : Fin 64) : EReal :=
  ∑ r, prob (exRow k gq gk (x r)) j * d r l
@[inherit_doc headQ]
def headGq (k v : Fin n → Row) (gq gk : Row) (x d : Fin N → Row) (l : Fin 64) : EReal :=
  ∑ r, gradScale (x r) (cotQ k v gq gk (x r) (d r)) l
@[inherit_doc headQ]
def headGk (k v : Fin n → Row) (gq gk : Row) (x d : Fin N → Row) (l : Fin 64) : EReal :=
  ∑ j, gradScale (k j) (cotK k v gq gk x d j) l
end

end Attn
end
-- ==== Proof.AttnReal.lean ====
module

public import proofs.«01_k».proof.Proof.AttnSpec
public import proofs.«01_k».proof.Proof.GateSpec
public import Idealize.ShloMosaic.Lib.Pointwise

/-! Of real arguments an attention's gradient is real, and the norm's gradient is linear in its cotangent. -/

@[expose] public section

noncomputable section

namespace Attn
open Idealize.ShloMosaic

/-- A real number. -/
abbrev IsReal (a : EReal) : Prop := ∃ v : ℝ, a = (v : EReal)

theorem width_eq : width = ((64 : ℝ) : EReal) := by
  simp [width, Ideal.ofBits, Ideal.ieee, -EReal.coe_mul]; norm_num

theorem eighth_eq : eighth = ((1 / 8 : ℝ) : EReal) := by
  simp [eighth, Ideal.ofBits, Ideal.ieee, -EReal.coe_mul]; norm_num

theorem eps_eq : ∃ e : ℝ, 0 < e ∧ Ideal.ofBits FTy.f32 897988541#32 = (e : EReal) := by
  refine ⟨_, ?_, by simp [Ideal.ofBits, Ideal.ieee, -EReal.coe_mul]; rfl⟩
  norm_num

theorem minus_half_eq : Ideal.ofBits FTy.f32 3204448256#32 = ((-1 / 2 : ℝ) : EReal) := by
  simp [Ideal.ofBits, Ideal.ieee, -EReal.coe_mul, -EReal.coe_neg]; norm_num

theorem bot_eq : Ideal.ofBits FTy.f32 4286578688#32 = (⊥ : EReal) := by simp [Ideal.ofBits, Ideal.ieee]

theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem rsqrt_pos {M : ℝ} (h : 0 < M) : Ideal.rsqrt (M : EReal) = (((Real.sqrt M)⁻¹ : ℝ) : EReal) := by
  rw [Ideal.rsqrt_coe, if_neg (not_lt.mpr h.le), if_neg h.ne']

theorem ms_coe (x : Fin 64 → ℝ) : ∃ M : ℝ, 0 < M ∧ ms (fun l => (x l : EReal)) = (M : EReal) := by
  obtain ⟨e, he, h⟩ := eps_eq
  refine ⟨(∑ k, x k * x k) * (1 / 64) + e, add_pos_of_nonneg_of_pos
    (mul_nonneg (Finset.sum_nonneg fun k _ => mul_self_nonneg _) (by norm_num)) he, ?_⟩
  unfold ms
  rw [h, width_eq, Ideal.div_coe (by norm_num)]
  simp only [EReal.coe_add, EReal.coe_mul, coe_sum]

theorem grad_coe (x g : Fin 64 → ℝ) : ∃ R C : ℝ, ∀ (d : Fin 64 → ℝ) (l : Fin 64),
    grad (fun l => (x l : EReal)) (fun l => (g l : EReal)) (fun l => (d l : EReal)) l
      = ((d l * g l * R + x l * ((∑ k, x k * (d k * g k)) * C) + (∑ k, x k * (d k * g k)) * C * x l : ℝ) : EReal) := by
  obtain ⟨M, hM, h⟩ := ms_coe x
  refine ⟨(Real.sqrt M)⁻¹, -1 / 2 * ((Real.sqrt M)⁻¹ * (1 / M)) * (1 / 64), fun d l => ?_⟩
  unfold grad pull
  rw [h, rsqrt_pos hM, Ideal.div_coe hM.ne', minus_half_eq, width_eq, Ideal.div_coe (by norm_num)]
  simp only [Finset.univ_unique, Finset.sum_singleton]
  simp only [← EReal.coe_mul, ← coe_sum, ← EReal.coe_add]
  congr 1
  ring

/-- A family of real rows is a family of casts. -/
theorem lift {ι : Type*} {f : ι → EReal} (h : ∀ i, IsReal (f i)) : ∃ v : ι → ℝ, f = fun i => (v i : EReal) := by
  choose v hv using h
  exact ⟨v, funext hv⟩

theorem grad_real {x g d : Row} (hx : ∀ l, IsReal (x l)) (hg : ∀ l, IsReal (g l)) (hd : ∀ l, IsReal (d l)) (l : Fin 64) :
    IsReal (grad x g d l) := by
  obtain ⟨x, rfl⟩ := lift hx
  obtain ⟨g, rfl⟩ := lift hg
  obtain ⟨d, rfl⟩ := lift hd
  obtain ⟨R, C, h⟩ := grad_coe x g
  exact ⟨_, h d l⟩

/-- The norm's gradient is linear in the cotangent. -/
theorem grad_sum {T : Nat} {x g : Row} (hx : ∀ l, IsReal (x l)) (hg : ∀ l, IsReal (g l)) {d : Fin T → Row}
    (hd : ∀ t l, IsReal (d t l)) (l : Fin 64) : grad x g (fun l => ∑ t, d t l) l = ∑ t, grad x g (d t) l := by
  obtain ⟨x, rfl⟩ := lift hx
  obtain ⟨g, rfl⟩ := lift hg
  choose v hv using hd
  obtain rfl : d = fun t l => (v t l : EReal) := funext fun t => funext fun l => hv t l
  obtain ⟨R, C, h⟩ := grad_coe x g
  simp only [← coe_sum, h]
  congr 1
  have e : ∑ k, x k * ((∑ t, v t k) * g k) = ∑ t, ∑ k, x k * (v t k * g k) := by
    rw [Finset.sum_comm]
    exact Finset.sum_congr rfl fun k _ => by rw [Finset.sum_mul, Finset.mul_sum]
  rw [e, Finset.sum_add_distrib, Finset.sum_add_distrib]
  simp only [Finset.sum_mul, Finset.mul_sum]

theorem gradScale_sum {T : Nat} {x : Row} (hx : ∀ l, IsReal (x l)) {d : Fin T → Row}
    (hd : ∀ t l, IsReal (d t l)) (l : Fin 64) : gradScale x (fun l => ∑ t, d t l) l = ∑ t, gradScale x (d t) l := by
  obtain ⟨x, rfl⟩ := lift hx
  choose v hv using hd
  obtain rfl : d = fun t l => (v t l : EReal) := funext fun t => funext fun l => hv t l
  obtain ⟨M, hM, h⟩ := ms_coe x
  unfold gradScale
  rw [h, rsqrt_pos hM]
  simp only [← coe_sum, ← EReal.coe_mul]
  rw [Finset.mul_sum]

theorem norm_real {x g : Row} (hx : ∀ l, IsReal (x l)) (hg : ∀ l, IsReal (g l)) (l : Fin 64) : IsReal (norm x g l) := by
  obtain ⟨x, rfl⟩ := lift hx
  obtain ⟨g, rfl⟩ := lift hg
  obtain ⟨M, hM, h⟩ := ms_coe x
  refine ⟨x l * (Real.sqrt M)⁻¹ * g l, ?_⟩
  unfold norm
  rw [h, rsqrt_pos hM, EReal.coe_mul, EReal.coe_mul]

/-! ## The softmax of a row of which some scores are real and the others minus infinity -/

section
variable {n : Nat} {s : Fin n → EReal}

theorem top_real (hs : ∀ j, s j = ⊥ ∨ IsReal (s j)) (h0 : ∃ j, IsReal (s j)) : IsReal (top s) := by
  have hlt : top s < ⊤ := by
    unfold top
    rw [Finset.fold_max_lt, bot_eq]
    refine ⟨bot_lt_top, fun j _ => ?_⟩
    obtain h | ⟨v, h⟩ := hs j
    · rw [h]; exact bot_lt_top
    · rw [h]; exact EReal.coe_lt_top v
  have hgt : ⊥ < top s := by
    obtain ⟨j, v, h⟩ := h0
    unfold top
    rw [Finset.lt_fold_max]
    exact Or.inr ⟨j, Finset.mem_univ _, by rw [h]; exact EReal.bot_lt_coe v⟩
  exact ⟨(top s).toReal, (EReal.coe_toReal hlt.ne hgt.ne').symm⟩

/-- The exponentials are real, none negative, and their sum is positive. -/
theorem exps_coe (hs : ∀ j, s j = ⊥ ∨ IsReal (s j)) (h0 : ∃ j, IsReal (s j)) :
    ∃ e : Fin n → ℝ, exps s = (fun j => (e j : EReal)) ∧ 0 < ∑ j, e j := by
  obtain ⟨T, hT⟩ := top_real hs h0
  have key : ∀ j, ∃ e : ℝ, exps s j = (e : EReal) ∧ 0 ≤ e ∧ (IsReal (s j) → 0 < e) := by
    intro j
    unfold exps
    rw [hT]
    obtain h | ⟨v, h⟩ := hs j
    · refine ⟨0, ?_, le_rfl, fun ⟨v, h'⟩ => absurd (h.symm.trans h') (EReal.bot_ne_coe v)⟩
      rw [h, sub_eq_add_neg, EReal.bot_add]
      rfl
    · exact ⟨Real.exp (v - T), by rw [h, ← EReal.coe_sub]; rfl, (Real.exp_pos _).le, fun _ => Real.exp_pos _⟩
  choose e he hn hp using key
  obtain ⟨j, hj⟩ := h0
  exact ⟨e, funext he, Finset.sum_pos' (fun j _ => hn j) ⟨j, Finset.mem_univ _, hp j hj⟩⟩

theorem prob_real (hs : ∀ j, s j = ⊥ ∨ IsReal (s j)) (h0 : ∃ j, IsReal (s j)) (j : Fin n) : IsReal (prob (exps s) j) := by
  obtain ⟨e, h, hp⟩ := exps_coe hs h0
  refine ⟨e j * (1 / ∑ k, e k), ?_⟩
  unfold prob
  rw [h, ← coe_sum, Ideal.div_coe hp.ne', EReal.coe_mul]

theorem pullScore_real (hs : ∀ j, s j = ⊥ ∨ IsReal (s j)) (h0 : ∃ j, IsReal (s j)) {p : Fin n → EReal}
    (hp : ∀ j, IsReal (p j)) (j : Fin n) : IsReal (pullScore (exps s) p j) := by
  obtain ⟨e, h, hpos⟩ := exps_coe hs h0
  obtain ⟨p, rfl⟩ := lift hp
  refine ⟨(p j * (1 / ∑ k, e k) + (0 - ∑ k, p k * (1 / ((∑ k, e k) * ∑ k, e k)) * e k)) * e j, ?_⟩
  unfold pullScore
  have h1 : Ideal.div 1 ((((∑ k, e k) * ∑ k, e k : ℝ)) : EReal) = ((1 / ((∑ k, e k) * ∑ k, e k) : ℝ) : EReal) := by
    rw [Ideal.div_coe (mul_pos hpos hpos).ne', one_mul]
  simp only [h, Finset.univ_unique, Finset.sum_singleton]
  rw [← coe_sum, ← EReal.coe_mul (∑ k, e k), h1, Ideal.div_coe hpos.ne']
  simp only [← EReal.coe_mul, ← coe_sum, ← EReal.coe_zero, ← EReal.coe_sub, ← EReal.coe_add]
end

/-! ## One head -/

theorem sum_real {ι : Type*} [Fintype ι] {f : ι → EReal} (h : ∀ i, IsReal (f i)) : IsReal (∑ i, f i) :=
  GateSpec.sum_real _ _ fun i _ => h i

section
variable {n N : Nat} {k v : Fin n → Row} {gq gk : Row} (hk : ∀ j l, IsReal (k j l)) (hv : ∀ j l, IsReal (v j l))
  (hq : ∀ l, IsReal (gq l)) (hg : ∀ l, IsReal (gk l))
include hk hv hq hg

theorem cotRow_real {x d : Row} (hx : ∀ l, IsReal (x l)) (hd : ∀ l, IsReal (d l)) (j : Fin n) :
    IsReal (cotRow k v gq gk x d j) := by
  have hs : ∀ j, IsReal ((∑ l, norm x gq l * norm (k j) gk l) * eighth) := fun j => GateSpec.mul_real
    (sum_real fun l => GateSpec.mul_real (norm_real hx hq l) (norm_real (hk j) hg l)) ⟨_, eighth_eq⟩
  exact GateSpec.mul_real (pullScore_real (fun j => Or.inr (hs j)) ⟨j, hs j⟩
    (fun j => sum_real fun l => GateSpec.mul_real (hd l) (hv j l)) j) ⟨_, eighth_eq⟩

theorem cotK_real {x d : Fin N → Row} (hx : ∀ r l, IsReal (x r l)) (hd : ∀ r l, IsReal (d r l)) (j : Fin n) (l : Fin 64) :
    IsReal (cotK k v gq gk x d j l) :=
  sum_real fun r => GateSpec.mul_real (cotRow_real hk hv hq hg (hx r) (hd r) j) (norm_real (hx r) hq l)
end

/-! ## Rows taken in tiles -/

section
variable {n N T b : Nat} (k v : Fin n → Row) (gq gk : Row) (x d : Fin N → Row) (row : Fin T → Fin b → Fin N)
  (hrow : ∀ f : Fin N → EReal, ∑ t, ∑ r, f (row t r) = ∑ r, f r)
include hrow

theorem headV_tiles (j : Fin n) (l : Fin 64) :
    ∑ t, headV k gq gk (fun r => x (row t r)) (fun r => d (row t r)) j l = headV k gq gk x d j l :=
  hrow fun r => prob (exRow k gq gk (x r)) j * d r l

theorem headGq_tiles (l : Fin 64) :
    ∑ t, headGq k v gq gk (fun r => x (row t r)) (fun r => d (row t r)) l = headGq k v gq gk x d l :=
  hrow fun r => gradScale (x r) (cotQ k v gq gk (x r) (d r)) l

theorem cotK_tiles (j : Fin n) (l : Fin 64) :
    ∑ t, cotK k v gq gk (fun r => x (row t r)) (fun r => d (row t r)) j l = cotK k v gq gk x d j l :=
  hrow fun r => cotRow k v gq gk (x r) (d r) j * norm (x r) gq l

variable (hk : ∀ j l, IsReal (k j l)) (hv : ∀ j l, IsReal (v j l))
  (hq : ∀ l, IsReal (gq l)) (hg : ∀ l, IsReal (gk l)) (hx : ∀ r l, IsReal (x r l)) (hd : ∀ r l, IsReal (d r l))
include hk hv hq hg hx hd

theorem headK_tiles (j : Fin n) (l : Fin 64) :
    ∑ t, headK k v gq gk (fun r => x (row t r)) (fun r => d (row t r)) j l = headK k v gq gk x d j l := by
  unfold headK
  rw [← grad_sum (hk j) hg fun t l => cotK_real hk hv hq hg (fun r => hx _) (fun r => hd _) j l]
  congr 1
  exact funext fun l => cotK_tiles k v gq gk x d row hrow j l

theorem headGk_tiles (l : Fin 64) :
    ∑ t, headGk k v gq gk (fun r => x (row t r)) (fun r => d (row t r)) l = headGk k v gq gk x d l := by
  unfold headGk
  rw [Finset.sum_comm]
  refine Finset.sum_congr rfl fun j _ => ?_
  rw [← gradScale_sum (hk j) fun t l => cotK_real hk hv hq hg (fun r => hx _) (fun r => hd _) j l]
  congr 1
  exact funext fun l => cotK_tiles k v gq gk x d row hrow j l
end

end Attn
end
-- ==== Proof.MemSpec.lean ====
module

public import proofs.«01_k».proof.Proof.AttnReal
public import Idealize.ShloMosaic.Lib.Pipeline.ValueKit
public import Idealize.ShloMosaic.Lib.Pointwise

/-! The gradients of the memory attention, written over the arrays of the problem: four heads of 64 columns, the keys in the
left half of the memory's columns and the values in the right. -/

@[expose] public section

noncomputable section

namespace MemSpec
open Idealize.ShloMosaic

/-- Rows of the tokens, of the memory, and a scale. -/
abbrev Tok := FVec Ideal ⟨2, ![8192, 256]⟩ .f32
@[inherit_doc Tok]
abbrev Mem := FVec Ideal ⟨2, ![256, 512]⟩ .f32
@[inherit_doc Tok]
abbrev Scale := FVec Ideal ⟨2, ![1, 64]⟩ .f32

/-- The head's rows. -/
def tok (x : Tok) (h : Fin 4) (r : Fin 8192) : Attn.Row := fun l => x (ix2 r ⟨h.val * 64 + l.val, by omega⟩)
@[inherit_doc tok]
def key (m : Mem) (h : Fin 4) (j : Fin 256) : Attn.Row := fun l => m (ix2 j ⟨h.val * 64 + l.val, by omega⟩)
@[inherit_doc tok]
def val (m : Mem) (h : Fin 4) (j : Fin 256) : Attn.Row := fun l => m (ix2 j ⟨256 + (h.val * 64 + l.val), by omega⟩)
@[inherit_doc tok]
def scale (g : Scale) : Attn.Row := fun l => g (ix2 0 l)

section
variable (q : Tok) (m : Mem) (gq gk : Scale) (d : Tok)

/-- The gradient in the queries. -/
def dq (h : Fin 4) (r : Fin 8192) : Attn.Row :=
  Attn.headQ (key m h) (val m h) (scale gq) (scale gk) (tok q h r) (tok d h r)

/-- The gradients in the keys and in the values. -/
def dk (h : Fin 4) (j : Fin 256) : Attn.Row :=
  Attn.headK (key m h) (val m h) (scale gq) (scale gk) (tok q h) (tok d h) j
@[inherit_doc dk]
def dv (h : Fin 4) (j : Fin 256) : Attn.Row := Attn.headV (key m h) (scale gq) (scale gk) (tok q h) (tok d h) j

/-- The gradients in the two scales. -/
def dgq (l : Fin 64) : EReal :=
  ∑ h, Attn.headGq (key m h) (val m h) (scale gq) (scale gk) (tok q h) (tok d h) l
@[inherit_doc dgq]
def dgk (l : Fin 64) : EReal :=
  ∑ h, Attn.headGk (key m h) (val m h) (scale gq) (scale gk) (tok q h) (tok d h) l

/-- The gradient in the queries by column, and the gradient in the memory by column. -/
def dqm (r : Fin 8192) (c : Fin 256) : EReal := dq q m gq gk d ⟨c.val / 64, by omega⟩ r ⟨c.val % 64, by omega⟩
@[inherit_doc dqm]
def dmem (j : Fin 256) (c : Fin 512) : EReal :=
  if c.val < 256 then dk q m gq gk d ⟨c.val % 256 / 64, by omega⟩ j ⟨c.val % 64, by omega⟩
  else dv q m gq gk d ⟨c.val % 256 / 64, by omega⟩ j ⟨c.val % 64, by omega⟩

theorem dmem_split (j : Fin 256) (c : Fin 512) :
    (if h : c.val < 256 then dk q m gq gk d ⟨c.val / 64, by omega⟩ j ⟨c.val % 64, by omega⟩
      else dv q m gq gk d ⟨(c.val - 256) / 64, by omega⟩ j ⟨(c.val - 256) % 64, by omega⟩) = dmem q m gq gk d j c := by
  unfold dmem
  by_cases h : c.val < 256
  · rw [dif_pos h, if_pos h]
    have h1 : c.val / 64 = c.val % 256 / 64 := by omega
    simp only [h1]
  · rw [dif_neg h, if_neg h]
    have h1 : (c.val - 256) / 64 = c.val % 256 / 64 := by omega
    have h2 : (c.val - 256) % 64 = c.val % 64 := by omega
    simp only [h1, h2]

/-- Row `r` of the tile `t`. -/
def row (t : Fin 16) (r : Fin 512) : Fin 8192 := ⟨t.val * 512 + r.val, by omega⟩

theorem row_sum (f : Fin 8192 → EReal) : ∑ t, ∑ r, f (row t r) = ∑ r, f r := Fin.sum_mul_add_congr fun t r hl => rfl

/-- A tile's share of the four accumulated gradients. -/
def tileK (t : Fin 16) (h : Fin 4) (j : Fin 256) : Attn.Row :=
  Attn.headK (key m h) (val m h) (scale gq) (scale gk) (fun r => tok q h (row t r)) (fun r => tok d h (row t r)) j
@[inherit_doc tileK]
def tileV (t : Fin 16) (h : Fin 4) (j : Fin 256) : Attn.Row :=
  Attn.headV (key m h) (scale gq) (scale gk) (fun r => tok q h (row t r)) (fun r => tok d h (row t r)) j
@[inherit_doc tileK]
def tileGq (t : Fin 16) (l : Fin 64) : EReal :=
  ∑ h, Attn.headGq (key m h) (val m h) (scale gq) (scale gk) (fun r => tok q h (row t r)) (fun r => tok d h (row t r)) l
@[inherit_doc tileK]
def tileGk (t : Fin 16) (l : Fin 64) : EReal :=
  ∑ h, Attn.headGk (key m h) (val m h) (scale gq) (scale gk) (fun r => tok q h (row t r)) (fun r => tok d h (row t r)) l

theorem sum_tileV (h : Fin 4) (j : Fin 256) (l : Fin 64) : ∑ t, tileV q m gq gk d t h j l = dv q m gq gk d h j l :=
  Attn.headV_tiles _ _ _ (tok q h) (tok d h) row row_sum j l

theorem sum_tileGq (l : Fin 64) : ∑ t, tileGq q m gq gk d t l = dgq q m gq gk d l := by
  unfold tileGq dgq
  rw [Finset.sum_comm]
  exact Finset.sum_congr rfl fun h _ => Attn.headGq_tiles _ _ _ _ (tok q h) (tok d h) row row_sum l

/-- Every argument is real. -/
structure Finite : Prop where
  q : GateSpec.Real q
  m : GateSpec.Real m
  gq : GateSpec.Real gq
  gk : GateSpec.Real gk
  d : GateSpec.Real d

variable {q m gq gk d}

theorem sum_tileK (hf : Finite q m gq gk d) (h : Fin 4) (j : Fin 256) (l : Fin 64) :
    ∑ t, tileK q m gq gk d t h j l = dk q m gq gk d h j l :=
  Attn.headK_tiles _ _ _ _ (tok q h) (tok d h) row row_sum (fun _ _ => hf.m _ _) (fun _ _ => hf.m _ _) (fun _ => hf.gq _ _)
    (fun _ => hf.gk _ _) (fun _ _ => hf.q _ _) (fun _ _ => hf.d _ _) j l

theorem sum_tileGk (hf : Finite q m gq gk d) (l : Fin 64) : ∑ t, tileGk q m gq gk d t l = dgk q m gq gk d l := by
  unfold tileGk dgk
  rw [Finset.sum_comm]
  exact Finset.sum_congr rfl fun h _ => Attn.headGk_tiles _ _ _ _ (tok q h) (tok d h) row row_sum (fun _ _ => hf.m _ _)
    (fun _ _ => hf.m _ _) (fun _ => hf.gq _ _) (fun _ => hf.gk _ _) (fun _ _ => hf.q _ _) (fun _ _ => hf.d _ _) l
end

end MemSpec
end
-- ==== Proof.MemRef.lean ====
module

public import proofs.«01_k».proof.Proof.Gen.MemReferenceIdeal.Run
public import proofs.«01_k».proof.Proof.MemSpec
public import Idealize.ShloMosaic.Lib.Pointwise

/-! The results of the reference of the pair `Mem`: its operations in groups, each read entry by entry. -/

@[expose] public section

set_option maxRecDepth 16384

noncomputable section

namespace Cert.MemReferenceIdeal.Value
open Idealize.ShloMosaic Idealize.ShloMosaic.TcCoe Idealize.SL.Sem
open Cert.MemReferenceIdeal Cert.MemReferenceIdeal.Gen

/-- The host's sum over the two leading axes of three, entry by entry. -/
theorem sum_leading {n0 n1 n2 : Nat} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ a : Fin n0, ∑ b : Fin n1, v (ix3 a b l) := by
  refine congrArg (init + ·) ((Finset.sum_filter_eq_sum_of_fiber _ (fun k : Fin n0 × Fin n1 => ix3 k.1 k.2 l)
    (fun _ _ e => Prod.ext (congrFun e 0) (congrFun e 1)) (fun i => ?_) v).trans (Fintype.sum_prod_type _))
  constructor
  · intro e
    refine ⟨(i 0, i 1), ?_⟩
    funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl

/-- The largest of a row, no smaller than minus infinity. -/
theorem max_top {n : Nat} (s : Fin n → EReal) : max (Ideal.ofBits FTy.f32 4286578688#32) (Attn.top s) = Attn.top s :=
  max_eq_right ((Finset.le_fold_max _).2 (Or.inl le_rfl))

/-- The host's largest over the last of three axes. -/
theorem max_last {n0 n1 n2 : Nat} (h : (⟨3, ![n0, n1, n2]⟩ : Shape).ReducesTo [2] ⟨2, ![n0, n1]⟩) (hu : 0 < S_.numel)
    (s : FVec Ideal ⟨3, ![n0, n1, n2]⟩ .f32) (a : Fin n0) (b : Fin n1) :
    Host.reduce FloatOps.maximumf s (constant S_ .f32 0xFF800000#32) h hu (ix2 a b) = Attn.top fun j => s (ix3 a b j) := by
  pointwise
  rfl

/-- Rows by head: of the tokens, of the memory; a scale; the scores. -/
abbrev Toks := FVec Ideal S8192x4x64 .f32
@[inherit_doc Toks]
abbrev Keys := FVec Ideal S256x4x64 .f32
@[inherit_doc Toks]
abbrev Scale := FVec Ideal S1x64 .f32
@[inherit_doc Toks]
abbrev Sc := FVec Ideal S4x8192x256 .f32

/-- The arrays by head. -/
def heads (x : MemSpec.Tok) : Toks := (shapeCast _ x shapeCasts_S8192x256_S8192x4x64)
@[inherit_doc heads]
def headsK (x : MemSpec.Mem) : Keys := (shapeCast _ (extractStridedSlice S256x256 ![0, 0] x slices_S256x512_S256x256_0_0) shapeCasts_S256x256_S256x4x64)
@[inherit_doc heads]
def headsV (x : MemSpec.Mem) : Keys := (shapeCast _ (extractStridedSlice S256x256 ![0, 256] x slices_S256x512_S256x256_0_256) shapeCasts_S256x256_S256x4x64)

theorem heads_at (x : MemSpec.Tok) (r : Fin 8192) (h : Fin 4) (l : Fin 64) : heads x (ix3 r h l) = MemSpec.tok x h r l := by
  pointwise [heads]
  rfl
theorem headsK_at (x : MemSpec.Mem) (r : Fin 256) (h : Fin 4) (l : Fin 64) : headsK x (ix3 r h l) = MemSpec.key x h r l := by
  pointwise [headsK]
  rfl
theorem headsV_at (x : MemSpec.Mem) (r : Fin 256) (h : Fin 4) (l : Fin 64) : headsV x (ix3 r h l) = MemSpec.val x h r l := by
  pointwise [headsV]
  rfl

/-- The norm's mean square, the normalised rows and their scaled copy; what the mean pulls back, the gradient in the rows and
in the scale. -/
def msT (x : Toks) : FVec Ideal S8192x4x1 .f32 := (addf (Host.divf (broadcastInDim S8192x4x1 ![0, 1] bcast_S8192x4_S8192x4x1_0_1 (Host.reduceAdd (mulf x x) (constant S_ .f32 0x00000000#32) reducesTo_S8192x4x64_S8192x4_d2 h_S_)) (broadcastInDim S8192x4x1 ![] bcast_S_S8192x4x1 (constant S_ .f32 0x42800000#32))) (broadcastInDim S8192x4x1 ![] bcast_S_S8192x4x1 (constant S_ .f32 0x358637BD#32)))
@[inherit_doc msT]
def hatT (x : Toks) : Toks := (mulf x (broadcastInDim S8192x4x64 ![0, 1, 2] bcast_S8192x4x1_S8192x4x64_0_1_2 (Host.rsqrt (msT x))))
@[inherit_doc msT]
def normT (x : Toks) (g : Scale) : Toks := (mulf (hatT x) (broadcastInDim S8192x4x64 ![0, 1, 2] bcast_S1x1x64_S8192x4x64_0_1_2 (broadcastInDim S1x1x64 ![1, 2] bcast_S1x64_S1x1x64_1_2 g)))
@[inherit_doc msT]
def pullT (x : Toks) (g : Scale) (d : Toks) : Toks := (broadcastInDim S8192x4x64 ![0, 1] bcast_S8192x4_S8192x4x64_0_1 (Host.reduceAdd (Host.divf (mulf (shapeCast _ (Host.reduceAdd (mulf x (mulf d (broadcastInDim S8192x4x64 ![0, 1, 2] bcast_S1x1x64_S8192x4x64_0_1_2 (broadcastInDim S1x1x64 ![1, 2] bcast_S1x64_S1x1x64_1_2 g)))) (constant S_ .f32 0x00000000#32) reducesTo_S8192x4x64_S8192x4_d2 h_S_) shapeCasts_S8192x4_S8192x4x1) (mulf (broadcastInDim S8192x4x1 ![] bcast_S_S8192x4x1 (constant S_ .f32 0xBF000000#32)) (Host.divf (Host.rsqrt (msT x)) (msT x)))) (broadcastInDim S8192x4x1 ![] bcast_S_S8192x4x1 (constant S_ .f32 0x42800000#32))) (constant S_ .f32 0x00000000#32) reducesTo_S8192x4x1_S8192x4_d2 h_S_))
@[inherit_doc msT]
def gradT (x : Toks) (g : Scale) (d : Toks) : Toks := (addf (addf (mulf (mulf d (broadcastInDim S8192x4x64 ![0, 1, 2] bcast_S1x1x64_S8192x4x64_0_1_2 (broadcastInDim S1x1x64 ![1, 2] bcast_S1x64_S1x1x64_1_2 g))) (broadcastInDim S8192x4x64 ![0, 1, 2] bcast_S8192x4x1_S8192x4x64_0_1_2 (Host.rsqrt (msT x)))) (mulf x (pullT x g d))) (mulf (pullT x g d) x))
@[inherit_doc msT]
def totalT (x d : Toks) : FVec Ideal S64 .f32 := (Host.reduceAdd (mulf (hatT x) d) (constant S_ .f32 0x00000000#32) reducesTo_S8192x4x64_S64_d0_1 h_S_)
@[inherit_doc msT]
def scaleT (x d : Toks) : Scale := (broadcastInDim S1x64 ![1] bcast_S64_S1x64_1 (Host.reduceAdd (shapeCast _ (totalT x d) shapeCasts_S64_S1x1x64) (constant S_ .f32 0x00000000#32) reducesTo_S1x1x64_S64_d0_1 h_S_))

theorem normT_at (x : Toks) (g : Scale) (r : Fin 8192) (h : Fin 4) (l : Fin 64) :
    normT x g (ix3 r h l) = Attn.norm (fun l => x (ix3 r h l)) (fun l => g (ix2 0 l)) l := by
  pointwise [normT, hatT, msT]
  rfl
theorem gradT_at (x : Toks) (g : Scale) (d : Toks) (r : Fin 8192) (h : Fin 4) (l : Fin 64) : gradT x g d (ix3 r h l)
    = Attn.grad (fun l => x (ix3 r h l)) (fun l => g (ix2 0 l)) (fun l => d (ix3 r h l)) l := by
  pointwise [gradT, pullT, msT]
  rfl
theorem totalT_at (x d : Toks) (l : Fin 64) : totalT x d (ix1 l)
    = ∑ r, ∑ h, Attn.gradScale (fun l => x (ix3 r h l)) (fun l => d (ix3 r h l)) l := by
  unfold totalT hatT
  pointwise [sum_leading, msT]
  rfl
theorem scaleT_at (x d : Toks) (l : Fin 64) : scaleT x d (ix2 0 l)
    = ∑ h, ∑ r, Attn.gradScale (fun l => x (ix3 r h l)) (fun l => d (ix3 r h l)) l := by
  rw [Finset.sum_comm, ← totalT_at]
  pointwise [scaleT, sum_leading]
  simp only [Finset.univ_unique, Finset.sum_singleton]

/-- The norm's mean square, the normalised rows and their scaled copy; what the mean pulls back, the gradient in the rows and
in the scale. -/
def msK (x : Keys) : FVec Ideal S256x4x1 .f32 := (addf (Host.divf (broadcastInDim S256x4x1 ![0, 1] bcast_S256x4_S256x4x1_0_1 (Host.reduceAdd (mulf x x) (constant S_ .f32 0x00000000#32) reducesTo_S256x4x64_S256x4_d2 h_S_)) (broadcastInDim S256x4x1 ![] bcast_S_S256x4x1 (constant S_ .f32 0x42800000#32))) (broadcastInDim S256x4x1 ![] bcast_S_S256x4x1 (constant S_ .f32 0x358637BD#32)))
@[inherit_doc msK]
def hatK (x : Keys) : Keys := (mulf x (broadcastInDim S256x4x64 ![0, 1, 2] bcast_S256x4x1_S256x4x64_0_1_2 (Host.rsqrt (msK x))))
@[inherit_doc msK]
def normK (x : Keys) (g : Scale) : Keys := (mulf (hatK x) (broadcastInDim S256x4x64 ![0, 1, 2] bcast_S1x1x64_S256x4x64_0_1_2 (broadcastInDim S1x1x64 ![1, 2] bcast_S1x64_S1x1x64_1_2 g)))
@[inherit_doc msK]
def pullK (x : Keys) (g : Scale) (d : Keys) : Keys := (broadcastInDim S256x4x64 ![0, 1] bcast_S256x4_S256x4x64_0_1 (Host.reduceAdd (Host.divf (mulf (shapeCast _ (Host.reduceAdd (mulf x (mulf d (broadcastInDim S256x4x64 ![0, 1, 2] bcast_S1x1x64_S256x4x64_0_1_2 (broadcastInDim S1x1x64 ![1, 2] bcast_S1x64_S1x1x64_1_2 g)))) (constant S_ .f32 0x00000000#32) reducesTo_S256x4x64_S256x4_d2 h_S_) shapeCasts_S256x4_S256x4x1) (mulf (broadcastInDim S256x4x1 ![] bcast_S_S256x4x1 (constant S_ .f32 0xBF000000#32)) (Host.divf (Host.rsqrt (msK x)) (msK x)))) (broadcastInDim S256x4x1 ![] bcast_S_S256x4x1 (constant S_ .f32 0x42800000#32))) (constant S_ .f32 0x00000000#32) reducesTo_S256x4x1_S256x4_d2 h_S_))
@[inherit_doc msK]
def gradK (x : Keys) (g : Scale) (d : Keys) : Keys := (addf (addf (mulf (mulf d (broadcastInDim S256x4x64 ![0, 1, 2] bcast_S1x1x64_S256x4x64_0_1_2 (broadcastInDim S1x1x64 ![1, 2] bcast_S1x64_S1x1x64_1_2 g))) (broadcastInDim S256x4x64 ![0, 1, 2] bcast_S256x4x1_S256x4x64_0_1_2 (Host.rsqrt (msK x)))) (mulf x (pullK x g d))) (mulf (pullK x g d) x))
@[inherit_doc msK]
def totalK (x d : Keys) : FVec Ideal S64 .f32 := (Host.reduceAdd (mulf (hatK x) d) (constant S_ .f32 0x00000000#32) reducesTo_S256x4x64_S64_d0_1 h_S_)
@[inherit_doc msK]
def scaleK (x d : Keys) : Scale := (broadcastInDim S1x64 ![1] bcast_S64_S1x64_1 (Host.reduceAdd (shapeCast _ (totalK x d) shapeCasts_S64_S1x1x64) (constant S_ .f32 0x00000000#32) reducesTo_S1x1x64_S64_d0_1 h_S_))

theorem normK_at (x : Keys) (g : Scale) (r : Fin 256) (h : Fin 4) (l : Fin 64) :
    normK x g (ix3 r h l) = Attn.norm (fun l => x (ix3 r h l)) (fun l => g (ix2 0 l)) l := by
  pointwise [normK, hatK, msK]
  rfl
theorem gradK_at (x : Keys) (g : Scale) (d : Keys) (r : Fin 256) (h : Fin 4) (l : Fin 64) : gradK x g d (ix3 r h l)
    = Attn.grad (fun l => x (ix3 r h l)) (fun l => g (ix2 0 l)) (fun l => d (ix3 r h l)) l := by
  pointwise [gradK, pullK, msK]
  rfl
theorem totalK_at (x d : Keys) (l : Fin 64) : totalK x d (ix1 l)
    = ∑ r, ∑ h, Attn.gradScale (fun l => x (ix3 r h l)) (fun l => d (ix3 r h l)) l := by
  unfold totalK hatK
  pointwise [sum_leading, msK]
  rfl
theorem scaleK_at (x d : Keys) (l : Fin 64) : scaleK x d (ix2 0 l)
    = ∑ h, ∑ r, Attn.gradScale (fun l => x (ix3 r h l)) (fun l => d (ix3 r h l)) l := by
  rw [Finset.sum_comm, ← totalK_at]
  pointwise [scaleK, sum_leading]
  simp only [Finset.univ_unique, Finset.sum_singleton]

/-- The scores, their exponentials, a row's sum, the probabilities. -/
def scores (q : Toks) (k : Keys) : Sc := (mulf (Host.dotGeneral dot_S8192x4x64_S256x4x64_S4x8192x256_2_2_0_0_1_1 none q k) (broadcastInDim S4x8192x256 ![] bcast_S_S4x8192x256 (constant S_ .f32 0x3E000000#32)))
@[inherit_doc scores]
def tops (s : Sc) : FVec Ideal S4x8192 .f32 := (maximumf (broadcastInDim S4x8192 ![] bcast_S_S4x8192 (constant S_ .f32 0xFF800000#32)) (Host.reduce FloatOps.maximumf s (constant S_ .f32 0xFF800000#32) reducesTo_S4x8192x256_S4x8192_d2 h_S_))
@[inherit_doc scores]
def exps (s : Sc) : Sc := (Host.exp (subf s (broadcastInDim S4x8192x256 ![0, 1, 2] bcast_S4x8192x1_S4x8192x256_0_1_2 (broadcastInDim S4x8192x1 ![0, 1] bcast_S4x8192_S4x8192x1_0_1 (tops s)))))
@[inherit_doc scores]
def sums (e : Sc) : FVec Ideal S4x8192x1 .f32 := (broadcastInDim S4x8192x1 ![0, 1] bcast_S4x8192_S4x8192x1_0_1 (Host.reduceAdd e (constant S_ .f32 0x00000000#32) reducesTo_S4x8192x256_S4x8192_d2 h_S_))
@[inherit_doc scores]
def probs (e : Sc) : Sc := (Host.divf e (broadcastInDim S4x8192x256 ![0, 1, 2] bcast_S4x8192x1_S4x8192x256_0_1_2 (sums e)))

/-- The cotangent of the probabilities, of the scores, of the normalised keys and queries, and of the values. -/
def dprobs (d : Toks) (v : Keys) : Sc := (Host.dotGeneral dot_S4x64x8192_S256x4x64_S4x8192x256_1_2_2_0_0_1 none (transpose S4x64x8192 [1, 2, 0] d transposes_S8192x4x64_S4x64x8192_1_2_0) v)
@[inherit_doc dprobs]
def dscores (e p : Sc) : Sc := (mulf (mulf (addf (Host.divf p (broadcastInDim S4x8192x256 ![0, 1, 2] bcast_S4x8192x1_S4x8192x256_0_1_2 (sums e))) (broadcastInDim S4x8192x256 ![0, 1] bcast_S4x8192_S4x8192x256_0_1 (Host.reduceAdd (Host.negf (shapeCast _ (Host.reduceAdd (mulf (mulf p (broadcastInDim S4x8192x256 ![0, 1, 2] bcast_S4x8192x1_S4x8192x256_0_1_2 (Host.divf (broadcastInDim S4x8192x1 ![] bcast_S_S4x8192x1 (constant S_ .f32 0x3F800000#32)) (mulf (sums e) (sums e))))) e) (constant S_ .f32 0x00000000#32) reducesTo_S4x8192x256_S4x8192_d2 h_S_) shapeCasts_S4x8192_S4x8192x1)) (constant S_ .f32 0x00000000#32) reducesTo_S4x8192x1_S4x8192_d2 h_S_))) e) (broadcastInDim S4x8192x256 ![] bcast_S_S4x8192x256 (constant S_ .f32 0x3E000000#32)))
@[inherit_doc dprobs]
def toKey (s : Sc) (q : Toks) : Keys := (transpose S256x4x64 [1, 0, 2] (Host.dotGeneral dot_S4x8192x256_S8192x4x64_S4x256x64_1_0_2_2_0_1 none s q) transposes_S4x256x64_S256x4x64_1_0_2)
@[inherit_doc dprobs]
def toTok (s : Sc) (k : Keys) : Toks := (transpose S8192x4x64 [1, 0, 2] (Host.dotGeneral dot_S4x8192x256_S256x4x64_S4x8192x64_2_0_1_2_0_1 none s k) transposes_S4x8192x64_S8192x4x64_1_0_2)
@[inherit_doc dprobs]
def toVal (p : Sc) (d : Toks) : Keys := (transpose S256x4x64 [2, 0, 1] (Host.dotGeneral dot_S4x64x8192_S4x8192x256_S4x64x256_2_1_1_2_0_0 none (transpose S4x64x8192 [1, 2, 0] d transposes_S8192x4x64_S4x64x8192_1_2_0) p) transposes_S4x64x256_S256x4x64_2_0_1)

theorem scores_at (q : Toks) (k : Keys) (h : Fin 4) (r : Fin 8192) (j : Fin 256) :
    scores q k (ix3 h r j) = (∑ l : Fin 64, q (ix3 r h l) * k (ix3 j h l)) * Attn.eighth := by
  pointwise [scores]
theorem tops_at (s : Sc) (h : Fin 4) (r : Fin 8192) : tops s (ix2 h r) = Attn.top fun j => s (ix3 h r j) := by
  have e (x y : FVec Ideal S4x8192 .f32) : maximumf x y (ix2 h r) = max (x (ix2 h r)) (y (ix2 h r)) := rfl
  have e' : (broadcastInDim S4x8192 ![] bcast_S_S4x8192 (constant S_ .f32 0xFF800000#32) : FVec Ideal S4x8192 .f32)
    (ix2 h r) = Ideal.ofBits FTy.f32 4286578688#32 := rfl
  unfold tops
  rw [e, e', max_last, max_top]
theorem exps_at (s : Sc) (h : Fin 4) (r : Fin 8192) (j : Fin 256) :
    exps s (ix3 h r j) = Attn.exps (fun j => s (ix3 h r j)) j := by
  pointwise [exps]
  rw [tops_at]
  rfl
theorem probs_at (e : Sc) (h : Fin 4) (r : Fin 8192) (j : Fin 256) :
    probs e (ix3 h r j) = Attn.prob (fun j => e (ix3 h r j)) j := by
  pointwise [probs, sums]
  rfl
theorem dprobs_at (d : Toks) (v : Keys) (h : Fin 4) (r : Fin 8192) (j : Fin 256) :
    dprobs d v (ix3 h r j) = ∑ l : Fin 64, d (ix3 r h l) * v (ix3 j h l) := by
  pointwise [dprobs]
theorem dscores_at (e p : Sc) (h : Fin 4) (r : Fin 8192) (j : Fin 256) : dscores e p (ix3 h r j)
    = Attn.pullScore (fun j => e (ix3 h r j)) (fun j => p (ix3 h r j)) j * Attn.eighth := by
  unfold Attn.pullScore
  simp only [zero_sub]
  pointwise [dscores, sums]
theorem toKey_at (s : Sc) (q : Toks) (j : Fin 256) (h : Fin 4) (l : Fin 64) :
    toKey s q (ix3 j h l) = ∑ r : Fin 8192, s (ix3 h r j) * q (ix3 r h l) := by
  pointwise [toKey]
theorem toTok_at (s : Sc) (k : Keys) (r : Fin 8192) (h : Fin 4) (l : Fin 64) :
    toTok s k (ix3 r h l) = ∑ j : Fin 256, s (ix3 h r j) * k (ix3 j h l) := by
  pointwise [toTok]
theorem toVal_at (p : Sc) (d : Toks) (j : Fin 256) (h : Fin 4) (l : Fin 64) :
    toVal p d (ix3 j h l) = ∑ r : Fin 8192, p (ix3 h r j) * d (ix3 r h l) := by
  pointwise [toVal]
  exact Finset.sum_congr rfl fun r _ => mul_comm _ _

section
variable (x : MemSpec.Tok) (y : MemSpec.Mem) (gq gk : MemSpec.Scale) (d : MemSpec.Tok)

/-- The exponentials and the cotangent of the scores, from the arguments. -/
def allE : Sc := exps (scores (normT (heads x) gq) (normK (headsK y) gk))
@[inherit_doc allE]
def allS : Sc := dscores (allE x y gq gk) (dprobs (heads d) (headsV y))

/-- The gradients by head. -/
def allQ : Toks := gradT (heads x) gq (toTok (allS x y gq gk d) (normK (headsK y) gk))
@[inherit_doc allQ]
def allK : Keys := gradK (headsK y) gk (toKey (allS x y gq gk d) (normT (heads x) gq))
@[inherit_doc allQ]
def allV : Keys := toVal (probs (allE x y gq gk)) (heads d)
@[inherit_doc allQ]
def allGq : Scale := scaleT (heads x) (toTok (allS x y gq gk d) (normK (headsK y) gk))
@[inherit_doc allQ]
def allGk : Scale := scaleK (headsK y) (toKey (allS x y gq gk d) (normT (heads x) gq))

theorem allQ_at (r : Fin 8192) (h : Fin 4) (l : Fin 64) : allQ x y gq gk d (ix3 r h l) = MemSpec.dq x y gq gk d h r l := by
  simp only [allQ, allS, allE, gradT_at, toTok_at, dscores_at, dprobs_at, exps_at, scores_at, normT_at, normK_at,
    heads_at, headsK_at, headsV_at]
  rfl
theorem allK_at (j : Fin 256) (h : Fin 4) (l : Fin 64) : allK x y gq gk d (ix3 j h l) = MemSpec.dk x y gq gk d h j l := by
  simp only [allK, allS, allE, gradK_at, toKey_at, dscores_at, dprobs_at, exps_at, scores_at, normT_at, normK_at,
    heads_at, headsK_at, headsV_at]
  rfl
theorem allV_at (j : Fin 256) (h : Fin 4) (l : Fin 64) : allV x y gq gk d (ix3 j h l) = MemSpec.dv x y gq gk d h j l := by
  simp only [allV, allE, toVal_at, probs_at, exps_at, scores_at, normT_at, normK_at, heads_at, headsK_at]
  rfl
theorem allGq_at (l : Fin 64) : allGq x y gq gk d (ix2 0 l) = MemSpec.dgq x y gq gk d l := by
  simp only [allGq, allS, allE, scaleT_at, toTok_at, dscores_at, dprobs_at, exps_at, scores_at, normT_at, normK_at,
    heads_at, headsK_at, headsV_at]
  rfl
theorem allGk_at (l : Fin 64) : allGk x y gq gk d (ix2 0 l) = MemSpec.dgk x y gq gk d l := by
  simp only [allGk, allS, allE, scaleK_at, toKey_at, dscores_at, dprobs_at, exps_at, scores_at, normT_at, normK_at,
    heads_at, headsK_at, headsV_at]
  rfl

/-- The gradient in the queries and the one in the memory, side by side. -/
def outQ : MemSpec.Tok := (shapeCast _ (allQ x y gq gk d) shapeCasts_S8192x4x64_S8192x256)
@[inherit_doc outQ]
def outMem : MemSpec.Mem := (concatenate S256x512 1 [⟨S256x256, (shapeCast _ (allK x y gq gk d) shapeCasts_S256x4x64_S256x256)⟩, ⟨S256x256, (shapeCast _ (allV x y gq gk d) shapeCasts_S256x4x64_S256x256)⟩] concatenates_S256x256_S256x256_S256x512_d1)

theorem outQ_at (r : Fin 8192) (k : Fin 256) : outQ x y gq gk d (ix2 r k) = MemSpec.dqm x y gq gk d r k := by
  pointwise [outQ]
  exact allQ_at x y gq gk d _ _ _
theorem outMem_at (j : Fin 256) (k : Fin 512) : outMem x y gq gk d (ix2 j k) = MemSpec.dmem x y gq gk d j k := by
  pointwise [outMem]
  simp only [allK_at, allV_at]
  exact MemSpec.dmem_split x y gq gk d j k
end

variable (m : (ℓ : Loc nD τ sig) → Buf (Elt Ideal) ℓ)

/-- The reference's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v138) = (fun i => MemSpec.dqm (m (c.tc.loc main_arg0)) (m (c.tc.loc main_arg1)) (m (c.tc.loc main_arg2)) (m (c.tc.loc main_arg3)) (m (c.tc.loc main_arg4)) (i 0) (i 1))
      ∧ r.2.mem (c.tc.loc main_v139) = (fun i => MemSpec.dmem (m (c.tc.loc main_arg0)) (m (c.tc.loc main_arg1)) (m (c.tc.loc main_arg2)) (m (c.tc.loc main_arg3)) (m (c.tc.loc main_arg4)) (i 0) (i 1))
      ∧ r.2.mem (c.tc.loc main_v123) = (fun i => MemSpec.dgq (m (c.tc.loc main_arg0)) (m (c.tc.loc main_arg1)) (m (c.tc.loc main_arg2)) (m (c.tc.loc main_arg3)) (m (c.tc.loc main_arg4)) (i 1))
      ∧ r.2.mem (c.tc.loc main_v101) = (fun i => MemSpec.dgk (m (c.tc.loc main_arg0)) (m (c.tc.loc main_arg1)) (m (c.tc.loc main_arg2)) (m (c.tc.loc main_arg3)) (m (c.tc.loc main_arg4)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run defs _ _).mono (fun r h c => ?_) (run (F := Ideal) m ρ)
  obtain ⟨h0, h1, h2, h3, h4⟩ := h c
  refine ⟨h0.trans ?_, h1.trans ?_, h2.trans ?_, h3.trans ?_, h4⟩
  · refine Eq.trans (b := outQ (m (c.tc.loc main_arg0)) (m (c.tc.loc main_arg1)) (m (c.tc.loc main_arg2)) (m (c.tc.loc main_arg3)) (m (c.tc.loc main_arg4))) rfl ?_
    funext i
    idx_vars i
    exact outQ_at _ _ _ _ _ i0 i1
  · refine Eq.trans (b := outMem (m (c.tc.loc main_arg0)) (m (c.tc.loc main_arg1)) (m (c.tc.loc main_arg2)) (m (c.tc.loc main_arg3)) (m (c.tc.loc main_arg4))) rfl ?_
    funext i
    idx_vars i
    exact outMem_at _ _ _ _ _ i0 i1
  · refine Eq.trans (b := allGq (m (c.tc.loc main_arg0)) (m (c.tc.loc main_arg1)) (m (c.tc.loc main_arg2)) (m (c.tc.loc main_arg3)) (m (c.tc.loc main_arg4))) rfl ?_
    funext i
    idx_vars i
    obtain rfl : i0 = 0 := Subsingleton.elim _ _
    exact allGq_at _ _ _ _ _ i1
  · refine Eq.trans (b := allGk (m (c.tc.loc main_arg0)) (m (c.tc.loc main_arg1)) (m (c.tc.loc main_arg2)) (m (c.tc.loc main_arg3)) (m (c.tc.loc main_arg4))) rfl ?_
    funext i
    idx_vars i
    obtain rfl : i0 = 0 := Subsingleton.elim _ _
    exact allGk_at _ _ _ _ _ i1

end Cert.MemReferenceIdeal.Value
end
-- ==== Proof.MemHead.lean ====
module

public import proofs.«01_k».proof.Proof.Gen.MemIdeal.Frame
public import proofs.«01_k».proof.Proof.AttnSpec
public import Idealize.ShloMosaic.Lib.Pointwise

/-! One head of the memory attention's gradient at one grid point, as operations on its arrays, and each operation's result
read entry by entry. -/

@[expose] public section

set_option maxRecDepth 16384

noncomputable section

namespace Cert.MemIdeal.Value
open Idealize.ShloMosaic Idealize.ShloMosaic.TcCoe Idealize.SL.Sem
open Cert.MemIdeal Cert.MemIdeal.Gen

/-- Queries of a head, its keys or values, its scores, a number per row, a scale. -/
abbrev Qs := FVec Ideal S512x64 .f32
@[inherit_doc Qs]
abbrev Ks := FVec Ideal S256x64 .f32
@[inherit_doc Qs]
abbrev Sc := FVec Ideal S512x256 .f32
@[inherit_doc Qs]
abbrev Col := FVec Ideal S512x1 .f32
@[inherit_doc Qs]
abbrev Scale := FVec Ideal S1x64 .f32

/-! ## Norms of queries and of keys -/

/-- The norm's mean square of queries, the normalised rows, and the same scaled. -/
def msQ (x : Qs) : FVec Ideal S512x1 .f32 :=
  addf (divf (shapeCast S512x1 (multiReduction .add [1] S512 (mulf x x) 0x00000000#32 reduces_S512x64_S512 (.inl rfl) rfl) shapeCasts_S512_S512x1) (broadcast S512x1 (Scalar.ofBits .f32 0x42800000#32))) (broadcast S512x1 (Scalar.ofBits .f32 0x358637BD#32))
@[inherit_doc msQ]
def hatQ (x : Qs) : Qs := mulf x (broadcastTo S512x64 (rsqrt (msQ x)) broadcasts_S512x1_S512x64)
@[inherit_doc msQ]
def normQ (x : Qs) (g : Scale) : Qs := mulf (hatQ x) (broadcastTo S512x64 g broadcasts_S1x64_S512x64)

/-- The norm's gradient in queries and in its scale. -/
def pullQ (x : Qs) (g : Scale) (d : Qs) : FVec Ideal S512x1 .f32 :=
  divf (mulf (shapeCast S512x1 (multiReduction .add [1] S512 (mulf x (mulf d (broadcastTo S512x64 g broadcasts_S1x64_S512x64))) 0x00000000#32 reduces_S512x64_S512 (.inl rfl) rfl) shapeCasts_S512_S512x1)
    (mulf (broadcast S512x1 (Scalar.ofBits .f32 0xBF000000#32)) (divf (rsqrt (msQ x)) (msQ x)))) (broadcast S512x1 (Scalar.ofBits .f32 0x42800000#32))
@[inherit_doc pullQ]
def backQ (x : Qs) (g : Scale) (d : Qs) : Qs :=
  (broadcastTo S512x64 (shapeCast S512x1 (multiReduction .add [1] S512 (pullQ x g d) 0x00000000#32 reduces_S512x1_S512 (.inl rfl) rfl) shapeCasts_S512_S512x1) broadcasts_S512x1_S512x64)
@[inherit_doc pullQ]
def gradQ (x : Qs) (g : Scale) (d : Qs) : Qs :=
  addf (addf (mulf (mulf d (broadcastTo S512x64 g broadcasts_S1x64_S512x64)) (broadcastTo S512x64 (rsqrt (msQ x)) broadcasts_S512x1_S512x64))
    (mulf x (backQ x g d))) (mulf (backQ x g d) x)
@[inherit_doc pullQ]
def scaleQ (x d : Qs) : Scale :=
  shapeCast S1x64 (multiReduction .add [0] S64 (mulf (hatQ x) d) 0x00000000#32 reduces_S512x64_S64 (.inl rfl) rfl) shapeCasts_S64_S1x64

theorem normQ_at (x : Qs) (g : Scale) (r : Fin 512) (l : Fin 64) :
    normQ x g (ix2 r l) = Attn.norm (fun l => x (ix2 r l)) (fun l => g (ix2 0 l)) l := by
  pointwise [normQ, hatQ, msQ]
  rfl

theorem gradQ_at (x : Qs) (g : Scale) (d : Qs) (r : Fin 512) (l : Fin 64) : gradQ x g d (ix2 r l)
    = Attn.grad (fun l => x (ix2 r l)) (fun l => g (ix2 0 l)) (fun l => d (ix2 r l)) l := by
  pointwise [gradQ, backQ, pullQ, msQ]
  rfl

theorem scaleQ_at (x d : Qs) (l : Fin 64) : scaleQ x d (ix2 0 l)
    = ∑ r, Attn.gradScale (fun l => x (ix2 r l)) (fun l => d (ix2 r l)) l := by
  pointwise [scaleQ, hatQ, msQ]
  rfl

/-- The norm's mean square of keys, the normalised rows, and the same scaled. -/
def msK (x : Ks) : FVec Ideal S256x1 .f32 :=
  addf (divf (shapeCast S256x1 (multiReduction .add [1] S256 (mulf x x) 0x00000000#32 reduces_S256x64_S256 (.inl rfl) rfl) shapeCasts_S256_S256x1) (broadcast S256x1 (Scalar.ofBits .f32 0x42800000#32))) (broadcast S256x1 (Scalar.ofBits .f32 0x358637BD#32))
@[inherit_doc msK]
def hatK (x : Ks) : Ks := mulf x (broadcastTo S256x64 (rsqrt (msK x)) broadcasts_S256x1_S256x64)
@[inherit_doc msK]
def normK (x : Ks) (g : Scale) : Ks := mulf (hatK x) (broadcastTo S256x64 g broadcasts_S1x64_S256x64)

/-- The norm's gradient in keys and in its scale. -/
def pullK (x : Ks) (g : Scale) (d : Ks) : FVec Ideal S256x1 .f32 :=
  divf (mulf (shapeCast S256x1 (multiReduction .add [1] S256 (mulf x (mulf d (broadcastTo S256x64 g broadcasts_S1x64_S256x64))) 0x00000000#32 reduces_S256x64_S256 (.inl rfl) rfl) shapeCasts_S256_S256x1)
    (mulf (broadcast S256x1 (Scalar.ofBits .f32 0xBF000000#32)) (divf (rsqrt (msK x)) (msK x)))) (broadcast S256x1 (Scalar.ofBits .f32 0x42800000#32))
@[inherit_doc pullK]
def backK (x : Ks) (g : Scale) (d : Ks) : Ks :=
  (broadcastTo S256x64 (shapeCast S256x1 (multiReduction .add [1] S256 (pullK x g d) 0x00000000#32 reduces_S256x1_S256 (.inl rfl) rfl) shapeCasts_S256_S256x1) broadcasts_S256x1_S256x64)
@[inherit_doc pullK]
def gradK (x : Ks) (g : Scale) (d : Ks) : Ks :=
  addf (addf (mulf (mulf d (broadcastTo S256x64 g broadcasts_S1x64_S256x64)) (broadcastTo S256x64 (rsqrt (msK x)) broadcasts_S256x1_S256x64))
    (mulf x (backK x g d))) (mulf (backK x g d) x)
@[inherit_doc pullK]
def scaleK (x d : Ks) : Scale :=
  shapeCast S1x64 (multiReduction .add [0] S64 (mulf (hatK x) d) 0x00000000#32 reduces_S256x64_S64 (.inl rfl) rfl) shapeCasts_S64_S1x64

theorem normK_at (x : Ks) (g : Scale) (r : Fin 256) (l : Fin 64) :
    normK x g (ix2 r l) = Attn.norm (fun l => x (ix2 r l)) (fun l => g (ix2 0 l)) l := by
  pointwise [normK, hatK, msK]
  rfl

theorem gradK_at (x : Ks) (g : Scale) (d : Ks) (r : Fin 256) (l : Fin 64) : gradK x g d (ix2 r l)
    = Attn.grad (fun l => x (ix2 r l)) (fun l => g (ix2 0 l)) (fun l => d (ix2 r l)) l := by
  pointwise [gradK, backK, pullK, msK]
  rfl

theorem scaleK_at (x d : Ks) (l : Fin 64) : scaleK x d (ix2 0 l)
    = ∑ r, Attn.gradScale (fun l => x (ix2 r l)) (fun l => d (ix2 r l)) l := by
  pointwise [scaleK, hatK, msK]
  rfl

/-! ## The softmax -/

/-- The exponentials of the scores, each less its row's largest. -/
def scores (q : Qs) (k : Ks) : Sc :=
  mulf (matmul dot_S512x64_S256x64_S512x256_1_1_0_0_n_n none (truncf .bf16 q bitsLt_bf16_f32 : FVec Ideal S512x64 .bf16)
    (truncf .bf16 k bitsLt_bf16_f32 : FVec Ideal S256x64 .bf16) (constant S512x256 .f32 0x00000000#32))
    (broadcast S512x256 (Scalar.ofBits .f32 0x3E000000#32))
@[inherit_doc scores]
def exps (s : Sc) : Sc :=
  exp (subf s (broadcastTo S512x256 (shapeCast S512x1 (multiReduction .maximumf [1] S512 s 0xFF800000#32 reduces_S512x256_S512
    (.inl rfl) rfl) shapeCasts_S512_S512x1) broadcasts_S512x1_S512x256))

/-- A row's sum. -/
def sums (e : Sc) : Col :=
  shapeCast S512x1 (multiReduction .add [1] S512 e 0x00000000#32 reduces_S512x256_S512 (.inl rfl) rfl) shapeCasts_S512_S512x1

/-- The probabilities. -/
def probs (e : Sc) : Sc := divf e (broadcastTo S512x256 (sums e) broadcasts_S512x1_S512x256)

/-- The cotangent of the probabilities, and of the scores before their factor. -/
def dprobs (v : Ks) (d : Qs) : Sc :=
  matmul dot_S512x64_S256x64_S512x256_1_1_0_0_n_n none (truncf .bf16 d bitsLt_bf16_f32 : FVec Ideal S512x64 .bf16)
    (truncf .bf16 v bitsLt_bf16_f32 : FVec Ideal S256x64 .bf16) (constant S512x256 .f32 0x00000000#32)
@[inherit_doc dprobs]
def meanPull (e p : Sc) : Col :=
  subf (broadcast S512x1 (Scalar.ofBits .f32 0x00000000#32)) (sums (mulf (mulf p (broadcastTo S512x256
    (divf (broadcast S512x1 (Scalar.ofBits .f32 0x3F800000#32)) (mulf (sums e) (sums e))) broadcasts_S512x1_S512x256)) e))
@[inherit_doc dprobs]
def dscores (e p : Sc) : Sc :=
  mulf (mulf (addf (divf p (broadcastTo S512x256 (sums e) broadcasts_S512x1_S512x256))
    (broadcastTo S512x256 (shapeCast S512x1 (multiReduction .add [1] S512 (meanPull e p) 0x00000000#32 reduces_S512x1_S512
      (.inl rfl) rfl) shapeCasts_S512_S512x1) broadcasts_S512x1_S512x256)) e) (broadcast S512x256 (Scalar.ofBits .f32 0x3E000000#32))

/-- The products that bring the scores' cotangent to queries and keys, and the output's to the values. -/
def toQ (s : Sc) (k : Ks) : Qs :=
  matmul dot_S512x256_S256x64_S512x64_1_0_0_1_n_n none (truncf .bf16 s bitsLt_bf16_f32 : FVec Ideal S512x256 .bf16)
    (truncf .bf16 k bitsLt_bf16_f32 : FVec Ideal S256x64 .bf16) (constant S512x64 .f32 0x00000000#32)
@[inherit_doc toQ]
def toK (s : Sc) (q : Qs) : Ks :=
  matmul dot_S512x256_S512x64_S256x64_0_0_1_1_n_n none (truncf .bf16 s bitsLt_bf16_f32 : FVec Ideal S512x256 .bf16)
    (truncf .bf16 q bitsLt_bf16_f32 : FVec Ideal S512x64 .bf16) (constant S256x64 .f32 0x00000000#32)

theorem scores_at (q : Qs) (k : Ks) (r : Fin 512) (j : Fin 256) :
    scores q k (ix2 r j) = (∑ l : Fin 64, q (ix2 r l) * k (ix2 j l)) * Attn.eighth := by
  pointwise [scores]

theorem exps_at (s : Sc) (r : Fin 512) (j : Fin 256) : exps s (ix2 r j) = Attn.exps (fun j => s (ix2 r j)) j := by
  pointwise [exps]
  rfl

theorem probs_at (e : Sc) (r : Fin 512) (j : Fin 256) : probs e (ix2 r j) = Attn.prob (fun j => e (ix2 r j)) j := by
  pointwise [probs, sums]
  rfl

theorem dprobs_at (v : Ks) (d : Qs) (r : Fin 512) (j : Fin 256) :
    dprobs v d (ix2 r j) = ∑ l : Fin 64, d (ix2 r l) * v (ix2 j l) := by
  pointwise [dprobs]

theorem dscores_at (e p : Sc) (r : Fin 512) (j : Fin 256) : dscores e p (ix2 r j)
    = Attn.pullScore (fun j => e (ix2 r j)) (fun j => p (ix2 r j)) j * Attn.eighth := by
  pointwise [dscores, meanPull, sums]
  rfl

theorem toQ_at (s : Sc) (k : Ks) (r : Fin 512) (l : Fin 64) : toQ s k (ix2 r l) = ∑ j : Fin 256, s (ix2 r j) * k (ix2 j l) := by
  pointwise [toQ]

theorem toK_at (s : Sc) (q : Qs) (j : Fin 256) (l : Fin 64) : toK s q (ix2 j l) = ∑ r : Fin 512, s (ix2 r j) * q (ix2 r l) := by
  pointwise [toK]

/-! ## One head -/

section
variable (x : Qs) (k v : Ks) (gq gk : Scale) (d : Qs)

/-- A head's exponentials and the cotangent of its scores. -/
def headE : Sc := exps (scores (normQ x gq) (normK k gk))
@[inherit_doc headE]
def headS : Sc := dscores (headE x k gq gk) (dprobs v d)

/-- A head's share of the five results. -/
def headQ : Qs := gradQ x gq (toQ (headS x k v gq gk d) (normK k gk))
@[inherit_doc headQ]
def headK : Ks := gradK k gk (toK (headS x k v gq gk d) (normQ x gq))
@[inherit_doc headQ]
def headV : Ks := toK (probs (headE x k gq gk)) d
@[inherit_doc headQ]
def headGq : Scale := scaleQ x (toQ (headS x k v gq gk d) (normK k gk))
@[inherit_doc headQ]
def headGk : Scale := scaleK k (toK (headS x k v gq gk d) (normQ x gq))
end

/-! ## The four heads together -/

/-- A head's array set among zeros at its place of the four, and the sum of the four. -/
def at3Q (a : Qs) : FVec Ideal S4x512x64 .f32 :=
  concatenate S4x512x64 0 [⟨S3x512x64, (broadcast S3x512x64 (Scalar.ofBits .f32 0x00000000#32) : FVec Ideal S3x512x64 .f32)⟩, ⟨S1x512x64, shapeCast S1x512x64 a shapeCasts_S512x64_S1x512x64⟩] concatenates_S3x512x64_S1x512x64_S4x512x64_d0
@[inherit_doc at3Q]
def at2Q (a : Qs) : FVec Ideal S4x512x64 .f32 :=
  concatenate S4x512x64 0 [⟨S3x512x64, (concatenate S3x512x64 0 [⟨S2x512x64, (broadcast S2x512x64 (Scalar.ofBits .f32 0x00000000#32) : FVec Ideal S2x512x64 .f32)⟩, ⟨S1x512x64, shapeCast S1x512x64 a shapeCasts_S512x64_S1x512x64⟩] concatenates_S2x512x64_S1x512x64_S3x512x64_d0 : FVec Ideal S3x512x64 .f32)⟩, ⟨S1x512x64, (broadcast S1x512x64 (Scalar.ofBits .f32 0x00000000#32) : FVec Ideal S1x512x64 .f32)⟩] concatenates_S3x512x64_S1x512x64_S4x512x64_d0
@[inherit_doc at3Q]
def at1Q (a : Qs) : FVec Ideal S4x512x64 .f32 :=
  concatenate S4x512x64 0 [⟨S2x512x64, (concatenate S2x512x64 0 [⟨S1x512x64, (broadcast S1x512x64 (Scalar.ofBits .f32 0x00000000#32) : FVec Ideal S1x512x64 .f32)⟩, ⟨S1x512x64, shapeCast S1x512x64 a shapeCasts_S512x64_S1x512x64⟩] concatenates_S1x512x64_S1x512x64_S2x512x64_d0 : FVec Ideal S2x512x64 .f32)⟩, ⟨S2x512x64, (broadcast S2x512x64 (Scalar.ofBits .f32 0x00000000#32) : FVec Ideal S2x512x64 .f32)⟩] concatenates_S2x512x64_S2x512x64_S4x512x64_d0
@[inherit_doc at3Q]
def at0Q (a : Qs) : FVec Ideal S4x512x64 .f32 :=
  concatenate S4x512x64 0 [⟨S1x512x64, shapeCast S1x512x64 a shapeCasts_S512x64_S1x512x64⟩, ⟨S3x512x64, (broadcast S3x512x64 (Scalar.ofBits .f32 0x00000000#32) : FVec Ideal S3x512x64 .f32)⟩] concatenates_S1x512x64_S3x512x64_S4x512x64_d0
@[inherit_doc at3Q]
def joinQ (a0 a1 a2 a3 : Qs) : FVec Ideal S4x512x64 .f32 := addf (addf (addf (at3Q a3) (at2Q a2)) (at1Q a1)) (at0Q a0)

theorem joinQ_at (a0 a1 a2 a3 : Qs) (h : Fin 4) (r : Fin 512) (l : Fin 64) :
    joinQ a0 a1 a2 a3 (ix3 h r l) = (![a0, a1, a2, a3] h : Qs) (ix2 r l) := by
  fin_cases h
  all_goals pointwise [joinQ, at0Q, at1Q, at2Q, at3Q]

/-- A head's array set among zeros at its place of the four, and the sum of the four. -/
def at3K (a : Ks) : FVec Ideal S4x256x64 .f32 :=
  concatenate S4x256x64 0 [⟨S3x256x64, (broadcast S3x256x64 (Scalar.ofBits .f32 0x00000000#32) : FVec Ideal S3x256x64 .f32)⟩, ⟨S1x256x64, shapeCast S1x256x64 a shapeCasts_S256x64_S1x256x64⟩] concatenates_S3x256x64_S1x256x64_S4x256x64_d0
@[inherit_doc at3K]
def at2K (a : Ks) : FVec Ideal S4x256x64 .f32 :=
  concatenate S4x256x64 0 [⟨S3x256x64, (concatenate S3x256x64 0 [⟨S2x256x64, (broadcast S2x256x64 (Scalar.ofBits .f32 0x00000000#32) : FVec Ideal S2x256x64 .f32)⟩, ⟨S1x256x64, shapeCast S1x256x64 a shapeCasts_S256x64_S1x256x64⟩] concatenates_S2x256x64_S1x256x64_S3x256x64_d0 : FVec Ideal S3x256x64 .f32)⟩, ⟨S1x256x64, (broadcast S1x256x64 (Scalar.ofBits .f32 0x00000000#32) : FVec Ideal S1x256x64 .f32)⟩] concatenates_S3x256x64_S1x256x64_S4x256x64_d0
@[inherit_doc at3K]
def at1K (a : Ks) : FVec Ideal S4x256x64 .f32 :=
  concatenate S4x256x64 0 [⟨S2x256x64, (concatenate S2x256x64 0 [⟨S1x256x64, (broadcast S1x256x64 (Scalar.ofBits .f32 0x00000000#32) : FVec Ideal S1x256x64 .f32)⟩, ⟨S1x256x64, shapeCast S1x256x64 a shapeCasts_S256x64_S1x256x64⟩] concatenates_S1x256x64_S1x256x64_S2x256x64_d0 : FVec Ideal S2x256x64 .f32)⟩, ⟨S2x256x64, (broadcast S2x256x64 (Scalar.ofBits .f32 0x00000000#32) : FVec Ideal S2x256x64 .f32)⟩] concatenates_S2x256x64_S2x256x64_S4x256x64_d0
@[inherit_doc at3K]
def at0K (a : Ks) : FVec Ideal S4x256x64 .f32 :=
  concatenate S4x256x64 0 [⟨S1x256x64, shapeCast S1x256x64 a shapeCasts_S256x64_S1x256x64⟩, ⟨S3x256x64, (broadcast S3x256x64 (Scalar.ofBits .f32 0x00000000#32) : FVec Ideal S3x256x64 .f32)⟩] concatenates_S1x256x64_S3x256x64_S4x256x64_d0
@[inherit_doc at3K]
def joinK (a0 a1 a2 a3 : Ks) : FVec Ideal S4x256x64 .f32 := addf (addf (addf (at3K a3) (at2K a2)) (at1K a1)) (at0K a0)

theorem joinK_at (a0 a1 a2 a3 : Ks) (h : Fin 4) (r : Fin 256) (l : Fin 64) :
    joinK a0 a1 a2 a3 (ix3 h r l) = (![a0, a1, a2, a3] h : Ks) (ix2 r l) := by
  fin_cases h
  all_goals pointwise [joinK, at0K, at1K, at2K, at3K]

/-! ## The body's results -/

section
variable (X : Vec Ideal S4x512x64 .f32) (K V : Vec Ideal S4x256x64 .f32) (D : Vec Ideal S4x512x64 .f32) (gq gk : Scale)

/-- One head's slice of the queries, of the keys, of the values, of the cotangent. -/
def pickX (h : Fin 4) : Qs := ![k0_pay7 X, k0_pay24 (k0_pay4 X), k0_pay43 (k0_pay4 X), k0_pay61 (k0_pay4 X)] h
@[inherit_doc pickX]
def pickK (h : Fin 4) : Ks := ![k0_pay13 K, k0_pay30 (k0_pay5 K), k0_pay49 (k0_pay5 K), k0_pay68 (k0_pay5 K)] h
@[inherit_doc pickX]
def pickV (h : Fin 4) : Ks := ![k0_pay23 (k0_pay6 V), k0_pay42 (k0_pay6 V), k0_pay60 (k0_pay6 V), k0_pay78 (k0_pay6 V)] h
@[inherit_doc pickX]
def pickD (h : Fin 4) : Qs := ![k0_pay80 D, k0_pay81 D, k0_pay82 D, (k0_pay83 D : FVec Ideal S512x64 .bf16)] h

theorem pickX_at (h : Fin 4) (r : Fin 512) (l : Fin 64) : pickX X h (ix2 r l) = X (ix3 h r l) := by
  fin_cases h
  all_goals pointwise [pickX, k0_pay7, k0_pay24, k0_pay43, k0_pay61, k0_pay4]

theorem pickK_at (h : Fin 4) (r : Fin 256) (l : Fin 64) : pickK K h (ix2 r l) = K (ix3 h r l) := by
  fin_cases h
  all_goals pointwise [pickK, k0_pay13, k0_pay30, k0_pay49, k0_pay68, k0_pay5]

theorem pickV_at (h : Fin 4) (r : Fin 256) (l : Fin 64) : pickV V h (ix2 r l) = V (ix3 h r l) := by
  fin_cases h
  all_goals pointwise [pickV, k0_pay23, k0_pay42, k0_pay60, k0_pay78, k0_pay6]

theorem pickD_at (h : Fin 4) (r : Fin 512) (l : Fin 64) : pickD D h (ix2 r l) = D (ix3 h r l) := by
  fin_cases h
  all_goals pointwise [pickD, k0_pay80, k0_pay81, k0_pay82, k0_pay83, k0_pay79]

/-- The share of head `h` of the five results. -/
def shareQ (h : Fin 4) : Qs := headQ (pickX X h) (pickK K h) (pickV V h) gq gk (pickD D h)
@[inherit_doc shareQ]
def shareK (h : Fin 4) : Ks := headK (pickX X h) (pickK K h) (pickV V h) gq gk (pickD D h)
@[inherit_doc shareQ]
def shareV (h : Fin 4) : Ks := headV (pickX X h) (pickK K h) gq gk (pickD D h)
@[inherit_doc shareQ]
def shareGq (h : Fin 4) : Scale := headGq (pickX X h) (pickK K h) (pickV V h) gq gk (pickD D h)
@[inherit_doc shareQ]
def shareGk (h : Fin 4) : Scale := headGk (pickX X h) (pickK K h) (pickV V h) gq gk (pickD D h)

/-- What a grid point computes. -/
def bodyQ : FVec Ideal S4x512x64 .f32 := joinQ (shareQ X K V D gq gk 0) (shareQ X K V D gq gk 1) (shareQ X K V D gq gk 2) (shareQ X K V D gq gk 3)
@[inherit_doc bodyQ]
def bodyK : FVec Ideal S4x256x64 .f32 := joinK (shareK X K V D gq gk 0) (shareK X K V D gq gk 1) (shareK X K V D gq gk 2) (shareK X K V D gq gk 3)
@[inherit_doc bodyQ]
def bodyV : FVec Ideal S4x256x64 .f32 := joinK (shareV X K D gq gk 0) (shareV X K D gq gk 1) (shareV X K D gq gk 2) (shareV X K D gq gk 3)
@[inherit_doc bodyQ]
def bodyGq : Scale := addf (addf (addf (shareGq X K V D gq gk 3) (shareGq X K V D gq gk 2)) (shareGq X K V D gq gk 1)) (shareGq X K V D gq gk 0)
@[inherit_doc bodyQ]
def bodyGk : Scale := addf (addf (addf (shareGk X K V D gq gk 3) (shareGk X K V D gq gk 2)) (shareGk X K V D gq gk 1)) (shareGk X K V D gq gk 0)

/-! ## The body's results read entry by entry -/

/-- A head's rows. -/
abbrev rowsQ (h : Fin 4) (r : Fin 512) : Attn.Row := fun l => X (ix3 h r l)
@[inherit_doc rowsQ]
abbrev rowsK (h : Fin 4) (j : Fin 256) : Attn.Row := fun l => K (ix3 h j l)

/-- A scale as a row. -/
abbrev scaleRow (g : Scale) : Attn.Row := fun l => g (ix2 0 l)

theorem shareQ_at (h : Fin 4) (r : Fin 512) (l : Fin 64) : shareQ X K V D gq gk h (ix2 r l)
    = Attn.headQ (rowsK K h) (rowsK V h) (scaleRow gq) (scaleRow gk) (rowsQ X h r) (rowsQ D h r) l := by
  simp only [shareQ, headQ, headS, headE, gradQ_at, toQ_at, dscores_at, dprobs_at, exps_at, scores_at, normQ_at, normK_at,
    pickX_at, pickK_at, pickV_at, pickD_at]
  rfl

theorem shareK_at (h : Fin 4) (j : Fin 256) (l : Fin 64) : shareK X K V D gq gk h (ix2 j l)
    = Attn.headK (rowsK K h) (rowsK V h) (scaleRow gq) (scaleRow gk) (rowsQ X h) (rowsQ D h) j l := by
  simp only [shareK, headK, headS, headE, gradK_at, toK_at, dscores_at, dprobs_at, exps_at, scores_at, normQ_at, normK_at,
    pickX_at, pickK_at, pickV_at, pickD_at]
  rfl

theorem shareV_at (h : Fin 4) (j : Fin 256) (l : Fin 64) : shareV X K D gq gk h (ix2 j l)
    = Attn.headV (rowsK K h) (scaleRow gq) (scaleRow gk) (rowsQ X h) (rowsQ D h) j l := by
  simp only [shareV, headV, headE, toK_at, probs_at, exps_at, scores_at, normQ_at, normK_at, pickX_at, pickK_at, pickD_at]
  rfl

theorem shareGq_at (h : Fin 4) (l : Fin 64) : shareGq X K V D gq gk h (ix2 0 l)
    = Attn.headGq (rowsK K h) (rowsK V h) (scaleRow gq) (scaleRow gk) (rowsQ X h) (rowsQ D h) l := by
  simp only [shareGq, headGq, headS, headE, scaleQ_at, toQ_at, dscores_at, dprobs_at, exps_at, scores_at, normQ_at, normK_at,
    pickX_at, pickK_at, pickV_at, pickD_at]
  rfl

theorem shareGk_at (h : Fin 4) (l : Fin 64) : shareGk X K V D gq gk h (ix2 0 l)
    = Attn.headGk (rowsK K h) (rowsK V h) (scaleRow gq) (scaleRow gk) (rowsQ X h) (rowsQ D h) l := by
  simp only [shareGk, headGk, headS, headE, scaleK_at, toK_at, dscores_at, dprobs_at, exps_at, scores_at, normQ_at, normK_at,
    pickX_at, pickK_at, pickV_at, pickD_at]
  rfl

theorem bodyQ_at (h : Fin 4) (r : Fin 512) (l : Fin 64) : bodyQ X K V D gq gk (ix3 h r l)
    = Attn.headQ (rowsK K h) (rowsK V h) (scaleRow gq) (scaleRow gk) (rowsQ X h r) (rowsQ D h r) l := by
  rw [← shareQ_at, bodyQ, joinQ_at]
  fin_cases h <;> rfl

theorem bodyK_at (h : Fin 4) (j : Fin 256) (l : Fin 64) : bodyK X K V D gq gk (ix3 h j l)
    = Attn.headK (rowsK K h) (rowsK V h) (scaleRow gq) (scaleRow gk) (rowsQ X h) (rowsQ D h) j l := by
  rw [← shareK_at, bodyK, joinK_at]
  fin_cases h <;> rfl

theorem bodyV_at (h : Fin 4) (j : Fin 256) (l : Fin 64) : bodyV X K D gq gk (ix3 h j l)
    = Attn.headV (rowsK K h) (scaleRow gq) (scaleRow gk) (rowsQ X h) (rowsQ D h) j l := by
  rw [← shareV_at, bodyV, joinK_at]
  fin_cases h <;> rfl

/-- A sum over the four heads in the body's order. -/
theorem sum_four (f : Fin 4 → EReal) : f 3 + f 2 + f 1 + f 0 = ∑ h, f h := by
  rw [Fin.sum_univ_four]
  abel

theorem bodyGq_at (l : Fin 64) : bodyGq X K V D gq gk (ix2 0 l)
    = ∑ h, Attn.headGq (rowsK K h) (rowsK V h) (scaleRow gq) (scaleRow gk) (rowsQ X h) (rowsQ D h) l := by
  rw [← sum_four]
  simp only [← shareGq_at]
  rfl

theorem bodyGk_at (l : Fin 64) : bodyGk X K V D gq gk (ix2 0 l)
    = ∑ h, Attn.headGk (rowsK K h) (rowsK V h) (scaleRow gq) (scaleRow gk) (rowsQ X h) (rowsQ D h) l := by
  rw [← sum_four]
  simp only [← shareGk_at]
  rfl
end

end Cert.MemIdeal.Value
end
-- ==== Proof.MemFwdValue.lean ====
module

public import proofs.«01_k».proof.Proof.MemHead
public import proofs.«01_k».proof.Proof.MemSpec
public import proofs.«01_k».proof.Proof.Gen.MemFwdIdeal.Frame
public import Idealize.ShloMosaic.Lib.Pipeline.ValueKit

/-! The values of the kernel of the pair `MemFwd`, the memory attention itself: each grid point takes 512 rows of the tokens. -/

@[expose] public section

set_option maxRecDepth 16384

noncomputable section

namespace MemSpec
open Idealize.ShloMosaic

/-- The attention's output of a head, and by column. -/
def att (q : Tok) (m : Mem) (gq gk : Scale) (h : Fin 4) (r : Fin 8192) : Attn.Row := fun l =>
  ∑ j, Attn.prob (Attn.exRow (key m h) (scale gq) (scale gk) (tok q h r)) j * val m h j l
@[inherit_doc att]
def attm (q : Tok) (m : Mem) (gq gk : Scale) (r : Fin 8192) (c : Fin 256) : EReal :=
  att q m gq gk ⟨c.val / 64, by omega⟩ r ⟨c.val % 64, by omega⟩

end MemSpec

namespace Cert.MemFwdIdeal.Value
open Idealize.ShloMosaic Idealize.ShloMosaic.TcCoe Idealize.SL.Sem
open Idealize.ShloMosaic.Pipeline (Dat)
open Cert.MemFwdIdeal Cert.MemFwdIdeal.Gen
open Cert.MemIdeal.Value (Qs Ks Sc Scale pickX pickK pickV pickX_at pickK_at pickV_at headE probs toQ normQ normK scores exps)

/-! ## One grid point -/

section
variable (X : Vec Ideal S4x512x64 .f32) (K V : Vec Ideal S4x256x64 .f32) (gq gk : Scale)

/-- A head's output. -/
def share (h : Fin 4) : Qs := toQ (probs (headE (pickX X h) (pickK K h) gq gk)) (pickV V h)

/-- The four heads' outputs together. -/
def stack (a0 a1 a2 a3 : Qs) : FVec Ideal S4x512x64 .f32 :=
  concatenate S4x512x64 0 [⟨S1x512x64, shapeCast S1x512x64 a0 shapeCasts_S512x64_S1x512x64⟩, ⟨S1x512x64, shapeCast S1x512x64 a1 shapeCasts_S512x64_S1x512x64⟩, ⟨S1x512x64, shapeCast S1x512x64 a2 shapeCasts_S512x64_S1x512x64⟩, ⟨S1x512x64, shapeCast S1x512x64 a3 shapeCasts_S512x64_S1x512x64⟩] concatenates_S1x512x64_S1x512x64_S1x512x64_S1x512x64_S4x512x64_d0

theorem stack_at (a0 a1 a2 a3 : Qs) (h : Fin 4) (r : Fin 512) (l : Fin 64) :
    stack a0 a1 a2 a3 (ix3 h r l) = (![a0, a1, a2, a3] h : Qs) (ix2 r l) := by
  fin_cases h
  all_goals pointwise [stack]

/-- What a grid point computes. -/
def body : FVec Ideal S4x512x64 .f32 := stack (share X K V gq gk 0) (share X K V gq gk 1) (share X K V gq gk 2) (share X K V gq gk 3)

theorem share_at (h : Fin 4) (r : Fin 512) (l : Fin 64) : share X K V gq gk h (ix2 r l)
    = ∑ j, Attn.prob (Attn.exRow (fun j l => K (ix3 h j l)) (fun l => gq (ix2 0 l)) (fun l => gk (ix2 0 l)) (fun l => X (ix3 h r l))) j
      * V (ix3 h j l) := by
  simp only [share, headE, Cert.MemIdeal.Value.toQ_at, Cert.MemIdeal.Value.probs_at, Cert.MemIdeal.Value.exps_at,
    Cert.MemIdeal.Value.scores_at, Cert.MemIdeal.Value.normQ_at, Cert.MemIdeal.Value.normK_at, pickX_at, pickK_at, pickV_at]
  rfl

theorem body_at (h : Fin 4) (r : Fin 512) (l : Fin 64) : body X K V gq gk (ix3 h r l) = share X K V gq gk h (ix2 r l) := by
  rw [body, stack_at]
  fin_cases h <;> rfl

theorem out_eq : out0_5 X K V gq gk = body X K V gq gk := by
  unfold out0_5 k0_pay14 k0_pay15 k0_pay16
  frame_out
  rfl
end

/-! ## The blocks -/

variable (m : (ℓ : Loc nD τ sig) → Buf (Elt Ideal) ℓ)

theorem idx : ∀ t : Fin cfg0.N, win0_0.index t = ![0, t.val, 0] ∧ win0_1.index t = ![0, 0, 0] ∧ win0_2.index t = ![0, 0, 0]
    ∧ win0_3.index t = ![0, 0] ∧ win0_4.index t = ![0, 0] ∧ win0_5.index t = ![0, t.val, 0] :=
  (by decide +kernel : ∀ t : Fin grid0.N, _)

/-- The grid point's number. -/
def pt (t : Fin cfg0.N) : Fin 16 := ⟨t.val, lt_of_lt_of_eq t.isLt N_0⟩

theorem arr_k (c : Dev nD) (h : Fin 4) (r : Fin 256) (l : Fin 64) :
    V m c main_v2 (ix3 h r l) = MemSpec.key (m (c.tc.loc main_arg1)) h r l := by
  simp only [V, V0, List.flatten, List.append_eq, List.cons_append, List.nil_append, List.append_nil]
  after_results
  pointwise
  rfl

theorem arr_v (c : Dev nD) (h : Fin 4) (r : Fin 256) (l : Fin 64) :
    V m c main_v5 (ix3 h r l) = MemSpec.val (m (c.tc.loc main_arg1)) h r l := by
  simp only [V, V0, List.flatten, List.append_eq, List.cons_append, List.nil_append, List.append_nil]
  after_results
  pointwise
  rfl

theorem arr_x (c : Dev nD) (h : Fin 4) (r : Fin 8192) (l : Fin 64) :
    V m c main_v7 (ix3 h r l) = MemSpec.tok (m (c.tc.loc main_arg0)) h r l := by
  simp only [V, V0, List.flatten, List.append_eq, List.cons_append, List.nil_append, List.append_nil]
  after_results
  pointwise
  rfl

theorem blk_x (c : Dev nD) (t : Fin cfg0.N) (h : Fin 4) (r : Fin 512) (l : Fin 64) :
    iblk m c 0 t (ix3 h r l) = MemSpec.tok (m (c.tc.loc main_arg0)) h (MemSpec.row (pt t) r) l := by
  refine Eq.trans (b := V m c main_v7 (ix3 h (MemSpec.row (pt t) r) l)) ?_ (arr_x m c h _ l)
  blk_point [iblk, idx t, MemSpec.row, pt]

theorem blk_k (c : Dev nD) (t : Fin cfg0.N) (h : Fin 4) (r : Fin 256) (l : Fin 64) :
    iblk m c 1 t (ix3 h r l) = MemSpec.key (m (c.tc.loc main_arg1)) h r l := by
  refine Eq.trans (b := V m c main_v2 (ix3 h r l)) ?_ (arr_k m c h r l)
  blk_point [iblk, idx t]

theorem blk_v (c : Dev nD) (t : Fin cfg0.N) (h : Fin 4) (r : Fin 256) (l : Fin 64) :
    iblk m c 2 t (ix3 h r l) = MemSpec.val (m (c.tc.loc main_arg1)) h r l := by
  refine Eq.trans (b := V m c main_v5 (ix3 h r l)) ?_ (arr_v m c h r l)
  blk_point [iblk, idx t]

theorem blk_gq (c : Dev nD) (t : Fin cfg0.N) (l : Fin 64) :
    iblk m c 3 t (ix2 0 l) = m (c.tc.loc main_arg2) (ix2 0 l) := by
  blk_point [iblk, V, V0, idx t]

theorem blk_gk (c : Dev nD) (t : Fin cfg0.N) (l : Fin 64) :
    iblk m c 4 t (ix2 0 l) = m (c.tc.loc main_arg3) (ix2 0 l) := by
  blk_point [iblk, V, V0, idx t]

theorem out_at (t : Fin cfg0.N) (h : Fin 4) (r : Fin 512) (l : Fin 64) :
    ((View.whole main_v8).slice (win0_5.rect t)).emb (ix3 h r l) = ix3 h (MemSpec.row (pt t) r) l := by
  blk_ext [idx t, MemSpec.row, pt]

/-! ## The result -/

theorem final_att (c : Dev nD) : (dats m 0 c).arrAt 5 (cfgs 0).N
    = fun i => MemSpec.att (m (c.tc.loc main_arg0)) (m (c.tc.loc main_arg1)) (m (c.tc.loc main_arg2)) (m (c.tc.loc main_arg3)) (i 0) (i 1) (i 2) := by
  refine (dats m 0 c).arrAt_eq_of_covers 5 _ (by decide +kernel) fun t _ y => ?_
  blk_simp
  idx_vars y
  rw [after0_5, out_at, out_eq, body_at, share_at]
  simp only [blk_x, blk_k, blk_v, blk_gq, blk_gk]
  rfl

theorem res_att (c : Dev nD) :
    Pipeline.afterTail₀ cfgs (dats m) 0 (V0 m) [hostOps1] c main_v10
      = fun i => MemSpec.attm (m (c.tc.loc main_arg0)) (m (c.tc.loc main_arg1)) (m (c.tc.loc main_arg2)) (m (c.tc.loc main_arg3)) (i 0) (i 1) := by
  unfold Pipeline.afterTail₀
  show StableHlo.after hostOps1 _ _ = _
  after_results
  erw [Pipeline.withArrays_arr (cfgs 0).spec launch0.win.arr_inj c (V0 m c) (fun w => (dats m 0 c).arrAt w (cfgs 0).N) 5,
    final_att]
  funext i
  idx_vars i
  pointwise
  rfl

/-- The kernel's run, its result read entry by entry. -/
theorem run_spec (ρ : Dev nD → PrngReg) :
    θ_run defs (onTc (τ := τ) (main (F := Ideal))) ⟨m, fun _ => 0, ρ⟩ fun r => ∀ c : Dev nD,
      r.2.mem (c.tc.loc main_v10) = (fun i => MemSpec.attm (m (c.tc.loc main_arg0)) (m (c.tc.loc main_arg1)) (m (c.tc.loc main_arg2)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  run_from Cert.MemFwdIdeal.Gen.run_main m ρ
  · exact res_att m c
  · exact W_main_arg0 m (dats m) c
  · exact W_main_arg1 m (dats m) c

end Cert.MemFwdIdeal.Value
end
-- ==== Proof.MemFwdRef.lean ====
module

public import proofs.«01_k».proof.Proof.Gen.MemFwdReferenceIdeal.Run
public import proofs.«01_k».proof.Proof.MemRef
public import proofs.«01_k».proof.Proof.MemFwdValue

/-! The result of the reference of the pair `MemFwd`: the groups of operations are those of the gradient's reference. -/

@[expose] public section

set_option maxRecDepth 16384

noncomputable section

namespace Cert.MemFwdReferenceIdeal.Value
open Idealize.ShloMosaic Idealize.ShloMosaic.TcCoe Idealize.SL.Sem
open Cert.MemFwdReferenceIdeal Cert.MemFwdReferenceIdeal.Gen
open Cert.MemReferenceIdeal.Value (Toks Keys Sc allE probs headsV)

/-- The values weighed by the probabilities. -/
def weigh (v : Keys) (p : Sc) : Toks := (transpose S8192x4x64 [2, 0, 1] (Host.dotGeneral dot_S256x4x64_S4x8192x256_S4x64x8192_0_2_2_1_1_0 none v p) transposes_S4x64x8192_S8192x4x64_2_0_1)

theorem weigh_at (v : Keys) (p : Sc) (r : Fin 8192) (h : Fin 4) (l : Fin 64) :
    weigh v p (ix3 r h l) = ∑ j : Fin 256, p (ix3 h r j) * v (ix3 j h l) := by
  pointwise [weigh]
  exact Finset.sum_congr rfl fun _ _ => mul_comm _ _

section
variable (x : MemSpec.Tok) (y : MemSpec.Mem) (gq gk : MemSpec.Scale)

/-- The outputs by head, and by column. -/
def all : Toks := weigh (headsV y) (probs (allE x y gq gk))
@[inherit_doc all]
def out : MemSpec.Tok := (shapeCast _ (all x y gq gk) shapeCasts_S8192x4x64_S8192x256)

theorem all_at (r : Fin 8192) (h : Fin 4) (l : Fin 64) : all x y gq gk (ix3 r h l) = MemSpec.att x y gq gk h r l := by
  simp only [all, allE, weigh_at, Cert.MemReferenceIdeal.Value.probs_at, Cert.MemReferenceIdeal.Value.exps_at,
    Cert.MemReferenceIdeal.Value.scores_at, Cert.MemReferenceIdeal.Value.normT_at, Cert.MemReferenceIdeal.Value.normK_at,
    Cert.MemReferenceIdeal.Value.heads_at, Cert.MemReferenceIdeal.Value.headsK_at, Cert.MemReferenceIdeal.Value.headsV_at]
  rfl

theorem out_at (r : Fin 8192) (k : Fin 256) : out x y gq gk (ix2 r k) = MemSpec.attm x y gq gk r k := by
  pointwise [out]
  exact all_at x y gq gk _ _ _
end

variable (m : (ℓ : Loc nD τ sig) → Buf (Elt Ideal) ℓ)

/-- The reference's run, its result read entry by entry. -/
theorem run_spec (ρ : Dev nD → PrngReg) :
    θ_run defs (onTc (τ := τ) (main (F := Ideal))) ⟨m, fun _ => 0, ρ⟩ fun r => ∀ c : Dev nD,
      r.2.mem (c.tc.loc main_v47) = (fun i => MemSpec.attm (m (c.tc.loc main_arg0)) (m (c.tc.loc main_arg1)) (m (c.tc.loc main_arg2)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ?_) (run (F := Ideal) m ρ)
  obtain ⟨h0, h1⟩ := h c
  refine ⟨h0.trans ?_, h1⟩
  refine Eq.trans (b := out (m (c.tc.loc main_arg0)) (m (c.tc.loc main_arg1)) (m (c.tc.loc main_arg2)) (m (c.tc.loc main_arg3))) rfl ?_
  funext i
  idx_vars i
  exact out_at _ _ _ _ i0 i1

end Cert.MemFwdReferenceIdeal.Value
end
-- ==== Proof.MemKvFwdRef.lean ====
module

public import proofs.«01_k».proof.Proof.Gen.MemKvFwdReferenceIdeal.Run
public import proofs.«01_k».proof.Proof.Rms
public import Idealize.ShloMosaic.Lib.Pointwise

/-! The value of the reference of the pair `MemKvFwd`. -/

@[expose] public section

set_option maxRecDepth 16384

noncomputable section

namespace Cert.MemKvFwdReferenceIdeal.Value
open Idealize.ShloMosaic Idealize.ShloMosaic.TcCoe Idealize.SL.Sem
open Cert.MemKvFwdReferenceIdeal

variable (m : (ℓ : Loc nD τ sig) → Buf (Elt Ideal) ℓ)

/-- The reference's run, read entry by entry. -/
theorem run_spec (ρ : Dev nD → PrngReg) :
    θ_run defs (onTc (τ := τ) (main (F := Ideal))) ⟨m, fun _ => 0, ρ⟩ fun r => ∀ c : Dev nD,
      r.2.mem (c.tc.loc main_v12) = (fun i => Rms.proj (m (c.tc.loc main_arg0)) (m (c.tc.loc main_arg1))
        (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ?_) (run (F := Ideal) m ρ)
  obtain ⟨h0, h1⟩ := h c
  refine ⟨h0.trans ?_, h1⟩
  funext i
  idx_vars i
  pointwise
  rfl

end Cert.MemKvFwdReferenceIdeal.Value
end
-- ==== Proof.MemKvFwdValue.lean ====
module

public import proofs.«01_k».proof.Proof.Gen.MemKvFwdIdeal.Frame
public import proofs.«01_k».proof.Proof.Rms
public import Idealize.ShloMosaic.Lib.Pipeline.ValueKit
public import Idealize.ShloMosaic.Lib.Pointwise

/-! The value of the kernel of the pair `MemKvFwd`, the memory's keys and values: one grid point holds everything. -/

@[expose] public section

set_option maxRecDepth 16384

noncomputable section

namespace Cert.MemKvFwdIdeal.Value
open Idealize.ShloMosaic Idealize.ShloMosaic.TcCoe Idealize.SL.Sem
open Idealize.ShloMosaic.Pipeline (Dat)
open Cert.MemKvFwdIdeal Cert.MemKvFwdIdeal.Gen

theorem pay_at (X : Vec Ideal S256x1024 .f32) (G : Vec Ideal S1x1024 .f32) (W : Vec Ideal S1024x512 .bf16) (r : Fin 256)
    (j : Fin 512) : k0_pay1 (F := Ideal) X G W (ix2 r j) = Rms.proj X G W r j := by
  pointwise [k0_pay1]
  rfl

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

theorem arr_w (c : Dev nD) (k : Fin 1024) (j : Fin 512) :
    V m c main_v0 (ix2 k j) = m (c.tc.loc main_arg2) (ix2 k j) := by
  simp only [V, List.flatten, List.append_eq, List.cons_append, List.nil_append, List.append_nil]
  after_results
  pointwise

theorem blk_x (c : Dev nD) (t : Fin cfg0.N) : iblk m c 0 t = m (c.tc.loc main_arg0) := by
  funext y
  idx_vars y
  blk_point [iblk, V, idx t]

theorem blk_g (c : Dev nD) (t : Fin cfg0.N) : iblk m c 1 t = m (c.tc.loc main_arg1) := by
  funext y
  idx_vars y
  blk_point [iblk, V, idx t]

theorem blk_w (c : Dev nD) (t : Fin cfg0.N) : iblk m c 2 t = m (c.tc.loc main_arg2) := by
  funext y
  idx_vars y
  refine Eq.trans (b := V m c main_v0 (ix2 y0 y1)) ?_ (arr_w m c y0 y1)
  blk_point [iblk, idx t]

theorem out_at (t : Fin cfg0.N) (r : Fin 256) (j : Fin 512) :
    ((View.whole main_v1).slice (win0_3.rect t)).emb (ix2 r j) = ix2 r j := by
  blk_ext [idx t]

theorem final_out (c : Dev nD) : (dats m 0 c).arrAt 3 (cfgs 0).N = fun i => Rms.proj (m (c.tc.loc main_arg0))
    (m (c.tc.loc main_arg1)) (m (c.tc.loc main_arg2)) (i 0) (i 1) := by
  refine (dats m 0 c).arrAt_eq_of_covers 3 _ (by decide +kernel) fun t _ y => ?_
  blk_simp
  idx_vars y
  rw [after0_3, out_at]
  unfold out0_3
  frame_out
  rw [blk_x, blk_g, blk_w]
  exact pay_at _ _ _ y0 y1

/-- The kernel's run, its result read entry by entry. -/
theorem run_spec (ρ : Dev nD → PrngReg) :
    θ_run defs (onTc (τ := τ) (main (F := Ideal))) ⟨m, fun _ => 0, ρ⟩ fun r => ∀ c : Dev nD,
      r.2.mem (c.tc.loc main_v1) = (fun i => Rms.proj (m (c.tc.loc main_arg0)) (m (c.tc.loc main_arg1))
        (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  run_from Cert.MemKvFwdIdeal.Gen.run_main m ρ
  · exact final_out m c

end Cert.MemKvFwdIdeal.Value
end
-- ==== Proof.MemKvSpec.lean ====
module

public import proofs.«01_k».proof.Proof.Rms

/-! What the pair `MemKv` computes: the gradients of the memory's key and value projection behind its RMS norm. -/

@[expose] public section

noncomputable section

namespace MemKvSpec
open Idealize.ShloMosaic Rms

/-- The projection's weights. -/
abbrev Wts := FVec Ideal ⟨2, ![1024, 512]⟩ .f32
/-- The cotangent of the projected memory. -/
abbrev Ct := FVec Ideal ⟨2, ![256, 512]⟩ .f32

/-- A row of the cotangent carried back through the product. -/
def back (W : Wts) (D : Ct) (r : Fin 256) : Row := fun k => ∑ j : Fin 512, (D (ix2 r j) * W (ix2 k j) : EReal)

/-- One entry of the gradient in the norm's scale. -/
def dg (X : Mat 256) (W : Wts) (D : Ct) (l : Fin 1024) : EReal :=
  ∑ r : Fin 256, gradScale (rowOf X r) (back W D r) l

/-- One entry of the gradient in the weights. -/
def dw (X : Mat 256) (G : Mat 1) (D : Ct) (k : Fin 1024) (j : Fin 512) : EReal :=
  ∑ r : Fin 256, (norm (rowOf X r) (rowOf G 0) k * D (ix2 r j) : EReal)

end MemKvSpec
end
-- ==== Proof.MemKvRef.lean ====
module

public import proofs.«01_k».proof.Proof.Gen.MemKvReferenceIdeal.Run
public import proofs.«01_k».proof.Proof.MemKvSpec
public import Idealize.ShloMosaic.Lib.Pointwise

/-! The values of the reference of the pair `MemKv`. -/

@[expose] public section

set_option maxRecDepth 16384

noncomputable section

namespace Cert.MemKvReferenceIdeal.Value
open Idealize.ShloMosaic Idealize.ShloMosaic.TcCoe Idealize.SL.Sem
open Cert.MemKvReferenceIdeal

variable (m : (ℓ : Loc nD τ sig) → Buf (Elt Ideal) ℓ)

/-- The reference's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v18) = (fun i => MemKvSpec.dg (m (c.tc.loc main_arg0)) (m (c.tc.loc main_arg2))
        (m (c.tc.loc main_arg3)) (i 1))
      ∧ r.2.mem (c.tc.loc main_v14) = (fun i => MemKvSpec.dw (m (c.tc.loc main_arg0)) (m (c.tc.loc main_arg1))
        (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ?_) (run (F := Ideal) m ρ)
  obtain ⟨h0, h1, h2⟩ := h c
  refine ⟨h0.trans ?_, h1.trans ?_, h2⟩
  · funext i
    idx_vars i
    pointwise
    rfl
  · funext i
    idx_vars i
    pointwise
    exact Finset.sum_congr rfl fun r _ => mul_comm _ _

end Cert.MemKvReferenceIdeal.Value
end
-- ==== Proof.MemKvValue.lean ====
module

public import proofs.«01_k».proof.Proof.Gen.MemKvIdeal.Frame
public import proofs.«01_k».proof.Proof.MemKvSpec
public import Idealize.ShloMosaic.Lib.Pipeline.ValueKit
public import Idealize.ShloMosaic.Lib.Pointwise

/-! The values of the kernel of the pair `MemKv`: one grid point holds everything. -/

@[expose] public section

set_option maxRecDepth 16384

noncomputable section

namespace Cert.MemKvIdeal.Value
open Idealize.ShloMosaic Idealize.ShloMosaic.TcCoe Idealize.SL.Sem
open Idealize.ShloMosaic.Pipeline (Dat)
open Cert.MemKvIdeal Cert.MemKvIdeal.Gen

theorem pay_dg (X : Vec Ideal S256x1024 .f32) (W : Vec Ideal S1024x512 .bf16) (D : Vec Ideal S256x512 .f32) (l : Fin 1024) :
    k0_pay5 (F := Ideal) X W D (ix2 0 l) = MemKvSpec.dg X W D l := by
  pointwise [k0_pay5, k0_pay2, k0_pay3]
  rfl

theorem pay_dw (X : Vec Ideal S256x1024 .f32) (G : Vec Ideal S1x1024 .f32) (D : Vec Ideal S256x512 .f32) (k : Fin 1024)
    (j : Fin 512) : k0_pay4 (F := Ideal) X G D (ix2 k j) = MemKvSpec.dw X G D k j := by
  pointwise [k0_pay4, k0_pay2, k0_pay3]
  rfl

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem arr_w (c : Dev nD) (k : Fin 1024) (j : Fin 512) :
    V m c main_v0 (ix2 k j) = m (c.tc.loc main_arg2) (ix2 k j) := by
  simp only [V, List.flatten, List.append_eq, List.cons_append, List.nil_append, List.append_nil]
  after_results
  pointwise

theorem blk_x (c : Dev nD) (t : Fin cfg0.N) : iblk m c 0 t = m (c.tc.loc main_arg0) := by
  funext y
  idx_vars y
  blk_point [iblk, V, idx t]

theorem blk_g (c : Dev nD) (t : Fin cfg0.N) : iblk m c 1 t = m (c.tc.loc main_arg1) := by
  funext y
  idx_vars y
  blk_point [iblk, V, idx t]

theorem blk_w (c : Dev nD) (t : Fin cfg0.N) : iblk m c 2 t = m (c.tc.loc main_arg2) := by
  funext y
  idx_vars y
  refine Eq.trans (b := V m c main_v0 (ix2 y0 y1)) ?_ (arr_w m c y0 y1)
  blk_point [iblk, idx t]

theorem blk_d (c : Dev nD) (t : Fin cfg0.N) : iblk m c 3 t = m (c.tc.loc main_arg3) := by
  funext y
  idx_vars y
  blk_point [iblk, V, idx t]

theorem out_dg (t : Fin cfg0.N) (l : Fin 1024) :
    ((View.whole main_v1_0).slice (win0_4.rect t)).emb (ix2 0 l) = ix2 0 l := by
  blk_ext [idx t]

theorem out_dw (t : Fin cfg0.N) (k : Fin 1024) (j : Fin 512) :
    ((View.whole main_v1_1).slice (win0_5.rect t)).emb (ix2 k j) = ix2 k j := by
  blk_ext [idx t]

theorem final_dg (c : Dev nD) : (dats m 0 c).arrAt 4 (cfgs 0).N = fun i => MemKvSpec.dg (m (c.tc.loc main_arg0))
    (m (c.tc.loc main_arg2)) (m (c.tc.loc main_arg3)) (i 1) := by
  refine (dats m 0 c).arrAt_eq_of_covers 4 _ (by decide +kernel) fun t _ y => ?_
  blk_simp
  idx_vars y
  obtain rfl : y0 = 0 := Subsingleton.elim _ _
  rw [after0_4, out_dg]
  unfold outsAt0
  frame_out
  rw [blk_x, blk_w, blk_d]
  exact pay_dg _ _ _ y1

theorem final_dw (c : Dev nD) : (dats m 0 c).arrAt 5 (cfgs 0).N = fun i => MemKvSpec.dw (m (c.tc.loc main_arg0))
    (m (c.tc.loc main_arg1)) (m (c.tc.loc main_arg3)) (i 0) (i 1) := by
  refine (dats m 0 c).arrAt_eq_of_covers 5 _ (by decide +kernel) fun t _ y => ?_
  blk_simp
  idx_vars y
  rw [after0_5, out_dw]
  unfold outsAt0
  frame_out
  rw [blk_x, blk_g, blk_d]
  exact pay_dw _ _ _ y0 y1

/-- The kernel's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v1_0) = (fun i => MemKvSpec.dg (m (c.tc.loc main_arg0)) (m (c.tc.loc main_arg2))
        (m (c.tc.loc main_arg3)) (i 1))
      ∧ r.2.mem (c.tc.loc main_v1_1) = (fun i => MemKvSpec.dw (m (c.tc.loc main_arg0)) (m (c.tc.loc main_arg1))
        (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  run_from Cert.MemKvIdeal.Gen.run_main m ρ
  · exact final_dg m c
  · exact final_dw m c

end Cert.MemKvIdeal.Value
end
-- ==== Proof.MemBody.lean ====
module

public import proofs.«01_k».proof.Proof.MemHead
public import Idealize.ShloMosaic.Lib.Pipeline.ValueKit
public import Idealize.ShloMosaic.Lib.Pointwise

/-! What each grid point of the pair `Mem` leaves in the result windows, as the operations of four heads. -/

@[expose] public section

set_option maxRecDepth 16384

noncomputable section

namespace Cert.MemIdeal.Value
open Idealize.ShloMosaic Idealize.ShloMosaic.TcCoe Idealize.SL.Sem
open Idealize.ShloMosaic.Pipeline (Dat)
open Cert.MemIdeal Cert.MemIdeal.Gen

variable (m : (ℓ : Loc nD τ sig) → Buf (Elt Ideal) ℓ)

theorem cast_heads (A : FVec Ideal S4x256x64 .f32) : shapeCast S4x256x64 A shapeCasts_S4x256x64_S4x256x64 = A := by
  funext i
  pointwise

theorem cast_scale (A : Scale) : shapeCast S1x64 A shapeCasts_S1x64_S1x64 = A := by
  funext i
  pointwise

/-- What the first grid point leaves. -/
theorem first (c : Dev nD) (t : Fin cfg0.N) (h : t.val % 16 = 0) : outsAt0 m c t.val t.isLt
    = (bodyQ (iblk m c 0 t) (iblk m c 1 t) (iblk m c 2 t) (iblk m c 5 t) (iblk m c 3 t) (iblk m c 4 t),
      bodyK (iblk m c 0 t) (iblk m c 1 t) (iblk m c 2 t) (iblk m c 5 t) (iblk m c 3 t) (iblk m c 4 t),
      bodyV (iblk m c 0 t) (iblk m c 1 t) (iblk m c 5 t) (iblk m c 3 t) (iblk m c 4 t),
      bodyGq (iblk m c 0 t) (iblk m c 1 t) (iblk m c 2 t) (iblk m c 5 t) (iblk m c 3 t) (iblk m c 4 t),
      bodyGk (iblk m c 0 t) (iblk m c 1 t) (iblk m c 2 t) (iblk m c 5 t) (iblk m c 3 t) (iblk m c 4 t)) := by
  have ht := lt_of_lt_of_eq t.isLt N_0
  rw [outsAt0_A m c t h (by omega) h (by omega) h (by omega) h (by omega)]
  generalize iblk m c 0 t = X
  generalize iblk m c 1 t = K
  generalize iblk m c 2 t = W
  generalize iblk m c 3 t = gq
  generalize iblk m c 4 t = gk
  generalize iblk m c 5 t = D
  refine Prod.ext ?_ (Prod.ext ?_ (Prod.ext ?_ (Prod.ext ?_ ?_)))
  all_goals frame_out
  all_goals rfl

/-- What a later grid point leaves: the accumulated results grow by its shares. -/
theorem later (c : Dev nD) (t : Fin cfg0.N) (h : ¬t.val % 16 = 0) (p : Fin cfg0.N) (hp : p.val = t.val - 1) : outsAt0 m c t.val t.isLt
    = (bodyQ (iblk m c 0 t) (iblk m c 1 t) (iblk m c 2 t) (iblk m c 5 t) (iblk m c 3 t) (iblk m c 4 t),
      addf (outsAt0 m c p.val p.isLt).2.1 (bodyK (iblk m c 0 t) (iblk m c 1 t) (iblk m c 2 t) (iblk m c 5 t) (iblk m c 3 t) (iblk m c 4 t)),
      addf (outsAt0 m c p.val p.isLt).2.2.1 (bodyV (iblk m c 0 t) (iblk m c 1 t) (iblk m c 5 t) (iblk m c 3 t) (iblk m c 4 t)),
      addf (outsAt0 m c p.val p.isLt).2.2.2.1 (bodyGq (iblk m c 0 t) (iblk m c 1 t) (iblk m c 2 t) (iblk m c 5 t) (iblk m c 3 t) (iblk m c 4 t)),
      addf (outsAt0 m c p.val p.isLt).2.2.2.2 (bodyGk (iblk m c 0 t) (iblk m c 1 t) (iblk m c 2 t) (iblk m c 5 t) (iblk m c 3 t) (iblk m c 4 t))) := by
  have h1 : 1 ≤ t.val := by omega
  obtain ⟨p, hpl⟩ := p
  obtain rfl : p = t.val - 1 := hp
  rw [outsAt0_B m c t h h1 h h1 h h1 h h1]
  generalize iblk m c 0 t = X
  generalize iblk m c 1 t = K
  generalize iblk m c 2 t = W
  generalize iblk m c 3 t = gq
  generalize iblk m c 4 t = gk
  generalize iblk m c 5 t = D
  refine Prod.ext ?_ (Prod.ext ?_ (Prod.ext ?_ (Prod.ext ?_ ?_)))
  · frame_out
    rfl
  · frame_out
    exact congrArg (fun u : FVec Ideal S4x256x64 .f32 => addf u (bodyK X K W D gq gk)) (cast_heads _)
  · frame_out
    exact congrArg (fun u : FVec Ideal S4x256x64 .f32 => addf u (bodyV X K D gq gk)) (cast_heads _)
  · frame_out
    exact congrArg (fun u : Scale => addf u (bodyGq X K W D gq gk)) (cast_scale _)
  · frame_out
    exact congrArg (fun u : Scale => addf u (bodyGk X K W D gq gk)) (cast_scale _)

end Cert.MemIdeal.Value
end
-- ==== Proof.MemValue.lean ====
module

public import proofs.«01_k».proof.Proof.MemBody
public import proofs.«01_k».proof.Proof.MemSpec
public import proofs.«01_k».proof.Proof.GateValue
public import proofs.«01_k».proof.Proof.Gen.Pre_mem_finite
public import proofs.«01_k».proof.Defs

/-! The values of the kernel of the pair `Mem`: each grid point takes 512 rows of the tokens, and the gradients in the memory
and in the scales are accumulated over the points. -/

@[expose] public section

set_option maxRecDepth 16384

noncomputable section

namespace Cert.MemIdeal.Value
open Idealize.ShloMosaic Idealize.ShloMosaic.TcCoe Idealize.SL.Sem
open Idealize.ShloMosaic.Pipeline (Dat)
open Cert.MemIdeal Cert.MemIdeal.Gen

/-! ## A grid point's results, its blocks being rows of the arrays -/

/-- The blocks are the tile `t` of the arrays. -/
structure Tile (X : Vec Ideal S4x512x64 .f32) (K V : Vec Ideal S4x256x64 .f32) (D : Vec Ideal S4x512x64 .f32) (gq gk : Scale)
    (q : MemSpec.Tok) (mem : MemSpec.Mem) (g1 g2 : MemSpec.Scale) (d : MemSpec.Tok) (t : Fin 16) : Prop where
  x : ∀ h r, rowsQ X h r = MemSpec.tok q h (MemSpec.row t r)
  k : ∀ h, rowsK K h = MemSpec.key mem h
  v : ∀ h, rowsK V h = MemSpec.val mem h
  d : ∀ h r, rowsQ D h r = MemSpec.tok d h (MemSpec.row t r)
  gq : scaleRow gq = MemSpec.scale g1
  gk : scaleRow gk = MemSpec.scale g2

section
variable {X : Vec Ideal S4x512x64 .f32} {K V : Vec Ideal S4x256x64 .f32} {D : Vec Ideal S4x512x64 .f32} {gq gk : Scale}
  {q : MemSpec.Tok} {mem : MemSpec.Mem} {g1 g2 : MemSpec.Scale} {d : MemSpec.Tok} {t : Fin 16}

theorem tile_q (T : Tile X K V D gq gk q mem g1 g2 d t) (h : Fin 4) (r : Fin 512) (l : Fin 64) :
    bodyQ X K V D gq gk (ix3 h r l) = MemSpec.dq q mem g1 g2 d h (MemSpec.row t r) l := by
  rw [bodyQ_at, T.x, T.k, T.v, T.d, T.gq, T.gk]
  rfl

theorem tile_k (T : Tile X K V D gq gk q mem g1 g2 d t) (h : Fin 4) (j : Fin 256) (l : Fin 64) :
    bodyK X K V D gq gk (ix3 h j l) = MemSpec.tileK q mem g1 g2 d t h j l := by
  rw [bodyK_at, funext (T.x h), T.k, T.v, funext (T.d h), T.gq, T.gk]
  rfl

theorem tile_v (T : Tile X K V D gq gk q mem g1 g2 d t) (h : Fin 4) (j : Fin 256) (l : Fin 64) :
    bodyV X K D gq gk (ix3 h j l) = MemSpec.tileV q mem g1 g2 d t h j l := by
  rw [bodyV_at, funext (T.x h), T.k, funext (T.d h), T.gq, T.gk]
  rfl

theorem tile_gq (T : Tile X K V D gq gk q mem g1 g2 d t) (l : Fin 64) :
    bodyGq X K V D gq gk (ix2 0 l) = MemSpec.tileGq q mem g1 g2 d t l := by
  rw [bodyGq_at]
  refine Finset.sum_congr rfl fun h _ => ?_
  rw [funext (T.x h), T.k, T.v, funext (T.d h), T.gq, T.gk]

theorem tile_gk (T : Tile X K V D gq gk q mem g1 g2 d t) (l : Fin 64) :
    bodyGk X K V D gq gk (ix2 0 l) = MemSpec.tileGk q mem g1 g2 d t l := by
  rw [bodyGk_at]
  refine Finset.sum_congr rfl fun h _ => ?_
  rw [funext (T.x h), T.k, T.v, funext (T.d h), T.gq, T.gk]
end

/-! ## The blocks -/

variable (m : (ℓ : Loc nD τ sig) → Buf (Elt Ideal) ℓ)

theorem idx : ∀ t : Fin cfg0.N, win0_0.index t = ![0, t.val, 0] ∧ win0_1.index t = ![0, 0, 0] ∧ win0_2.index t = ![0, 0, 0]
    ∧ win0_3.index t = ![0, 0] ∧ win0_4.index t = ![0, 0] ∧ win0_5.index t = ![0, t.val, 0]
    ∧ win0_6.index t = ![0, t.val, 0] ∧ win0_7.index t = ![0, 0, 0] ∧ win0_8.index t = ![0, 0, 0]
    ∧ win0_9.index t = ![0, 0] ∧ win0_10.index t = ![0, 0] :=
  (by decide +kernel : ∀ t : Fin grid0.N, _)

/-- The grid point's number. -/
def pt (t : Fin cfg0.N) : Fin 16 := ⟨t.val, lt_of_lt_of_eq t.isLt N_0⟩

/-- The last grid point. -/
def tLast : Fin cfg0.N := ⟨15, by decide⟩

theorem arr_k (c : Dev nD) (h : Fin 4) (r : Fin 256) (l : Fin 64) :
    V m c main_v2 (ix3 h r l) = m (c.tc.loc main_arg1) (ix2 r ⟨h.val * 64 + l.val, by omega⟩) := by
  simp only [V, V0, List.flatten, List.append_eq, List.cons_append, List.nil_append, List.append_nil]
  after_results
  pointwise

theorem arr_v (c : Dev nD) (h : Fin 4) (r : Fin 256) (l : Fin 64) :
    V m c main_v5 (ix3 h r l) = m (c.tc.loc main_arg1) (ix2 r ⟨256 + (h.val * 64 + l.val), by omega⟩) := by
  simp only [V, V0, List.flatten, List.append_eq, List.cons_append, List.nil_append, List.append_nil]
  after_results
  pointwise

theorem arr_x (c : Dev nD) (h : Fin 4) (r : Fin 8192) (l : Fin 64) :
    V m c main_v7 (ix3 h r l) = m (c.tc.loc main_arg0) (ix2 r ⟨h.val * 64 + l.val, by omega⟩) := by
  simp only [V, V0, List.flatten, List.append_eq, List.cons_append, List.nil_append, List.append_nil]
  after_results
  pointwise

theorem arr_d (c : Dev nD) (h : Fin 4) (r : Fin 8192) (l : Fin 64) :
    V m c main_v9 (ix3 h r l) = m (c.tc.loc main_arg4) (ix2 r ⟨h.val * 64 + l.val, by omega⟩) := by
  simp only [V, V0, List.flatten, List.append_eq, List.cons_append, List.nil_append, List.append_nil]
  after_results
  pointwise

theorem blk_x (c : Dev nD) (t : Fin cfg0.N) (h : Fin 4) (r : Fin 512) (l : Fin 64) :
    iblk m c 0 t (ix3 h r l) = m (c.tc.loc main_arg0) (ix2 (MemSpec.row (pt t) r) ⟨h.val * 64 + l.val, by omega⟩) := by
  refine Eq.trans (b := V m c main_v7 (ix3 h (MemSpec.row (pt t) r) l)) ?_ (arr_x m c h _ l)
  blk_point [iblk, idx t, MemSpec.row, pt]

theorem blk_d (c : Dev nD) (t : Fin cfg0.N) (h : Fin 4) (r : Fin 512) (l : Fin 64) :
    iblk m c 5 t (ix3 h r l) = m (c.tc.loc main_arg4) (ix2 (MemSpec.row (pt t) r) ⟨h.val * 64 + l.val, by omega⟩) := by
  refine Eq.trans (b := V m c main_v9 (ix3 h (MemSpec.row (pt t) r) l)) ?_ (arr_d m c h _ l)
  blk_point [iblk, idx t, MemSpec.row, pt]

theorem blk_k (c : Dev nD) (t : Fin cfg0.N) (h : Fin 4) (r : Fin 256) (l : Fin 64) :
    iblk m c 1 t (ix3 h r l) = m (c.tc.loc main_arg1) (ix2 r ⟨h.val * 64 + l.val, by omega⟩) := by
  refine Eq.trans (b := V m c main_v2 (ix3 h r l)) ?_ (arr_k m c h r l)
  blk_point [iblk, idx t]

theorem blk_v (c : Dev nD) (t : Fin cfg0.N) (h : Fin 4) (r : Fin 256) (l : Fin 64) :
    iblk m c 2 t (ix3 h r l) = m (c.tc.loc main_arg1) (ix2 r ⟨256 + (h.val * 64 + l.val), by omega⟩) := by
  refine Eq.trans (b := V m c main_v5 (ix3 h r l)) ?_ (arr_v m c h r l)
  blk_point [iblk, idx t]

theorem blk_gq (c : Dev nD) (t : Fin cfg0.N) (l : Fin 64) :
    iblk m c 3 t (ix2 0 l) = m (c.tc.loc main_arg2) (ix2 0 l) := by
  blk_point [iblk, V, V0, idx t]

theorem blk_gk (c : Dev nD) (t : Fin cfg0.N) (l : Fin 64) :
    iblk m c 4 t (ix2 0 l) = m (c.tc.loc main_arg3) (ix2 0 l) := by
  blk_point [iblk, V, V0, idx t]

theorem tile (c : Dev nD) (t : Fin cfg0.N) :
    Tile (iblk m c 0 t) (iblk m c 1 t) (iblk m c 2 t) (iblk m c 5 t) (iblk m c 3 t) (iblk m c 4 t) (m (c.tc.loc main_arg0)) (m (c.tc.loc main_arg1)) (m (c.tc.loc main_arg2)) (m (c.tc.loc main_arg3)) (m (c.tc.loc main_arg4)) (pt t) where
  x h r := funext fun l => blk_x m c t h r l
  k h := funext fun j => funext fun l => blk_k m c t h j l
  v h := funext fun j => funext fun l => blk_v m c t h j l
  d h r := funext fun l => blk_d m c t h r l
  gq := funext fun l => blk_gq m c t l
  gk := funext fun l => blk_gk m c t l

theorem out_at (t : Fin cfg0.N) (h : Fin 4) (r : Fin 512) (l : Fin 64) :
    ((View.whole main_v10_0).slice (win0_6.rect t)).emb (ix3 h r l) = ix3 h (MemSpec.row (pt t) r) l := by
  blk_ext [idx t, MemSpec.row, pt]

/-! ## The results -/

theorem final_dq (c : Dev nD) : (dats m 0 c).arrAt 6 (cfgs 0).N = fun i => MemSpec.dq (m (c.tc.loc main_arg0)) (m (c.tc.loc main_arg1)) (m (c.tc.loc main_arg2)) (m (c.tc.loc main_arg3)) (m (c.tc.loc main_arg4)) (i 0) (i 1) (i 2) := by
  refine (dats m 0 c).arrAt_eq_of_covers 6 _ (by decide +kernel) fun t _ y => ?_
  blk_simp
  idx_vars y
  have ht := lt_of_lt_of_eq t.isLt N_0
  rw [after0_6, out_at]
  by_cases h : t.val % 16 = 0
  · rw [first m c t h]
    exact tile_q (tile m c t) y0 y1 y2
  · rw [later m c t h ⟨t.val - 1, lt_of_le_of_lt (Nat.sub_le _ _) t.isLt⟩ rfl]
    exact tile_q (tile m c t) y0 y1 y2

theorem final_dk (c : Dev nD) (hf : MemSpec.Finite (m (c.tc.loc main_arg0)) (m (c.tc.loc main_arg1)) (m (c.tc.loc main_arg2)) (m (c.tc.loc main_arg3)) (m (c.tc.loc main_arg4))) :
    (dats m 0 c).arrAt 7 (cfgs 0).N = fun i => MemSpec.dk (m (c.tc.loc main_arg0)) (m (c.tc.loc main_arg1)) (m (c.tc.loc main_arg2)) (m (c.tc.loc main_arg3)) (m (c.tc.loc main_arg4)) (i 0) (i 1) (i 2) := by
  refine (dats m 0 c).arrAt_eq_of_after_last 7 tLast (by decide +kernel) _ fun j => ?_
  blk_simp
  idx_vars j
  rw [after0_7, Pipeline.eq_sum_fin_of_reset_step_apply_last (fun n h => (outsAt0 m c n h).2.1) 16 (fun _ => (0 : EReal))
    (fun t i => MemSpec.tileK (m (c.tc.loc main_arg0)) (m (c.tc.loc main_arg1)) (m (c.tc.loc main_arg2)) (m (c.tc.loc main_arg3)) (m (c.tc.loc main_arg4)) (pt t) (i 0) (i 1) (i 2)) ?_ ?_ (le_of_eq N_0) tLast rfl, zero_add]
  · exact MemSpec.sum_tileK hf j0 j1 j2
  · intro t h i
    rw [first m c t h, zero_add]
    idx_vars i
    exact tile_k (tile m c t) i0 i1 i2
  · intro t h i
    have ht := lt_of_lt_of_eq t.isLt N_0
    rw [later m c t h ⟨t.val - 1, by omega⟩ rfl]
    idx_vars i
    exact congrArg (fun u : EReal => _ + u) (tile_k (tile m c t) i0 i1 i2)

theorem final_dv (c : Dev nD) :
    (dats m 0 c).arrAt 8 (cfgs 0).N = fun i => MemSpec.dv (m (c.tc.loc main_arg0)) (m (c.tc.loc main_arg1)) (m (c.tc.loc main_arg2)) (m (c.tc.loc main_arg3)) (m (c.tc.loc main_arg4)) (i 0) (i 1) (i 2) := by
  refine (dats m 0 c).arrAt_eq_of_after_last 8 tLast (by decide +kernel) _ fun j => ?_
  blk_simp
  idx_vars j
  rw [after0_8, Pipeline.eq_sum_fin_of_reset_step_apply_last (fun n h => (outsAt0 m c n h).2.2.1) 16 (fun _ => (0 : EReal))
    (fun t i => MemSpec.tileV (m (c.tc.loc main_arg0)) (m (c.tc.loc main_arg1)) (m (c.tc.loc main_arg2)) (m (c.tc.loc main_arg3)) (m (c.tc.loc main_arg4)) (pt t) (i 0) (i 1) (i 2)) ?_ ?_ (le_of_eq N_0) tLast rfl, zero_add]
  · exact MemSpec.sum_tileV _ _ _ _ _ j0 j1 j2
  · intro t h i
    rw [first m c t h, zero_add]
    idx_vars i
    exact tile_v (tile m c t) i0 i1 i2
  · intro t h i
    have ht := lt_of_lt_of_eq t.isLt N_0
    rw [later m c t h ⟨t.val - 1, by omega⟩ rfl]
    idx_vars i
    exact congrArg (fun u : EReal => _ + u) (tile_v (tile m c t) i0 i1 i2)

theorem final_dgq (c : Dev nD) :
    (dats m 0 c).arrAt 9 (cfgs 0).N = fun i => MemSpec.dgq (m (c.tc.loc main_arg0)) (m (c.tc.loc main_arg1)) (m (c.tc.loc main_arg2)) (m (c.tc.loc main_arg3)) (m (c.tc.loc main_arg4)) (i 1) := by
  refine (dats m 0 c).arrAt_eq_of_after_last 9 tLast (by decide +kernel) _ fun j => ?_
  blk_simp
  idx_vars j
  rw [after0_9, Pipeline.eq_sum_fin_of_reset_step_apply_last (fun n h => (outsAt0 m c n h).2.2.2.1) 16 (fun _ => (0 : EReal))
    (fun t i => MemSpec.tileGq (m (c.tc.loc main_arg0)) (m (c.tc.loc main_arg1)) (m (c.tc.loc main_arg2)) (m (c.tc.loc main_arg3)) (m (c.tc.loc main_arg4)) (pt t) (i 1)) ?_ ?_ (le_of_eq N_0) tLast rfl, zero_add]
  · exact MemSpec.sum_tileGq _ _ _ _ _ j1
  · intro t h i
    rw [first m c t h, zero_add]
    idx_vars i
    obtain rfl : i0 = 0 := Subsingleton.elim _ _
    exact tile_gq (tile m c t) i1
  · intro t h i
    have ht := lt_of_lt_of_eq t.isLt N_0
    rw [later m c t h ⟨t.val - 1, by omega⟩ rfl]
    idx_vars i
    obtain rfl : i0 = 0 := Subsingleton.elim _ _
    exact congrArg (fun u : EReal => _ + u) (tile_gq (tile m c t) i1)

theorem final_dgk (c : Dev nD) (hf : MemSpec.Finite (m (c.tc.loc main_arg0)) (m (c.tc.loc main_arg1)) (m (c.tc.loc main_arg2)) (m (c.tc.loc main_arg3)) (m (c.tc.loc main_arg4))) :
    (dats m 0 c).arrAt 10 (cfgs 0).N = fun i => MemSpec.dgk (m (c.tc.loc main_arg0)) (m (c.tc.loc main_arg1)) (m (c.tc.loc main_arg2)) (m (c.tc.loc main_arg3)) (m (c.tc.loc main_arg4)) (i 1) := by
  refine (dats m 0 c).arrAt_eq_of_after_last 10 tLast (by decide +kernel) _ fun j => ?_
  blk_simp
  idx_vars j
  rw [after0_10, Pipeline.eq_sum_fin_of_reset_step_apply_last (fun n h => (outsAt0 m c n h).2.2.2.2) 16 (fun _ => (0 : EReal))
    (fun t i => MemSpec.tileGk (m (c.tc.loc main_arg0)) (m (c.tc.loc main_arg1)) (m (c.tc.loc main_arg2)) (m (c.tc.loc main_arg3)) (m (c.tc.loc main_arg4)) (pt t) (i 1)) ?_ ?_ (le_of_eq N_0) tLast rfl, zero_add]
  · exact MemSpec.sum_tileGk hf j1
  · intro t h i
    rw [first m c t h, zero_add]
    idx_vars i
    obtain rfl : i0 = 0 := Subsingleton.elim _ _
    exact tile_gk (tile m c t) i1
  · intro t h i
    have ht := lt_of_lt_of_eq t.isLt N_0
    rw [later m c t h ⟨t.val - 1, by omega⟩ rfl]
    idx_vars i
    obtain rfl : i0 = 0 := Subsingleton.elim _ _
    exact congrArg (fun u : EReal => _ + u) (tile_gk (tile m c t) i1)

theorem res_dq (c : Dev nD) :
    Pipeline.afterTail₀ cfgs (dats m) 0 (V0 m) [hostOps1] c main_v12 = fun i => MemSpec.dqm (m (c.tc.loc main_arg0)) (m (c.tc.loc main_arg1)) (m (c.tc.loc main_arg2)) (m (c.tc.loc main_arg3)) (m (c.tc.loc main_arg4)) (i 0) (i 1) := by
  unfold Pipeline.afterTail₀
  show StableHlo.after hostOps1 _ _ = _
  after_results
  erw [Pipeline.withArrays_arr (cfgs 0).spec launch0.win.arr_inj c (V0 m c) (fun w => (dats m 0 c).arrAt w (cfgs 0).N) 6,
    final_dq]
  funext i
  idx_vars i
  pointwise
  rfl

set_option maxHeartbeats 1000000 in
theorem res_dmem (c : Dev nD) (hf : MemSpec.Finite (m (c.tc.loc main_arg0)) (m (c.tc.loc main_arg1)) (m (c.tc.loc main_arg2)) (m (c.tc.loc main_arg3)) (m (c.tc.loc main_arg4))) :
    Pipeline.afterTail₀ cfgs (dats m) 0 (V0 m) [hostOps1] c main_v17 = fun i => MemSpec.dmem (m (c.tc.loc main_arg0)) (m (c.tc.loc main_arg1)) (m (c.tc.loc main_arg2)) (m (c.tc.loc main_arg3)) (m (c.tc.loc main_arg4)) (i 0) (i 1) := by
  unfold Pipeline.afterTail₀
  show StableHlo.after hostOps1 _ _ = _
  after_results
  erw [Pipeline.withArrays_arr (cfgs 0).spec launch0.win.arr_inj c (V0 m c) (fun w => (dats m 0 c).arrAt w (cfgs 0).N) 7,
    final_dk m c hf,
    Pipeline.withArrays_arr (cfgs 0).spec launch0.win.arr_inj c (V0 m c) (fun w => (dats m 0 c).arrAt w (cfgs 0).N) 8,
    final_dv]
  funext i
  idx_vars i
  pointwise
  exact MemSpec.dmem_split _ _ _ _ _ i0 i1

/-- What the precondition says: the arguments are real numbers. -/
theorem fin_of_pre {m : (ℓ : Loc nD τ sig) → Buf (Elt Ideal) ℓ} (h : Pre_MemIdeal_mem_finite m) (c : Dev nD) :
    MemSpec.Finite (m (c.tc.loc main_arg0)) (m (c.tc.loc main_arg1)) (m (c.tc.loc main_arg2)) (m (c.tc.loc main_arg3)) (m (c.tc.loc main_arg4)) := by
  obtain ⟨a, b, d, e, f⟩ := h c
  exact ⟨Cert.GateIdeal.Value.real_of _ _ a, Cert.GateIdeal.Value.real_of _ _ b, Cert.GateIdeal.Value.real_of _ _ d,
    Cert.GateIdeal.Value.real_of _ _ e, Cert.GateIdeal.Value.real_of _ _ f⟩

/-- The kernel's run, its results read entry by entry. -/
theorem run_spec (hfin : ∀ c : Dev nD, MemSpec.Finite (m (c.tc.loc main_arg0)) (m (c.tc.loc main_arg1)) (m (c.tc.loc main_arg2)) (m (c.tc.loc main_arg3)) (m (c.tc.loc main_arg4))) (ρ : Dev nD → PrngReg) :
    θ_run defs (onTc (τ := τ) (main (F := Ideal))) ⟨m, fun _ => 0, ρ⟩ fun r => ∀ c : Dev nD,
      r.2.mem (c.tc.loc main_v12) = (fun i => MemSpec.dqm (m (c.tc.loc main_arg0)) (m (c.tc.loc main_arg1)) (m (c.tc.loc main_arg2)) (m (c.tc.loc main_arg3)) (m (c.tc.loc main_arg4)) (i 0) (i 1))
      ∧ r.2.mem (c.tc.loc main_v17) = (fun i => MemSpec.dmem (m (c.tc.loc main_arg0)) (m (c.tc.loc main_arg1)) (m (c.tc.loc main_arg2)) (m (c.tc.loc main_arg3)) (m (c.tc.loc main_arg4)) (i 0) (i 1))
      ∧ r.2.mem (c.tc.loc main_v10_3) = (fun i => MemSpec.dgq (m (c.tc.loc main_arg0)) (m (c.tc.loc main_arg1)) (m (c.tc.loc main_arg2)) (m (c.tc.loc main_arg3)) (m (c.tc.loc main_arg4)) (i 1))
      ∧ r.2.mem (c.tc.loc main_v10_4) = (fun i => MemSpec.dgk (m (c.tc.loc main_arg0)) (m (c.tc.loc main_arg1)) (m (c.tc.loc main_arg2)) (m (c.tc.loc main_arg3)) (m (c.tc.loc main_arg4)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  run_from Cert.MemIdeal.Gen.run_main m ρ
  · exact res_dq m c
  · exact res_dmem m c (hfin c)
  · exact final_dgq m c
  · exact final_dgk m c (hfin c)
  · exact W_main_arg0 m (dats m) c
  · exact W_main_arg1 m (dats m) c
  · exact W_main_arg4 m (dats m) c

end Cert.MemIdeal.Value
end
-- ==== Proof.NormRef.lean ====
module

public import proofs.«01_k».proof.Proof.Gen.NormReferenceIdeal.Run
public import proofs.«01_k».proof.Proof.NormSpec
public import Idealize.ShloMosaic.Lib.Pointwise

/-! The values of the reference of the pair `Norm`. -/

@[expose] public section

set_option maxRecDepth 16384

noncomputable section

namespace Cert.NormReferenceIdeal.Value
open Idealize.ShloMosaic Idealize.ShloMosaic.TcCoe Idealize.SL.Sem
open Cert.NormReferenceIdeal

variable (m : (ℓ : Loc nD τ sig) → Buf (Elt Ideal) ℓ)

theorem ref_dx (c : Dev nD) : res_main_v36 (F := Ideal) m c =
    fun i => NormSpec.dx (m (c.tc.loc main_arg0)) (m (c.tc.loc main_arg1)) (m (c.tc.loc main_arg2)) (m (c.tc.loc main_arg3)) (i 0) (i 1) := by
  funext i
  idx_vars i
  pointwise [res_main_v36]
  rfl

/-- The reference's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v36) = (fun i => NormSpec.dx (m (c.tc.loc main_arg0)) (m (c.tc.loc main_arg1))
        (m (c.tc.loc main_arg2)) (m (c.tc.loc main_arg3)) (i 0) (i 1))
      ∧ r.2.mem (c.tc.loc main_v19) = (fun i => NormSpec.dg (m (c.tc.loc main_arg0)) (m (c.tc.loc main_arg2)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ?_) (run (F := Ideal) m ρ)
  obtain ⟨h0, h1, h2⟩ := h c
  refine ⟨h0.trans (ref_dx m c), h1.trans ?_, h2⟩
  funext i
  idx_vars i
  pointwise
  rfl

end Cert.NormReferenceIdeal.Value
end
-- ==== Proof.ProjFwdSpec.lean ====
module

public import proofs.«01_k».proof.Proof.Rms

/-! Where the pair `ProjFwd` puts the columns of the projected rows: the convolution's inputs, the queries, the keys, the
values and the memory queries lie side by side, in this order. -/

@[expose] public section

noncomputable section

namespace ProjFwdSpec

/-- The projection's column behind a column of the convolution's inputs. -/
def u (j : Fin 768) : Fin 1664 := ⟨j.val, by omega⟩
/-- Behind a column of the queries. -/
def q (j : Fin 384) : Fin 1664 := ⟨768 + j.val, by omega⟩
/-- Behind a column of the keys. -/
def k (j : Fin 128) : Fin 1664 := ⟨1152 + j.val, by omega⟩
/-- Behind a column of the values. -/
def v (j : Fin 128) : Fin 1664 := ⟨1280 + j.val, by omega⟩
/-- Behind a column of the memory queries. -/
def mq (j : Fin 256) : Fin 1664 := ⟨1408 + j.val, by omega⟩

end ProjFwdSpec
end
-- ==== Proof.ProjFwdRef.lean ====
module

public import proofs.«01_k».proof.Proof.Gen.ProjFwdReferenceIdeal.Run
public import proofs.«01_k».proof.Proof.ProjFwdSpec
public import Idealize.ShloMosaic.Lib.Pointwise

/-! The values of the reference of the pair `ProjFwd`. -/

@[expose] public section

set_option maxRecDepth 16384

noncomputable section

namespace Cert.ProjFwdReferenceIdeal.Value
open Idealize.ShloMosaic Idealize.ShloMosaic.TcCoe Idealize.SL.Sem
open Cert.ProjFwdReferenceIdeal

variable (m : (ℓ : Loc nD τ sig) → Buf (Elt Ideal) ℓ)

/-- The reference's run, read entry by entry. -/
theorem run_spec (ρ : Dev nD → PrngReg) :
    θ_run defs (onTc (τ := τ) (main (F := Ideal))) ⟨m, fun _ => 0, ρ⟩ fun r => ∀ c : Dev nD,
      r.2.mem (c.tc.loc main_v13) = (fun i => Rms.proj (m (c.tc.loc main_arg0)) (m (c.tc.loc main_arg1))
        (m (c.tc.loc main_arg2)) (i 0) (ProjFwdSpec.u (i 1)))
      ∧ r.2.mem (c.tc.loc main_v14) = (fun i => Rms.proj (m (c.tc.loc main_arg0)) (m (c.tc.loc main_arg1))
        (m (c.tc.loc main_arg2)) (i 0) (ProjFwdSpec.q (i 1)))
      ∧ r.2.mem (c.tc.loc main_v15) = (fun i => Rms.proj (m (c.tc.loc main_arg0)) (m (c.tc.loc main_arg1))
        (m (c.tc.loc main_arg2)) (i 0) (ProjFwdSpec.k (i 1)))
      ∧ r.2.mem (c.tc.loc main_v16) = (fun i => Rms.proj (m (c.tc.loc main_arg0)) (m (c.tc.loc main_arg1))
        (m (c.tc.loc main_arg2)) (i 0) (ProjFwdSpec.v (i 1)))
      ∧ r.2.mem (c.tc.loc main_v17) = (fun i => Rms.proj (m (c.tc.loc main_arg0)) (m (c.tc.loc main_arg1))
        (m (c.tc.loc main_arg2)) (i 0) (ProjFwdSpec.mq (i 1)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ?_) (run (F := Ideal) m ρ)
  obtain ⟨h0, h1, h2, h3, h4, h5⟩ := h c
  refine ⟨h0.trans ?_, h1.trans ?_, h2.trans ?_, h3.trans ?_, h4.trans ?_, h5⟩
  all_goals
    funext i
    idx_vars i
    pointwise
    rfl

end Cert.ProjFwdReferenceIdeal.Value
end
-- ==== Proof.ProjFwdValue.lean ====
module

public import proofs.«01_k».proof.Proof.Gen.ProjFwdIdeal.Frame
public import proofs.«01_k».proof.Proof.ProjFwdSpec
public import Idealize.ShloMosaic.Lib.Pipeline.ValueKit
public import Idealize.ShloMosaic.Lib.Pointwise

/-! The values of the kernel of the pair `ProjFwd`, the input projection behind its norm: each grid point takes 512 rows and
writes the projected columns to six arrays, the attention's ones head by head. -/

@[expose] public section

set_option maxRecDepth 16384

noncomputable section

namespace Cert.ProjFwdIdeal.Value
open Idealize.ShloMosaic Idealize.ShloMosaic.TcCoe Idealize.SL.Sem
open Idealize.ShloMosaic.Pipeline (Dat)
open Cert.ProjFwdIdeal Cert.ProjFwdIdeal.Gen

/-! ## One grid point -/

section
variable (X : Vec Ideal S512x1024 .f32) (G : Vec Ideal S1x1024 .f32) (W : Vec Ideal S1024x1664 .bf16) (r : Fin 512)

theorem pay_all (j : Fin 1664) : k0_pay2 (F := Ideal) X G W (ix2 r j) = Rms.proj X G W r j := by
  pointwise [k0_pay2]
  rfl

theorem pay_a (j : Fin 384) : k0_pay3 (F := Ideal) X G W (ix2 r j) = Rms.proj X G W r ⟨0 + j.val, by omega⟩ := by
  rw [← pay_all]
  pointwise [k0_pay3]

theorem pay_gate (j : Fin 384) : k0_pay4 (F := Ideal) X G W (ix2 r j) = Rms.proj X G W r ⟨384 + j.val, by omega⟩ := by
  rw [← pay_all]
  pointwise [k0_pay4]

theorem pay_q (h : Fin 6) (l : Fin 64) :
    k0_pay5 (F := Ideal) X G W (ix3 h r l) = Rms.proj X G W r ⟨768 + (64 * h.val + l.val), by omega⟩ := by
  rw [← pay_all]
  fin_cases h
  all_goals pointwise [k0_pay5]

theorem pay_k (h : Fin 2) (l : Fin 64) :
    k0_pay6 (F := Ideal) X G W (ix3 h r l) = Rms.proj X G W r ⟨1152 + (64 * h.val + l.val), by omega⟩ := by
  rw [← pay_all]
  fin_cases h
  all_goals pointwise [k0_pay6]

theorem pay_v (h : Fin 2) (l : Fin 64) :
    k0_pay7 (F := Ideal) X G W (ix3 h r l) = Rms.proj X G W r ⟨1280 + (64 * h.val + l.val), by omega⟩ := by
  rw [← pay_all]
  fin_cases h
  all_goals pointwise [k0_pay7]

theorem pay_m (h : Fin 4) (l : Fin 64) :
    k0_pay1 (k0_pay8 (F := Ideal) X G W) (ix3 h r l) = Rms.proj X G W r ⟨1408 + (64 * h.val + l.val), by omega⟩ := by
  rw [← pay_all]
  fin_cases h
  all_goals pointwise [k0_pay1, k0_pay8]
end

/-! ## The blocks -/

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array that is row `r` of grid point `t`. -/
def row (t : Fin cfg0.N) (r : Fin 512) : Fin 8192 := ⟨t.val * 512 + r.val, by have := lt_of_lt_of_eq t.isLt N_0; omega⟩

/-- One entry of the projected rows, from the arguments. -/
abbrev val (c : Dev nD) (r : Fin 8192) (j : Fin 1664) : EReal :=
  Rms.proj (m (c.tc.loc main_arg0)) (m (c.tc.loc main_arg1)) (m (c.tc.loc main_arg2)) r j

section
variable (c : Dev nD) (t : Fin cfg0.N)

theorem arr_w (k : Fin 1024) (j : Fin 1664) : V m c main_v0 (ix2 k j) = m (c.tc.loc main_arg2) (ix2 k j) := by
  simp only [V, V0, List.flatten, List.append_eq, List.cons_append, List.nil_append, List.append_nil]
  after_results
  pointwise

theorem blk_x (r : Fin 512) (l : Fin 1024) : iblk m c 0 t (ix2 r l) = m (c.tc.loc main_arg0) (ix2 (row t r) l) := by
  blk_point [iblk, V, V0, idx t, row]

theorem blk_g (l : Fin 1024) : iblk m c 1 t (ix2 0 l) = m (c.tc.loc main_arg1) (ix2 0 l) := by
  blk_point [iblk, V, V0, idx t]

theorem blk_w (k : Fin 1024) (j : Fin 1664) : iblk m c 2 t (ix2 k j) = m (c.tc.loc main_arg2) (ix2 k j) := by
  refine Eq.trans (b := V m c main_v0 (ix2 k j)) ?_ (arr_w m c k j)
  blk_point [iblk, idx t]

theorem point (r : Fin 512) (j : Fin 1664) :
    Rms.proj (iblk m c 0 t) (iblk m c 1 t) (iblk m c 2 t) r j = val m c (row t r) j := by
  have hx : Rms.rowOf (iblk m c 0 t) r = Rms.rowOf (m (c.tc.loc main_arg0)) (row t r) := funext fun l => blk_x m c t r l
  have hg : Rms.rowOf (iblk m c 1 t) 0 = Rms.rowOf (m (c.tc.loc main_arg1)) 0 := funext fun l => blk_g m c t l
  unfold val Rms.proj
  rw [hx, hg]
  exact Finset.sum_congr rfl fun l _ => congrArg _ (blk_w m c t l j)

theorem out_a (r : Fin 512) (j : Fin 384) :
    ((View.whole main_v1_0).slice (win0_3.rect t)).emb (ix2 r j) = ix2 (row t r) j := by
  blk_ext [idx t, row]

theorem out_gate (r : Fin 512) (j : Fin 384) :
    ((View.whole main_v1_1).slice (win0_4.rect t)).emb (ix2 r j) = ix2 (row t r) j := by
  blk_ext [idx t, row]

theorem out_q (h : Fin 6) (r : Fin 512) (l : Fin 64) :
    ((View.whole main_v1_2).slice (win0_5.rect t)).emb (ix3 h r l) = ix3 h (row t r) l := by
  blk_ext [idx t, row]

theorem out_k (h : Fin 2) (r : Fin 512) (l : Fin 64) :
    ((View.whole main_v1_3).slice (win0_6.rect t)).emb (ix3 h r l) = ix3 h (row t r) l := by
  blk_ext [idx t, row]

theorem out_v (h : Fin 2) (r : Fin 512) (l : Fin 64) :
    ((View.whole main_v1_4).slice (win0_7.rect t)).emb (ix3 h r l) = ix3 h (row t r) l := by
  blk_ext [idx t, row]

theorem out_m (h : Fin 4) (r : Fin 512) (l : Fin 64) :
    ((View.whole main_v1_5).slice (win0_8.rect t)).emb (ix3 h r l) = ix3 h (row t r) l := by
  blk_ext [idx t, row]
end

/-! ## The six arrays -/

section
variable (c : Dev nD)

/-- Column `j` of the group of columns that starts at `o`. -/
def col (o n : Nat) (hn : o + n ≤ 1664) (j : Fin n) : Fin 1664 := ⟨o + j.val, by omega⟩

/-- Column `l` of head `h`, heads of 64 columns, the first one's column 0 at `o`. -/
def headCol (o n : Nat) (hn : o + 64 * n ≤ 1664) (h : Fin n) (l : Fin 64) : Fin 1664 := ⟨o + (64 * h.val + l.val), by omega⟩

theorem final_a : (dats m 0 c).arrAt 3 (cfgs 0).N = fun i => val m c (i 0) (col 0 384 (by decide) (i 1)) := by
  refine (dats m 0 c).arrAt_eq_of_covers 3 _ (by decide +kernel) fun t _ y => ?_
  blk_simp
  idx_vars y
  rw [after0_3, out_a]
  unfold out0_3
  frame_out
  exact (pay_a _ _ _ y0 y1).trans (point m c t y0 _)

theorem final_gate : (dats m 0 c).arrAt 4 (cfgs 0).N = fun i => val m c (i 0) (col 384 384 (by decide) (i 1)) := by
  refine (dats m 0 c).arrAt_eq_of_covers 4 _ (by decide +kernel) fun t _ y => ?_
  blk_simp
  idx_vars y
  rw [after0_4, out_gate]
  unfold out0_4
  frame_out
  exact (pay_gate _ _ _ y0 y1).trans (point m c t y0 _)

theorem final_q : (dats m 0 c).arrAt 5 (cfgs 0).N = fun i => val m c (i 1) (headCol 768 6 (by decide) (i 0) (i 2)) := by
  refine (dats m 0 c).arrAt_eq_of_covers 5 _ (by decide +kernel) fun t _ y => ?_
  blk_simp
  idx_vars y
  rw [after0_5, out_q]
  unfold out0_5
  frame_out
  exact (pay_q _ _ _ y1 y0 y2).trans (point m c t y1 _)

theorem final_k : (dats m 0 c).arrAt 6 (cfgs 0).N = fun i => val m c (i 1) (headCol 1152 2 (by decide) (i 0) (i 2)) := by
  refine (dats m 0 c).arrAt_eq_of_covers 6 _ (by decide +kernel) fun t _ y => ?_
  blk_simp
  idx_vars y
  rw [after0_6, out_k]
  unfold out0_6
  frame_out
  exact (pay_k _ _ _ y1 y0 y2).trans (point m c t y1 _)

theorem final_v : (dats m 0 c).arrAt 7 (cfgs 0).N = fun i => val m c (i 1) (headCol 1280 2 (by decide) (i 0) (i 2)) := by
  refine (dats m 0 c).arrAt_eq_of_covers 7 _ (by decide +kernel) fun t _ y => ?_
  blk_simp
  idx_vars y
  rw [after0_7, out_v]
  unfold out0_7
  frame_out
  exact (pay_v _ _ _ y1 y0 y2).trans (point m c t y1 _)

theorem final_m : (dats m 0 c).arrAt 8 (cfgs 0).N = fun i => val m c (i 1) (headCol 1408 4 (by decide) (i 0) (i 2)) := by
  refine (dats m 0 c).arrAt_eq_of_covers 8 _ (by decide +kernel) fun t _ y => ?_
  blk_simp
  idx_vars y
  rw [after0_8, out_m]
  unfold out0_8
  frame_out
  exact (pay_m _ _ _ y1 y0 y2).trans (point m c t y1 _)

/-! ## The results -/

theorem res_u : Pipeline.afterTail₀ cfgs (dats m) 0 (V0 m) [hostOps1] c main_v2 = fun i => val m c (i 0) (ProjFwdSpec.u (i 1)) := by
  unfold Pipeline.afterTail₀
  show StableHlo.after hostOps1 _ _ = _
  after_results
  have ha := (Pipeline.withArrays_arr (cfgs 0).spec launch0.win.arr_inj c (V0 m c) (fun w => (dats m 0 c).arrAt w (cfgs 0).N) 3).trans
    (final_a m c)
  have hg := (Pipeline.withArrays_arr (cfgs 0).spec launch0.win.arr_inj c (V0 m c) (fun w => (dats m 0 c).arrAt w (cfgs 0).N) 4).trans
    (final_gate m c)
  refine (congrArg₂ (fun a b => concatenate S8192x768 1 [⟨S8192x384, a⟩, ⟨S8192x384, b⟩] concatenates_S8192x384_S8192x384_S8192x768_d1)
    ha hg).trans ?_
  funext i
  idx_vars i
  pointwise
  split <;> exact congrArg (val m c i0) (Fin.ext (by simp only [col, ProjFwdSpec.u]; omega))

theorem res_q : Pipeline.afterTail₀ cfgs (dats m) 0 (V0 m) [hostOps1] c main_v4 = fun i => val m c (i 0) (ProjFwdSpec.q (i 1)) := by
  unfold Pipeline.afterTail₀
  show StableHlo.after hostOps1 _ _ = _
  after_results
  erw [Pipeline.withArrays_arr (cfgs 0).spec launch0.win.arr_inj c (V0 m c) (fun w => (dats m 0 c).arrAt w (cfgs 0).N) 5, final_q]
  funext i
  idx_vars i
  pointwise
  exact congrArg (val m c i0) (Fin.ext (by simp only [headCol, ProjFwdSpec.q]; omega))

theorem res_k : Pipeline.afterTail₀ cfgs (dats m) 0 (V0 m) [hostOps1] c main_v6 = fun i => val m c (i 0) (ProjFwdSpec.k (i 1)) := by
  unfold Pipeline.afterTail₀
  show StableHlo.after hostOps1 _ _ = _
  after_results
  erw [Pipeline.withArrays_arr (cfgs 0).spec launch0.win.arr_inj c (V0 m c) (fun w => (dats m 0 c).arrAt w (cfgs 0).N) 6, final_k]
  funext i
  idx_vars i
  pointwise
  exact congrArg (val m c i0) (Fin.ext (by simp only [headCol, ProjFwdSpec.k]; omega))

theorem res_v : Pipeline.afterTail₀ cfgs (dats m) 0 (V0 m) [hostOps1] c main_v8 = fun i => val m c (i 0) (ProjFwdSpec.v (i 1)) := by
  unfold Pipeline.afterTail₀
  show StableHlo.after hostOps1 _ _ = _
  after_results
  erw [Pipeline.withArrays_arr (cfgs 0).spec launch0.win.arr_inj c (V0 m c) (fun w => (dats m 0 c).arrAt w (cfgs 0).N) 7, final_v]
  funext i
  idx_vars i
  pointwise
  exact congrArg (val m c i0) (Fin.ext (by simp only [headCol, ProjFwdSpec.v]; omega))

theorem res_m : Pipeline.afterTail₀ cfgs (dats m) 0 (V0 m) [hostOps1] c main_v10 = fun i => val m c (i 0) (ProjFwdSpec.mq (i 1)) := by
  unfold Pipeline.afterTail₀
  show StableHlo.after hostOps1 _ _ = _
  after_results
  erw [Pipeline.withArrays_arr (cfgs 0).spec launch0.win.arr_inj c (V0 m c) (fun w => (dats m 0 c).arrAt w (cfgs 0).N) 8, final_m]
  funext i
  idx_vars i
  pointwise
  exact congrArg (val m c i0) (Fin.ext (by simp only [headCol, ProjFwdSpec.mq]; omega))
end

/-- The kernel's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v2) = (fun i => Rms.proj (m (c.tc.loc main_arg0)) (m (c.tc.loc main_arg1))
        (m (c.tc.loc main_arg2)) (i 0) (ProjFwdSpec.u (i 1)))
      ∧ r.2.mem (c.tc.loc main_v4) = (fun i => Rms.proj (m (c.tc.loc main_arg0)) (m (c.tc.loc main_arg1))
        (m (c.tc.loc main_arg2)) (i 0) (ProjFwdSpec.q (i 1)))
      ∧ r.2.mem (c.tc.loc main_v6) = (fun i => Rms.proj (m (c.tc.loc main_arg0)) (m (c.tc.loc main_arg1))
        (m (c.tc.loc main_arg2)) (i 0) (ProjFwdSpec.k (i 1)))
      ∧ r.2.mem (c.tc.loc main_v8) = (fun i => Rms.proj (m (c.tc.loc main_arg0)) (m (c.tc.loc main_arg1))
        (m (c.tc.loc main_arg2)) (i 0) (ProjFwdSpec.v (i 1)))
      ∧ r.2.mem (c.tc.loc main_v10) = (fun i => Rms.proj (m (c.tc.loc main_arg0)) (m (c.tc.loc main_arg1))
        (m (c.tc.loc main_arg2)) (i 0) (ProjFwdSpec.mq (i 1)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  run_from Cert.ProjFwdIdeal.Gen.run_main m ρ
  · exact res_u m c
  · exact res_q m c
  · exact res_k m c
  · exact res_v m c
  · exact res_m m c
  · exact W_main_arg2 m (dats m) c

end Cert.ProjFwdIdeal.Value
end
-- ==== Proof.ProjSpec.lean ====
module

public import proofs.«01_k».proof.Proof.Rms

/-! What the pair `Proj` computes: the gradient of the projection at the start of an attention layer and of the RMS norm
before it. The cotangent of a row is that of the convolution's inputs, the queries, the keys, the values and the memory
queries side by side. -/

@[expose] public section

noncomputable section

namespace ProjSpec
open Idealize.ShloMosaic Rms

/-- A float matrix. -/
abbrev Arr (n k : Nat) (φ : FTy := .f32) := FVec Ideal ⟨2, ![n, k]⟩ φ

/-- One row of the cotangent, its five parts side by side. -/
def ct (U : Arr 8192 768) (Q : Arr 8192 384) (K V : Arr 8192 128) (M : Arr 8192 256) (r : Fin 8192) (j : Fin 1664) : EReal :=
  if h : j.val < 768 then U (ix2 r ⟨j.val, h⟩)
  else if h : j.val - 768 < 384 then Q (ix2 r ⟨j.val - 768, h⟩)
  else if h : j.val - 768 - 384 < 128 then K (ix2 r ⟨j.val - 768 - 384, h⟩)
  else if h : j.val - 768 - 384 - 128 < 128 then V (ix2 r ⟨j.val - 768 - 384 - 128, h⟩)
  else M (ix2 r ⟨j.val - 768 - 384 - 128 - 128, by omega⟩)

/-- A cotangent row taken back through the projection. -/
def back (W : Arr 1024 1664) (d : Fin 1664 → EReal) : Row := fun k => ∑ j, d j * W (ix2 k j)

/-- One entry of the gradient at the norm's input, the residual's share added. -/
def dx (X : Mat 8192) (G : Mat 1) (W : Arr 1024 1664) (U : Arr 8192 768) (Q : Arr 8192 384) (K V : Arr 8192 128)
    (M : Arr 8192 256) (D : Mat 8192) (r : Fin 8192) (l : Fin 1024) : EReal :=
  grad (rowOf X r) (rowOf G 0) (back W (ct U Q K V M r)) l + D (ix2 r l)

/-- One entry of the gradient in the norm's scale. -/
def dg (X : Mat 8192) (W : Arr 1024 1664) (U : Arr 8192 768) (Q : Arr 8192 384) (K V : Arr 8192 128) (M : Arr 8192 256)
    (l : Fin 1024) : EReal :=
  ∑ r : Fin 8192, gradScale (rowOf X r) (back W (ct U Q K V M r)) l

/-- One entry of the gradient in the projection. -/
def dw (X : Mat 8192) (G : Mat 1) (U : Arr 8192 768) (Q : Arr 8192 384) (K V : Arr 8192 128) (M : Arr 8192 256)
    (k : Fin 1024) (j : Fin 1664) : EReal :=
  ∑ r : Fin 8192, norm (rowOf X r) (rowOf G 0) k * ct U Q K V M r j

end ProjSpec
end
-- ==== Proof.ProjRef.lean ====
module

public import proofs.«01_k».proof.Proof.Gen.ProjReferenceIdeal.Run
public import proofs.«01_k».proof.Proof.ProjSpec
public import Idealize.ShloMosaic.Lib.Pointwise

/-! The values of the reference of the pair `Proj`. -/

@[expose] public section

set_option maxRecDepth 16384

noncomputable section

namespace Cert.ProjReferenceIdeal.Value
open Idealize.ShloMosaic Idealize.ShloMosaic.TcCoe Idealize.SL.Sem
open Cert.ProjReferenceIdeal

variable (m : (ℓ : Loc nD τ sig) → Buf (Elt Ideal) ℓ)

theorem ref_dx (c : Dev nD) : res_main_v44 (F := Ideal) m c = fun i => ProjSpec.dx (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1) := by
  funext i
  idx_vars i
  pointwise [res_main_v44]
  rfl

/-- The reference's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v44) = (fun i => ProjSpec.dx (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1))
      ∧ r.2.mem (c.tc.loc main_v27) = (fun i => ProjSpec.dg (m (c.tc.loc main_arg0)) (m (c.tc.loc main_arg2)) (m (c.tc.loc main_arg3)) (m (c.tc.loc main_arg4)) (m (c.tc.loc main_arg5)) (m (c.tc.loc main_arg6)) (m (c.tc.loc main_arg7)) (i 1))
      ∧ r.2.mem (c.tc.loc main_v23) = (fun i => ProjSpec.dw (m (c.tc.loc main_arg0)) (m (c.tc.loc main_arg1)) (m (c.tc.loc main_arg3)) (m (c.tc.loc main_arg4)) (m (c.tc.loc main_arg5)) (m (c.tc.loc main_arg6)) (m (c.tc.loc main_arg7)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  refine (θ_run defs _ _).mono (fun r h c => ?_) (run (F := Ideal) m ρ)
  obtain ⟨h0, h1, h2, h3⟩ := h c
  refine ⟨h0.trans (ref_dx m c), h1.trans ?_, h2.trans ?_, h3⟩
  · funext i
    idx_vars i
    pointwise
    rfl
  · funext i
    idx_vars i
    pointwise
    exact Finset.sum_congr rfl fun r _ => mul_comm _ _

end Cert.ProjReferenceIdeal.Value
end
-- ==== Proof.ProjValue.lean ====
module

public import proofs.«01_k».proof.Proof.Gen.ProjIdeal.Frame
public import proofs.«01_k».proof.Proof.ProjSpec
public import Idealize.ShloMosaic.Lib.Pipeline.ValueKit
public import Idealize.ShloMosaic.Lib.Pointwise

/-! The values of the kernel of the pair `Proj`: each grid point takes 256 rows, gathers their cotangent from the heads, and
accumulates the gradients of the scale and of the projection over the points. -/

@[expose] public section

set_option maxRecDepth 16384

noncomputable section

namespace Cert.ProjIdeal.Value
open Idealize.ShloMosaic Idealize.ShloMosaic.TcCoe Idealize.SL.Sem
open Idealize.ShloMosaic.Pipeline (Dat)
open Cert.ProjIdeal Cert.ProjIdeal.Gen

/-- `f` on the columns from `o` on that it reaches, zero elsewhere. -/
def placed {n : Nat} (o : Nat) (f : Fin n → EReal) (j : Fin 1664) : EReal :=
  if h : o ≤ j.val ∧ j.val - o < n then f ⟨j.val - o, h.2⟩ else 0

theorem pay16 (K : Vec Ideal S2x256x64 .f32) (k : Fin 128 → EReal) (r : Fin 256)
    (hk : ∀ (h : Fin 2) (l : Fin 64), K (ix3 h r l) = k ⟨h.val * 64 + l.val, by omega⟩) (j : Fin 1280) :
    k0_pay16 (F := Ideal) K (ix2 r j) = placed 1152 k ⟨j.val, by omega⟩ := by
  pointwise [k0_pay16]
  simp only [hk, placed]
  obtain h | h | h : j.val < 1152 ∨ (1152 ≤ j.val ∧ j.val < 1216) ∨ 1216 ≤ j.val := by omega
  all_goals
    simp (disch := omega) only [dif_pos, dif_neg, zero_add, add_zero]
    try exact congrArg k (Fin.ext (by simp; try omega))

/-- Six heads side by side, each padded to its columns and all summed. -/
def six (Q : Fin 6 → Fin 64 → EReal) (i : Nat) (hi : i < 384) : EReal :=
  (((((if h : i < 320 then 0 else Q 5 ⟨i - 320, by omega⟩) +
      if h' : i < 320 then if h : i < 256 then 0 else Q 4 ⟨i - 256, by omega⟩ else 0) +
      if h' : i < 256 then if h : i < 192 then 0 else Q 3 ⟨i - 192, by omega⟩ else 0) +
      if h' : i < 192 then if h : i < 128 then 0 else Q 2 ⟨i - 128, by omega⟩ else 0) +
      if h' : i < 128 then if h : i < 64 then 0 else Q 1 ⟨i - 64, by omega⟩ else 0) +
      (if h' : i < 64 then Q 0 ⟨i, h'⟩ else 0)

theorem six_eq (Q : Fin 6 → Fin 64 → EReal) (q : Fin 384 → EReal)
    (hq : ∀ (h : Fin 6) (l : Fin 64), Q h l = q ⟨h.val * 64 + l.val, by omega⟩) (i : Nat) (hi : i < 384) :
    six Q i hi = q ⟨i, hi⟩ := by
  unfold six
  obtain h | h | h | h | h | h : i < 64 ∨ (64 ≤ i ∧ i < 128) ∨ (128 ≤ i ∧ i < 192) ∨ (192 ≤ i ∧ i < 256) ∨
    (256 ≤ i ∧ i < 320) ∨ 320 ≤ i := by omega
  all_goals
    simp (disch := omega) only [dif_pos, dif_neg, zero_add, add_zero]
    rw [hq]
    exact congrArg q (Fin.ext (by simp; try omega))

theorem pay17_form (G : Vec Ideal S256x384 .f32) (Q : Vec Ideal S6x256x64 .f32) (R : Vec Ideal S256x1664 .f32)
    (Z : Vec Ideal S256x1280 .f32) (r : Fin 256) (j : Fin 1664) :
    k0_pay17 (F := Ideal) G Q R (Ideal.ofBits FTy.f32 0#32) Z (ix2 r j) =
      R (ix2 r j) + (if h : j.val < 1280 then Z (ix2 r ⟨j.val, h⟩) else 0)
        + (if h : j.val < 1152 then if h' : j.val < 768 then 0 else six (fun h l => Q (ix3 h r l)) (j.val - 768) (by omega) else 0)
        + (if h : j.val < 768 then if h' : j.val < 384 then 0 else G (ix2 r ⟨j.val - 384, by omega⟩) else 0) := by
  pointwise [k0_pay17]
  rfl

theorem pay17 (G : Vec Ideal S256x384 .f32) (Q : Vec Ideal S6x256x64 .f32) (R : Vec Ideal S256x1664 .f32)
    (Z : Vec Ideal S256x1280 .f32) (g q : Fin 384 → EReal) (k : Fin 128 → EReal) (r : Fin 256)
    (hg : ∀ l, G (ix2 r l) = g l) (hk : ∀ j, Z (ix2 r j) = placed 1152 k ⟨j.val, by omega⟩)
    (hq : ∀ (h : Fin 6) (l : Fin 64), Q (ix3 h r l) = q ⟨h.val * 64 + l.val, by omega⟩) (j : Fin 1664) :
    k0_pay17 (F := Ideal) G Q R (Ideal.ofBits FTy.f32 0#32) Z (ix2 r j) =
      R (ix2 r j) + placed 1152 k j + placed 768 q j + placed 384 g j := by
  rw [pay17_form]
  simp only [hg, hk, six_eq _ q hq, placed]
  obtain h | h | h | h | h : j.val < 384 ∨ (384 ≤ j.val ∧ j.val < 768) ∨ (768 ≤ j.val ∧ j.val < 1152) ∨
    (1152 ≤ j.val ∧ j.val < 1280) ∨ 1280 ≤ j.val := by omega
  all_goals simp (disch := omega) only [dif_pos, dif_neg, add_zero]

theorem pay15 (K : Vec Ideal S2x256x64 .f32) (M : Vec Ideal S4x256x64 .f32) (k : Fin 128 → EReal) (u : Fin 256 → EReal)
    (r : Fin 256) (hk : ∀ (h : Fin 2) (l : Fin 64), K (ix3 h r l) = k ⟨h.val * 64 + l.val, by omega⟩)
    (hm : ∀ (h : Fin 4) (l : Fin 64), M (ix3 h r l) = u ⟨h.val * 64 + l.val, by omega⟩) (j : Fin 1664) :
    k0_pay15 (F := Ideal) K M (k0_pay14 M) (ix2 r j) = placed 1408 u j + placed 1280 k j := by
  pointwise [k0_pay15, k0_pay14, k0_pay13]
  simp only [hk, hm, placed]
  congr 1
  · obtain h | h | h | h | h : j.val < 1408 ∨ (1408 ≤ j.val ∧ j.val < 1472) ∨ (1472 ≤ j.val ∧ j.val < 1536) ∨
      (1536 ≤ j.val ∧ j.val < 1600) ∨ 1600 ≤ j.val := by omega
    all_goals
      simp (disch := omega) only [dif_pos, dif_neg, zero_add, add_zero]
      try exact congrArg u (Fin.ext (by simp; try omega))
  · obtain h | h | h | h : j.val < 1280 ∨ (1280 ≤ j.val ∧ j.val < 1344) ∨ (1344 ≤ j.val ∧ j.val < 1408) ∨
      1408 ≤ j.val := by omega
    all_goals
      simp (disch := omega) only [dif_pos, dif_neg, zero_add, add_zero]
      try exact congrArg k (Fin.ext (by simp; try omega))

theorem pay19 (A : Vec Ideal S256x384 .f32) (v131 : Vec Ideal S256x1664 .f32) (a : Fin 384 → EReal) (r : Fin 256)
    (ha : ∀ l, A (ix2 r l) = a l) (j : Fin 1664) :
    k0_pay19 (F := Ideal) A v131 k0_pay18 (ix2 r j) = v131 (ix2 r j) + placed 0 a j := by
  pointwise [k0_pay19, k0_pay18]
  simp only [ha]
  refine congrArg₂ (· + ·) rfl ?_
  obtain h | h : j.val < 384 ∨ 384 ≤ j.val := by omega
  all_goals
    simp (disch := omega) only [placed, dif_pos, dif_neg]
    try rfl

theorem pay_dg (W : Vec Ideal S1024x1664 .bf16) (X : Vec Ideal S256x1024 .f32) (A : Vec Ideal S256x384 .f32)
    (R : Vec Ideal S256x1664 .f32) (l : Fin 1024) :
    k0_pay22 (F := Ideal) (k0_pay2 W) (k0_pay6 X) A R k0_pay18 (ix2 0 l) = ∑ r : Fin 256,
      Rms.gradScale (Rms.rowOf X r) (fun k => ∑ j, k0_pay19 (F := Ideal) A R k0_pay18 (ix2 r j) * W (ix2 k j)) l := by
  pointwise [k0_pay22, k0_pay20, k0_pay6, k0_pay4, k0_pay3, k0_pay2]
  rfl

theorem pay_dx (W : Vec Ideal S1024x1664 .bf16) (X : Vec Ideal S256x1024 .f32) (G : Vec Ideal S1x1024 .f32)
    (A : Vec Ideal S256x384 .f32) (R : Vec Ideal S256x1664 .f32) (D : Vec Ideal S256x1024 .f32) (r : Fin 256) (l : Fin 1024) :
    k0_pay23 (F := Ideal) X G (k0_pay2 W) (k0_pay4 X) (k0_pay5 X) A R k0_pay18 D (ix2 r l) =
      Rms.grad (Rms.rowOf X r) (Rms.rowOf G 0)
        (fun k => ∑ j, k0_pay19 (F := Ideal) A R k0_pay18 (ix2 r j) * W (ix2 k j)) l + D (ix2 r l) := by
  pointwise [k0_pay23, k0_pay20, k0_pay5, k0_pay4, k0_pay3, k0_pay2]
  rfl

theorem pay_dw (X : Vec Ideal S256x1024 .f32) (G : Vec Ideal S1x1024 .f32) (A : Vec Ideal S256x384 .f32)
    (R : Vec Ideal S256x1664 .f32) (k : Fin 1024) (j : Fin 1664) :
    k0_pay21 (F := Ideal) (k0_pay7 X G) A R k0_pay18 (ix2 k j) = ∑ r : Fin 256,
      Rms.norm (Rms.rowOf X r) (Rms.rowOf G 0) k * k0_pay19 (F := Ideal) A R k0_pay18 (ix2 r j) := by
  pointwise [k0_pay21, k0_pay7, k0_pay6, k0_pay4, k0_pay3]
  rfl

theorem acc_dg (W : Vec Ideal S1024x1664 .f32) (Y : Vec Ideal S256x1024 .f32) (A : Vec Ideal S256x384 .f32)
    (R : Vec Ideal S256x1664 .f32) (a : Vec Ideal S1x1024 .f32) (l : Fin 1024) :
    k0_pay24 (F := Ideal) W Y A R k0_pay18 a (ix2 0 l) = a (ix2 0 l) + k0_pay22 (F := Ideal) W Y A R k0_pay18 (ix2 0 l) := by
  pointwise [k0_pay24]

theorem acc_dw (v a : Vec Ideal S1024x1664 .f32) (k : Fin 1024) (j : Fin 1664) :
    k0_pay1 (F := Ideal) v a (ix2 k j) = a (ix2 k j) + v (ix2 k j) := by
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, t.val, 0]
    ∧ win0_6.index t = ![0, t.val, 0] ∧ win0_7.index t = ![0, t.val, 0] ∧ win0_8.index t = ![0, t.val, 0]
    ∧ win0_9.index t = ![t.val, 0] ∧ win0_10.index t = ![t.val, 0] ∧ win0_11.index t = ![0, 0]
    ∧ win0_12.index t = ![0, 0] :=
  (by decide +kernel : ∀ t : Fin grid0.N, _)

/-- The row of the whole array that is row `r` of grid point `t`. -/
def row (t : Fin cfg0.N) (r : Fin 256) : Fin 8192 := ⟨t.val * 256 + r.val, by have := lt_of_lt_of_eq t.isLt N_0; omega⟩

/-! The arrays the host prepares, entry by entry. -/

theorem arr_w (c : Dev nD) (k : Fin 1024) (j : Fin 1664) : V m c main_v0 (ix2 k j) = m (c.tc.loc main_arg2) (ix2 k j) := by
  simp only [V, List.flatten, List.append_eq, List.cons_append, List.nil_append, List.append_nil]
  after_results
  pointwise

theorem arr_a (c : Dev nD) (r : Fin 8192) (l : Fin 384) :
    V m c main_v1 (ix2 r l) = m (c.tc.loc main_arg3) (ix2 r ⟨l.val, by omega⟩) := by
  simp only [V, List.flatten, List.append_eq, List.cons_append, List.nil_append, List.append_nil]
  after_results
  pointwise

theorem arr_g (c : Dev nD) (r : Fin 8192) (l : Fin 384) :
    V m c main_v2 (ix2 r l) = m (c.tc.loc main_arg3) (ix2 r ⟨384 + l.val, by omega⟩) := by
  simp only [V, List.flatten, List.append_eq, List.cons_append, List.nil_append, List.append_nil]
  after_results
  pointwise

theorem arr_q (c : Dev nD) (h : Fin 6) (r : Fin 8192) (l : Fin 64) :
    V m c main_v4 (ix3 h r l) = m (c.tc.loc main_arg4) (ix2 r ⟨h.val * 64 + l.val, by omega⟩) := by
  simp only [V, List.flatten, List.append_eq, List.cons_append, List.nil_append, List.append_nil]
  after_results
  pointwise

theorem arr_k (c : Dev nD) (h : Fin 2) (r : Fin 8192) (l : Fin 64) :
    V m c main_v6 (ix3 h r l) = m (c.tc.loc main_arg5) (ix2 r ⟨h.val * 64 + l.val, by omega⟩) := by
  simp only [V, List.flatten, List.append_eq, List.cons_append, List.nil_append, List.append_nil]
  after_results
  pointwise

theorem arr_v (c : Dev nD) (h : Fin 2) (r : Fin 8192) (l : Fin 64) :
    V m c main_v8 (ix3 h r l) = m (c.tc.loc main_arg6) (ix2 r ⟨h.val * 64 + l.val, by omega⟩) := by
  simp only [V, List.flatten, List.append_eq, List.cons_append, List.nil_append, List.append_nil]
  after_results
  pointwise

theorem arr_m (c : Dev nD) (h : Fin 4) (r : Fin 8192) (l : Fin 64) :
    V m c main_v10 (ix3 h r l) = m (c.tc.loc main_arg7) (ix2 r ⟨h.val * 64 + l.val, by omega⟩) := by
  simp only [V, List.flatten, List.append_eq, List.cons_append, List.nil_append, List.append_nil]
  after_results
  pointwise

/-- The last grid point. -/
def tLast : Fin cfg0.N := ⟨31, by decide⟩

/-! The blocks of a grid point. -/

theorem blk_x (c : Dev nD) (t : Fin cfg0.N) (r : Fin 256) (l : Fin 1024) :
    iblk m c 0 t (ix2 r l) = m (c.tc.loc main_arg0) (ix2 (row t r) l) := by
  blk_point [iblk, V, idx t, row]

theorem blk_s (c : Dev nD) (t : Fin cfg0.N) (l : Fin 1024) :
    iblk m c 1 t (ix2 0 l) = m (c.tc.loc main_arg1) (ix2 0 l) := by
  blk_point [iblk, V, idx t, row]

theorem blk_dh (c : Dev nD) (t : Fin cfg0.N) (r : Fin 256) (l : Fin 1024) :
    iblk m c 9 t (ix2 r l) = m (c.tc.loc main_arg8) (ix2 (row t r) l) := by
  blk_point [iblk, V, idx t, row]

theorem blk_w (c : Dev nD) (t : Fin cfg0.N) (k : Fin 1024) (j : Fin 1664) :
    iblk m c 2 t (ix2 k j) = m (c.tc.loc main_arg2) (ix2 k j) := by
  refine Eq.trans (b := V m c main_v0 (ix2 k j)) ?_ (arr_w m c k j)
  blk_point [iblk, idx t, row]

theorem blk_a (c : Dev nD) (t : Fin cfg0.N) (r : Fin 256) (l : Fin 384) :
    iblk m c 3 t (ix2 r l) = m (c.tc.loc main_arg3) (ix2 (row t r) ⟨l.val, by omega⟩) := by
  refine Eq.trans (b := V m c main_v1 (ix2 (row t r) l)) ?_ (arr_a m c (row t r) l)
  blk_point [iblk, idx t, row]

theorem blk_g (c : Dev nD) (t : Fin cfg0.N) (r : Fin 256) (l : Fin 384) :
    iblk m c 4 t (ix2 r l) = m (c.tc.loc main_arg3) (ix2 (row t r) ⟨384 + l.val, by omega⟩) := by
  refine Eq.trans (b := V m c main_v2 (ix2 (row t r) l)) ?_ (arr_g m c (row t r) l)
  blk_point [iblk, idx t, row]

theorem blk_q (c : Dev nD) (t : Fin cfg0.N) (h : Fin 6) (r : Fin 256) (l : Fin 64) :
    iblk m c 5 t (ix3 h r l) = m (c.tc.loc main_arg4) (ix2 (row t r) ⟨h.val * 64 + l.val, by omega⟩) := by
  refine Eq.trans (b := V m c main_v4 (ix3 h (row t r) l)) ?_ (arr_q m c h (row t r) l)
  blk_point [iblk, idx t, row]

theorem blk_k (c : Dev nD) (t : Fin cfg0.N) (h : Fin 2) (r : Fin 256) (l : Fin 64) :
    iblk m c 6 t (ix3 h r l) = m (c.tc.loc main_arg5) (ix2 (row t r) ⟨h.val * 64 + l.val, by omega⟩) := by
  refine Eq.trans (b := V m c main_v6 (ix3 h (row t r) l)) ?_ (arr_k m c h (row t r) l)
  blk_point [iblk, idx t, row]

theorem blk_v (c : Dev nD) (t : Fin cfg0.N) (h : Fin 2) (r : Fin 256) (l : Fin 64) :
    iblk m c 7 t (ix3 h r l) = m (c.tc.loc main_arg6) (ix2 (row t r) ⟨h.val * 64 + l.val, by omega⟩) := by
  refine Eq.trans (b := V m c main_v8 (ix3 h (row t r) l)) ?_ (arr_v m c h (row t r) l)
  blk_point [iblk, idx t, row]

theorem blk_m (c : Dev nD) (t : Fin cfg0.N) (h : Fin 4) (r : Fin 256) (l : Fin 64) :
    iblk m c 8 t (ix3 h r l) = m (c.tc.loc main_arg7) (ix2 (row t r) ⟨h.val * 64 + l.val, by omega⟩) := by
  refine Eq.trans (b := V m c main_v10 (ix3 h (row t r) l)) ?_ (arr_m m c h (row t r) l)
  blk_point [iblk, idx t, row]

theorem rows_x (c : Dev nD) (t : Fin cfg0.N) (r : Fin 256) :
    Rms.rowOf (iblk m c 0 t) r = Rms.rowOf (m (c.tc.loc main_arg0)) (row t r) :=
  funext fun l => blk_x m c t r l

theorem rows_g (c : Dev nD) (t : Fin cfg0.N) : Rms.rowOf (iblk m c 1 t) 0 = Rms.rowOf (m (c.tc.loc main_arg1)) 0 :=
  funext fun l => blk_s m c t l

theorem out_at (t : Fin cfg0.N) (r : Fin 256) (l : Fin 1024) :
    ((View.whole main_v11_0).slice (win0_10.rect t)).emb (ix2 r l) = ix2 (row t r) l := by
  blk_ext [idx t, row]

/-- The six parts, each in its own columns and summed, are the parts side by side. -/
theorem gather (U : ProjSpec.Arr 8192 768) (Q : ProjSpec.Arr 8192 384) (K V : ProjSpec.Arr 8192 128) (M : ProjSpec.Arr 8192 256)
    (r : Fin 8192) (j : Fin 1664) :
    placed 1408 (fun l : Fin 256 => M (ix2 r l)) j + placed 1280 (fun l : Fin 128 => V (ix2 r l)) j
      + placed 1152 (fun l : Fin 128 => K (ix2 r l)) j + placed 768 (fun l : Fin 384 => Q (ix2 r l)) j
      + placed 384 (fun l : Fin 384 => U (ix2 r ⟨384 + l.val, by omega⟩)) j
      + placed 0 (fun l : Fin 384 => U (ix2 r ⟨l.val, by omega⟩)) j = ProjSpec.ct U Q K V M r j := by
  obtain h | h | h | h | h | h : j.val < 384 ∨ (384 ≤ j.val ∧ j.val < 768) ∨ (768 ≤ j.val ∧ j.val < 1152) ∨
    (1152 ≤ j.val ∧ j.val < 1280) ∨ (1280 ≤ j.val ∧ j.val < 1408) ∨ 1408 ≤ j.val := by omega
  all_goals
    simp (disch := omega) only [placed, ProjSpec.ct, dif_pos, dif_neg, zero_add, add_zero]
    try exact congrArg _ (congrArg (ix2 r) (Fin.ext (by dsimp only; omega)))

/-! The body's conversions change nothing. -/

theorem cast8 (A : Vec Ideal S256x384 .f32) : k0_pay8 (F := Ideal) A = A := by
  funext i
  pointwise [k0_pay8]

theorem cast9 (A : Vec Ideal S256x384 .f32) : k0_pay9 (F := Ideal) A = A := by
  funext i
  pointwise [k0_pay9]

theorem cast10 (A : Vec Ideal S6x256x64 .f32) : k0_pay10 (F := Ideal) A = A := by
  funext i
  pointwise [k0_pay10]

theorem cast11 (A : Vec Ideal S2x256x64 .f32) : k0_pay11 (F := Ideal) A = A := by
  funext i
  pointwise [k0_pay11]

theorem cast12 (A : Vec Ideal S2x256x64 .f32) : k0_pay12 (F := Ideal) A = A := by
  funext i
  pointwise [k0_pay12]

theorem cast13 (A : Vec Ideal S4x256x64 .f32) : k0_pay13 (F := Ideal) A = A := by
  funext i
  pointwise [k0_pay13]

/-- A row of the body's cotangent, from what its blocks hold of the arrays. -/
theorem gathered (A G : Vec Ideal S256x384 .f32) (Q : Vec Ideal S6x256x64 .f32) (K V : Vec Ideal S2x256x64 .f32)
    (M : Vec Ideal S4x256x64 .f32) (U : ProjSpec.Arr 8192 768) (Q' : ProjSpec.Arr 8192 384) (K' V' : ProjSpec.Arr 8192 128)
    (M' : ProjSpec.Arr 8192 256) (r : Fin 256) (R : Fin 8192)
    (ha : ∀ l : Fin 384, A (ix2 r l) = U (ix2 R ⟨l.val, by omega⟩))
    (hg : ∀ l : Fin 384, G (ix2 r l) = U (ix2 R ⟨384 + l.val, by omega⟩))
    (hq : ∀ (h : Fin 6) (l : Fin 64), Q (ix3 h r l) = Q' (ix2 R ⟨h.val * 64 + l.val, by omega⟩))
    (hk : ∀ (h : Fin 2) (l : Fin 64), K (ix3 h r l) = K' (ix2 R ⟨h.val * 64 + l.val, by omega⟩))
    (hv : ∀ (h : Fin 2) (l : Fin 64), V (ix3 h r l) = V' (ix2 R ⟨h.val * 64 + l.val, by omega⟩))
    (hm : ∀ (h : Fin 4) (l : Fin 64), M (ix3 h r l) = M' (ix2 R ⟨h.val * 64 + l.val, by omega⟩)) (j : Fin 1664) :
    k0_pay19 (F := Ideal) (k0_pay8 A) (k0_pay17 (F := Ideal) (k0_pay9 G) (k0_pay10 Q)
      (k0_pay15 (k0_pay12 V) (k0_pay13 M) (k0_pay14 M)) (Ideal.ofBits FTy.f32 0#32) (k0_pay16 (k0_pay11 K))) k0_pay18 (ix2 r j)
      = ProjSpec.ct U Q' K' V' M' R j := by
  rw [← gather, cast8, cast9, cast10, cast11, cast12, cast13]
  refine (pay19 A _ _ r ha j).trans (congrArg₂ (· + ·) ?_ rfl)
  refine (pay17 G Q _ _ _ (fun l => Q' (ix2 R l)) (fun l => K' (ix2 R l)) r hg
    (pay16 K (fun l => K' (ix2 R l)) r hk) hq j).trans ?_
  refine congrArg₂ (· + ·) (congrArg₂ (· + ·) (congrArg₂ (· + ·) ?_ rfl) rfl) rfl
  exact pay15 V M (fun l => V' (ix2 R l)) (fun l => M' (ix2 R l)) r hv hm j

section
variable (c : Dev nD) (t : Fin cfg0.N)

/-- The cotangent's columns past the first 384, as the body gathers them. -/
abbrev tail : Vec Ideal S256x1664 .f32 :=
  k0_pay17 (F := Ideal) (k0_pay9 (iblk m c 4 t)) (k0_pay10 (iblk m c 5 t))
    (k0_pay15 (k0_pay12 (iblk m c 7 t)) (k0_pay13 (iblk m c 8 t)) (k0_pay14 (iblk m c 8 t)))
    (Ideal.ofBits FTy.f32 0#32) (k0_pay16 (k0_pay11 (iblk m c 6 t)))

/-- The first 384 columns. -/
abbrev head : Vec Ideal S256x384 .f32 := k0_pay8 (F := Ideal) (iblk m c 3 t)

/-- The cotangent row of row `r` of the grid point. -/
abbrev ctRow (r : Fin 256) : Fin 1664 → EReal :=
  ProjSpec.ct (m (c.tc.loc main_arg3)) (m (c.tc.loc main_arg4)) (m (c.tc.loc main_arg5)) (m (c.tc.loc main_arg6)) (m (c.tc.loc main_arg7)) (row t r)

theorem rows_ct (r : Fin 256) (j : Fin 1664) : k0_pay19 (F := Ideal) (head m c t) (tail m c t) k0_pay18 (ix2 r j) = ctRow m c t r j :=
  gathered _ _ _ _ _ _ _ _ _ _ _ r (row t r) (fun l => blk_a m c t r l) (fun l => blk_g m c t r l)
    (fun h l => blk_q m c t h r l) (fun h l => blk_k m c t h r l) (fun h l => blk_v m c t h r l)
    (fun h l => blk_m m c t h r l) j

theorem rows_back (r : Fin 256) : (fun k => ∑ j, k0_pay19 (F := Ideal) (head m c t) (tail m c t) k0_pay18 (ix2 r j) * iblk m c 2 t (ix2 k j))
    = ProjSpec.back (m (c.tc.loc main_arg2)) (ctRow m c t r) :=
  funext fun k => Finset.sum_congr rfl fun j _ => congrArg₂ (· * ·) (rows_ct m c t r j) (blk_w m c t k j)

theorem point_dx (r : Fin 256) (l : Fin 1024) :
    k0_pay23 (F := Ideal) (iblk m c 0 t) (iblk m c 1 t) (k0_pay2 (iblk m c 2 t)) (k0_pay4 (iblk m c 0 t)) (k0_pay5 (iblk m c 0 t))
      (head m c t) (tail m c t) k0_pay18 (iblk m c 9 t) (ix2 r l)
      = ProjSpec.dx (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (row t r) l := by
  unfold ProjSpec.dx
  rw [pay_dx, rows_back, rows_x, rows_g, blk_dh]

/-- The 256 rows' share of the scale's gradient. -/
def termG (l : Fin 1024) : EReal :=
  ∑ r : Fin 256, Rms.gradScale (Rms.rowOf (m (c.tc.loc main_arg0)) (row t r))
    (ProjSpec.back (m (c.tc.loc main_arg2)) (ctRow m c t r)) l

/-- The 256 rows' share of the projection's gradient. -/
def termW (k : Fin 1024) (j : Fin 1664) : EReal :=
  ∑ r : Fin 256, Rms.norm (Rms.rowOf (m (c.tc.loc main_arg0)) (row t r)) (Rms.rowOf (m (c.tc.loc main_arg1)) 0) k * ctRow m c t r j

theorem point_dg (l : Fin 1024) :
    k0_pay22 (F := Ideal) (k0_pay2 (iblk m c 2 t)) (k0_pay6 (iblk m c 0 t)) (head m c t) (tail m c t) k0_pay18 (ix2 0 l)
      = termG m c t l := by
  unfold termG
  rw [pay_dg]
  simp only [rows_back, rows_x]

theorem point_dw (k : Fin 1024) (j : Fin 1664) :
    k0_pay21 (F := Ideal) (k0_pay7 (iblk m c 0 t) (iblk m c 1 t)) (head m c t) (tail m c t) k0_pay18 (ix2 k j)
      = termW m c t k j := by
  unfold termW
  rw [pay_dw]
  simp only [rows_ct, rows_x, rows_g]

theorem step_dg (a : Vec Ideal S1x1024 .f32) (l : Fin 1024) :
    k0_pay24 (F := Ideal) (k0_pay2 (iblk m c 2 t)) (k0_pay6 (iblk m c 0 t)) (head m c t) (tail m c t) k0_pay18 a (ix2 0 l)
      = a (ix2 0 l) + termG m c t l := by
  rw [← point_dg]
  exact acc_dg _ _ _ _ a l

theorem step_dw (a : Vec Ideal S1024x1664 .f32) (k : Fin 1024) (j : Fin 1664) :
    k0_pay1 (F := Ideal) (k0_pay21 (k0_pay7 (iblk m c 0 t) (iblk m c 1 t)) (head m c t) (tail m c t) k0_pay18) a (ix2 k j)
      = a (ix2 k j) + termW m c t k j := by
  rw [← point_dw]
  exact acc_dw _ a k j
end

theorem final_dx (c : Dev nD) : (dats m 0 c).arrAt 10 (cfgs 0).N = fun i => ProjSpec.dx (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1) := by
  refine (dats m 0 c).arrAt_eq_of_covers 10 _ (by decide +kernel) fun t _ y => ?_
  blk_simp
  idx_vars y
  have ht := lt_of_lt_of_eq t.isLt N_0
  rw [after0_10, out_at]
  by_cases h : t.val % 32 = 0
  · rw [outsAt0_A m c t h (by omega) (by omega) (by omega)]
    frame_out
    exact point_dx m c t y0 y1
  · rw [outsAt0_B m c t h (by omega) (by omega) (by omega)]
    frame_out
    exact point_dx m c t y0 y1

theorem final_dg (c : Dev nD) : (dats m 0 c).arrAt 11 (cfgs 0).N = fun i => ProjSpec.dg (m (c.tc.loc main_arg0)) (m (c.tc.loc main_arg2)) (m (c.tc.loc main_arg3)) (m (c.tc.loc main_arg4)) (m (c.tc.loc main_arg5)) (m (c.tc.loc main_arg6)) (m (c.tc.loc main_arg7)) (i 1) := by
  refine (dats m 0 c).arrAt_eq_of_after_last 11 tLast (by decide +kernel) _ fun j => ?_
  blk_simp
  idx_vars j
  rw [after0_11, Pipeline.eq_sum_fin_of_reset_step_apply_last (fun n h => (outsAt0 m c n h).2.1) 32 (fun _ => (0 : EReal))
    (fun t i => termG m c t (i 1)) ?_ ?_ (le_of_eq N_0) tLast rfl, zero_add]
  · exact Fin.sum_mul_add_congr fun t r hl => rfl
  · intro t h i
    have ht := lt_of_lt_of_eq t.isLt N_0
    rw [outsAt0_A m c t h (by omega) (by omega) (by omega), zero_add]
    frame_out
    idx_vars i
    obtain rfl : i0 = 0 := Subsingleton.elim _ _
    exact point_dg m c t i1
  · intro t h i
    have ht := lt_of_lt_of_eq t.isLt N_0
    rw [outsAt0_B m c t h (by omega) (by omega) (by omega)]
    frame_out
    idx_vars i
    obtain rfl : i0 = 0 := Subsingleton.elim _ _
    exact step_dg m c t _ i1

theorem final_dw (c : Dev nD) : (dats m 0 c).arrAt 12 (cfgs 0).N = fun i => ProjSpec.dw (m (c.tc.loc main_arg0)) (m (c.tc.loc main_arg1)) (m (c.tc.loc main_arg3)) (m (c.tc.loc main_arg4)) (m (c.tc.loc main_arg5)) (m (c.tc.loc main_arg6)) (m (c.tc.loc main_arg7)) (i 0) (i 1) := by
  refine (dats m 0 c).arrAt_eq_of_after_last 12 tLast (by decide +kernel) _ fun j => ?_
  blk_simp
  idx_vars j
  rw [after0_12, Pipeline.eq_sum_fin_of_reset_step_apply_last (fun n h => (outsAt0 m c n h).2.2) 32 (fun _ => (0 : EReal))
    (fun t i => termW m c t (i 0) (i 1)) ?_ ?_ (le_of_eq N_0) tLast rfl, zero_add]
  · exact Fin.sum_mul_add_congr fun t r hl => rfl
  · intro t h i
    have ht := lt_of_lt_of_eq t.isLt N_0
    rw [outsAt0_A m c t h (by omega) (by omega) (by omega), zero_add]
    frame_out
    idx_vars i
    exact point_dw m c t i0 i1
  · intro t h i
    have ht := lt_of_lt_of_eq t.isLt N_0
    rw [outsAt0_B m c t h (by omega) (by omega) (by omega)]
    frame_out
    idx_vars i
    exact step_dw m c t _ i0 i1

set_option maxHeartbeats 2000000 in
/-- The kernel's run, its results read entry by entry. -/
theorem run_spec (ρ : Dev nD → PrngReg) :
    θ_run defs (onTc (τ := τ) (main (F := Ideal))) ⟨m, fun _ => 0, ρ⟩ fun r => ∀ c : Dev nD,
      r.2.mem (c.tc.loc main_v11_0) = (fun i => ProjSpec.dx (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1))
      ∧ r.2.mem (c.tc.loc main_v11_1) = (fun i => ProjSpec.dg (m (c.tc.loc main_arg0)) (m (c.tc.loc main_arg2)) (m (c.tc.loc main_arg3)) (m (c.tc.loc main_arg4)) (m (c.tc.loc main_arg5)) (m (c.tc.loc main_arg6)) (m (c.tc.loc main_arg7)) (i 1))
      ∧ r.2.mem (c.tc.loc main_v11_2) = (fun i => ProjSpec.dw (m (c.tc.loc main_arg0)) (m (c.tc.loc main_arg1)) (m (c.tc.loc main_arg3)) (m (c.tc.loc main_arg4)) (m (c.tc.loc main_arg5)) (m (c.tc.loc main_arg6)) (m (c.tc.loc main_arg7)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  run_from Cert.ProjIdeal.Gen.run_main m ρ
  · exact final_dx m c
  · exact final_dg m c
  · exact final_dw m c

end Cert.ProjIdeal.Value
end
-- ==== Proof.SwaSpec.lean ====
module

public import proofs.«01_k».proof.Proof.AttnSpec
public import Idealize.ShloMosaic.Lib.Pipeline.ValueKit
public import Idealize.ShloMosaic.Lib.Pointwise

/-! The sliding-window attention, written over the arrays of the problem: blocks of 128 tokens, each query attending to its own
block and the one before, a sink per head beside the scores. -/

@[expose] public section

noncomputable section

namespace SwaSpec
open Idealize.ShloMosaic

/-- The queries, the keys or values, the positions, a scale, the sinks. -/
abbrev Queries := FVec Ideal ⟨2, ![8192, 384]⟩ .f32
@[inherit_doc Queries]
abbrev Keys := FVec Ideal ⟨2, ![8192, 128]⟩ .f32
@[inherit_doc Queries]
abbrev Pos := IVec ⟨2, ![8192, 1]⟩ 32
@[inherit_doc Queries]
abbrev Scale := FVec Ideal ⟨2, ![1, 64]⟩ .f32
@[inherit_doc Queries]
abbrev Sinks := FVec Ideal ⟨2, ![1, 6]⟩ .f32

/-- A rotary frequency, and the angle of a token at it. -/
def freq (k : Fin 32) : EReal :=
  Ideal.pow (Ideal.ofBits FTy.f32 1176256512#32)
    (Ideal.div (-(Ideal.ofBits FTy.f32 1073741824#32 * (((BitVec.ofNat 32 k.val).toInt : ℝ) : EReal))) Attn.width)
@[inherit_doc freq]
def angle (pos : Pos) (r : Fin 8192) (k : Fin 32) : EReal := (((pos (ix2 r 0)).toInt : ℝ) : EReal) * freq k

/-- The frequency's number of a column, and the column that it is rotated with. -/
def half (l : Fin 64) : Fin 32 := ⟨l.val % 32, Nat.mod_lt _ (by decide)⟩
@[inherit_doc half]
def other (l : Fin 64) : Fin 64 := ⟨(l.val + 32) % 64, Nat.mod_lt _ (by decide)⟩

/-- A row rotated by the angles. -/
def rot (x : Attn.Row) (a : Fin 32 → EReal) (l : Fin 64) : EReal :=
  x l * Ideal.cos (a (half l)) + x (other l) * (if l.val < 32 then -Ideal.sin (a (half l)) else Ideal.sin (a (half l)))

/-- A head's query, key and value of a token. -/
def query (q : Queries) (pos : Pos) (g : Scale) (h : Fin 6) (r : Fin 8192) : Attn.Row :=
  rot (Attn.norm (fun l => q (ix2 r ⟨h.val * 64 + l.val, by omega⟩)) fun l => g (ix2 0 l)) (angle pos r)
@[inherit_doc query]
def key (k : Keys) (pos : Pos) (g : Scale) (h : Fin 2) (r : Fin 8192) : Attn.Row :=
  rot (Attn.norm (fun l => k (ix2 r ⟨h.val * 64 + l.val, by omega⟩)) fun l => g (ix2 0 l)) (angle pos r)
@[inherit_doc query]
def value (v : Keys) (h : Fin 2) (r : Fin 8192) : Attn.Row := fun l => v (ix2 r ⟨h.val * 64 + l.val, by omega⟩)

/-- Whether query `p` of a block may look at entry `j` of its window, and whether the window of block `n` has that entry. -/
def near (p : Fin 128) (j : Fin 256) : BitVec 1 :=
  IntOp.cmpi .sge (BitVec.ofNat 32 p.val + 128#32 - BitVec.ofNat 32 j.val) 0#32
    &&& IntOp.cmpi .slt (BitVec.ofNat 32 p.val + 128#32 - BitVec.ofNat 32 j.val) 128#32
@[inherit_doc near]
def has (n : Fin 64) (j : Fin 256) : BitVec 1 :=
  IntOp.cmpi .sgt (BitVec.ofNat 32 n.val) 0#32 ||| IntOp.cmpi .sge (BitVec.ofNat 32 j.val) 128#32

/-- The token of query `p` of block `n`, and of entry `j` of the block's window. -/
def here (n : Fin 64) (p : Fin 128) : Fin 8192 := ⟨n.val * 128 + p.val, by omega⟩
@[inherit_doc here]
def there (n : Fin 64) (j : Fin 256) : Fin 8192 := ⟨n.val * 128 + j.val - 128, by omega⟩

/-- The largest of a row of scores and its sink, the sum of the exponentials, and an entry's probability. -/
def top (s : Fin 256 → EReal) (sink : EReal) : EReal := max (Attn.top s) sink
@[inherit_doc top]
def total (s : Fin 256 → EReal) (sink : EReal) : EReal := (∑ j, Ideal.exp (s j - top s sink)) + Ideal.exp (sink - top s sink)
@[inherit_doc top]
def prob (s : Fin 256 → EReal) (sink : EReal) (j : Fin 256) : EReal := Ideal.div (Ideal.exp (s j - top s sink)) (total s sink)

section
variable (q : Queries) (k v : Keys) (pos : Pos) (gq gk : Scale) (sinks : Sinks)

/-- The scores of a query over its window. -/
def score (n : Fin 64) (h : Fin 6) (p : Fin 128) (j : Fin 256) : EReal :=
  Scalar.select (near p j &&& has n j)
    ((∑ l, query q pos gq h (here n p) l * key k pos gk ⟨h.val / 3, by omega⟩ (there n j) l) * Attn.eighth) ⊥

/-- The attention's output of a head's query; entries that the first block's window does not have count as zero rows. -/
def att (n : Fin 64) (h : Fin 6) (p : Fin 128) (l : Fin 64) : EReal :=
  ∑ j, prob (score q k pos gq gk n h p) (sinks (ix2 0 h)) j
    * (if n.val = 0 ∧ j.val < 128 then 0 else value v ⟨h.val / 3, by omega⟩ (there n j) l)

/-- The same by head, token and column of the head. -/
def atr (h : Fin 6) (r : Fin 8192) (l : Fin 64) : EReal :=
  att q k v pos gq gk sinks ⟨r.val / 128, by omega⟩ h ⟨r.val % 128, by omega⟩ l

/-- The same by token and column. -/
def attm (r : Fin 8192) (c : Fin 384) : EReal :=
  atr q k v pos gq gk sinks ⟨c.val / 64, by omega⟩ r ⟨c.val % 64, by omega⟩
end

/-! ## What the first block's window does not have -/

theorem select_false {α : Type} (a b : α) : Scalar.select 0#1 a b = b := rfl

theorem lacks' : ∀ j : Fin 128, has 0 ⟨j.val, by omega⟩ = 0#1 := by decide

theorem lacks (j : Fin 256) (hj : j.val < 128) : has 0 j = 0#1 := lacks' ⟨j.val, hj⟩

theorem none_and : ∀ x : BitVec 1, x &&& 0#1 = 0#1 := by decide

theorem exp_nonneg : ∀ x : EReal, 0 ≤ Ideal.exp x
  | ⊥ => le_rfl
  | ⊤ => le_top
  | (r : ℝ) => EReal.coe_nonneg.2 (Real.exp_nonneg r)

/-- Numbers that are their own double. -/
def Twice (x : EReal) : Prop := x + x = x

theorem twice_add {x y : EReal} (hx : Twice x) (hy : Twice y) : Twice (x + y) := by
  unfold Twice at *
  rw [add_add_add_comm, hx, hy]

theorem twice_bot_mul (x : EReal) : Twice (⊥ * x) := by
  rcases lt_trichotomy x 0 with h | h | h
  · rw [EReal.bot_mul_of_neg h]; rfl
  · subst h; simp [Twice]
  · rw [EReal.bot_mul_of_pos h]; rfl

theorem twice_sum {n : Nat} (f : Fin n → EReal) (h : ∀ i, Twice (f i)) : Twice (∑ i, f i) :=
  Finset.sum_induction f Twice (fun _ _ => twice_add) (by simp [Twice]) fun i _ => h i

/-- The first block's window may hold that block's own values twice. -/
theorem fold_window (s : Fin 256 → EReal) (sink : EReal) (w : Fin 256 → EReal) (hs : ∀ j : Fin 256, j.val < 128 → s j = ⊥)
    (hw : ∀ j : Fin 128, w ⟨j.val, by omega⟩ = w ⟨128 + j.val, by omega⟩) :
    ∑ j, prob s sink j * w j = ∑ j, prob s sink j * (if j.val < 128 then 0 else w j) := by
  have split : ∀ f : Fin 256 → EReal, ∑ j, f j = (∑ j : Fin 128, f ⟨j.val, by omega⟩) + ∑ j : Fin 128, f ⟨128 + j.val, by omega⟩ :=
    fun f => Fin.sum_univ_add (a := 128) (b := 128) f
  have e0 : ∀ j : Fin 256, j.val < 128 → Ideal.exp (s j - top s sink) = 0 := fun j hj => by
    rw [hs j hj, EReal.bot_sub]; rfl
  rw [split, split]
  have z : ∑ j : Fin 128, prob s sink ⟨j.val, by omega⟩ * (if (⟨j.val, by omega⟩ : Fin 256).val < 128 then 0 else w ⟨j.val, by omega⟩) = 0 :=
    Finset.sum_eq_zero fun j _ => by rw [if_pos j.isLt, mul_zero]
  have k : ∀ j : Fin 128, (if (⟨128 + j.val, by omega⟩ : Fin 256).val < 128 then 0 else w ⟨128 + j.val, by omega⟩) = w ⟨128 + j.val, by omega⟩ :=
    fun j => if_neg (by simp)
  rw [z, zero_add]
  simp only [k]
  by_cases ht : total s sink = 0
  · have all : ∀ j, Ideal.exp (s j - top s sink) = 0 := fun j => by
      have h1 : ∑ j, Ideal.exp (s j - top s sink) = 0 :=
        le_antisymm (by rw [← ht]; exact le_add_of_nonneg_right (exp_nonneg _)) (Finset.sum_nonneg fun _ _ => exp_nonneg _)
      exact (Finset.sum_eq_zero_iff_of_nonneg fun _ _ => exp_nonneg _).1 h1 j (Finset.mem_univ j)
    have pb : ∀ j, prob s sink j = ⊥ := fun j => by simp [prob, all, ht, Ideal.div]
    simp only [pb, hw]
    exact twice_sum _ fun j => twice_bot_mul _
  · have p0 : ∀ j : Fin 128, prob s sink ⟨j.val, by omega⟩ = 0 := fun j => by
      rw [prob, e0 _ j.isLt, Ideal.div, if_neg ht, zero_mul]
    simp only [p0, zero_mul, Finset.sum_const_zero, zero_add]

/-- The output of a query whose window is given row by row, the first block's with that block in place of the one before. -/
theorem att_of (q : Queries) (k v : Keys) (pos : Pos) (gq gk : Scale) (sinks : Sinks) (n : Fin 64) (h : Fin 6) (p : Fin 128) (l : Fin 64)
    (kk vv : Fin 256 → Attn.Row)
    (hk : ∀ j : Fin 256, n.val ≠ 0 ∨ 128 ≤ j.val → kk j = key k pos gk ⟨h.val / 3, by omega⟩ (there n j))
    (hv : ∀ j : Fin 256, n.val ≠ 0 ∨ 128 ≤ j.val → vv j = value v ⟨h.val / 3, by omega⟩ (there n j))
    (hd : n.val = 0 → ∀ j : Fin 128, vv ⟨j.val, by omega⟩ = vv ⟨128 + j.val, by omega⟩) :
    ∑ j, prob (fun j => Scalar.select (near p j &&& has n j) ((∑ l, query q pos gq h (here n p) l * kk j l) * Attn.eighth) ⊥) (sinks (ix2 0 h)) j * vv j l
      = att q k v pos gq gk sinks n h p l := by
  have es : (fun j => Scalar.select (near p j &&& has n j) ((∑ l, query q pos gq h (here n p) l * kk j l) * Attn.eighth) ⊥)
      = score q k pos gq gk n h p := by
    funext j
    by_cases hj : n.val ≠ 0 ∨ 128 ≤ j.val
    · rw [hk j hj]; rfl
    · obtain rfl : n = 0 := Fin.ext (by omega)
      rw [score, lacks j (by omega), none_and, select_false, select_false]
  rw [es, att]
  by_cases h0 : n.val = 0
  · rw [fold_window (score q k pos gq gk n h p) (sinks (ix2 0 h)) (fun j => vv j l) (fun j hj => by
      obtain rfl : n = 0 := Fin.ext h0
      rw [score, lacks j hj, none_and, select_false]) fun j => congrFun (hd h0 j) l]
    refine Finset.sum_congr rfl fun j _ => ?_
    by_cases hj : j.val < 128
    · rw [if_pos hj, if_pos ⟨h0, hj⟩]
    · rw [if_neg hj, if_neg fun e => hj e.2, hv j (Or.inr (by omega))]
  · refine Finset.sum_congr rfl fun j _ => ?_
    rw [if_neg fun e => h0 e.1, hv j (Or.inl h0)]

end SwaSpec
end
-- ==== Proof.SwaFwdRef.lean ====
module

public import proofs.«01_k».proof.Proof.Gen.SwaFwdReferenceIdeal.Run
public import proofs.«01_k».proof.Proof.MemRef
public import proofs.«01_k».proof.Proof.AttnReal
public import proofs.«01_k».proof.Proof.SwaSpec

/-! The result of the reference of the pair `SwaFwd`: its operations in groups, each read entry by entry. -/

@[expose] public section

set_option maxRecDepth 16384

noncomputable section

namespace Cert.SwaFwdReferenceIdeal.Value
open Idealize.ShloMosaic Idealize.ShloMosaic.TcCoe Idealize.SL.Sem
open Cert.SwaFwdReferenceIdeal Cert.SwaFwdReferenceIdeal.Gen

/-- Rows by head: queries, keys; by block: queries, keys, windows of keys; scores, scores with the sink; the angles. -/
abbrev Q3 := FVec Ideal S8192x6x64 .f32
@[inherit_doc Q3]
abbrev K3 := FVec Ideal S8192x2x64 .f32
@[inherit_doc Q3]
abbrev Q5 := FVec Ideal S64x128x2x3x64 .f32
@[inherit_doc Q3]
abbrev K4 := FVec Ideal S64x128x2x64 .f32
@[inherit_doc Q3]
abbrev W4 := FVec Ideal S64x256x2x64 .f32
@[inherit_doc Q3]
abbrev Sc := FVec Ideal S64x2x3x128x256 .f32
@[inherit_doc Q3]
abbrev Se := FVec Ideal S64x2x3x128x257 .f32
@[inherit_doc Q3]
abbrev Angles := FVec Ideal S8192x32 .f32

/-! ## Norms and rotations -/

/-- A rotation written half by half. -/
theorem turn (x : Attn.Row) (a : Fin 32 → EReal) (l : Fin 64) :
    (if h : l.val < 32 then x ⟨l.val, by omega⟩ * Ideal.cos (a ⟨l.val, h⟩) - x ⟨32 + l.val, by omega⟩ * Ideal.sin (a ⟨l.val, h⟩)
      else x ⟨32 + (l.val - 32), by omega⟩ * Ideal.cos (a ⟨l.val - 32, by omega⟩) + x ⟨l.val - 32, by omega⟩ * Ideal.sin (a ⟨l.val - 32, by omega⟩))
      = SwaSpec.rot x a l := by
  unfold SwaSpec.rot
  split_ifs with h
  · have e : SwaSpec.half l = ⟨l.val, h⟩ := Fin.ext (by simp only [SwaSpec.half]; omega)
    have o : SwaSpec.other l = ⟨32 + l.val, by omega⟩ := Fin.ext (by simp only [SwaSpec.other]; omega)
    rw [e, o, mul_neg, ← sub_eq_add_neg]
  · have e : SwaSpec.half l = ⟨l.val - 32, by omega⟩ := Fin.ext (by simp only [SwaSpec.half]; omega)
    have o : SwaSpec.other l = ⟨l.val - 32, by omega⟩ := Fin.ext (by simp only [SwaSpec.other]; omega)
    have s : (⟨32 + (l.val - 32), by omega⟩ : Fin 64) = l := Fin.ext (by dsimp only; omega)
    rw [e, o, s]

/-- The angles. -/
def angles (pos : SwaSpec.Pos) : Angles := (mulf (broadcastInDim S8192x32 ![0, 1] bcast_S8192x1_S8192x32_0_1 (sitofp .f32 pos)) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))

theorem angles_at (pos : SwaSpec.Pos) (r : Fin 8192) (k : Fin 32) : angles pos (ix2 r k) = SwaSpec.angle pos r k := by
  pointwise [angles]
  rfl

/-- The arrays by head, their norm and their rotation. -/
def headsQ (x : SwaSpec.Queries) : Q3 := (shapeCast _ x shapeCasts_S8192x384_S8192x6x64)
@[inherit_doc headsQ]
def msQ (x : Q3) : FVec Ideal S8192x6x1 .f32 := (addf (Host.divf (broadcastInDim S8192x6x1 ![0, 1] bcast_S8192x6_S8192x6x1_0_1 (Host.reduceAdd (mulf x x) (constant S_ .f32 0x00000000#32) reducesTo_S8192x6x64_S8192x6_d2 h_S_)) (broadcastInDim S8192x6x1 ![] bcast_S_S8192x6x1 (constant S_ .f32 0x42800000#32))) (broadcastInDim S8192x6x1 ![] bcast_S_S8192x6x1 (constant S_ .f32 0x358637BD#32)))
@[inherit_doc headsQ]
def normQ (x : Q3) (g : SwaSpec.Scale) : Q3 := (mulf (mulf x (broadcastInDim S8192x6x64 ![0, 1, 2] bcast_S8192x6x1_S8192x6x64_0_1_2 (Host.rsqrt (msQ x)))) (broadcastInDim S8192x6x64 ![0, 1, 2] bcast_S1x1x64_S8192x6x64_0_1_2 (broadcastInDim S1x1x64 ![1, 2] bcast_S1x64_S1x1x64_1_2 g)))
@[inherit_doc headsQ]
def rotQ (x : Q3) (a : Angles) : Q3 := (concatenate S8192x6x64 2 [⟨S8192x6x32, (subf (mulf (extractStridedSlice S8192x6x32 ![0, 0, 0] x slices_S8192x6x64_S8192x6x32_0_0_0) (broadcastInDim S8192x6x32 ![0, 1, 2] bcast_S8192x1x32_S8192x6x32_0_1_2 (broadcastInDim S8192x1x32 ![0, 2] bcast_S8192x32_S8192x1x32_0_2 (Host.cos a)))) (mulf (extractStridedSlice S8192x6x32 ![0, 0, 32] x slices_S8192x6x64_S8192x6x32_0_0_32) (broadcastInDim S8192x6x32 ![0, 1, 2] bcast_S8192x1x32_S8192x6x32_0_1_2 (broadcastInDim S8192x1x32 ![0, 2] bcast_S8192x32_S8192x1x32_0_2 (Host.sin a)))))⟩, ⟨S8192x6x32, (addf (mulf (extractStridedSlice S8192x6x32 ![0, 0, 32] x slices_S8192x6x64_S8192x6x32_0_0_32) (broadcastInDim S8192x6x32 ![0, 1, 2] bcast_S8192x1x32_S8192x6x32_0_1_2 (broadcastInDim S8192x1x32 ![0, 2] bcast_S8192x32_S8192x1x32_0_2 (Host.cos a)))) (mulf (extractStridedSlice S8192x6x32 ![0, 0, 0] x slices_S8192x6x64_S8192x6x32_0_0_0) (broadcastInDim S8192x6x32 ![0, 1, 2] bcast_S8192x1x32_S8192x6x32_0_1_2 (broadcastInDim S8192x1x32 ![0, 2] bcast_S8192x32_S8192x1x32_0_2 (Host.sin a)))))⟩] concatenates_S8192x6x32_S8192x6x32_S8192x6x64_d2)

theorem headsQ_at (x : SwaSpec.Queries) (r : Fin 8192) (h : Fin 6) (l : Fin 64) : headsQ x (ix3 r h l) = x (ix2 r ⟨h.val * 64 + l.val, by omega⟩) := by
  pointwise [headsQ]

theorem normQ_at (x : Q3) (g : SwaSpec.Scale) (r : Fin 8192) (h : Fin 6) (l : Fin 64) :
    normQ x g (ix3 r h l) = Attn.norm (fun l => x (ix3 r h l)) (fun l => g (ix2 0 l)) l := by
  pointwise [normQ, msQ]
  rfl

theorem rotQ_at (x : Q3) (a : Angles) (r : Fin 8192) (h : Fin 6) (l : Fin 64) :
    rotQ x a (ix3 r h l) = SwaSpec.rot (fun l => x (ix3 r h l)) (fun k => a (ix2 r k)) l := by
  pointwise [rotQ]
  exact turn (fun l => x (ix3 r h l)) (fun k => a (ix2 r k)) l

/-- The arrays by head, their norm and their rotation. -/
def headsK (x : SwaSpec.Keys) : K3 := (shapeCast _ x shapeCasts_S8192x128_S8192x2x64)
@[inherit_doc headsK]
def msK (x : K3) : FVec Ideal S8192x2x1 .f32 := (addf (Host.divf (broadcastInDim S8192x2x1 ![0, 1] bcast_S8192x2_S8192x2x1_0_1 (Host.reduceAdd (mulf x x) (constant S_ .f32 0x00000000#32) reducesTo_S8192x2x64_S8192x2_d2 h_S_)) (broadcastInDim S8192x2x1 ![] bcast_S_S8192x2x1 (constant S_ .f32 0x42800000#32))) (broadcastInDim S8192x2x1 ![] bcast_S_S8192x2x1 (constant S_ .f32 0x358637BD#32)))
@[inherit_doc headsK]
def normK (x : K3) (g : SwaSpec.Scale) : K3 := (mulf (mulf x (broadcastInDim S8192x2x64 ![0, 1, 2] bcast_S8192x2x1_S8192x2x64_0_1_2 (Host.rsqrt (msK x)))) (broadcastInDim S8192x2x64 ![0, 1, 2] bcast_S1x1x64_S8192x2x64_0_1_2 (broadcastInDim S1x1x64 ![1, 2] bcast_S1x64_S1x1x64_1_2 g)))
@[inherit_doc headsK]
def rotK (x : K3) (a : Angles) : K3 := (concatenate S8192x2x64 2 [⟨S8192x2x32, (subf (mulf (extractStridedSlice S8192x2x32 ![0, 0, 0] x slices_S8192x2x64_S8192x2x32_0_0_0) (broadcastInDim S8192x2x32 ![0, 1, 2] bcast_S8192x1x32_S8192x2x32_0_1_2 (broadcastInDim S8192x1x32 ![0, 2] bcast_S8192x32_S8192x1x32_0_2 (Host.cos a)))) (mulf (extractStridedSlice S8192x2x32 ![0, 0, 32] x slices_S8192x2x64_S8192x2x32_0_0_32) (broadcastInDim S8192x2x32 ![0, 1, 2] bcast_S8192x1x32_S8192x2x32_0_1_2 (broadcastInDim S8192x1x32 ![0, 2] bcast_S8192x32_S8192x1x32_0_2 (Host.sin a)))))⟩, ⟨S8192x2x32, (addf (mulf (extractStridedSlice S8192x2x32 ![0, 0, 32] x slices_S8192x2x64_S8192x2x32_0_0_32) (broadcastInDim S8192x2x32 ![0, 1, 2] bcast_S8192x1x32_S8192x2x32_0_1_2 (broadcastInDim S8192x1x32 ![0, 2] bcast_S8192x32_S8192x1x32_0_2 (Host.cos a)))) (mulf (extractStridedSlice S8192x2x32 ![0, 0, 0] x slices_S8192x2x64_S8192x2x32_0_0_0) (broadcastInDim S8192x2x32 ![0, 1, 2] bcast_S8192x1x32_S8192x2x32_0_1_2 (broadcastInDim S8192x1x32 ![0, 2] bcast_S8192x32_S8192x1x32_0_2 (Host.sin a)))))⟩] concatenates_S8192x2x32_S8192x2x32_S8192x2x64_d2)

theorem headsK_at (x : SwaSpec.Keys) (r : Fin 8192) (h : Fin 2) (l : Fin 64) : headsK x (ix3 r h l) = x (ix2 r ⟨h.val * 64 + l.val, by omega⟩) := by
  pointwise [headsK]

theorem normK_at (x : K3) (g : SwaSpec.Scale) (r : Fin 8192) (h : Fin 2) (l : Fin 64) :
    normK x g (ix3 r h l) = Attn.norm (fun l => x (ix3 r h l)) (fun l => g (ix2 0 l)) l := by
  pointwise [normK, msK]
  rfl

theorem rotK_at (x : K3) (a : Angles) (r : Fin 8192) (h : Fin 2) (l : Fin 64) :
    rotK x a (ix3 r h l) = SwaSpec.rot (fun l => x (ix3 r h l)) (fun k => a (ix2 r k)) l := by
  pointwise [rotK]
  exact turn (fun l => x (ix3 r h l)) (fun k => a (ix2 r k)) l

/-! ## Blocks and windows -/

/-- The rows by block; the windows of the blocks. -/
def blkQ (x : Q3) : Q5 := (shapeCast _ x shapeCasts_S8192x6x64_S64x128x2x3x64)
@[inherit_doc blkQ]
def blkK (x : K3) : K4 := (shapeCast _ x shapeCasts_S8192x2x64_S64x128x2x64)
@[inherit_doc blkQ]
def blkV (x : SwaSpec.Keys) : K4 := (shapeCast _ x shapeCasts_S8192x128_S64x128x2x64)
@[inherit_doc blkQ]
def wins (x : K4) : W4 := (concatenate S64x256x2x64 1 [⟨S64x128x2x64, (concatenate S64x128x2x64 0 [⟨S1x128x2x64, (broadcastInDim S1x128x2x64 ![] bcast_S_S1x128x2x64 (constant S_ .f32 0x00000000#32))⟩, ⟨S63x128x2x64, (extractStridedSlice S63x128x2x64 ![0, 0, 0, 0] x slices_S64x128x2x64_S63x128x2x64_0_0_0_0)⟩] concatenates_S1x128x2x64_S63x128x2x64_S64x128x2x64_d0)⟩, ⟨S64x128x2x64, x⟩] concatenates_S64x128x2x64_S64x128x2x64_S64x256x2x64_d1)

theorem blkQ_at (x : Q3) (n : Fin 64) (p : Fin 128) (h : Fin 2) (g : Fin 3) (l : Fin 64) :
    blkQ x (ix5 n p h g l) = x (ix3 (SwaSpec.here n p) ⟨h.val * 3 + g.val, by omega⟩ l) := by
  pointwise [blkQ]
  rfl
theorem blkK_at (x : K3) (n : Fin 64) (p : Fin 128) (h : Fin 2) (l : Fin 64) : blkK x (ix4 n p h l) = x (ix3 (SwaSpec.here n p) h l) := by
  pointwise [blkK]
  rfl
theorem blkV_at (x : SwaSpec.Keys) (n : Fin 64) (p : Fin 128) (h : Fin 2) (l : Fin 64) : blkV x (ix4 n p h l) = SwaSpec.value x h (SwaSpec.here n p) l := by
  pointwise [blkV]
  rfl

/-- A window's rows: the block before, which the first block does not have, then the block. -/
theorem wins_at (f : Fin 8192 → Fin 2 → Attn.Row) (x : K4) (hx : ∀ n p h l, x (ix4 n p h l) = f (SwaSpec.here n p) h l)
    (n : Fin 64) (j : Fin 256) (h : Fin 2) (l : Fin 64) :
    wins x (ix4 n j h l) = if n.val = 0 ∧ j.val < 128 then 0 else f (SwaSpec.there n j) h l := by
  pointwise [wins]
  simp only [hx]
  split_ifs
  · rfl
  all_goals try omega
  all_goals
    try refine Eq.trans ?_ (if_neg (by omega)).symm
    refine congrArg (fun z => f z h l) (Fin.ext ?_)
    simp only [SwaSpec.here, SwaSpec.there]
    omega

/-! ## Scores and probabilities -/

/-- The scores, and what a query may look at. -/
def scores (q : Q5) (k : W4) : Sc := (mulf (transpose S64x2x3x128x256 [0, 1, 4, 3, 2] (Host.dotGeneral dot_S64x256x2x64_S64x128x2x3x64_S64x2x256x128x3_3_4_1_13_02_02 none k q) transposes_S64x2x256x128x3_S64x2x3x128x256_0_1_4_3_2) (broadcastInDim S64x2x3x128x256 ![] bcast_S_S64x2x3x128x256 (constant S_ .f32 0x3E000000#32)))
@[inherit_doc scores]
def may : IVec S64x128x256 1 := (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (cmpi .sge (broadcastInDim S1x1x256 ![2] bcast_S256_S1x1x256_2 (iotaInDim S256 32 0)) (broadcastInDim S1x1x256 ![] bcast_S_S1x1x256 (constantI S_ 32 128#32)))))))
@[inherit_doc scores]
def masked (s : Sc) : Sc := (select (broadcastInDim S64x2x3x128x256 ![0, 1, 2, 3, 4] bcast_S64x1x1x128x256_S64x2x3x128x256_0_1_2_3_4 (broadcastInDim S64x1x1x128x256 ![0, 3, 4] bcast_S64x128x256_S64x1x1x128x256_0_3_4 may)) s (broadcastInDim S64x2x3x128x256 ![] bcast_S_S64x2x3x128x256 (id (constant S_ .f32 0xFF800000#32))))
/-- The scores with the sink after them. -/
def withSink (s : Sc) (sinks : SwaSpec.Sinks) : Se := (concatenate S64x2x3x128x257 4 [⟨S64x2x3x128x256, s⟩, ⟨S64x2x3x128x1, (broadcastInDim S64x2x3x128x1 ![0, 1, 2, 3, 4] bcast_S1x2x3x1x1_S64x2x3x128x1_0_1_2_3_4 (broadcastInDim S1x2x3x1x1 ![1, 2] bcast_S2x3_S1x2x3x1x1_1_2 (shapeCast _ sinks shapeCasts_S1x6_S2x3)))⟩] concatenates_S64x2x3x128x256_S64x2x3x128x1_S64x2x3x128x257_d4)
/-- The largest of a row, the exponentials, the probabilities of the window's entries. -/
def tops (e : Se) : FVec Ideal S64x2x3x128 .f32 := (maximumf (broadcastInDim S64x2x3x128 ![] bcast_S_S64x2x3x128 (constant S_ .f32 0xFF800000#32)) (Host.reduce FloatOps.maximumf e (constant S_ .f32 0xFF800000#32) reducesTo_S64x2x3x128x257_S64x2x3x128_d4 h_S_))
@[inherit_doc tops]
def exps (e : Se) : Se := (Host.exp (subf e (broadcastInDim S64x2x3x128x257 ![0, 1, 2, 3, 4] bcast_S64x2x3x128x1_S64x2x3x128x257_0_1_2_3_4 (broadcastInDim S64x2x3x128x1 ![0, 1, 2, 3] bcast_S64x2x3x128_S64x2x3x128x1_0_1_2_3 (tops e)))))
@[inherit_doc tops]
def wholes (e : Se) : Se := (Host.divf e (broadcastInDim S64x2x3x128x257 ![0, 1, 2, 3, 4] bcast_S64x2x3x128x1_S64x2x3x128x257_0_1_2_3_4 (broadcastInDim S64x2x3x128x1 ![0, 1, 2, 3] bcast_S64x2x3x128_S64x2x3x128x1_0_1_2_3 (Host.reduceAdd e (constant S_ .f32 0x00000000#32) reducesTo_S64x2x3x128x257_S64x2x3x128_d4 h_S_))))
@[inherit_doc tops]
def probs (e : Se) : Sc := (extractStridedSlice S64x2x3x128x256 ![0, 0, 0, 0, 0] (wholes (exps e)) slices_S64x2x3x128x257_S64x2x3x128x256_0_0_0_0_0)
/-- The values weighed by the probabilities. -/
def weigh (v : W4) (p : Sc) : Q5 := (transpose S64x128x2x3x64 [0, 4, 1, 3, 2] (Host.dotGeneral dot_S64x256x2x64_S64x2x3x128x256_S64x2x64x3x128_1_4_3_23_02_01 none v p) transposes_S64x2x64x3x128_S64x128x2x3x64_0_4_1_3_2)

theorem scores_at (q : Q5) (k : W4) (n : Fin 64) (h : Fin 2) (g : Fin 3) (p : Fin 128) (j : Fin 256) :
    scores q k (ix5 n h g p j) = (∑ l : Fin 64, q (ix5 n p h g l) * k (ix4 n j h l)) * Attn.eighth := by
  pointwise [scores]
  exact congrArg (· * Attn.eighth) (Finset.sum_congr rfl fun _ _ => mul_comm _ _)

theorem may_at (n : Fin 64) (p : Fin 128) (j : Fin 256) : may (ix3 n p j) = SwaSpec.near p j &&& SwaSpec.has n j := by
  pointwise [may]
  rfl

theorem masked_at (s : Sc) (n : Fin 64) (h : Fin 2) (g : Fin 3) (p : Fin 128) (j : Fin 256) :
    masked s (ix5 n h g p j) = Scalar.select (SwaSpec.near p j &&& SwaSpec.has n j) (s (ix5 n h g p j)) ⊥ := by
  pointwise [masked]
  rw [may_at]
  exact congrArg (Scalar.select _ _) Attn.bot_eq

theorem withSink_at (s : Sc) (sinks : SwaSpec.Sinks) (n : Fin 64) (h : Fin 2) (g : Fin 3) (p : Fin 128) (j : Fin 257) :
    withSink s sinks (ix5 n h g p j)
      = if hj : j.val < 256 then s (ix5 n h g p ⟨j.val, hj⟩) else sinks (ix2 0 ⟨h.val * 3 + g.val, by omega⟩) := by
  pointwise [withSink]

/-- The host's largest over the last of five axes. -/
theorem max_last (s : Se) (n : Fin 64) (h : Fin 2) (g : Fin 3) (p : Fin 128) :
    Host.reduce FloatOps.maximumf s (constant S_ .f32 0xFF800000#32) reducesTo_S64x2x3x128x257_S64x2x3x128_d4 h_S_ (ix4 n h g p)
      = Attn.top fun j => s (ix5 n h g p j) := by
  pointwise
  rfl

/-- The largest of a row with one number after it. -/
theorem top_snoc (f : Fin 257 → EReal) : Attn.top f = SwaSpec.top (fun j => f j.castSucc) (f (Fin.last 256)) := by
  rw [SwaSpec.top, Attn.top, Attn.top, Fin.univ_castSuccEmb, Finset.fold_cons, Finset.fold_map, max_comm]
  rfl

theorem tops_at (e : Se) (n : Fin 64) (h : Fin 2) (g : Fin 3) (p : Fin 128) :
    tops e (ix4 n h g p) = SwaSpec.top (fun j => e (ix5 n h g p j.castSucc)) (e (ix5 n h g p (Fin.last 256))) := by
  have e' : (broadcastInDim S64x2x3x128 ![] bcast_S_S64x2x3x128 (constant S_ .f32 0xFF800000#32) : FVec Ideal S64x2x3x128 .f32)
    (ix4 n h g p) = Ideal.ofBits FTy.f32 4286578688#32 := rfl
  have e2 (x y : FVec Ideal S64x2x3x128 .f32) : maximumf x y (ix4 n h g p) = max (x (ix4 n h g p)) (y (ix4 n h g p)) := rfl
  unfold tops
  rw [e2, e', max_last, Cert.MemReferenceIdeal.Value.max_top, top_snoc]

theorem exps_at (e : Se) (n : Fin 64) (h : Fin 2) (g : Fin 3) (p : Fin 128) (j : Fin 257) :
    exps e (ix5 n h g p j) = Ideal.exp (e (ix5 n h g p j) - SwaSpec.top (fun j => e (ix5 n h g p j.castSucc)) (e (ix5 n h g p (Fin.last 256)))) := by
  pointwise [exps]
  rw [tops_at]

theorem wholes_at (e : Se) (n : Fin 64) (h : Fin 2) (g : Fin 3) (p : Fin 128) (j : Fin 257) :
    wholes e (ix5 n h g p j) = Ideal.div (e (ix5 n h g p j)) (∑ j : Fin 257, e (ix5 n h g p j)) := by
  pointwise [wholes]

theorem probs_whole (e : Se) (n : Fin 64) (h : Fin 2) (g : Fin 3) (p : Fin 128) (j : Fin 256) :
    probs e (ix5 n h g p j) = wholes (exps e) (ix5 n h g p j.castSucc) := by
  refine congrArg (wholes (exps e)) (funext fun a => ?_)
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)
  | ⟨4, _⟩ => exact Fin.ext (Nat.zero_add _)

theorem probs_at (e : Se) (n : Fin 64) (h : Fin 2) (g : Fin 3) (p : Fin 128) (j : Fin 256) :
    probs e (ix5 n h g p j) = SwaSpec.prob (fun j => e (ix5 n h g p j.castSucc)) (e (ix5 n h g p (Fin.last 256))) j := by
  rw [probs_whole, wholes_at, Fin.sum_univ_castSucc]
  simp only [exps_at]
  rfl

theorem weigh_at (v : W4) (s : Sc) (n : Fin 64) (h : Fin 2) (g : Fin 3) (p : Fin 128) (l : Fin 64) :
    weigh v s (ix5 n p h g l) = ∑ j : Fin 256, s (ix5 n h g p j) * v (ix4 n j h l) := by
  pointwise [weigh]
  exact Finset.sum_congr rfl fun _ _ => mul_comm _ _

/-! ## The outputs -/

section
variable (q : SwaSpec.Queries) (k v : SwaSpec.Keys) (pos : SwaSpec.Pos) (gq gk : SwaSpec.Scale) (sinks : SwaSpec.Sinks)

/-- The queries by block, the windows of the keys, the scores with the sink. -/
def allQ : Q5 := blkQ (rotQ (normQ (headsQ q) gq) (angles pos))
@[inherit_doc allQ]
def allK : K4 := blkK (rotK (normK (headsK k) gk) (angles pos))
@[inherit_doc allQ]
def allE : Se := withSink (masked (scores (allQ q pos gq) (wins (allK k pos gk)))) sinks
/-- The outputs by block, and by column. -/
def all : Q5 := weigh (wins (blkV v)) (probs (allE q k pos gq gk sinks))
@[inherit_doc all]
def out : SwaSpec.Queries := (shapeCast _ (all q k v pos gq gk sinks) shapeCasts_S64x128x2x3x64_S8192x384)

theorem allQ_at (n : Fin 64) (p : Fin 128) (h : Fin 2) (g : Fin 3) (l : Fin 64) :
    allQ q pos gq (ix5 n p h g l) = SwaSpec.query q pos gq ⟨h.val * 3 + g.val, by omega⟩ (SwaSpec.here n p) l := by
  simp only [allQ, blkQ_at, rotQ_at, normQ_at, headsQ_at, angles_at]
  rfl

theorem allK_at (n : Fin 64) (p : Fin 128) (h : Fin 2) (l : Fin 64) : allK k pos gk (ix4 n p h l) = SwaSpec.key k pos gk h (SwaSpec.here n p) l := by
  simp only [allK, blkK_at, rotK_at, normK_at, headsK_at, angles_at]
  rfl

theorem row_at (n : Fin 64) (h : Fin 2) (g : Fin 3) (p : Fin 128) (j : Fin 256) :
    allE q k pos gq gk sinks (ix5 n h g p j.castSucc) = SwaSpec.score q k pos gq gk n ⟨h.val * 3 + g.val, by omega⟩ p j := by
  rw [allE, withSink_at, dif_pos (show j.castSucc.val < 256 from j.isLt), masked_at, scores_at, SwaSpec.score]
  by_cases hj : n.val = 0 ∧ j.val < 128
  · obtain rfl : n = 0 := Fin.ext hj.1
    simp only [Fin.val_castSucc, Fin.eta, SwaSpec.lacks j hj.2, SwaSpec.none_and, SwaSpec.select_false]
  · have e : (⟨(h.val * 3 + g.val) / 3, by omega⟩ : Fin 2) = h := Fin.ext (by dsimp only; omega)
    simp only [Fin.val_castSucc, Fin.eta, wins_at (fun r h => SwaSpec.key k pos gk h r) (allK k pos gk) (fun n p h l => allK_at k pos gk n p h l), if_neg hj, allQ_at, e]

theorem last_at (n : Fin 64) (h : Fin 2) (g : Fin 3) (p : Fin 128) :
    allE q k pos gq gk sinks (ix5 n h g p (Fin.last 256)) = sinks (ix2 0 ⟨h.val * 3 + g.val, by omega⟩) := by
  rw [allE, withSink_at, dif_neg (by simp)]

theorem all_at (n : Fin 64) (p : Fin 128) (h : Fin 2) (g : Fin 3) (l : Fin 64) :
    all q k v pos gq gk sinks (ix5 n p h g l) = SwaSpec.att q k v pos gq gk sinks n ⟨h.val * 3 + g.val, by omega⟩ p l := by
  have e : (⟨(h.val * 3 + g.val) / 3, by omega⟩ : Fin 2) = h := Fin.ext (by dsimp only; omega)
  simp only [all, weigh_at, probs_at, row_at, last_at, wins_at (fun r h => SwaSpec.value v h r) (blkV v) (fun n p h l => blkV_at v n p h l), SwaSpec.att, e]

theorem out_at (r : Fin 8192) (c : Fin 384) : out q k v pos gq gk sinks (ix2 r c) = SwaSpec.attm q k v pos gq gk sinks r c := by
  unfold out
  generalize ha : all q k v pos gq gk sinks = a
  pointwise
  subst ha
  refine (all_at q k v pos gq gk sinks _ _ _ _ _).trans ?_
  exact congrArg (fun h => SwaSpec.att q k v pos gq gk sinks _ h _ _) (Fin.ext (by dsimp only; omega))
end

variable (m : (ℓ : Loc nD τ sig) → Buf (Elt Ideal) ℓ)

/-- The reference's run, its result read entry by entry. -/
theorem run_spec (ρ : Dev nD → PrngReg) :
    θ_run defs (onTc (τ := τ) (main (F := Ideal))) ⟨m, fun _ => 0, ρ⟩ fun r => ∀ c : Dev nD,
      r.2.mem (c.tc.loc main_v139) = (fun i => SwaSpec.attm (m (c.tc.loc main_arg0)) (m (c.tc.loc main_arg1)) (m (c.tc.loc main_arg2)) (m (c.tc.loc main_arg3)) (m (c.tc.loc main_arg4)) (m (c.tc.loc main_arg5)) (m (c.tc.loc main_arg6)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) := by
  refine (θ_run defs _ _).mono (fun r h c => ?_) (run (F := Ideal) m ρ)
  obtain ⟨h0, h1⟩ := h c
  refine ⟨h0.trans ?_, h1⟩
  refine Eq.trans (b := out (m (c.tc.loc main_arg0)) (m (c.tc.loc main_arg1)) (m (c.tc.loc main_arg2)) (m (c.tc.loc main_arg3)) (m (c.tc.loc main_arg4)) (m (c.tc.loc main_arg5)) (m (c.tc.loc main_arg6))) rfl ?_
  funext i
  idx_vars i
  exact out_at _ _ _ _ _ _ _ i0 i1

end Cert.SwaFwdReferenceIdeal.Value
end
-- ==== Proof.SwaHead.lean ====
module

public import proofs.«01_k».proof.Proof.MemHead
public import proofs.«01_k».proof.Proof.SwaSpec
public import proofs.«01_k».proof.Proof.Gen.SwaFwdIdeal.Skeleton

/-! The pieces of the sliding-window attention's kernel at one grid point: a tile of 512 tokens with the 128 before it. -/

@[expose] public section

set_option maxRecDepth 16384

noncomputable section

namespace Cert.SwaFwdIdeal.Value
open Idealize.ShloMosaic Idealize.ShloMosaic.TcCoe Idealize.SL.Sem
open Cert.SwaFwdIdeal Cert.SwaFwdIdeal.Gen
open Cert.MemIdeal.Value (Qs Ks Scale normQ normQ_at)

/-- A tile with the rows before it, a block of rows, three heads' rows of a block, their scores, a number per row. -/
abbrev Es := FVec Ideal S640x64 .f32
@[inherit_doc Es]
abbrev Bs := FVec Ideal S128x64 .f32
@[inherit_doc Es]
abbrev Zs := FVec Ideal S384x64 .f32
@[inherit_doc Es]
abbrev Sc := FVec Ideal S384x256 .f32
@[inherit_doc Es]
abbrev Col := FVec Ideal S384x1 .f32

/-! ## Norms and rotations -/

/-- The norm of extended rows. -/
def msE (x : Es) : FVec Ideal S640x1 .f32 :=
  addf (divf (shapeCast S640x1 (multiReduction .add [1] S640 (mulf x x) 0x00000000#32 reduces_S640x64_S640 (.inl rfl) rfl) shapeCasts_S640_S640x1) (broadcast S640x1 (Scalar.ofBits .f32 0x42800000#32))) (broadcast S640x1 (Scalar.ofBits .f32 0x358637BD#32))
@[inherit_doc msE]
def normE (x : Es) (g : Scale) : Es := mulf (mulf x (broadcastTo S640x64 (rsqrt (msE x)) broadcasts_S640x1_S640x64)) (broadcastTo S640x64 g broadcasts_S1x64_S640x64)

theorem normE_at (x : Es) (g : Scale) (r : Fin 640) (l : Fin 64) :
    normE x g (ix2 r l) = Attn.norm (fun l => x (ix2 r l)) (fun l => g (ix2 0 l)) l := by
  pointwise [normE, msE]
  rfl

/-- Rows rotated with the tables of cosines and of signed sines. -/
def rotQ (y c s : Qs) : Qs :=
  addf (mulf y c) (mulf (concatenate S512x64 1 [⟨S512x32, extractStridedSlice S512x32 ![0, 32] y slices_S512x64_o0_32_S512x32⟩, ⟨S512x32, extractStridedSlice S512x32 ![0, 0] y slices_S512x64_o0_0_S512x32⟩] concatenates_S512x32_S512x32_S512x64_d1) s)
@[inherit_doc rotQ]
def rotE (y c s : Es) : Es :=
  addf (mulf y c) (mulf (concatenate S640x64 1 [⟨S640x32, extractStridedSlice S640x32 ![0, 32] y slices_S640x64_o0_32_S640x32⟩, ⟨S640x32, extractStridedSlice S640x32 ![0, 0] y slices_S640x64_o0_0_S640x32⟩] concatenates_S640x32_S640x32_S640x64_d1) s)

theorem rotQ_at (y c s : Qs) (r : Fin 512) (l : Fin 64) :
    rotQ y c s (ix2 r l) = y (ix2 r l) * c (ix2 r l) + y (ix2 r (SwaSpec.other l)) * s (ix2 r l) := by
  pointwise [rotQ]
  by_cases h : l.val < 32
  all_goals
    simp only [h, ↓reduceIte, dite_true, dite_false]
    refine congrArg (fun z => _ + y (ix2 r z) * _) (Fin.ext ?_)
    simp only [SwaSpec.other]
    omega

theorem rotE_at (y c s : Es) (r : Fin 640) (l : Fin 64) :
    rotE y c s (ix2 r l) = y (ix2 r l) * c (ix2 r l) + y (ix2 r (SwaSpec.other l)) * s (ix2 r l) := by
  pointwise [rotE]
  by_cases h : l.val < 32
  all_goals
    simp only [h, ↓reduceIte, dite_true, dite_false]
    refine congrArg (fun z => _ + y (ix2 r z) * _) (Fin.ext ?_)
    simp only [SwaSpec.other]
    omega

/-! ## Slices -/

/-- One head of the queries. -/
def pickX (X : FVec Ideal S6x512x64 .f32) (h : Fin 6) : Qs := ![shapeCast S512x64 (extractStridedSlice S1x512x64 ![0, 0, 0] X slices_S6x512x64_o0_0_0_S1x512x64) shapeCasts_S1x512x64_S512x64, shapeCast S512x64 (extractStridedSlice S1x512x64 ![1, 0, 0] X slices_S6x512x64_o1_0_0_S1x512x64) shapeCasts_S1x512x64_S512x64, shapeCast S512x64 (extractStridedSlice S1x512x64 ![2, 0, 0] X slices_S6x512x64_o2_0_0_S1x512x64) shapeCasts_S1x512x64_S512x64, shapeCast S512x64 (extractStridedSlice S1x512x64 ![3, 0, 0] X slices_S6x512x64_o3_0_0_S1x512x64) shapeCasts_S1x512x64_S512x64, shapeCast S512x64 (extractStridedSlice S1x512x64 ![4, 0, 0] X slices_S6x512x64_o4_0_0_S1x512x64) shapeCasts_S1x512x64_S512x64, shapeCast S512x64 (extractStridedSlice S1x512x64 ![5, 0, 0] X slices_S6x512x64_o5_0_0_S1x512x64) shapeCasts_S1x512x64_S512x64] h
/-- One head of the tile with the rows before it. -/
def pickE (A : FVec Ideal S2x128x64 .f32) (X : FVec Ideal S2x512x64 .f32) (h : Fin 2) : Es := ![concatenate S640x64 0 [⟨S128x64, shapeCast S128x64 (extractStridedSlice S1x128x64 ![0, 0, 0] A slices_S2x128x64_o0_0_0_S1x128x64) shapeCasts_S1x128x64_S128x64⟩, ⟨S512x64, shapeCast S512x64 (extractStridedSlice S1x512x64 ![0, 0, 0] X slices_S2x512x64_o0_0_0_S1x512x64) shapeCasts_S1x512x64_S512x64⟩] concatenates_S128x64_S512x64_S640x64_d0, concatenate S640x64 0 [⟨S128x64, shapeCast S128x64 (extractStridedSlice S1x128x64 ![1, 0, 0] A slices_S2x128x64_o1_0_0_S1x128x64) shapeCasts_S1x128x64_S128x64⟩, ⟨S512x64, shapeCast S512x64 (extractStridedSlice S1x512x64 ![1, 0, 0] X slices_S2x512x64_o1_0_0_S1x512x64) shapeCasts_S1x512x64_S512x64⟩] concatenates_S128x64_S512x64_S640x64_d0] h
/-- A block of the queries, and a block's window. -/
def blockQ (y : Qs) (b : Fin 4) : Bs := ![extractStridedSlice S128x64 ![0, 0] y slices_S512x64_o0_0_S128x64, extractStridedSlice S128x64 ![128, 0] y slices_S512x64_o128_0_S128x64, extractStridedSlice S128x64 ![256, 0] y slices_S512x64_o256_0_S128x64, extractStridedSlice S128x64 ![384, 0] y slices_S512x64_o384_0_S128x64] b
@[inherit_doc blockQ]
def blockE (y : Es) (b : Fin 4) : Ks := ![extractStridedSlice S256x64 ![0, 0] y slices_S640x64_o0_0_S256x64, extractStridedSlice S256x64 ![128, 0] y slices_S640x64_o128_0_S256x64, extractStridedSlice S256x64 ![256, 0] y slices_S640x64_o256_0_S256x64, extractStridedSlice S256x64 ![384, 0] y slices_S640x64_o384_0_S256x64] b
/-- One head's rows out of three. -/
def partZ (z : Zs) (a : Fin 3) : Bs := ![extractStridedSlice S128x64 ![0, 0] z slices_S384x64_o0_0_S128x64, extractStridedSlice S128x64 ![128, 0] z slices_S384x64_o128_0_S128x64, extractStridedSlice S128x64 ![256, 0] z slices_S384x64_o256_0_S128x64] a
/-- A head's four blocks together, and the six heads. -/
def joinQ (a b c d : Bs) : Qs := concatenate S512x64 0 [⟨S128x64, a⟩, ⟨S128x64, b⟩, ⟨S128x64, c⟩, ⟨S128x64, d⟩] concatenates_S128x64_S128x64_S128x64_S128x64_S512x64_d0
/-- Three heads' rows together. -/
def joinZ (a b c : Bs) : Zs := concatenate S384x64 0 [⟨S128x64, a⟩, ⟨S128x64, b⟩, ⟨S128x64, c⟩] concatenates_S128x64_S128x64_S128x64_S384x64_d0

theorem pickX_at (X : FVec Ideal S6x512x64 .f32) (h : Fin 6) (r : Fin 512) (l : Fin 64) : pickX X h (ix2 r l) = X (ix3 h r l) := by
  fin_cases h
  all_goals pointwise [pickX]

theorem pickE_at (A : FVec Ideal S2x128x64 .f32) (X : FVec Ideal S2x512x64 .f32) (h : Fin 2) (r : Fin 640) (l : Fin 64) :
    pickE A X h (ix2 r l) = if hr : r.val < 128 then A (ix3 h ⟨r.val, hr⟩ l) else X (ix3 h ⟨r.val - 128, by omega⟩ l) := by
  fin_cases h
  all_goals pointwise [pickE]

theorem blockQ_at (y : Qs) (b : Fin 4) (p : Fin 128) (l : Fin 64) : blockQ y b (ix2 p l) = y (ix2 ⟨b.val * 128 + p.val, by omega⟩ l) := by
  fin_cases b
  all_goals pointwise [blockQ]

theorem blockE_at (y : Es) (b : Fin 4) (j : Fin 256) (l : Fin 64) : blockE y b (ix2 j l) = y (ix2 ⟨b.val * 128 + j.val, by omega⟩ l) := by
  fin_cases b
  all_goals pointwise [blockE]

theorem partZ_at (z : Zs) (a : Fin 3) (p : Fin 128) (l : Fin 64) : partZ z a (ix2 p l) = z (ix2 ⟨a.val * 128 + p.val, by omega⟩ l) := by
  fin_cases a
  all_goals pointwise [partZ]

theorem joinZ_at (a b c : Bs) (h : Fin 3) (p : Fin 128) (l : Fin 64) :
    joinZ a b c (ix2 ⟨h.val * 128 + p.val, by omega⟩ l) = (![a, b, c] h : Bs) (ix2 p l) := by
  fin_cases h
  all_goals
    pointwise [joinZ]
    try
      split_ifs
      all_goals first | omega | exact congrArg _ (congrArg (fun z => ix2 z l) (Fin.ext (by dsimp only; omega)))

theorem joinQ_at (a b c d : Bs) (h : Fin 4) (p : Fin 128) (l : Fin 64) :
    joinQ a b c d (ix2 ⟨h.val * 128 + p.val, by omega⟩ l) = (![a, b, c, d] h : Bs) (ix2 p l) := by
  fin_cases h
  all_goals
    pointwise [joinQ]
    try
      split_ifs
      all_goals first | omega | exact congrArg _ (congrArg (fun z => ix2 z l) (Fin.ext (by dsimp only; omega)))

/-! ## The masks and the sinks -/

/-- The numbers of a row and of an entry of the scores. -/
def rowNo : IVec S384x256 32 := iota .tc S384x256 32 [0] iota_S384x256_d0_w32
@[inherit_doc rowNo]
def colNo : IVec S384x256 32 := iota .tc S384x256 32 [1] iota_S384x256_d1_w32

theorem inner (a : Fin 3) (p : Fin 128) :
    Scalar.select (IntOp.cmpi .sge (BitVec.ofNat 32 (a.val * 128 + p.val)) 256#32) (IntOp.subi (BitVec.ofNat 32 (a.val * 128 + p.val)) 256#32)
      (Scalar.select (IntOp.cmpi .sge (BitVec.ofNat 32 (a.val * 128 + p.val)) 128#32) (IntOp.subi (BitVec.ofNat 32 (a.val * 128 + p.val)) 128#32)
        (BitVec.ofNat 32 (a.val * 128 + p.val))) = BitVec.ofNat 32 p.val := by
  revert a p
  decide +kernel

theorem band_at (a : Fin 3) (p : Fin 128) (j : Fin 256) :
    k0_pay12 rowNo colNo (ix2 ⟨a.val * 128 + p.val, by omega⟩ j) = SwaSpec.near p j := by
  pointwise [k0_pay12, rowNo, colNo, SwaSpec.near]
  rw [inner]
  rfl

theorem half_eq : Ideal.ofBits FTy.f32 1056964608#32 = ((1 / 2 : ℝ) : EReal) := by
  simp [Ideal.ofBits, Ideal.ieee, -EReal.coe_mul]; norm_num

theorem or_all : ∀ x : BitVec 1, IntOp.ori x (BitVec.ofBool true) = 1#1 := by decide
theorem or_none : ∀ x : BitVec 1, IntOp.ori x (BitVec.ofBool false) = IntOp.cmpi .sgt (0#32) 0#32 ||| x := by decide

/-- Every window but the first block's is whole. -/
theorem later' : ∀ n : Fin 64, n.val ≠ 0 → IntOp.cmpi .sgt (BitVec.ofNat 32 n.val) 0#32 = 1#1 := by decide
theorem all_or : ∀ x : BitVec 1, 1#1 ||| x = 1#1 := by decide
@[inherit_doc later']
theorem later (n : Fin 64) (h : n.val ≠ 0) (j : Fin 256) : SwaSpec.has n j = 1#1 := by
  rw [SwaSpec.has, later' n h, all_or]

/-- The mask of a tile's first block: before the first token there is nothing. -/
theorem first_at (i : grid0.Coords) (n : Fin 64) (hn : n.val = 4 * (i 0).val) (a : Fin 3) (p : Fin 128) (j : Fin 256) :
    k0_pay13 (k0_pay1 (F := Ideal) i) rowNo colNo (ix2 ⟨a.val * 128 + p.val, by omega⟩ j) = SwaSpec.near p j &&& SwaSpec.has n j := by
  have e : k0_pay12 rowNo colNo (ix2 ⟨a.val * 128 + p.val, by omega⟩ j) = SwaSpec.near p j := band_at a p j
  have ec : colNo (ix2 ⟨a.val * 128 + p.val, by omega⟩ j) = BitVec.ofNat 32 j.val := by pointwise [colNo]
  pointwise [k0_pay13, k0_pay1]
  rw [e, ec]
  refine congrArg (SwaSpec.near p j &&& ·) ?_
  rw [half_eq]
  have hc : ∀ t : Fin 16, (Scalar.extui (Scalar.cmpi CmpIPredicate.eq (BitVec.ofNat 32 t.val) 0#32) : BitVec 32).toInt = if t.val = 0 then 1 else 0 := by decide
  have e := hc (i 0)
  rw [e]
  by_cases h0 : (i 0).val = 0
  · obtain rfl : n = 0 := Fin.ext (by rw [hn, h0]; rfl)
    rw [if_pos h0, decide_eq_false (by norm_num [← EReal.coe_one, EReal.coe_lt_coe_iff])]
    exact or_none _
  · rw [if_neg h0, decide_eq_true (by norm_num [← EReal.coe_zero, EReal.coe_lt_coe_iff])]
    refine (or_all _).trans ?_
    rw [later n (by omega)]

theorem member (a : Fin 3) (p : Fin 128) :
    Scalar.select (IntOp.cmpi .sge (BitVec.ofNat 32 (a.val * 128 + p.val)) 256#32) (2#32)
      (Scalar.select (IntOp.cmpi .sge (BitVec.ofNat 32 (a.val * 128 + p.val)) 128#32) 1#32 0#32) = BitVec.ofNat 32 a.val := by
  revert a p
  decide +kernel

theorem apart : ∀ x h : Fin 128, x ≠ h → BitVec.setWidth 32 (IntOp.cmpi CmpIPredicate.eq (BitVec.ofNat 32 x.val) (BitVec.ofNat 32 h.val)) = 0#32 := by
  intro x h n
  have : BitVec.ofNat 32 x.val ≠ BitVec.ofNat 32 h.val := fun e => n (Fin.ext (by
    have := congrArg BitVec.toNat e
    simp only [BitVec.toNat_ofNat] at this
    omega))
  simp only [IntOp.cmpi, beq_eq_false_iff_ne.2 this]
  rfl

/-- One lane of the sinks taken by a sum. -/
theorem taken (s : FVec Ideal S1x128 .f32) (h : Fin 128) (b : BitVec 32) (hb : b = BitVec.ofNat 32 h.val) :
    (∑ x : Fin 128, FloatOps.sitofp (F := Ideal) FTy.f32 (BitVec.setWidth 32 (IntOp.cmpi CmpIPredicate.eq (BitVec.ofNat 32 x.val) b))
      * s (ix2 0 x)) = s (ix2 0 h) := by
  subst hb
  rw [Finset.sum_eq_single h]
  · rw [show BitVec.setWidth 32 (IntOp.cmpi CmpIPredicate.eq (BitVec.ofNat 32 h.val) (BitVec.ofNat 32 h.val)) = 1#32 by simp [IntOp.cmpi]]
    show (((1 : ℤ) : ℝ) : EReal) * _ = _
    simp
  · intro x _ hx
    rw [show BitVec.setWidth 32 (IntOp.cmpi CmpIPredicate.eq (BitVec.ofNat 32 x.val) (BitVec.ofNat 32 h.val)) = 0#32 from apart x h hx]
    show (((0 : ℤ) : ℝ) : EReal) * _ = _
    simp
  · simp

theorem sink_at (s : FVec Ideal S1x128 .f32) (a : Fin 3) (p : Fin 128) :
    k0_pay29 s (iota .tc S384x128 32 [1] iota_S384x128_d1_w32) k0_pay14 (ix2 ⟨a.val * 128 + p.val, by omega⟩ 0) = s (ix2 0 ⟨a.val, by omega⟩) := by
  pointwise [k0_pay29, k0_pay14]
  rw [member]
  refine taken s ⟨a.val, by omega⟩ _ ?_
  revert a
  decide

theorem sink2_at (s : FVec Ideal S1x128 .f32) (a : Fin 3) (p : Fin 128) :
    k0_pay55 (k0_pay54 s (iota .tc S384x128 32 [1] iota_S384x128_d1_w32) k0_pay14) (ix2 ⟨a.val * 128 + p.val, by omega⟩ 0)
      = s (ix2 0 ⟨a.val + 3, by omega⟩) := by
  pointwise [k0_pay55, k0_pay54, k0_pay14]
  rw [member]
  refine taken s ⟨a.val + 3, by omega⟩ _ ?_
  revert a
  decide

end Cert.SwaFwdIdeal.Value
-- ==== Proof.SwaBlock.lean ====
module

public import proofs.«01_k».proof.Proof.SwaHead

/-! One block of queries of three heads against its window, and the tile put together from the blocks. -/

@[expose] public section

set_option maxRecDepth 16384

noncomputable section

namespace Cert.SwaFwdIdeal.Value
open Idealize.ShloMosaic Idealize.ShloMosaic.TcCoe Idealize.SL.Sem
open Cert.SwaFwdIdeal Cert.SwaFwdIdeal.Gen
open Cert.MemIdeal.Value (Qs Ks Scale normQ normQ_at)

/-- The masked scores, their largest with the sink, the exponentials, the output. -/
def scores (m : IVec S384x256 1) (z : Zs) (kb : Ks) : Sc :=
  select m (mulf (matmul dot_S384x64_S256x64_S384x256_1_1_0_0_n_n none (truncf .bf16 z bitsLt_bf16_f32) (truncf .bf16 kb bitsLt_bf16_f32) (constant S384x256 .f32 0x00000000#32))
    (broadcast S384x256 (Scalar.ofBits .f32 0x3E000000#32))) (broadcast S384x256 (Named.named κ "mask" 0xF149F2CA#32))
@[inherit_doc scores]
def tops (s : Sc) (snk : Col) : Col := maximumf (shapeCast S384x1 (multiReduction .maximumf [1] S384 s 0xFF800000#32 reduces_S384x256_S384 (.inl rfl) rfl) shapeCasts_S384_S384x1) snk
@[inherit_doc scores]
def expo (s : Sc) (snk : Col) : Sc := exp (subf s (broadcastTo S384x256 (tops s snk) broadcasts_S384x1_S384x256))
@[inherit_doc scores]
def totals (s : Sc) (snk : Col) : Col :=
  addf (shapeCast S384x1 (multiReduction .add [1] S384 (expo s snk) 0x00000000#32 reduces_S384x256_S384 (.inl rfl) rfl) shapeCasts_S384_S384x1) (exp (subf snk (tops s snk)))
@[inherit_doc scores]
def mix (s : Sc) (snk : Col) (vb : Ks) : Zs :=
  matmul dot_S384x256_S256x64_S384x64_1_0_0_1_n_n none (truncf .bf16 (divf (expo s snk) (broadcastTo S384x256 (totals s snk) broadcasts_S384x1_S384x256)) bitsLt_bf16_f32)
    (truncf .bf16 vb bitsLt_bf16_f32) (constant S384x64 .f32 0x00000000#32)

theorem scores_at (m : IVec S384x256 1) (z : Zs) (kb : Ks) (r : Fin 384) (j : Fin 256) :
    scores m z kb (ix2 r j) = Scalar.select (m (ix2 r j)) ((∑ l, z (ix2 r l) * kb (ix2 j l)) * Attn.eighth) ⊥ := by
  pointwise [scores]
  rfl

theorem tops_at (s : Sc) (snk : Col) (r : Fin 384) : tops s snk (ix2 r 0) = SwaSpec.top (fun j => s (ix2 r j)) (snk (ix2 r 0)) := by
  pointwise [tops]
  rfl

theorem expo_at (s : Sc) (snk : Col) (r : Fin 384) (j : Fin 256) :
    expo s snk (ix2 r j) = Ideal.exp (s (ix2 r j) - SwaSpec.top (fun j => s (ix2 r j)) (snk (ix2 r 0))) := by
  pointwise [expo]
  rw [tops_at]

theorem totals_at (s : Sc) (snk : Col) (r : Fin 384) : totals s snk (ix2 r 0) = SwaSpec.total (fun j => s (ix2 r j)) (snk (ix2 r 0)) := by
  pointwise [totals]
  simp only [expo_at, tops_at]
  rfl

theorem mix_at (s : Sc) (snk : Col) (vb : Ks) (r : Fin 384) (l : Fin 64) :
    mix s snk vb (ix2 r l) = ∑ j, SwaSpec.prob (fun j => s (ix2 r j)) (snk (ix2 r 0)) j * vb (ix2 j l) := by
  pointwise [mix]
  simp only [expo_at, totals_at]
  rfl

/-- A block of three heads' queries. -/
def zone (m : IVec S384x256 1) (x y z : Qs) (kk vv : Es) (snk : Col) (b : Fin 4) : Zs :=
  mix (scores m (joinZ (blockQ x b) (blockQ y b) (blockQ z b)) (blockE kk b)) snk (blockE vv b)

/-- The four blocks of one head, the first with a mask of its own. -/
def chain (m0 m : IVec S384x256 1) (x y z : Qs) (kk vv : Es) (snk : Col) (a : Fin 3) : Qs :=
  joinQ (partZ (zone m0 x y z kk vv snk 0) a) (partZ (zone m x y z kk vv snk 1) a) (partZ (zone m x y z kk vv snk 2) a) (partZ (zone m x y z kk vv snk 3) a)

/-- The six heads together. -/
def stack (a b c d e f : Qs) : FVec Ideal S6x512x64 .f32 :=
  concatenate S6x512x64 0 [⟨S1x512x64, shapeCast S1x512x64 a shapeCasts_S512x64_S1x512x64⟩, ⟨S1x512x64, shapeCast S1x512x64 b shapeCasts_S512x64_S1x512x64⟩, ⟨S1x512x64, shapeCast S1x512x64 c shapeCasts_S512x64_S1x512x64⟩, ⟨S1x512x64, shapeCast S1x512x64 d shapeCasts_S512x64_S1x512x64⟩, ⟨S1x512x64, shapeCast S1x512x64 e shapeCasts_S512x64_S1x512x64⟩, ⟨S1x512x64, shapeCast S1x512x64 f shapeCasts_S512x64_S1x512x64⟩] concatenates_S1x512x64_S1x512x64_S1x512x64_S1x512x64_S1x512x64_S1x512x64_S6x512x64_d0

theorem stack_at (a b c d e f : Qs) (h : Fin 6) (r : Fin 512) (l : Fin 64) : stack a b c d e f (ix3 h r l) = (![a, b, c, d, e, f] h : Qs) (ix2 r l) := by
  fin_cases h
  all_goals
    pointwise [stack]
    try rfl

section
variable (m0 m : IVec S384x256 1) (x y z : Qs) (kk vv : Es) (snk : Col)

theorem zone_at (b : Fin 4) (a : Fin 3) (p : Fin 128) (l : Fin 64) :
    zone m x y z kk vv snk b (ix2 ⟨a.val * 128 + p.val, by omega⟩ l)
      = ∑ j : Fin 256, SwaSpec.prob (fun j : Fin 256 => Scalar.select (m (ix2 ⟨a.val * 128 + p.val, by omega⟩ j))
          ((∑ l, (![x, y, z] a : Qs) (ix2 ⟨b.val * 128 + p.val, by omega⟩ l) * kk (ix2 ⟨b.val * 128 + j.val, by omega⟩ l)) * Attn.eighth) ⊥)
          (snk (ix2 ⟨a.val * 128 + p.val, by omega⟩ 0)) j * vv (ix2 ⟨b.val * 128 + j.val, by omega⟩ l) := by
  rw [zone, mix_at]
  simp only [scores_at, blockE_at, joinZ_at]
  have e : ∀ l, (![blockQ x b, blockQ y b, blockQ z b] a : Bs) (ix2 p l) = (![x, y, z] a : Qs) (ix2 ⟨b.val * 128 + p.val, by omega⟩ l) := by
    intro l
    fin_cases a
    all_goals exact blockQ_at _ b p l
  simp only [e]

theorem chain_at (a : Fin 3) (b : Fin 4) (p : Fin 128) (l : Fin 64) :
    chain m0 m x y z kk vv snk a (ix2 ⟨b.val * 128 + p.val, by omega⟩ l)
      = zone (if b.val = 0 then m0 else m) x y z kk vv snk b (ix2 ⟨a.val * 128 + p.val, by omega⟩ l) := by
  rw [chain, joinQ_at]
  fin_cases b
  all_goals exact partZ_at _ a p l
end

end Cert.SwaFwdIdeal.Value
end
-- ==== Proof.SwaBody.lean ====
module

public import proofs.«01_k».proof.Proof.SwaBlock
public import proofs.«01_k».proof.Proof.Gen.SwaFwdIdeal.Frame

/-! The kernel's body is the tile of the blocks. -/

@[expose] public section

set_option maxRecDepth 16384

noncomputable section

namespace Cert.SwaFwdIdeal.Value
open Idealize.ShloMosaic Idealize.ShloMosaic.TcCoe Idealize.ShloMosaic.ValueKit Idealize.SL.Sem
open Cert.SwaFwdIdeal Cert.SwaFwdIdeal.Gen
open Cert.MemIdeal.Value (Qs Ks Scale normQ normQ_at)

/-- The rows before a tile and the tile's. -/
def tall (a : Bs) (x : Qs) : Es := concatenate S640x64 0 [⟨S128x64, a⟩, ⟨S512x64, x⟩] concatenates_S128x64_S512x64_S640x64_d0

theorem tall_at (a : Bs) (x : Qs) (r : Fin 640) (l : Fin 64) :
    tall a x (ix2 r l) = if hr : r.val < 128 then a (ix2 ⟨r.val, hr⟩ l) else x (ix2 ⟨r.val - 128, by omega⟩ l) := by
  pointwise [tall]

theorem and_all : ∀ x : BitVec 1, x &&& 1#1 = x := by decide

section
variable (i : grid0.Coords) (x0 : FVec Ideal S6x512x64 .f32) (x1 : FVec Ideal S2x128x64 .f32) (x2 : FVec Ideal S2x512x64 .f32) (x3 : FVec Ideal S2x128x64 .f32) (x4 : FVec Ideal S2x512x64 .f32) (x5 : FVec Ideal S128x64 .f32) (x6 : FVec Ideal S512x64 .f32) (x7 : FVec Ideal S128x64 .f32) (x8 : FVec Ideal S512x64 .f32) (x9 : FVec Ideal S1x64 .f32) (x10 : FVec Ideal S1x64 .f32) (x11 : FVec Ideal S1x128 .f32)

/-- A head's queries, a group's keys and values, the sinks. -/
def ys (h : Fin 6) : Qs := rotQ (normQ (pickX x0 h) x9) x6 x8
@[inherit_doc ys]
def ks (g : Fin 2) : Es := rotE (normE (pickE x1 x2 g) x10) (tall x5 x6) (tall x7 x8)
@[inherit_doc ys]
def vs (g : Fin 2) : Es := pickE x3 x4 g
@[inherit_doc ys]
def sk : Col := k0_pay29 x11 (iota .tc S384x128 32 [1] iota_S384x128_d1_w32) k0_pay14
@[inherit_doc ys]
def sk2 : Col := k0_pay55 (k0_pay54 x11 (iota .tc S384x128 32 [1] iota_S384x128_d1_w32) k0_pay14)

theorem one0 : (k0_pay79 (F := Ideal) i x0 x1 x2 x3 x4 x5 x6 x7 x8 x9 x10 x11) = x0 := by unfold k0_pay79 k0_pay2; frame_out; exact shapeCast_self _ _
theorem one1 : (k0_pay80 (F := Ideal) i x0 x1 x2 x3 x4 x5 x6 x7 x8 x9 x10 x11) = x1 := by unfold k0_pay80 k0_pay3; frame_out; exact shapeCast_self _ _
theorem one2 : (k0_pay81 (F := Ideal) i x0 x1 x2 x3 x4 x5 x6 x7 x8 x9 x10 x11) = x2 := by unfold k0_pay81 k0_pay4; frame_out; exact shapeCast_self _ _
theorem one3 : (k0_pay82 (F := Ideal) i x0 x1 x2 x3 x4 x5 x6 x7 x8 x9 x10 x11) = x3 := by unfold k0_pay82 k0_pay5; frame_out; exact shapeCast_self _ _
theorem one4 : (k0_pay83 (F := Ideal) i x0 x1 x2 x3 x4 x5 x6 x7 x8 x9 x10 x11) = x4 := by unfold k0_pay83 k0_pay6; frame_out; exact shapeCast_self _ _
theorem one6 : (k0_pay84 (F := Ideal) i x0 x1 x2 x3 x4 x5 x6 x7 x8 x9 x10 x11) = x6 := by unfold k0_pay84 k0_pay7; frame_out; exact shapeCast_self _ _
theorem one8 : (k0_pay85 (F := Ideal) i x0 x1 x2 x3 x4 x5 x6 x7 x8 x9 x10 x11) = x8 := by unfold k0_pay85 k0_pay8; frame_out; exact shapeCast_self _ _
theorem one11 : (k0_pay86 (F := Ideal) i x0 x1 x2 x3 x4 x5 x6 x7 x8 x9 x10 x11) = x11 := by unfold k0_pay86 k0_pay9; frame_out; exact shapeCast_self _ _
theorem two5 : (k0_pay87 (F := Ideal) i x0 x1 x2 x3 x4 x5 x6 x7 x8 x9 x10 x11) = tall x5 x6 := by
  rw [k0_pay87]
  frame_out
  unfold k0_pay10 k0_pay7
  rw [shapeCast_self, shapeCast_self]
  rfl
theorem two7 : (k0_pay88 (F := Ideal) i x0 x1 x2 x3 x4 x5 x6 x7 x8 x9 x10 x11) = tall x7 x8 := by
  rw [k0_pay88]
  frame_out
  unfold k0_pay11 k0_pay8
  rw [shapeCast_self, shapeCast_self]
  rfl
theorem head0 : (k0_pay93 (F := Ideal) i x0 x1 x2 x3 x4 x5 x6 x7 x8 x9 x10 x11) = ys x0 x6 x8 x9 0 := by
  rw [k0_pay93, one0, one6, one8]; frame_out; rfl
theorem head1 : (k0_pay94 (F := Ideal) i x0 x1 x2 x3 x4 x5 x6 x7 x8 x9 x10 x11) = ys x0 x6 x8 x9 1 := by
  rw [k0_pay94, one0, one6, one8]; frame_out; rfl
theorem head2 : (k0_pay95 (F := Ideal) i x0 x1 x2 x3 x4 x5 x6 x7 x8 x9 x10 x11) = ys x0 x6 x8 x9 2 := by
  rw [k0_pay95, one0, one6, one8]; frame_out; rfl
theorem head3 : (k0_pay96 (F := Ideal) i x0 x1 x2 x3 x4 x5 x6 x7 x8 x9 x10 x11) = ys x0 x6 x8 x9 3 := by
  rw [k0_pay96, one0, one6, one8]; frame_out; rfl
theorem head4 : (k0_pay97 (F := Ideal) i x0 x1 x2 x3 x4 x5 x6 x7 x8 x9 x10 x11) = ys x0 x6 x8 x9 4 := by
  rw [k0_pay97, one0, one6, one8]; frame_out; rfl
theorem head5 : (k0_pay98 (F := Ideal) i x0 x1 x2 x3 x4 x5 x6 x7 x8 x9 x10 x11) = ys x0 x6 x8 x9 5 := by
  rw [k0_pay98, one0, one6, one8]; frame_out; rfl
theorem keys0 : (k0_pay99 (F := Ideal) i x0 x1 x2 x3 x4 x5 x6 x7 x8 x9 x10 x11) = ks x1 x2 x5 x6 x7 x8 x10 0 := by
  rw [k0_pay99, one1, one2, two5, two7]; frame_out; rfl
theorem keys1 : (k0_pay108 (F := Ideal) i x0 x1 x2 x3 x4 x5 x6 x7 x8 x9 x10 x11) = ks x1 x2 x5 x6 x7 x8 x10 1 := by
  rw [k0_pay108, one1, one2, two5, two7]; frame_out; rfl
theorem values0 : (k0_pay100 (F := Ideal) i x0 x1 x2 x3 x4 x5 x6 x7 x8 x9 x10 x11) = vs x3 x4 0 := by
  rw [k0_pay100, one3, one4]; rfl
theorem values1 : (k0_pay109 (F := Ideal) i x0 x1 x2 x3 x4 x5 x6 x7 x8 x9 x10 x11) = vs x3 x4 1 := by
  rw [k0_pay109, one3, one4]; rfl
theorem sinks0 : (k0_pay101 (F := Ideal) i x0 x1 x2 x3 x4 x5 x6 x7 x8 x9 x10 x11) = sk x11 := by
  rw [k0_pay101, one11]; rfl
theorem sinks1 : (k0_pay111 (F := Ideal) i x0 x1 x2 x3 x4 x5 x6 x7 x8 x9 x10 x11) = sk2 x11 := by
  rw [k0_pay111, k0_pay110, one11]; rfl
theorem first0 : k0_pay32 (k0_pay91 (F := Ideal) i x0 x1 x2 x3 x4 x5 x6 x7 x8 x9 x10 x11) (k0_pay101 (F := Ideal) i x0 x1 x2 x3 x4 x5 x6 x7 x8 x9 x10 x11) (k0_pay102 (F := Ideal) i x0 x1 x2 x3 x4 x5 x6 x7 x8 x9 x10 x11) (k0_pay103 (F := Ideal) i x0 x1 x2 x3 x4 x5 x6 x7 x8 x9 x10 x11) (Scalar.ofBits .f32 0x3E000000#32) = zone (k0_pay91 (F := Ideal) i x0 x1 x2 x3 x4 x5 x6 x7 x8 x9 x10 x11) (k0_pay93 (F := Ideal) i x0 x1 x2 x3 x4 x5 x6 x7 x8 x9 x10 x11) (k0_pay94 (F := Ideal) i x0 x1 x2 x3 x4 x5 x6 x7 x8 x9 x10 x11) (k0_pay95 (F := Ideal) i x0 x1 x2 x3 x4 x5 x6 x7 x8 x9 x10 x11) (k0_pay99 (F := Ideal) i x0 x1 x2 x3 x4 x5 x6 x7 x8 x9 x10 x11) (k0_pay100 (F := Ideal) i x0 x1 x2 x3 x4 x5 x6 x7 x8 x9 x10 x11) (k0_pay101 (F := Ideal) i x0 x1 x2 x3 x4 x5 x6 x7 x8 x9 x10 x11) 0 := by
  unfold k0_pay102 k0_pay103; rfl
theorem second0 : k0_pay38 (k0_pay104 (F := Ideal) i x0 x1 x2 x3 x4 x5 x6 x7 x8 x9 x10 x11) (k0_pay105 (F := Ideal) i x0 x1 x2 x3 x4 x5 x6 x7 x8 x9 x10 x11) = zone (k0_pay90 (F := Ideal) i x0 x1 x2 x3 x4 x5 x6 x7 x8 x9 x10 x11) (k0_pay93 (F := Ideal) i x0 x1 x2 x3 x4 x5 x6 x7 x8 x9 x10 x11) (k0_pay94 (F := Ideal) i x0 x1 x2 x3 x4 x5 x6 x7 x8 x9 x10 x11) (k0_pay95 (F := Ideal) i x0 x1 x2 x3 x4 x5 x6 x7 x8 x9 x10 x11) (k0_pay99 (F := Ideal) i x0 x1 x2 x3 x4 x5 x6 x7 x8 x9 x10 x11) (k0_pay100 (F := Ideal) i x0 x1 x2 x3 x4 x5 x6 x7 x8 x9 x10 x11) (k0_pay101 (F := Ideal) i x0 x1 x2 x3 x4 x5 x6 x7 x8 x9 x10 x11) 1 := by
  unfold k0_pay104 k0_pay105; rfl
theorem third0 : k0_pay42 (k0_pay90 (F := Ideal) i x0 x1 x2 x3 x4 x5 x6 x7 x8 x9 x10 x11) (k0_pay93 (F := Ideal) i x0 x1 x2 x3 x4 x5 x6 x7 x8 x9 x10 x11) (k0_pay94 (F := Ideal) i x0 x1 x2 x3 x4 x5 x6 x7 x8 x9 x10 x11) (k0_pay95 (F := Ideal) i x0 x1 x2 x3 x4 x5 x6 x7 x8 x9 x10 x11) (k0_pay99 (F := Ideal) i x0 x1 x2 x3 x4 x5 x6 x7 x8 x9 x10 x11) (k0_pay100 (F := Ideal) i x0 x1 x2 x3 x4 x5 x6 x7 x8 x9 x10 x11) (k0_pay101 (F := Ideal) i x0 x1 x2 x3 x4 x5 x6 x7 x8 x9 x10 x11) = zone (k0_pay90 (F := Ideal) i x0 x1 x2 x3 x4 x5 x6 x7 x8 x9 x10 x11) (k0_pay93 (F := Ideal) i x0 x1 x2 x3 x4 x5 x6 x7 x8 x9 x10 x11) (k0_pay94 (F := Ideal) i x0 x1 x2 x3 x4 x5 x6 x7 x8 x9 x10 x11) (k0_pay95 (F := Ideal) i x0 x1 x2 x3 x4 x5 x6 x7 x8 x9 x10 x11) (k0_pay99 (F := Ideal) i x0 x1 x2 x3 x4 x5 x6 x7 x8 x9 x10 x11) (k0_pay100 (F := Ideal) i x0 x1 x2 x3 x4 x5 x6 x7 x8 x9 x10 x11) (k0_pay101 (F := Ideal) i x0 x1 x2 x3 x4 x5 x6 x7 x8 x9 x10 x11) 2 := by
  rfl
theorem fourth0 : k0_pay48 (k0_pay101 (F := Ideal) i x0 x1 x2 x3 x4 x5 x6 x7 x8 x9 x10 x11) (k0_pay106 (F := Ideal) i x0 x1 x2 x3 x4 x5 x6 x7 x8 x9 x10 x11) (k0_pay107 (F := Ideal) i x0 x1 x2 x3 x4 x5 x6 x7 x8 x9 x10 x11) = zone (k0_pay90 (F := Ideal) i x0 x1 x2 x3 x4 x5 x6 x7 x8 x9 x10 x11) (k0_pay93 (F := Ideal) i x0 x1 x2 x3 x4 x5 x6 x7 x8 x9 x10 x11) (k0_pay94 (F := Ideal) i x0 x1 x2 x3 x4 x5 x6 x7 x8 x9 x10 x11) (k0_pay95 (F := Ideal) i x0 x1 x2 x3 x4 x5 x6 x7 x8 x9 x10 x11) (k0_pay99 (F := Ideal) i x0 x1 x2 x3 x4 x5 x6 x7 x8 x9 x10 x11) (k0_pay100 (F := Ideal) i x0 x1 x2 x3 x4 x5 x6 x7 x8 x9 x10 x11) (k0_pay101 (F := Ideal) i x0 x1 x2 x3 x4 x5 x6 x7 x8 x9 x10 x11) 3 := by
  unfold k0_pay106 k0_pay107; rfl
theorem first1 : k0_pay56 (k0_pay91 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay110 (F := Ideal) i x0 x1 x2 x3 x4 x5 x6 x7 x8 x9 x10 x11) = zone (k0_pay91 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay111 (F := Ideal) i x0 x1 x2 x3 x4 x5 x6 x7 x8 x9 x10 x11) 0 := by
  unfold k0_pay111; rfl
theorem second1 : k0_pay63 (k0_pay111 (F := Ideal) i x0 x1 x2 x3 x4 x5 x6 x7 x8 x9 x10 x11) (k0_pay112 (F := Ideal) i x0 x1 x2 x3 x4 x5 x6 x7 x8 x9 x10 x11) (k0_pay113 (F := Ideal) i x0 x1 x2 x3 x4 x5 x6 x7 x8 x9 x10 x11) (k0_pay114 (F := Ideal) i x0 x1 x2 x3 x4 x5 x6 x7 x8 x9 x10 x11) = zone (k0_pay90 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay111 (F := Ideal) i x0 x1 x2 x3 x4 x5 x6 x7 x8 x9 x10 x11) 1 := by
  unfold k0_pay112 k0_pay113 k0_pay114; rfl
theorem third1 : k0_pay67 (k0_pay90 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay111 (F := Ideal) i x0 x1 x2 x3 x4 x5 x6 x7 x8 x9 x10 x11) = zone (k0_pay90 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay111 (F := Ideal) i x0 x1 x2 x3 x4 x5 x6 x7 x8 x9 x10 x11) 2 := by
  rfl
theorem fourth1 : (k0_pay115 (F := Ideal) i x0 x1 x2 x3 x4 x5 x6 x7 x8 x9 x10 x11) = zone (k0_pay90 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay111 (F := Ideal) i x0 x1 x2 x3 x4 x5 x6 x7 x8 x9 x10 x11) 3 := by
  unfold k0_pay115; rfl

/-- The body's output. -/
theorem out_pieces : out0_12 (F := Ideal) i x0 x1 x2 x3 x4 x5 x6 x7 x8 x9 x10 x11
    = stack (chain (k0_pay91 (F := Ideal) i x0 x1 x2 x3 x4 x5 x6 x7 x8 x9 x10 x11) (k0_pay90 (F := Ideal) i x0 x1 x2 x3 x4 x5 x6 x7 x8 x9 x10 x11) (k0_pay93 (F := Ideal) i x0 x1 x2 x3 x4 x5 x6 x7 x8 x9 x10 x11) (k0_pay94 (F := Ideal) i x0 x1 x2 x3 x4 x5 x6 x7 x8 x9 x10 x11) (k0_pay95 (F := Ideal) i x0 x1 x2 x3 x4 x5 x6 x7 x8 x9 x10 x11) (k0_pay99 (F := Ideal) i x0 x1 x2 x3 x4 x5 x6 x7 x8 x9 x10 x11) (k0_pay100 (F := Ideal) i x0 x1 x2 x3 x4 x5 x6 x7 x8 x9 x10 x11) (k0_pay101 (F := Ideal) i x0 x1 x2 x3 x4 x5 x6 x7 x8 x9 x10 x11) 0) (chain (k0_pay91 (F := Ideal) i x0 x1 x2 x3 x4 x5 x6 x7 x8 x9 x10 x11) (k0_pay90 (F := Ideal) i x0 x1 x2 x3 x4 x5 x6 x7 x8 x9 x10 x11) (k0_pay93 (F := Ideal) i x0 x1 x2 x3 x4 x5 x6 x7 x8 x9 x10 x11) (k0_pay94 (F := Ideal) i x0 x1 x2 x3 x4 x5 x6 x7 x8 x9 x10 x11) (k0_pay95 (F := Ideal) i x0 x1 x2 x3 x4 x5 x6 x7 x8 x9 x10 x11) (k0_pay99 (F := Ideal) i x0 x1 x2 x3 x4 x5 x6 x7 x8 x9 x10 x11) (k0_pay100 (F := Ideal) i x0 x1 x2 x3 x4 x5 x6 x7 x8 x9 x10 x11) (k0_pay101 (F := Ideal) i x0 x1 x2 x3 x4 x5 x6 x7 x8 x9 x10 x11) 1) (chain (k0_pay91 (F := Ideal) i x0 x1 x2 x3 x4 x5 x6 x7 x8 x9 x10 x11) (k0_pay90 (F := Ideal) i x0 x1 x2 x3 x4 x5 x6 x7 x8 x9 x10 x11) (k0_pay93 (F := Ideal) i x0 x1 x2 x3 x4 x5 x6 x7 x8 x9 x10 x11) (k0_pay94 (F := Ideal) i x0 x1 x2 x3 x4 x5 x6 x7 x8 x9 x10 x11) (k0_pay95 (F := Ideal) i x0 x1 x2 x3 x4 x5 x6 x7 x8 x9 x10 x11) (k0_pay99 (F := Ideal) i x0 x1 x2 x3 x4 x5 x6 x7 x8 x9 x10 x11) (k0_pay100 (F := Ideal) i x0 x1 x2 x3 x4 x5 x6 x7 x8 x9 x10 x11) (k0_pay101 (F := Ideal) i x0 x1 x2 x3 x4 x5 x6 x7 x8 x9 x10 x11) 2)
      (chain (k0_pay91 (F := Ideal) i x0 x1 x2 x3 x4 x5 x6 x7 x8 x9 x10 x11) (k0_pay90 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay111 (F := Ideal) i x0 x1 x2 x3 x4 x5 x6 x7 x8 x9 x10 x11) 0) (chain (k0_pay91 (F := Ideal) i x0 x1 x2 x3 x4 x5 x6 x7 x8 x9 x10 x11) (k0_pay90 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay111 (F := Ideal) i x0 x1 x2 x3 x4 x5 x6 x7 x8 x9 x10 x11) 1) (chain (k0_pay91 (F := Ideal) i x0 x1 x2 x3 x4 x5 x6 x7 x8 x9 x10 x11) (k0_pay90 (F := Ideal) i x0 x1 x2 x3 x4 x5 x6 x7 x8 x9 x10 x11) (k0_pay96 (F := Ideal) i x0 x1 x2 x3 x4 x5 x6 x7 x8 x9 x10 x11) (k0_pay97 (F := Ideal) i x0 x1 x2 x3 x4 x5 x6 x7 x8 x9 x10 x11) (k0_pay98 (F := Ideal) i x0 x1 x2 x3 x4 x5 x6 x7 x8 x9 x10 x11) (k0_pay108 (F := Ideal) i x0 x1 x2 x3 x4 x5 x6 x7 x8 x9 x10 x11) (k0_pay109 (F := Ideal) i x0 x1 x2 x3 x4 x5 x6 x7 x8 x9 x10 x11) (k0_pay111 (F := Ideal) i x0 x1 x2 x3 x4 x5 x6 x7 x8 x9 x10 x11) 2) := by
  unfold out0_12
  frame_out
  unfold chain
  simp only [← first0, ← second0, ← third0, ← fourth0, ← first1, ← second1, ← third1, ← fourth1]
  rfl

/-- The heads of the first and of the second group of keys, and a tile's output from the blocks the body reads. -/
def group0 (a : Fin 3) : Qs :=
  chain (k0_pay13 (k0_pay1 (F := Ideal) i) rowNo colNo) (k0_pay12 rowNo colNo) (ys x0 x6 x8 x9 0) (ys x0 x6 x8 x9 1) (ys x0 x6 x8 x9 2) (ks x1 x2 x5 x6 x7 x8 x10 0) (vs x3 x4 0) (sk x11) a
@[inherit_doc group0]
def group1 (a : Fin 3) : Qs :=
  chain (k0_pay13 (k0_pay1 (F := Ideal) i) rowNo colNo) (k0_pay12 rowNo colNo) (ys x0 x6 x8 x9 3) (ys x0 x6 x8 x9 4) (ys x0 x6 x8 x9 5) (ks x1 x2 x5 x6 x7 x8 x10 1) (vs x3 x4 1) (sk2 x11) a
@[inherit_doc group0]
def tile : FVec Ideal S6x512x64 .f32 :=
  let g := group0 i x0 x1 x2 x3 x4 x5 x6 x7 x8 x9 x10 x11
  let k := group1 i x0 x1 x2 x3 x4 x5 x6 x7 x8 x9 x10 x11
  stack (g 0) (g 1) (g 2) (k 0) (k 1) (k 2)

theorem out_eq : out0_12 (F := Ideal) i x0 x1 x2 x3 x4 x5 x6 x7 x8 x9 x10 x11 = tile i x0 x1 x2 x3 x4 x5 x6 x7 x8 x9 x10 x11 := by
  rw [out_pieces, head0, head1, head2, head3, head4, head5, keys0, keys1, values0, values1, sinks0, sinks1]
  rfl

/-- A row of a chain: every block's mask is the window's. -/
theorem masked_at (x y z : Qs) (kk vv : Es) (snk : Col) (a : Fin 3) (b : Fin 4) (p : Fin 128) (l : Fin 64) :
    chain (k0_pay13 (k0_pay1 (F := Ideal) i) rowNo colNo) (k0_pay12 rowNo colNo) x y z kk vv snk a (ix2 ⟨b.val * 128 + p.val, by omega⟩ l)
      = ∑ j : Fin 256, SwaSpec.prob (fun j : Fin 256 => Scalar.select (SwaSpec.near p j &&& SwaSpec.has ⟨4 * (i 0).val + b.val, by have : (i 0).val < 16 := (i 0).isLt; omega⟩ j)
          ((∑ l, (![x, y, z] a : Qs) (ix2 ⟨b.val * 128 + p.val, by omega⟩ l) * kk (ix2 ⟨b.val * 128 + j.val, by omega⟩ l)) * Attn.eighth) ⊥)
          (snk (ix2 ⟨a.val * 128 + p.val, by omega⟩ 0)) j * vv (ix2 ⟨b.val * 128 + j.val, by omega⟩ l) := by
  have hi : (i 0).val < 16 := (i 0).isLt
  have hm : ∀ j : Fin 256, (if b.val = 0 then k0_pay13 (k0_pay1 (F := Ideal) i) rowNo colNo else k0_pay12 rowNo colNo) (ix2 ⟨a.val * 128 + p.val, by omega⟩ j)
      = SwaSpec.near p j &&& SwaSpec.has ⟨4 * (i 0).val + b.val, by omega⟩ j := by
    intro j
    by_cases hb : b.val = 0
    · rw [if_pos hb]
      exact first_at i _ (by simp [hb]) a p j
    · rw [if_neg hb, band_at, later _ (by simp only []; omega)]
      exact (and_all _).symm
  rw [chain_at, zone_at]
  simp only [hm]

/-- One entry of a tile: head, block, row of the block, column. -/
theorem tile_at (h : Fin 6) (b : Fin 4) (p : Fin 128) (l : Fin 64) :
    tile i x0 x1 x2 x3 x4 x5 x6 x7 x8 x9 x10 x11 (ix3 h ⟨b.val * 128 + p.val, by omega⟩ l)
      = ∑ j : Fin 256, SwaSpec.prob (fun j : Fin 256 => Scalar.select (SwaSpec.near p j &&& SwaSpec.has ⟨4 * (i 0).val + b.val, by have : (i 0).val < 16 := (i 0).isLt; omega⟩ j)
          ((∑ l, ys x0 x6 x8 x9 h (ix2 ⟨b.val * 128 + p.val, by omega⟩ l) * ks x1 x2 x5 x6 x7 x8 x10 ⟨h.val / 3, by omega⟩ (ix2 ⟨b.val * 128 + j.val, by omega⟩ l)) * Attn.eighth) ⊥)
          (x11 (ix2 0 ⟨h.val, by omega⟩)) j * vs x3 x4 ⟨h.val / 3, by omega⟩ (ix2 ⟨b.val * 128 + j.val, by omega⟩ l) := by
  refine (stack_at _ _ _ _ _ _ h _ l).trans ?_
  fin_cases h
  · refine (masked_at i _ _ _ _ _ _ 0 b p l).trans ?_
    rw [sk, sink_at]; rfl
  · refine (masked_at i _ _ _ _ _ _ 1 b p l).trans ?_
    rw [sk, sink_at]; rfl
  · refine (masked_at i _ _ _ _ _ _ 2 b p l).trans ?_
    rw [sk, sink_at]; rfl
  · refine (masked_at i _ _ _ _ _ _ 0 b p l).trans ?_
    rw [sk2, sink2_at]; rfl
  · refine (masked_at i _ _ _ _ _ _ 1 b p l).trans ?_
    rw [sk2, sink2_at]; rfl
  · refine (masked_at i _ _ _ _ _ _ 2 b p l).trans ?_
    rw [sk2, sink2_at]; rfl
end

end Cert.SwaFwdIdeal.Value
end
-- ==== Proof.SwaFwdValue.lean ====
module

public import proofs.«01_k».proof.Proof.SwaBody

/-! The value of the sliding-window attention's kernel. -/

@[expose] public section

set_option maxRecDepth 16384

noncomputable section

namespace Cert.SwaFwdIdeal.Value
open Idealize.ShloMosaic Idealize.ShloMosaic.TcCoe Idealize.ShloMosaic.ValueKit Idealize.SL.Sem
open Cert.SwaFwdIdeal Cert.SwaFwdIdeal.Gen

variable (m : (ℓ : Loc nD τ sig) → Buf (Elt Ideal) ℓ)

theorem idx : ∀ t : Fin cfg0.N, win0_0.index t = ![0, t.val, 0] ∧ win0_1.index t = ![0, 4 * t.val - 1, 0] ∧ win0_2.index t = ![0, t.val, 0]
    ∧ win0_3.index t = ![0, 4 * t.val - 1, 0] ∧ win0_4.index t = ![0, t.val, 0] ∧ win0_5.index t = ![4 * t.val - 1, 0] ∧ win0_6.index t = ![t.val, 0]
    ∧ win0_7.index t = ![4 * t.val - 1, 0] ∧ win0_8.index t = ![t.val, 0] ∧ win0_9.index t = ![0, 0] ∧ win0_10.index t = ![0, 0]
    ∧ win0_11.index t = ![0, 0] ∧ win0_12.index t = ![0, t.val, 0] :=
  (by decide +kernel : ∀ t : Fin grid0.N, _)

/-- The grid point's number, a tile's token, a token of the block before, and the two together. -/
def pt (t : Fin cfg0.N) : Fin 16 := ⟨t.val, lt_of_lt_of_eq t.isLt N_0⟩
@[inherit_doc pt]
def cur (t : Fin 16) (r : Fin 512) : Fin 8192 := ⟨t.val * 512 + r.val, by omega⟩
@[inherit_doc pt]
def past (t : Fin 16) (p : Fin 128) : Fin 8192 := ⟨(4 * t.val - 1) * 128 + p.val, by omega⟩
@[inherit_doc pt]
def tok (t : Fin 16) (r : Fin 640) : Fin 8192 := if hr : r.val < 128 then past t ⟨r.val, hr⟩ else cur t ⟨r.val - 128, by omega⟩

/-- The signed sine of a token at a column. -/
def sign (pos : SwaSpec.Pos) (r : Fin 8192) (l : Fin 64) : EReal :=
  if l.val < 32 then -Ideal.sin (SwaSpec.angle pos r (SwaSpec.half l)) else Ideal.sin (SwaSpec.angle pos r (SwaSpec.half l))

/-- A column's frequency, and the columns of the first half. -/
theorem freq_at (l : Fin 64) :
    (if h : l.val < 32 then
        Ideal.pow (Ideal.ofBits FTy.f32 1176256512#32)
          (Ideal.div (-(Ideal.ofBits FTy.f32 1073741824#32 * FloatOps.sitofp (F := Ideal) FTy.f32 (BitVec.ofNat 32 l.val))) (Ideal.ofBits FTy.f32 1115684864#32))
      else
        Ideal.pow (Ideal.ofBits FTy.f32 1176256512#32)
          (Ideal.div (-(Ideal.ofBits FTy.f32 1073741824#32 * FloatOps.sitofp (F := Ideal) FTy.f32 (BitVec.ofNat 32 (l.val - 32)))) (Ideal.ofBits FTy.f32 1115684864#32)))
      = SwaSpec.freq (SwaSpec.half l) := by
  split_ifs with h
  · have e : SwaSpec.half l = ⟨l.val, h⟩ := Fin.ext (by simp only [SwaSpec.half]; omega)
    rw [e]
    rfl
  · have e : SwaSpec.half l = ⟨l.val - 32, by omega⟩ := Fin.ext (by simp only [SwaSpec.half]; omega)
    rw [e]
    rfl

theorem low' : ∀ l : Fin 64, IntOp.cmpi .slt (BitVec.ofNat 32 l.val) 32#32 = BitVec.ofBool (decide (l.val < 32)) := by decide

@[inherit_doc freq_at]
theorem low (l : Fin 64) (a b : EReal) : Scalar.select (IntOp.cmpi .slt (BitVec.ofNat 32 l.val) 32#32) a b = if l.val < 32 then a else b := by
  rw [low']
  by_cases h : l.val < 32 <;> simp [h, Scalar.select]

theorem padded (x : FVec Ideal S1x6 .f32) (z : FVec Ideal S_ .f32) (h : Fin 6) :
    pad S1x128 ![0, 0] ![0, 122] ![0, 0] x z pads_S1x6_S1x128_000_01220 h_S_ (ix2 0 ⟨h.val, by omega⟩) = x (ix2 0 h) := by
  pointwise

theorem arr_q (c : Dev nD) (h : Fin 6) (r : Fin 8192) (l : Fin 64) : V m c main_v26 (ix3 h r l) = (m (c.tc.loc main_arg0)) (ix2 r ⟨h.val * 64 + l.val, by omega⟩) := by
  simp only [V, V0, List.flatten, List.append_eq, List.cons_append, List.nil_append, List.append_nil]
  after_results
  pointwise

theorem arr_k (c : Dev nD) (h : Fin 2) (r : Fin 8192) (l : Fin 64) : V m c main_v28 (ix3 h r l) = (m (c.tc.loc main_arg1)) (ix2 r ⟨h.val * 64 + l.val, by omega⟩) := by
  simp only [V, V0, List.flatten, List.append_eq, List.cons_append, List.nil_append, List.append_nil]
  after_results
  pointwise

theorem arr_v (c : Dev nD) (h : Fin 2) (r : Fin 8192) (l : Fin 64) : V m c main_v30 (ix3 h r l) = (m (c.tc.loc main_arg2)) (ix2 r ⟨h.val * 64 + l.val, by omega⟩) := by
  simp only [V, V0, List.flatten, List.append_eq, List.cons_append, List.nil_append, List.append_nil]
  after_results
  pointwise

theorem arr_c (c : Dev nD) (r : Fin 8192) (l : Fin 64) : V m c main_v16 (ix2 r l) = Ideal.cos (SwaSpec.angle (m (c.tc.loc main_arg3)) r (SwaSpec.half l)) := by
  simp only [V, V0, List.flatten, List.append_eq, List.cons_append, List.nil_append, List.append_nil]
  after_results
  pointwise
  rw [freq_at]
  rfl

theorem arr_s (c : Dev nD) (r : Fin 8192) (l : Fin 64) : V m c main_v24 (ix2 r l) = sign (m (c.tc.loc main_arg3)) r l := by
  simp only [V, V0, List.flatten, List.append_eq, List.cons_append, List.nil_append, List.append_nil]
  after_results
  pointwise
  simp only [StableHlo.TRef.toBuf, StableHlo.TRef.ofBuf, cast_eq]
  pointwise
  rw [freq_at, low]
  rfl

theorem arr_z (c : Dev nD) (h : Fin 6) : V m c main_v31 (ix2 0 ⟨h.val, by omega⟩) = (m (c.tc.loc main_arg6)) (ix2 0 h) := by
  simp only [V, V0, List.flatten, List.append_eq, List.cons_append, List.nil_append, List.append_nil]
  after_results
  pointwise
  simp only [StableHlo.TRef.toBuf, StableHlo.TRef.ofBuf, cast_eq]
  exact padded _ _ h

theorem blk_q (c : Dev nD) (t : Fin cfg0.N) (h : Fin 6) (r : Fin 512) (l : Fin 64) : iblk m c 0 t (ix3 h r l) = (m (c.tc.loc main_arg0)) (ix2 (cur (pt t) r) ⟨h.val * 64 + l.val, by omega⟩) := by
  refine Eq.trans (b := V m c main_v26 (ix3 h (cur (pt t) r) l)) ?_ (arr_q m c h _ l)
  blk_point [iblk, idx t, cur, past, pt]

theorem blk_kp (c : Dev nD) (t : Fin cfg0.N) (h : Fin 2) (r : Fin 128) (l : Fin 64) : iblk m c 1 t (ix3 h r l) = (m (c.tc.loc main_arg1)) (ix2 (past (pt t) r) ⟨h.val * 64 + l.val, by omega⟩) := by
  refine Eq.trans (b := V m c main_v28 (ix3 h (past (pt t) r) l)) ?_ (arr_k m c h _ l)
  blk_point [iblk, idx t, cur, past, pt]

theorem blk_k (c : Dev nD) (t : Fin cfg0.N) (h : Fin 2) (r : Fin 512) (l : Fin 64) : iblk m c 2 t (ix3 h r l) = (m (c.tc.loc main_arg1)) (ix2 (cur (pt t) r) ⟨h.val * 64 + l.val, by omega⟩) := by
  refine Eq.trans (b := V m c main_v28 (ix3 h (cur (pt t) r) l)) ?_ (arr_k m c h _ l)
  blk_point [iblk, idx t, cur, past, pt]

theorem blk_vp (c : Dev nD) (t : Fin cfg0.N) (h : Fin 2) (r : Fin 128) (l : Fin 64) : iblk m c 3 t (ix3 h r l) = (m (c.tc.loc main_arg2)) (ix2 (past (pt t) r) ⟨h.val * 64 + l.val, by omega⟩) := by
  refine Eq.trans (b := V m c main_v30 (ix3 h (past (pt t) r) l)) ?_ (arr_v m c h _ l)
  blk_point [iblk, idx t, cur, past, pt]

theorem blk_v (c : Dev nD) (t : Fin cfg0.N) (h : Fin 2) (r : Fin 512) (l : Fin 64) : iblk m c 4 t (ix3 h r l) = (m (c.tc.loc main_arg2)) (ix2 (cur (pt t) r) ⟨h.val * 64 + l.val, by omega⟩) := by
  refine Eq.trans (b := V m c main_v30 (ix3 h (cur (pt t) r) l)) ?_ (arr_v m c h _ l)
  blk_point [iblk, idx t, cur, past, pt]

theorem blk_cp (c : Dev nD) (t : Fin cfg0.N) (r : Fin 128) (l : Fin 64) : iblk m c 5 t (ix2 r l) = Ideal.cos (SwaSpec.angle (m (c.tc.loc main_arg3)) (past (pt t) r) (SwaSpec.half l)) := by
  refine Eq.trans (b := V m c main_v16 (ix2 (past (pt t) r) l)) ?_ (arr_c m c _ l)
  blk_point [iblk, idx t, cur, past, pt]

theorem blk_c (c : Dev nD) (t : Fin cfg0.N) (r : Fin 512) (l : Fin 64) : iblk m c 6 t (ix2 r l) = Ideal.cos (SwaSpec.angle (m (c.tc.loc main_arg3)) (cur (pt t) r) (SwaSpec.half l)) := by
  refine Eq.trans (b := V m c main_v16 (ix2 (cur (pt t) r) l)) ?_ (arr_c m c _ l)
  blk_point [iblk, idx t, cur, past, pt]

theorem blk_sp (c : Dev nD) (t : Fin cfg0.N) (r : Fin 128) (l : Fin 64) : iblk m c 7 t (ix2 r l) = sign (m (c.tc.loc main_arg3)) (past (pt t) r) l := by
  refine Eq.trans (b := V m c main_v24 (ix2 (past (pt t) r) l)) ?_ (arr_s m c _ l)
  blk_point [iblk, idx t, cur, past, pt]

theorem blk_s (c : Dev nD) (t : Fin cfg0.N) (r : Fin 512) (l : Fin 64) : iblk m c 8 t (ix2 r l) = sign (m (c.tc.loc main_arg3)) (cur (pt t) r) l := by
  refine Eq.trans (b := V m c main_v24 (ix2 (cur (pt t) r) l)) ?_ (arr_s m c _ l)
  blk_point [iblk, idx t, cur, past, pt]

theorem blk_gq (c : Dev nD) (t : Fin cfg0.N) (l : Fin 64) : iblk m c 9 t (ix2 0 l) = (m (c.tc.loc main_arg4)) (ix2 0 l) := by
  blk_point [iblk, V, V0, idx t]

theorem blk_gk (c : Dev nD) (t : Fin cfg0.N) (l : Fin 64) : iblk m c 10 t (ix2 0 l) = (m (c.tc.loc main_arg5)) (ix2 0 l) := by
  blk_point [iblk, V, V0, idx t]

theorem blk_z (c : Dev nD) (t : Fin cfg0.N) (h : Fin 6) : iblk m c 11 t (ix2 0 ⟨h.val, by omega⟩) = (m (c.tc.loc main_arg6)) (ix2 0 h) := by
  refine Eq.trans (b := V m c main_v31 (ix2 0 ⟨h.val, by omega⟩)) ?_ (arr_z m c h)
  blk_point [iblk, idx t]

theorem out_at (t : Fin cfg0.N) (h : Fin 6) (r : Fin 512) (l : Fin 64) :
    ((View.whole main_v32).slice (win0_12.rect t)).emb (ix3 h r l) = ix3 h (cur (pt t) r) l := by
  blk_ext [idx t, cur, pt]

/-! ## The tiles -/

theorem ys_at (c : Dev nD) (t : Fin cfg0.N) (h : Fin 6) (r : Fin 512) (l : Fin 64) :
    ys (iblk m c 0 t) (iblk m c 6 t) (iblk m c 8 t) (iblk m c 9 t) h (ix2 r l) = SwaSpec.query (m (c.tc.loc main_arg0)) (m (c.tc.loc main_arg3)) (m (c.tc.loc main_arg4)) h (cur (pt t) r) l := by
  rw [ys, rotQ_at]
  simp only [Cert.MemIdeal.Value.normQ_at, pickX_at, blk_q, blk_c, blk_s, blk_gq]
  rfl

theorem ks_at (c : Dev nD) (t : Fin cfg0.N) (g : Fin 2) (r : Fin 640) (l : Fin 64) :
    ks (iblk m c 1 t) (iblk m c 2 t) (iblk m c 5 t) (iblk m c 6 t) (iblk m c 7 t) (iblk m c 8 t) (iblk m c 10 t) g (ix2 r l)
      = SwaSpec.key (m (c.tc.loc main_arg1)) (m (c.tc.loc main_arg3)) (m (c.tc.loc main_arg5)) g (tok (pt t) r) l := by
  rw [ks, rotE_at]
  by_cases hr : r.val < 128
  all_goals
    simp only [normE_at, pickE_at, tall_at, tok, hr, dite_true, dite_false, blk_k, blk_kp, blk_c, blk_cp, blk_s, blk_sp, blk_gk]
    rfl

theorem vs_at (c : Dev nD) (t : Fin cfg0.N) (g : Fin 2) (r : Fin 640) (l : Fin 64) :
    vs (iblk m c 3 t) (iblk m c 4 t) g (ix2 r l) = SwaSpec.value (m (c.tc.loc main_arg2)) g (tok (pt t) r) l := by
  rw [vs]
  by_cases hr : r.val < 128
  all_goals
    simp only [pickE_at, tok, hr, dite_true, dite_false, blk_v, blk_vp]
    rfl

theorem coord : ∀ t : Fin cfg0.N, (grid0.coords t 0).val = t.val := (by decide +kernel : ∀ t : Fin grid0.N, _)

theorem tok_there (t : Fin 16) (b : Fin 4) (j : Fin 256) (h : 4 * t.val + b.val ≠ 0 ∨ 128 ≤ j.val) :
    tok t ⟨b.val * 128 + j.val, by omega⟩ = SwaSpec.there ⟨4 * t.val + b.val, by omega⟩ j := by
  unfold tok
  split_ifs with hr
  all_goals
    refine Fin.ext ?_
    simp only [past, cur, SwaSpec.there] at hr ⊢
    omega

theorem tile_val (c : Dev nD) (t : Fin cfg0.N) (h : Fin 6) (b : Fin 4) (p : Fin 128) (l : Fin 64) :
    tile (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 h ⟨b.val * 128 + p.val, by omega⟩ l)
      = SwaSpec.att (m (c.tc.loc main_arg0)) (m (c.tc.loc main_arg1)) (m (c.tc.loc main_arg2)) (m (c.tc.loc main_arg3)) (m (c.tc.loc main_arg4)) (m (c.tc.loc main_arg5)) (m (c.tc.loc main_arg6)) ⟨4 * (pt t).val + b.val, by omega⟩ h p l := by
  rw [tile_at]
  simp only [ys_at, ks_at, vs_at, blk_z, coord]
  refine Eq.trans ?_ (SwaSpec.att_of (m (c.tc.loc main_arg0)) (m (c.tc.loc main_arg1)) (m (c.tc.loc main_arg2)) (m (c.tc.loc main_arg3)) (m (c.tc.loc main_arg4)) (m (c.tc.loc main_arg5)) (m (c.tc.loc main_arg6)) ⟨4 * (pt t).val + b.val, by omega⟩ h p l
    (fun j => SwaSpec.key (m (c.tc.loc main_arg1)) (m (c.tc.loc main_arg3)) (m (c.tc.loc main_arg5)) ⟨h.val / 3, by omega⟩ (tok (pt t) ⟨b.val * 128 + j.val, by omega⟩))
    (fun j => SwaSpec.value (m (c.tc.loc main_arg2)) ⟨h.val / 3, by omega⟩ (tok (pt t) ⟨b.val * 128 + j.val, by omega⟩))
    (fun j hj => by rw [tok_there _ _ _ hj]) (fun j hj => by rw [tok_there _ _ _ hj]) ?_)
  · have e : cur (pt t) ⟨b.val * 128 + p.val, by omega⟩ = SwaSpec.here ⟨4 * (pt t).val + b.val, by omega⟩ p := Fin.ext (by
      simp only [cur, SwaSpec.here]; omega)
    rw [e]
    rfl
  · intro h0 j
    refine congrArg (SwaSpec.value _ _) ?_
    simp only [] at h0
    have hb : b.val = 0 := by omega
    have ht : (pt t).val = 0 := by omega
    simp only [tok, past, cur, hb, ht]
    split_ifs
    all_goals first | omega | (refine Fin.ext ?_; dsimp only; omega)

theorem entry (c : Dev nD) (t : Fin cfg0.N) (h : Fin 6) (r : Fin 512) (l : Fin 64) :
    tile (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 h r l) = SwaSpec.atr (m (c.tc.loc main_arg0)) (m (c.tc.loc main_arg1)) (m (c.tc.loc main_arg2)) (m (c.tc.loc main_arg3)) (m (c.tc.loc main_arg4)) (m (c.tc.loc main_arg5)) (m (c.tc.loc main_arg6)) h (cur (pt t) r) l := by
  have e : r = ⟨(⟨r.val / 128, by omega⟩ : Fin 4).val * 128 + (⟨r.val % 128, by omega⟩ : Fin 128).val, by dsimp only; omega⟩ := Fin.ext (by dsimp only; omega)
  have en : (⟨4 * (pt t).val + r.val / 128, by omega⟩ : Fin 64) = ⟨(cur (pt t) r).val / 128, by omega⟩ := Fin.ext (by simp only [cur]; omega)
  have ep : (⟨r.val % 128, by omega⟩ : Fin 128) = ⟨(cur (pt t) r).val % 128, by omega⟩ := Fin.ext (by simp only [cur]; omega)
  have w := tile_val m c t h ⟨r.val / 128, by omega⟩ ⟨r.val % 128, by omega⟩ l
  rw [← e] at w
  rw [w, SwaSpec.atr, ← en, ← ep]

/-! ## The result -/

theorem final_att (c : Dev nD) : (dats m 0 c).arrAt 12 (cfgs 0).N
    = fun i => SwaSpec.atr (m (c.tc.loc main_arg0)) (m (c.tc.loc main_arg1)) (m (c.tc.loc main_arg2)) (m (c.tc.loc main_arg3)) (m (c.tc.loc main_arg4)) (m (c.tc.loc main_arg5)) (m (c.tc.loc main_arg6)) (i 0) (i 1) (i 2) := by
  refine (dats m 0 c).arrAt_eq_of_covers 12 _ (by decide +kernel) fun t _ y => ?_
  blk_simp
  idx_vars y
  rw [after0_12, out_at, out_eq]
  exact entry m c t y0 y1 y2

theorem res_att (c : Dev nD) :
    Pipeline.afterTail₀ cfgs (dats m) 0 (V0 m) [hostOps1] c main_v34
      = fun i => SwaSpec.attm (m (c.tc.loc main_arg0)) (m (c.tc.loc main_arg1)) (m (c.tc.loc main_arg2)) (m (c.tc.loc main_arg3)) (m (c.tc.loc main_arg4)) (m (c.tc.loc main_arg5)) (m (c.tc.loc main_arg6)) (i 0) (i 1) := by
  unfold Pipeline.afterTail₀
  show StableHlo.after hostOps1 _ _ = _
  after_results
  erw [Pipeline.Dat.withArrays_arrAt (dats m 0 c) launch₀0.sharedIn (V0 m c) (A_eq m c) 12, final_att]
  funext i
  idx_vars i
  pointwise
  rfl

/-- The kernel's run, its result read entry by entry. -/
theorem run_spec (ρ : Dev nD → PrngReg) :
    θ_run defs (onTc (τ := τ) (main (F := Ideal))) ⟨m, fun _ => 0, ρ⟩ fun r => ∀ c : Dev nD,
      r.2.mem (c.tc.loc main_v34) = (fun i => SwaSpec.attm (m (c.tc.loc main_arg0)) (m (c.tc.loc main_arg1)) (m (c.tc.loc main_arg2)) (m (c.tc.loc main_arg3)) (m (c.tc.loc main_arg4)) (m (c.tc.loc main_arg5)) (m (c.tc.loc main_arg6)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) := by
  run_from Cert.SwaFwdIdeal.Gen.run_main m ρ
  · exact res_att m c
  · exact W_main_arg0 m (dats m) c
  · exact W_main_arg1 m (dats m) c
  · exact W_main_arg2 m (dats m) c
  · exact W_main_arg3 m (dats m) c
  · exact W_main_arg6 m (dats m) c

end Cert.SwaFwdIdeal.Value
end
-- ==== Proof.SwaIdealFrame.lean ====
module

public import proofs.«01_k».proof.Proof.Gen.SwaIdeal.Skeleton
public import proofs.«01_k».proof.Proof.Gen.SwaIdeal.Frame

/-! The body of the sliding-window attention's gradient kernel runs at every grid point, whatever its buffers hold. -/

@[expose] public section

set_option maxRecDepth 16384

noncomputable section

namespace Cert.SwaIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Gen

variable {F : FTy → Type} [FloatOps F] [Named F]

local notation "𝕄" => MT nD τ sig Unit (Elt F) ℕ (UR sig nD τ) ℕ

/-- Every buffer the body is called with, at any contents. -/
def held (c : Dev nD) (t : Fin cfg0.N) : sProp 𝕄 :=
  iprop((∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d) ∗ (∃ d, owns (c : Thread nD τ) (st0_17 t) fullShare d) ∗ (∃ d, owns (c : Thread nD τ) (st0_18 t) fullShare d)
    ∗ (∃ d, owns (c : Thread nD τ) (Memref.whole cc0_scratch0) fullShare d) ∗ (∃ d, owns (c : Thread nD τ) (Memref.whole cc0_scratch1) fullShare d))

/-- Which branches a point takes: the first, one in the middle, the last. -/
theorem cases : ∀ t : Fin cfg0.N, (k0_cond1 (grid0.coords t) = 1#1 ∧ ¬k0_cond2 (grid0.coords t) = 1#1 ∧ ¬k0_cond3 (grid0.coords t) = 1#1 ∧ k0_cond4 (grid0.coords t) = 1#1 ∧ ¬k0_cond5 (grid0.coords t) = 1#1 ∧ k0_cond6 (grid0.coords t) = 1#1 ∧ ¬k0_cond7 (grid0.coords t) = 1#1 ∧ k0_cond8 (grid0.coords t) = 1#1 ∧ ¬k0_cond9 (grid0.coords t) = 1#1 ∧ ¬k0_cond10 (grid0.coords t) = 1#1)
    ∨ (k0_cond1 (grid0.coords t) = 1#1 ∧ k0_cond2 (grid0.coords t) = 1#1 ∧ k0_cond3 (grid0.coords t) = 1#1 ∧ ¬k0_cond4 (grid0.coords t) = 1#1 ∧ k0_cond5 (grid0.coords t) = 1#1 ∧ ¬k0_cond6 (grid0.coords t) = 1#1 ∧ k0_cond7 (grid0.coords t) = 1#1 ∧ ¬k0_cond8 (grid0.coords t) = 1#1 ∧ k0_cond9 (grid0.coords t) = 1#1 ∧ ¬k0_cond10 (grid0.coords t) = 1#1)
    ∨ (¬k0_cond1 (grid0.coords t) = 1#1 ∧ k0_cond2 (grid0.coords t) = 1#1 ∧ k0_cond3 (grid0.coords t) = 1#1 ∧ ¬k0_cond4 (grid0.coords t) = 1#1 ∧ k0_cond5 (grid0.coords t) = 1#1 ∧ ¬k0_cond6 (grid0.coords t) = 1#1 ∧ k0_cond7 (grid0.coords t) = 1#1 ∧ ¬k0_cond8 (grid0.coords t) = 1#1 ∧ k0_cond9 (grid0.coords t) = 1#1 ∧ k0_cond10 (grid0.coords t) = 1#1) := by decide

/-- The body runs whatever its buffers hold, and holds them afterwards. -/
theorem body_any (c : Dev nD) (t : Fin cfg0.N) :
    held c t ⊢ wp frame (wpE (defs₀ (F := F)) Variants.none c none) Set.univ (bodyAt0 t) (fun _ => held c t) := by
  unfold held owns
  iintro ⟨⟨%dH0, %fH0, %hH0, H0⟩, ⟨%dH1, %fH1, %hH1, H1⟩, ⟨%dH2, %fH2, %hH2, H2⟩, ⟨%dH3, %fH3, %hH3, H3⟩, ⟨%dH4, %fH4, %hH4, H4⟩, ⟨%dH5, %fH5, %hH5, H5⟩, ⟨%dH6, %fH6, %hH6, H6⟩, ⟨%dH7, %fH7, %hH7, H7⟩, ⟨%dH8, %fH8, %hH8, H8⟩, ⟨%dH9, %fH9, %hH9, H9⟩, ⟨%dH10, %fH10, %hH10, H10⟩, ⟨%dH11, %fH11, %hH11, H11⟩, ⟨%dH12, %fH12, %hH12, H12⟩, ⟨%dH13, %fH13, %hH13, H13⟩, ⟨%dH14, %fH14, %hH14, H14⟩, ⟨%dH15, %fH15, %hH15, H15⟩, ⟨%dH16, %fH16, %hH16, H16⟩, ⟨%dH17, %fH17, %hH17, H17⟩, ⟨%dH18, %fH18, %hH18, H18⟩, ⟨%dS0, %fS0, %hS0, S0⟩, ⟨%dS1, %fS1, %hS1, S1⟩⟩
  rcases cases t with ⟨h1, h2, h3, h4, h5, h6, h7, h8, h9, h10⟩ | ⟨h1, h2, h3, h4, h5, h6, h7, h8, h9, h10⟩ | ⟨h1, h2, h3, h4, h5, h6, h7, h8, h9, h10⟩ <;>
    (sl_exec_parts (disch := first | sl_exact h1 | sl_exact h2 | sl_exact h3 | sl_exact h4 | sl_exact h5 | sl_exact h6 | sl_exact h7 | sl_exact h8 | sl_exact h9 | sl_exact h10)
     sl_step
     sl_close)

/-- The buffers the host writes after the region. -/
def results : Finset (Ref sig .tc) := {main_v35, main_v36, main_v37, main_v38, main_v39, main_v40, main_v41}

theorem tail_writes : ∀ ops ∈ ([hostOps1] : List (List (HloOp τ sig (Elt F)))), ∀ op ∈ ops, ∀ b : Ref sig .tc,
    Proc.devRef .tc b ∈ op.writes → b ∈ results := by
  intro ops hops op hop b hb
  simp only [List.mem_cons, List.mem_nil_iff, or_false] at hops
  subst hops
  simp only [hostOps1, List.mem_cons, List.mem_nil_iff, or_false] at hop
  by_contra hn
  simp only [results, Finset.mem_insert, Finset.mem_singleton, not_or] at hn
  rcases hop with rfl | rfl | rfl | rfl | rfl | rfl | rfl <;>
    (simp only [StableHlo.unary_writes, StableHlo.binary_writes, StableHlo.reshape_writes, Finset.mem_singleton] at hb
     exact StableHlo.devRef_ne_of_ne (by tauto) hb)

/-- What a run of the region needs of the buffers: the inputs as the host left them, of the rest nothing. -/
def rdats (m : (ℓ : Loc nD τ sig) → Buf (Elt F) ℓ) (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem carries_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem obligation (m : (ℓ : Loc nD τ sig) → Buf (Elt F) ℓ) (c : Dev nD) :
    (rdats m c).BodyObligation (defs₀ (F := F)) Variants.none () Set.univ := fun t Y _ => by
  rw [bigSep_W0, bigSep_W0]
  show iprop(Pipeline.ΦA spec0 c ∗ (rdats m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17) ∗ owns (c : Thread nD τ) (st0_18 t) fullShare (Y 18))
    ⊢ wp frame (wpE (defs₀ (F := F)) Variants.none c none) Set.univ (bodyAt0 t) (fun _ => iprop(Pipeline.ΦA spec0 c ∗ (rdats m c).owesAt () t.castSucc ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜True⌝ ∗ owns (c : Thread nD τ) (st0_10 t) fullShare X) ∗ (∃ X, ⌜True⌝ ∗ owns (c : Thread nD τ) (st0_11 t) fullShare X) ∗ (∃ X, ⌜True⌝ ∗ owns (c : Thread nD τ) (st0_12 t) fullShare X) ∗ (∃ X, ⌜True⌝ ∗ owns (c : Thread nD τ) (st0_13 t) fullShare X) ∗ (∃ X, ⌜True⌝ ∗ owns (c : Thread nD τ) (st0_14 t) fullShare X) ∗ (∃ X, ⌜True⌝ ∗ owns (c : Thread nD τ) (st0_15 t) fullShare X) ∗ (∃ X, ⌜True⌝ ∗ owns (c : Thread nD τ) (st0_16 t) fullShare X) ∗ (∃ X, ⌜True⌝ ∗ owns (c : Thread nD τ) (st0_17 t) fullShare X) ∗ (∃ X, ⌜True⌝ ∗ owns (c : Thread nD τ) (st0_18 t) fullShare X)))
  rw [carries_eq]
  refine (?_ : _ ⊢ iprop(held c t ∗ (∃ r, prngReg c r) ∗ (rdats m c).owesAt () t.castSucc)).trans
    ((sep_mono_left (body_any c t)).trans ((wp_frame_r frame _ Set.univ).trans (wp_mono _ _ _ fun _ => ?_)))
  · unfold held
    generalize (rdats m c).owesAt () t.castSucc = R
    iintro ⟨⟨⟨⟨%s0, S0⟩, ⟨%s1, S1⟩⟩, ⟨%g, Hg⟩⟩, Ho, H0, H1, H2, H3, H4, H5, H6, H7, H8, H9, H10, H11, H12, H13, H14, H15, H16, H17, H18⟩
    sl_close
  · unfold held
    generalize (rdats m c).owesAt () t.castSucc = R
    iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%s0, S0⟩, ⟨%s1, S1⟩⟩, ⟨%g, Hg⟩, Ho⟩
    sl_close

set_option backward.isDefEq.respectTransparency.types false in
theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), (h.1.arr_in c 9 rfl).trans (V_main_arg4 m c), (h.1.arr_in c 10 rfl).trans (V_main_arg5 m c), ((h.1 c).2 main_arg6 (Finset.mem_sdiff.mpr ⟨Pipeline.mem_restRefs_of main_arg6 (by decide) (by decide), by decide⟩)).trans (V_main_arg6 m c), ((h.1 c).2 main_arg7 (Finset.mem_sdiff.mpr ⟨Pipeline.mem_restRefs_of main_arg7 (by decide) (by decide), by decide⟩)).trans (V_main_arg7 m c)⟩, h.2⟩)
    (Pipeline.RDat.θ_run_frame_around_T_track_shared (Q' := fun r => Pipeline.RDat.FramePostR cfg0 (rdats m) results (fun c b => V0 m c (Proc.devRef .tc b)) r ∧ r.2.sem = fun _ => 0)
      cfgs (0 : Fin 1) launch₀0 defs₀ Variants.none (rdats m) results m ρ main
      (hbody := obligation m) (hq := fun _ _ _ => rfl) (howed := fun _ _ => rfl) (V₀ := V0 m) (opss := [hostOps1])
      (hsub := sfx_sub) (hfresh := sfx_fresh) (hkeep := sfx_keeps) (hT := tail_writes) (hmain := hmain m Variants.none)
      (hA := fun _ _ => rfl) (hin := fun _ => .rfl) (hout := fun _ => .rfl))
end Cert.SwaIdeal

end
-- ==== Proof.lean ====
module

public import proofs.«01_k».proof.Defs
public import proofs.«01_k».proof.Proof.Gen.Loss.Frame
public import proofs.«01_k».proof.Proof.Gen.LossIdeal.Frame
public import proofs.«01_k».proof.Proof.Gen.LossReferenceIdeal.Run
public import proofs.«01_k».proof.Proof.Gen.Gate.Frame
public import proofs.«01_k».proof.Proof.Gen.GateIdeal.Frame
public import proofs.«01_k».proof.Proof.Gen.GateReferenceIdeal.Run
public import proofs.«01_k».proof.Proof.Gen.Norm.Frame
public import proofs.«01_k».proof.Proof.Gen.NormIdeal.Frame
public import proofs.«01_k».proof.Proof.Gen.NormReferenceIdeal.Run
public import proofs.«01_k».proof.Proof.Gen.MemKv.Frame
public import proofs.«01_k».proof.Proof.Gen.MemKvIdeal.Frame
public import proofs.«01_k».proof.Proof.Gen.MemKvReferenceIdeal.Run
public import proofs.«01_k».proof.Proof.Gen.Proj.Frame
public import proofs.«01_k».proof.Proof.Gen.ProjIdeal.Frame
public import proofs.«01_k».proof.Proof.Gen.ProjReferenceIdeal.Run
public import proofs.«01_k».proof.Proof.Gen.Mem.Frame
public import proofs.«01_k».proof.Proof.Gen.MemIdeal.Frame
public import proofs.«01_k».proof.Proof.Gen.MemReferenceIdeal.Run
public import proofs.«01_k».proof.Proof.Gen.Below.Frame
public import proofs.«01_k».proof.Proof.Gen.BelowIdeal.Frame
public import proofs.«01_k».proof.Proof.Gen.BelowReferenceIdeal.Run
public import proofs.«01_k».proof.Proof.Gen.Swa.Frame
public import proofs.«01_k».proof.Proof.Gen.SwaIdeal.Frame
public import proofs.«01_k».proof.Proof.Gen.SwaReferenceIdeal.Run
public import proofs.«01_k».proof.Proof.Gen.Conv.Frame
public import proofs.«01_k».proof.Proof.Gen.ConvIdeal.Frame
public import proofs.«01_k».proof.Proof.Gen.ConvReferenceIdeal.Run
public import proofs.«01_k».proof.Proof.Gen.MemFwd.Frame
public import proofs.«01_k».proof.Proof.Gen.MemFwdIdeal.Frame
public import proofs.«01_k».proof.Proof.Gen.MemFwdReferenceIdeal.Run
public import proofs.«01_k».proof.Proof.Gen.SwaFwd.Frame
public import proofs.«01_k».proof.Proof.Gen.SwaFwdIdeal.Frame
public import proofs.«01_k».proof.Proof.Gen.SwaFwdReferenceIdeal.Run
public import proofs.«01_k».proof.Proof.Gen.MemKvFwd.Frame
public import proofs.«01_k».proof.Proof.Gen.MemKvFwdIdeal.Frame
public import proofs.«01_k».proof.Proof.Gen.MemKvFwdReferenceIdeal.Run
public import proofs.«01_k».proof.Proof.Gen.ProjFwd.Frame
public import proofs.«01_k».proof.Proof.Gen.ProjFwdIdeal.Frame
public import proofs.«01_k».proof.Proof.Gen.ProjFwdReferenceIdeal.Run
public import proofs.«01_k».proof.Proof.Gen.Pre_gate_finite
public import proofs.«01_k».proof.Proof.Gen.Pre_mem_finite
public import proofs.«01_k».proof.Proof.BelowRef
public import proofs.«01_k».proof.Proof.BelowValue
public import proofs.«01_k».proof.Proof.ConvFrame
public import proofs.«01_k».proof.Proof.ConvIdealFrame
public import proofs.«01_k».proof.Proof.GateRef
public import proofs.«01_k».proof.Proof.GateValue
public import proofs.«01_k».proof.Proof.LossRef
public import proofs.«01_k».proof.Proof.LossValue
public import proofs.«01_k».proof.Proof.MemFwdRef
public import proofs.«01_k».proof.Proof.MemFwdValue
public import proofs.«01_k».proof.Proof.MemKvFwdRef
public import proofs.«01_k».proof.Proof.MemKvFwdValue
public import proofs.«01_k».proof.Proof.MemKvRef
public import proofs.«01_k».proof.Proof.MemKvValue
public import proofs.«01_k».proof.Proof.MemRef
public import proofs.«01_k».proof.Proof.MemValue
public import proofs.«01_k».proof.Proof.NormRef
public import proofs.«01_k».proof.Proof.NormValue
public import proofs.«01_k».proof.Proof.ProjFwdRef
public import proofs.«01_k».proof.Proof.ProjFwdValue
public import proofs.«01_k».proof.Proof.ProjRef
public import proofs.«01_k».proof.Proof.ProjValue
public import proofs.«01_k».proof.Proof.SwaFrame
public import proofs.«01_k».proof.Proof.SwaFwdRef
public import proofs.«01_k».proof.Proof.SwaFwdValue
public import proofs.«01_k».proof.Proof.SwaIdealFrame
public import Idealize.ShloMosaic.Lib.Claim

/-! The claims of the statement, assembled: the frames are the generated ones or those of the `…Frame` modules, a reference's frame is read off its run, and
each value claim puts the two runs' results, read entry by entry, side by side. -/

@[expose] public section

noncomputable section

namespace Cert.Proof

open Idealize.ShloMosaic Idealize.SL.Sem

theorem frame_LossReferenceIdeal : quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run m ρ)

theorem frame_GateReferenceIdeal : quiescent_GateReferenceIdeal := fun m ρ _ =>
  (θ_run Cert.GateReferenceIdeal.defs _ _).mono (fun r h => ⟨fun c => (h c).2.2.2.2, sem_eq_zero_of_no_sems (by decide) r.2⟩)
    (Cert.GateReferenceIdeal.Value.run m ρ)

theorem frame_GateReferenceIdeal_pre_gate_finite : quiescent_GateReferenceIdeal_pre_gate_finite := fun m ρ _ =>
  (θ_run Cert.GateReferenceIdeal.defs _ _).mono (fun r h => ⟨fun c => (h c).2.2.2.2, sem_eq_zero_of_no_sems (by decide) r.2⟩)
    (Cert.GateReferenceIdeal.Value.run m ρ)

theorem frame_NormReferenceIdeal : quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run m ρ)

theorem frame_MemKvReferenceIdeal : quiescent_MemKvReferenceIdeal := fun m ρ _ =>
  (θ_run Cert.MemKvReferenceIdeal.defs _ _).mono (fun r h => ⟨fun c => (h c).2.2, sem_eq_zero_of_no_sems (by decide) r.2⟩)
    (Cert.MemKvReferenceIdeal.Value.run m ρ)

theorem frame_ProjReferenceIdeal : quiescent_ProjReferenceIdeal := fun m ρ _ =>
  (θ_run Cert.ProjReferenceIdeal.defs _ _).mono (fun r h => ⟨fun c => (h c).2.2.2, sem_eq_zero_of_no_sems (by decide) r.2⟩)
    (Cert.ProjReferenceIdeal.Value.run m ρ)

theorem frame_MemReferenceIdeal : quiescent_MemReferenceIdeal := fun m ρ _ =>
  (θ_run Cert.MemReferenceIdeal.defs _ _).mono (fun r h => ⟨fun c => (h c).2.2.2.2, sem_eq_zero_of_no_sems (by decide) r.2⟩)
    (Cert.MemReferenceIdeal.Value.run m ρ)

theorem frame_MemReferenceIdeal_pre_mem_finite : quiescent_MemReferenceIdeal_pre_mem_finite := fun m ρ _ =>
  (θ_run Cert.MemReferenceIdeal.defs _ _).mono (fun r h => ⟨fun c => (h c).2.2.2.2, sem_eq_zero_of_no_sems (by decide) r.2⟩)
    (Cert.MemReferenceIdeal.Value.run m ρ)

theorem frame_BelowReferenceIdeal : quiescent_BelowReferenceIdeal := fun m ρ _ =>
  (θ_run Cert.BelowReferenceIdeal.defs _ _).mono (fun r h => ⟨fun c => (h c).2.2.2, sem_eq_zero_of_no_sems (by decide) r.2⟩)
    (Cert.BelowReferenceIdeal.Value.run m ρ)

theorem frame_SwaReferenceIdeal : quiescent_SwaReferenceIdeal := fun m ρ _ =>
  (θ_run Cert.SwaReferenceIdeal.defs _ _).mono (fun r h => ⟨fun c => (h c).2.2.2.2.2.2, sem_eq_zero_of_no_sems (by decide) r.2⟩)
    (Cert.SwaReferenceIdeal.Value.run m ρ)

theorem frame_ConvReferenceIdeal : quiescent_ConvReferenceIdeal := fun m ρ _ =>
  (θ_run Cert.ConvReferenceIdeal.defs _ _).mono (fun r h => ⟨fun c => (h c).2.2.2.2.2, sem_eq_zero_of_no_sems (by decide) r.2⟩)
    (Cert.ConvReferenceIdeal.Value.run m ρ)

theorem frame_MemFwdReferenceIdeal : quiescent_MemFwdReferenceIdeal := fun m ρ _ =>
  (θ_run Cert.MemFwdReferenceIdeal.defs _ _).mono (fun r h => ⟨fun c => (h c).2, sem_eq_zero_of_no_sems (by decide) r.2⟩)
    (Cert.MemFwdReferenceIdeal.Value.run m ρ)

theorem frame_SwaFwdReferenceIdeal : quiescent_SwaFwdReferenceIdeal := fun m ρ _ =>
  (θ_run Cert.SwaFwdReferenceIdeal.defs _ _).mono (fun r h => ⟨fun c => (h c).2, sem_eq_zero_of_no_sems (by decide) r.2⟩)
    (Cert.SwaFwdReferenceIdeal.Value.run m ρ)

theorem frame_MemKvFwdReferenceIdeal : quiescent_MemKvFwdReferenceIdeal := fun m ρ _ =>
  (θ_run Cert.MemKvFwdReferenceIdeal.defs _ _).mono (fun r h => ⟨fun c => (h c).2, sem_eq_zero_of_no_sems (by decide) r.2⟩)
    (Cert.MemKvFwdReferenceIdeal.Value.run m ρ)

theorem frame_ProjFwdReferenceIdeal : quiescent_ProjFwdReferenceIdeal := fun m ρ _ =>
  (θ_run Cert.ProjFwdReferenceIdeal.defs _ _).mono (fun r h => ⟨fun c => (h c).2.2.2.2.2, sem_eq_zero_of_no_sems (by decide) r.2⟩)
    (Cert.ProjFwdReferenceIdeal.Value.run m ρ)

theorem value_Loss : algebraic_LossIdeal_LossReferenceIdeal := by
  pair_intro
  · exact Cert.LossIdeal.Value.run_spec m g
  · refine (θ_run Cert.LossReferenceIdeal.defs _ _).mono (fun r h c => ?_) (Cert.LossReferenceIdeal.Value.run_spec m' g')
    obtain ⟨e0, e1, e2⟩ := hagree c
    exact ⟨(h c).1.trans (by rw [e0, e1, e2] <;> rfl), (h c).2.1.trans (by rw [e0, e1, e2] <;> rfl), (h c).2.2.1.trans (by rw [e0, e1, e2] <;> rfl), (h c).2.2.2⟩

theorem value_Gate : algebraic_GateIdeal_GateReferenceIdeal_pre_gate_finite := by
  pair_intro
  · exact Cert.GateIdeal.Value.run_spec m (Cert.GateIdeal.Value.fin_of_pre hpre) g
  · refine (θ_run Cert.GateReferenceIdeal.defs _ _).mono (fun r h c => ?_) (Cert.GateReferenceIdeal.Value.run_spec m' g')
    obtain ⟨e0, e1, e2, e3, e4⟩ := hagree c
    exact ⟨(h c).1.trans (by rw [e0, e1, e2, e3, e4] <;> rfl), (h c).2.1.trans (by rw [e0, e1, e2, e3, e4] <;> rfl), (h c).2.2.1.trans (by rw [e0, e1, e3, e4] <;> rfl), (h c).2.2.2.1.trans (by rw [e0, e1, e2, e4] <;> rfl), (h c).2.2.2.2⟩

theorem value_Norm : algebraic_NormIdeal_NormReferenceIdeal := by
  pair_intro
  · exact Cert.NormIdeal.Value.run_spec m g
  · refine (θ_run Cert.NormReferenceIdeal.defs _ _).mono (fun r h c => ?_) (Cert.NormReferenceIdeal.Value.run_spec m' g')
    obtain ⟨e0, e1, e2, e3⟩ := hagree c
    exact ⟨(h c).1.trans (by rw [e0, e1, e2, e3] <;> rfl), (h c).2.1.trans (by rw [e0, e2] <;> rfl), (h c).2.2⟩

theorem value_MemKv : algebraic_MemKvIdeal_MemKvReferenceIdeal := by
  pair_intro
  · exact Cert.MemKvIdeal.Value.run_spec m g
  · refine (θ_run Cert.MemKvReferenceIdeal.defs _ _).mono (fun r h c => ?_) (Cert.MemKvReferenceIdeal.Value.run_spec m' g')
    obtain ⟨e0, e1, e2, e3⟩ := hagree c
    exact ⟨(h c).1.trans (by rw [e0, e2, e3] <;> rfl), (h c).2.1.trans (by rw [e0, e1, e3] <;> rfl), (h c).2.2⟩

theorem value_Proj : algebraic_ProjIdeal_ProjReferenceIdeal := by
  pair_intro
  · exact Cert.ProjIdeal.Value.run_spec m g
  · refine (θ_run Cert.ProjReferenceIdeal.defs _ _).mono (fun r h c => ?_) (Cert.ProjReferenceIdeal.Value.run_spec m' g')
    obtain ⟨e0, e1, e2, e3, e4, e5, e6, e7, e8⟩ := hagree c
    exact ⟨(h c).1.trans (by rw [e0, e1, e2, e3, e4, e5, e6, e7, e8] <;> rfl), (h c).2.1.trans (by rw [e0, e2, e3, e4, e5, e6, e7] <;> rfl), (h c).2.2.1.trans (by rw [e0, e1, e3, e4, e5, e6, e7] <;> rfl), (h c).2.2.2⟩

theorem value_Mem : algebraic_MemIdeal_MemReferenceIdeal_pre_mem_finite := by
  pair_intro
  · exact Cert.MemIdeal.Value.run_spec m (Cert.MemIdeal.Value.fin_of_pre hpre) g
  · refine (θ_run Cert.MemReferenceIdeal.defs _ _).mono (fun r h c => ?_) (Cert.MemReferenceIdeal.Value.run_spec m' g')
    obtain ⟨e0, e1, e2, e3, e4⟩ := hagree c
    exact ⟨(h c).1.trans (by rw [e0, e1, e2, e3, e4] <;> rfl), (h c).2.1.trans (by rw [e0, e1, e2, e3, e4] <;> rfl), (h c).2.2.1.trans (by rw [e0, e1, e2, e3, e4] <;> rfl), (h c).2.2.2.1.trans (by rw [e0, e1, e2, e3, e4] <;> rfl), (h c).2.2.2.2⟩

theorem value_Below : algebraic_BelowIdeal_BelowReferenceIdeal := by
  pair_intro
  · exact Cert.BelowIdeal.Value.run_spec m g
  · refine (θ_run Cert.BelowReferenceIdeal.defs _ _).mono (fun r h c => ?_) (Cert.BelowReferenceIdeal.Value.run_spec m' g')
    obtain ⟨e0, e1, e2, e3, e4, e5⟩ := hagree c
    exact ⟨(h c).1.trans (by rw [e0, e1, e2, e3, e4, e5] <;> rfl), (h c).2.1.trans (by rw [e0, e2] <;> rfl), (h c).2.2.1.trans (by rw [e0, e1, e2, e3, e4] <;> rfl), (h c).2.2.2⟩

theorem value_MemFwd : algebraic_MemFwdIdeal_MemFwdReferenceIdeal := by
  pair_intro
  · exact Cert.MemFwdIdeal.Value.run_spec m g
  · refine (θ_run Cert.MemFwdReferenceIdeal.defs _ _).mono (fun r h c => ?_) (Cert.MemFwdReferenceIdeal.Value.run_spec m' g')
    obtain ⟨e0, e1, e2, e3⟩ := hagree c
    exact ⟨(h c).1.trans (by rw [e0, e1, e2, e3] <;> rfl), (h c).2⟩

theorem value_SwaFwd : algebraic_SwaFwdIdeal_SwaFwdReferenceIdeal := by
  pair_intro
  · exact Cert.SwaFwdIdeal.Value.run_spec m g
  · refine (θ_run Cert.SwaFwdReferenceIdeal.defs _ _).mono (fun r h c => ?_) (Cert.SwaFwdReferenceIdeal.Value.run_spec m' g')
    obtain ⟨e0, e1, e2, e3, e4, e5, e6⟩ := hagree c
    exact ⟨(h c).1.trans (by rw [e0, e1, e2, e3, e4, e5, e6] <;> rfl), (h c).2⟩

theorem value_MemKvFwd : algebraic_MemKvFwdIdeal_MemKvFwdReferenceIdeal := by
  pair_intro
  · exact Cert.MemKvFwdIdeal.Value.run_spec m g
  · refine (θ_run Cert.MemKvFwdReferenceIdeal.defs _ _).mono (fun r h c => ?_) (Cert.MemKvFwdReferenceIdeal.Value.run_spec m' g')
    obtain ⟨e0, e1, e2⟩ := hagree c
    exact ⟨(h c).1.trans (by rw [e0, e1, e2] <;> rfl), (h c).2⟩

theorem value_ProjFwd : algebraic_ProjFwdIdeal_ProjFwdReferenceIdeal := by
  pair_intro
  · exact Cert.ProjFwdIdeal.Value.run_spec m g
  · refine (θ_run Cert.ProjFwdReferenceIdeal.defs _ _).mono (fun r h c => ?_) (Cert.ProjFwdReferenceIdeal.Value.run_spec m' g')
    obtain ⟨e0, e1, e2⟩ := hagree c
    exact ⟨(h c).1.trans (by rw [e0, e1, e2] <;> rfl), (h c).2.1.trans (by rw [e0, e1, e2] <;> rfl), (h c).2.2.1.trans (by rw [e0, e1, e2] <;> rfl), (h c).2.2.2.1.trans (by rw [e0, e1, e2] <;> rfl), (h c).2.2.2.2.1.trans (by rw [e0, e1, e2] <;> rfl), (h c).2.2.2.2.2⟩

theorem claim : Claim :=
  ⟨Cert.Loss.Gen.facts, Cert.LossIdeal.Gen.facts, Cert.LossReferenceIdeal.Gen.facts, Cert.Gate.Gen.facts, Cert.GateIdeal.Gen.facts, Cert.GateReferenceIdeal.Gen.facts, Cert.Norm.Gen.facts, Cert.NormIdeal.Gen.facts, Cert.NormReferenceIdeal.Gen.facts, Cert.MemKv.Gen.facts, Cert.MemKvIdeal.Gen.facts, Cert.MemKvReferenceIdeal.Gen.facts, Cert.Proj.Gen.facts, Cert.ProjIdeal.Gen.facts, Cert.ProjReferenceIdeal.Gen.facts, Cert.Mem.Gen.facts, Cert.MemIdeal.Gen.facts, Cert.MemReferenceIdeal.Gen.facts, Cert.Below.Gen.facts, Cert.BelowIdeal.Gen.facts, Cert.BelowReferenceIdeal.Gen.facts, Cert.Swa.Gen.facts, Cert.SwaIdeal.Gen.facts, Cert.SwaReferenceIdeal.Gen.facts, Cert.Conv.Gen.facts, Cert.ConvIdeal.Gen.facts, Cert.ConvReferenceIdeal.Gen.facts, Cert.MemFwd.Gen.facts, Cert.MemFwdIdeal.Gen.facts, Cert.MemFwdReferenceIdeal.Gen.facts, Cert.SwaFwd.Gen.facts, Cert.SwaFwdIdeal.Gen.facts, Cert.SwaFwdReferenceIdeal.Gen.facts, Cert.MemKvFwd.Gen.facts, Cert.MemKvFwdIdeal.Gen.facts, Cert.MemKvFwdReferenceIdeal.Gen.facts, Cert.ProjFwd.Gen.facts, Cert.ProjFwdIdeal.Gen.facts, Cert.ProjFwdReferenceIdeal.Gen.facts, Cert.Pre_gate_finite.Gen.facts, Cert.Pre_mem_finite.Gen.facts,
    fun m ρ _ => Cert.Loss.Gen.frame m ρ,
    fun m ρ _ => Cert.LossIdeal.Gen.frame m ρ,
    frame_LossReferenceIdeal,
    fun m ρ _ => Cert.Gate.Gen.frame m ρ,
    fun m ρ _ => Cert.GateIdeal.Gen.frame m ρ,
    fun m ρ _ => Cert.GateIdeal.Gen.frame m ρ,
    frame_GateReferenceIdeal,
    frame_GateReferenceIdeal_pre_gate_finite,
    fun m ρ _ => Cert.Norm.Gen.frame m ρ,
    fun m ρ _ => Cert.NormIdeal.Gen.frame m ρ,
    frame_NormReferenceIdeal,
    fun m ρ _ => Cert.MemKv.Gen.frame m ρ,
    fun m ρ _ => Cert.MemKvIdeal.Gen.frame m ρ,
    frame_MemKvReferenceIdeal,
    fun m ρ _ => Cert.Proj.Gen.frame m ρ,
    fun m ρ _ => Cert.ProjIdeal.Gen.frame m ρ,
    frame_ProjReferenceIdeal,
    fun m ρ _ => Cert.Mem.Gen.frame m ρ,
    fun m ρ _ => Cert.MemIdeal.Gen.frame m ρ,
    fun m ρ _ => Cert.MemIdeal.Gen.frame m ρ,
    frame_MemReferenceIdeal,
    frame_MemReferenceIdeal_pre_mem_finite,
    fun m ρ _ => Cert.Below.Gen.frame m ρ,
    fun m ρ _ => Cert.BelowIdeal.Gen.frame m ρ,
    frame_BelowReferenceIdeal,
    fun m ρ _ => Cert.Swa.unchanged m ρ,
    fun m ρ _ => Cert.SwaIdeal.unchanged m ρ,
    frame_SwaReferenceIdeal,
    fun m ρ _ => Cert.Conv.unchanged m ρ,
    fun m ρ _ => Cert.ConvIdeal.unchanged m ρ,
    frame_ConvReferenceIdeal,
    fun m ρ _ => Cert.MemFwd.Gen.frame m ρ,
    fun m ρ _ => Cert.MemFwdIdeal.Gen.frame m ρ,
    frame_MemFwdReferenceIdeal,
    fun m ρ _ => Cert.SwaFwd.Gen.frame m ρ,
    fun m ρ _ => Cert.SwaFwdIdeal.Gen.frame m ρ,
    frame_SwaFwdReferenceIdeal,
    fun m ρ _ => Cert.MemKvFwd.Gen.frame m ρ,
    fun m ρ _ => Cert.MemKvFwdIdeal.Gen.frame m ρ,
    frame_MemKvFwdReferenceIdeal,
    fun m ρ _ => Cert.ProjFwd.Gen.frame m ρ,
    fun m ρ _ => Cert.ProjFwdIdeal.Gen.frame m ρ,
    frame_ProjFwdReferenceIdeal,
    trivial,
    value_Loss,
    trivial,
    value_Gate,
    trivial,
    value_Norm,
    trivial,
    value_MemKv,
    trivial,
    value_Proj,
    trivial,
    value_Mem,
    trivial,
    value_Below,
    IdealRules.named_const.statement _ _ _ _ _ rfl,
    trivial,
    trivial,
    value_MemFwd,
    IdealRules.named_const.statement _ _ _ _ _ rfl,
    value_SwaFwd,
    trivial,
    value_MemKvFwd,
    trivial,
    value_ProjFwd⟩

end Cert.Proof

end
